-- ==== Defs.lean ====
def Pre_DilA (m : (ℓ : Loc Cert.DilA.nD Cert.DilA.τ Cert.DilA.sig) → Buf (Elt Bits) ℓ) : Prop :=
  True

def Pre_DilAIdeal (m : (ℓ : Loc Cert.DilAIdeal.nD Cert.DilAIdeal.τ Cert.DilAIdeal.sig) → Buf (Elt Ideal) ℓ) : Prop :=
  True

def Pre_DilAIdeal_finite [hPre_finite : Cert.Pre_finite.Facts] (m : (ℓ : Loc Cert.DilAIdeal.nD Cert.DilAIdeal.τ Cert.DilAIdeal.sig) → Buf (Elt Ideal) ℓ) : Prop :=
  ∀ c : Dev Cert.DilAIdeal.nD,
    (Cert.Pre_finite.fn (F := Ideal) (m ((c.tc : Thread Cert.DilAIdeal.nD Cert.DilAIdeal.τ).loc Cert.DilAIdeal.main_arg0))) = (fun _ => 1#1)

def Pre_RefAIdeal (m : (ℓ : Loc Cert.RefAIdeal.nD Cert.RefAIdeal.τ Cert.RefAIdeal.sig) → Buf (Elt Ideal) ℓ) : Prop :=
  True

def Pre_RefAIdeal_finite [hPre_finite : Cert.Pre_finite.Facts] (m : (ℓ : Loc Cert.RefAIdeal.nD Cert.RefAIdeal.τ Cert.RefAIdeal.sig) → Buf (Elt Ideal) ℓ) : Prop :=
  ∀ c : Dev Cert.RefAIdeal.nD,
    (Cert.Pre_finite.fn (F := Ideal) (m ((c.tc : Thread Cert.RefAIdeal.nD Cert.RefAIdeal.τ).loc Cert.RefAIdeal.main_arg0))) = (fun _ => 1#1)

def Pre_DilB (m : (ℓ : Loc Cert.DilB.nD Cert.DilB.τ Cert.DilB.sig) → Buf (Elt Bits) ℓ) : Prop :=
  True

def Pre_DilBIdeal (m : (ℓ : Loc Cert.DilBIdeal.nD Cert.DilBIdeal.τ Cert.DilBIdeal.sig) → Buf (Elt Ideal) ℓ) : Prop :=
  True

def Pre_DilBIdeal_finite [hPre_finite : Cert.Pre_finite.Facts] (m : (ℓ : Loc Cert.DilBIdeal.nD Cert.DilBIdeal.τ Cert.DilBIdeal.sig) → Buf (Elt Ideal) ℓ) : Prop :=
  ∀ c : Dev Cert.DilBIdeal.nD,
    (Cert.Pre_finite.fn (F := Ideal) (m ((c.tc : Thread Cert.DilBIdeal.nD Cert.DilBIdeal.τ).loc Cert.DilBIdeal.main_arg0))) = (fun _ => 1#1)

def Pre_RefBIdeal (m : (ℓ : Loc Cert.RefBIdeal.nD Cert.RefBIdeal.τ Cert.RefBIdeal.sig) → Buf (Elt Ideal) ℓ) : Prop :=
  True

def Pre_RefBIdeal_finite [hPre_finite : Cert.Pre_finite.Facts] (m : (ℓ : Loc Cert.RefBIdeal.nD Cert.RefBIdeal.τ Cert.RefBIdeal.sig) → Buf (Elt Ideal) ℓ) : Prop :=
  ∀ c : Dev Cert.RefBIdeal.nD,
    (Cert.Pre_finite.fn (F := Ideal) (m ((c.tc : Thread Cert.RefBIdeal.nD Cert.RefBIdeal.τ).loc Cert.RefBIdeal.main_arg0))) = (fun _ => 1#1)

def Pre_DilC (m : (ℓ : Loc Cert.DilC.nD Cert.DilC.τ Cert.DilC.sig) → Buf (Elt Bits) ℓ) : Prop :=
  True

def Pre_DilCIdeal (m : (ℓ : Loc Cert.DilCIdeal.nD Cert.DilCIdeal.τ Cert.DilCIdeal.sig) → Buf (Elt Ideal) ℓ) : Prop :=
  True

def Pre_DilCIdeal_finite [hPre_finite : Cert.Pre_finite.Facts] (m : (ℓ : Loc Cert.DilCIdeal.nD Cert.DilCIdeal.τ Cert.DilCIdeal.sig) → Buf (Elt Ideal) ℓ) : Prop :=
  ∀ c : Dev Cert.DilCIdeal.nD,
    (Cert.Pre_finite.fn (F := Ideal) (m ((c.tc : Thread Cert.DilCIdeal.nD Cert.DilCIdeal.τ).loc Cert.DilCIdeal.main_arg0))) = (fun _ => 1#1)

def Pre_RefCIdeal (m : (ℓ : Loc Cert.RefCIdeal.nD Cert.RefCIdeal.τ Cert.RefCIdeal.sig) → Buf (Elt Ideal) ℓ) : Prop :=
  True

def Pre_RefCIdeal_finite [hPre_finite : Cert.Pre_finite.Facts] (m : (ℓ : Loc Cert.RefCIdeal.nD Cert.RefCIdeal.τ Cert.RefCIdeal.sig) → Buf (Elt Ideal) ℓ) : Prop :=
  ∀ c : Dev Cert.RefCIdeal.nD,
    (Cert.Pre_finite.fn (F := Ideal) (m ((c.tc : Thread Cert.RefCIdeal.nD Cert.RefCIdeal.τ).loc Cert.RefCIdeal.main_arg0))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_RefMIdeal (m : (ℓ : Loc Cert.RefMIdeal.nD Cert.RefMIdeal.τ Cert.RefMIdeal.sig) → Buf (Elt Ideal) ℓ) : Prop :=
  True

def Pre_MoeIdeal (m : (ℓ : Loc Cert.MoeIdeal.nD Cert.MoeIdeal.τ Cert.MoeIdeal.sig) → Buf (Elt Ideal) ℓ) : Prop :=
  True

def Pre_MoeIdeal_finite_route [hPre_finite_route : Cert.Pre_finite_route.Facts] (m : (ℓ : Loc Cert.MoeIdeal.nD Cert.MoeIdeal.τ Cert.MoeIdeal.sig) → Buf (Elt Ideal) ℓ) : Prop :=
  ∀ c : Dev Cert.MoeIdeal.nD,
    (Cert.Pre_finite_route.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8))) = (fun _ => 1#1)

def Pre_RefEIdeal (m : (ℓ : Loc Cert.RefEIdeal.nD Cert.RefEIdeal.τ Cert.RefEIdeal.sig) → Buf (Elt Ideal) ℓ) : Prop :=
  True

def Pre_RefEIdeal_finite_route [hPre_finite_route : Cert.Pre_finite_route.Facts] (m : (ℓ : Loc Cert.RefEIdeal.nD Cert.RefEIdeal.τ Cert.RefEIdeal.sig) → Buf (Elt Ideal) ℓ) : Prop :=
  ∀ c : Dev Cert.RefEIdeal.nD,
    (Cert.Pre_finite_route.fn (F := Ideal) (m ((c.tc : Thread Cert.RefEIdeal.nD Cert.RefEIdeal.τ).loc Cert.RefEIdeal.main_arg0)) (m ((c.tc : Thread Cert.RefEIdeal.nD Cert.RefEIdeal.τ).loc Cert.RefEIdeal.main_arg1)) (m ((c.tc : Thread Cert.RefEIdeal.nD Cert.RefEIdeal.τ).loc Cert.RefEIdeal.main_arg2)) (m ((c.tc : Thread Cert.RefEIdeal.nD Cert.RefEIdeal.τ).loc Cert.RefEIdeal.main_arg3)) (m ((c.tc : Thread Cert.RefEIdeal.nD Cert.RefEIdeal.τ).loc Cert.RefEIdeal.main_arg4)) (m ((c.tc : Thread Cert.RefEIdeal.nD Cert.RefEIdeal.τ).loc Cert.RefEIdeal.main_arg5)) (m ((c.tc : Thread Cert.RefEIdeal.nD Cert.RefEIdeal.τ).loc Cert.RefEIdeal.main_arg6)) (m ((c.tc : Thread Cert.RefEIdeal.nD Cert.RefEIdeal.τ).loc Cert.RefEIdeal.main_arg7)) (m ((c.tc : Thread Cert.RefEIdeal.nD Cert.RefEIdeal.τ).loc Cert.RefEIdeal.main_arg8))) = (fun _ => 1#1)

def quiescent_DilA [hDilA : Cert.DilA.Facts] : Prop :=
  ∀ (m : (ℓ : Loc Cert.DilA.nD Cert.DilA.τ Cert.DilA.sig) → Buf (Elt Bits) ℓ) (g : Dev Cert.DilA.nD → PrngReg), Pre_DilA m →
    θ_run (Cert.DilA.defs (F := Bits)) (onTc (τ := Cert.DilA.τ) (Cert.DilA.main (F := Bits))) ⟨m, fun _ => 0, g⟩ (fun r => (∀ c : Dev Cert.DilA.nD,
      r.2.mem ((c.tc : Thread Cert.DilA.nD Cert.DilA.τ).loc Cert.DilA.main_arg0) = m ((c.tc : Thread Cert.DilA.nD Cert.DilA.τ).loc Cert.DilA.main_arg0))
      ∧ r.2.sem = fun _ => 0)

def quiescent_DilAIdeal [hDilAIdeal : Cert.DilAIdeal.Facts] : Prop :=
  ∀ (m : (ℓ : Loc Cert.DilAIdeal.nD Cert.DilAIdeal.τ Cert.DilAIdeal.sig) → Buf (Elt Ideal) ℓ) (g : Dev Cert.DilAIdeal.nD → PrngReg), Pre_DilAIdeal m →
    θ_run (Cert.DilAIdeal.defs (F := Ideal)) (onTc (τ := Cert.DilAIdeal.τ) (Cert.DilAIdeal.main (F := Ideal))) ⟨m, fun _ => 0, g⟩ (fun r => (∀ c : Dev Cert.DilAIdeal.nD,
      r.2.mem ((c.tc : Thread Cert.DilAIdeal.nD Cert.DilAIdeal.τ).loc Cert.DilAIdeal.main_arg0) = m ((c.tc : Thread Cert.DilAIdeal.nD Cert.DilAIdeal.τ).loc Cert.DilAIdeal.main_arg0))
      ∧ r.2.sem = fun _ => 0)

def quiescent_DilAIdeal_pre_finite [hDilAIdeal : Cert.DilAIdeal.Facts] [hPre_finite : Cert.Pre_finite.Facts] : Prop :=
  ∀ (m : (ℓ : Loc Cert.DilAIdeal.nD Cert.DilAIdeal.τ Cert.DilAIdeal.sig) → Buf (Elt Ideal) ℓ) (g : Dev Cert.DilAIdeal.nD → PrngReg), Pre_DilAIdeal_finite m →
    θ_run (Cert.DilAIdeal.defs (F := Ideal)) (onTc (τ := Cert.DilAIdeal.τ) (Cert.DilAIdeal.main (F := Ideal))) ⟨m, fun _ => 0, g⟩ (fun r => (∀ c : Dev Cert.DilAIdeal.nD,
      r.2.mem ((c.tc : Thread Cert.DilAIdeal.nD Cert.DilAIdeal.τ).loc Cert.DilAIdeal.main_arg0) = m ((c.tc : Thread Cert.DilAIdeal.nD Cert.DilAIdeal.τ).loc Cert.DilAIdeal.main_arg0))
      ∧ r.2.sem = fun _ => 0)

def quiescent_RefAIdeal [hRefAIdeal : Cert.RefAIdeal.Facts] : Prop :=
  ∀ (m : (ℓ : Loc Cert.RefAIdeal.nD Cert.RefAIdeal.τ Cert.RefAIdeal.sig) → Buf (Elt Ideal) ℓ) (g : Dev Cert.RefAIdeal.nD → PrngReg), Pre_RefAIdeal m →
    θ_run (Cert.RefAIdeal.defs (F := Ideal)) (onTc (τ := Cert.RefAIdeal.τ) (Cert.RefAIdeal.main (F := Ideal))) ⟨m, fun _ => 0, g⟩ (fun r => (∀ c : Dev Cert.RefAIdeal.nD,
      r.2.mem ((c.tc : Thread Cert.RefAIdeal.nD Cert.RefAIdeal.τ).loc Cert.RefAIdeal.main_arg0) = m ((c.tc : Thread Cert.RefAIdeal.nD Cert.RefAIdeal.τ).loc Cert.RefAIdeal.main_arg0))
      ∧ r.2.sem = fun _ => 0)

def quiescent_RefAIdeal_pre_finite [hRefAIdeal : Cert.RefAIdeal.Facts] [hPre_finite : Cert.Pre_finite.Facts] : Prop :=
  ∀ (m : (ℓ : Loc Cert.RefAIdeal.nD Cert.RefAIdeal.τ Cert.RefAIdeal.sig) → Buf (Elt Ideal) ℓ) (g : Dev Cert.RefAIdeal.nD → PrngReg), Pre_RefAIdeal_finite m →
    θ_run (Cert.RefAIdeal.defs (F := Ideal)) (onTc (τ := Cert.RefAIdeal.τ) (Cert.RefAIdeal.main (F := Ideal))) ⟨m, fun _ => 0, g⟩ (fun r => (∀ c : Dev Cert.RefAIdeal.nD,
      r.2.mem ((c.tc : Thread Cert.RefAIdeal.nD Cert.RefAIdeal.τ).loc Cert.RefAIdeal.main_arg0) = m ((c.tc : Thread Cert.RefAIdeal.nD Cert.RefAIdeal.τ).loc Cert.RefAIdeal.main_arg0))
      ∧ r.2.sem = fun _ => 0)

def quiescent_DilB [hDilB : Cert.DilB.Facts] : Prop :=
  ∀ (m : (ℓ : Loc Cert.DilB.nD Cert.DilB.τ Cert.DilB.sig) → Buf (Elt Bits) ℓ) (g : Dev Cert.DilB.nD → PrngReg), Pre_DilB m →
    θ_run (Cert.DilB.defs (F := Bits)) (onTc (τ := Cert.DilB.τ) (Cert.DilB.main (F := Bits))) ⟨m, fun _ => 0, g⟩ (fun r => (∀ c : Dev Cert.DilB.nD,
      r.2.mem ((c.tc : Thread Cert.DilB.nD Cert.DilB.τ).loc Cert.DilB.main_arg0) = m ((c.tc : Thread Cert.DilB.nD Cert.DilB.τ).loc Cert.DilB.main_arg0))
      ∧ r.2.sem = fun _ => 0)

def quiescent_DilBIdeal [hDilBIdeal : Cert.DilBIdeal.Facts] : Prop :=
  ∀ (m : (ℓ : Loc Cert.DilBIdeal.nD Cert.DilBIdeal.τ Cert.DilBIdeal.sig) → Buf (Elt Ideal) ℓ) (g : Dev Cert.DilBIdeal.nD → PrngReg), Pre_DilBIdeal m →
    θ_run (Cert.DilBIdeal.defs (F := Ideal)) (onTc (τ := Cert.DilBIdeal.τ) (Cert.DilBIdeal.main (F := Ideal))) ⟨m, fun _ => 0, g⟩ (fun r => (∀ c : Dev Cert.DilBIdeal.nD,
      r.2.mem ((c.tc : Thread Cert.DilBIdeal.nD Cert.DilBIdeal.τ).loc Cert.DilBIdeal.main_arg0) = m ((c.tc : Thread Cert.DilBIdeal.nD Cert.DilBIdeal.τ).loc Cert.DilBIdeal.main_arg0))
      ∧ r.2.sem = fun _ => 0)

def quiescent_DilBIdeal_pre_finite [hDilBIdeal : Cert.DilBIdeal.Facts] [hPre_finite : Cert.Pre_finite.Facts] : Prop :=
  ∀ (m : (ℓ : Loc Cert.DilBIdeal.nD Cert.DilBIdeal.τ Cert.DilBIdeal.sig) → Buf (Elt Ideal) ℓ) (g : Dev Cert.DilBIdeal.nD → PrngReg), Pre_DilBIdeal_finite m →
    θ_run (Cert.DilBIdeal.defs (F := Ideal)) (onTc (τ := Cert.DilBIdeal.τ) (Cert.DilBIdeal.main (F := Ideal))) ⟨m, fun _ => 0, g⟩ (fun r => (∀ c : Dev Cert.DilBIdeal.nD,
      r.2.mem ((c.tc : Thread Cert.DilBIdeal.nD Cert.DilBIdeal.τ).loc Cert.DilBIdeal.main_arg0) = m ((c.tc : Thread Cert.DilBIdeal.nD Cert.DilBIdeal.τ).loc Cert.DilBIdeal.main_arg0))
      ∧ r.2.sem = fun _ => 0)

def quiescent_RefBIdeal [hRefBIdeal : Cert.RefBIdeal.Facts] : Prop :=
  ∀ (m : (ℓ : Loc Cert.RefBIdeal.nD Cert.RefBIdeal.τ Cert.RefBIdeal.sig) → Buf (Elt Ideal) ℓ) (g : Dev Cert.RefBIdeal.nD → PrngReg), Pre_RefBIdeal m →
    θ_run (Cert.RefBIdeal.defs (F := Ideal)) (onTc (τ := Cert.RefBIdeal.τ) (Cert.RefBIdeal.main (F := Ideal))) ⟨m, fun _ => 0, g⟩ (fun r => (∀ c : Dev Cert.RefBIdeal.nD,
      r.2.mem ((c.tc : Thread Cert.RefBIdeal.nD Cert.RefBIdeal.τ).loc Cert.RefBIdeal.main_arg0) = m ((c.tc : Thread Cert.RefBIdeal.nD Cert.RefBIdeal.τ).loc Cert.RefBIdeal.main_arg0))
      ∧ r.2.sem = fun _ => 0)

def quiescent_RefBIdeal_pre_finite [hRefBIdeal : Cert.RefBIdeal.Facts] [hPre_finite : Cert.Pre_finite.Facts] : Prop :=
  ∀ (m : (ℓ : Loc Cert.RefBIdeal.nD Cert.RefBIdeal.τ Cert.RefBIdeal.sig) → Buf (Elt Ideal) ℓ) (g : Dev Cert.RefBIdeal.nD → PrngReg), Pre_RefBIdeal_finite m →
    θ_run (Cert.RefBIdeal.defs (F := Ideal)) (onTc (τ := Cert.RefBIdeal.τ) (Cert.RefBIdeal.main (F := Ideal))) ⟨m, fun _ => 0, g⟩ (fun r => (∀ c : Dev Cert.RefBIdeal.nD,
      r.2.mem ((c.tc : Thread Cert.RefBIdeal.nD Cert.RefBIdeal.τ).loc Cert.RefBIdeal.main_arg0) = m ((c.tc : Thread Cert.RefBIdeal.nD Cert.RefBIdeal.τ).loc Cert.RefBIdeal.main_arg0))
      ∧ r.2.sem = fun _ => 0)

def quiescent_DilC [hDilC : Cert.DilC.Facts] : Prop :=
  ∀ (m : (ℓ : Loc Cert.DilC.nD Cert.DilC.τ Cert.DilC.sig) → Buf (Elt Bits) ℓ) (g : Dev Cert.DilC.nD → PrngReg), Pre_DilC m →
    θ_run (Cert.DilC.defs (F := Bits)) (onTc (τ := Cert.DilC.τ) (Cert.DilC.main (F := Bits))) ⟨m, fun _ => 0, g⟩ (fun r => (∀ c : Dev Cert.DilC.nD,
      r.2.mem ((c.tc : Thread Cert.DilC.nD Cert.DilC.τ).loc Cert.DilC.main_arg0) = m ((c.tc : Thread Cert.DilC.nD Cert.DilC.τ).loc Cert.DilC.main_arg0))
      ∧ r.2.sem = fun _ => 0)

def quiescent_DilCIdeal [hDilCIdeal : Cert.DilCIdeal.Facts] : Prop :=
  ∀ (m : (ℓ : Loc Cert.DilCIdeal.nD Cert.DilCIdeal.τ Cert.DilCIdeal.sig) → Buf (Elt Ideal) ℓ) (g : Dev Cert.DilCIdeal.nD → PrngReg), Pre_DilCIdeal m →
    θ_run (Cert.DilCIdeal.defs (F := Ideal)) (onTc (τ := Cert.DilCIdeal.τ) (Cert.DilCIdeal.main (F := Ideal))) ⟨m, fun _ => 0, g⟩ (fun r => (∀ c : Dev Cert.DilCIdeal.nD,
      r.2.mem ((c.tc : Thread Cert.DilCIdeal.nD Cert.DilCIdeal.τ).loc Cert.DilCIdeal.main_arg0) = m ((c.tc : Thread Cert.DilCIdeal.nD Cert.DilCIdeal.τ).loc Cert.DilCIdeal.main_arg0))
      ∧ r.2.sem = fun _ => 0)

def quiescent_DilCIdeal_pre_finite [hDilCIdeal : Cert.DilCIdeal.Facts] [hPre_finite : Cert.Pre_finite.Facts] : Prop :=
  ∀ (m : (ℓ : Loc Cert.DilCIdeal.nD Cert.DilCIdeal.τ Cert.DilCIdeal.sig) → Buf (Elt Ideal) ℓ) (g : Dev Cert.DilCIdeal.nD → PrngReg), Pre_DilCIdeal_finite m →
    θ_run (Cert.DilCIdeal.defs (F := Ideal)) (onTc (τ := Cert.DilCIdeal.τ) (Cert.DilCIdeal.main (F := Ideal))) ⟨m, fun _ => 0, g⟩ (fun r => (∀ c : Dev Cert.DilCIdeal.nD,
      r.2.mem ((c.tc : Thread Cert.DilCIdeal.nD Cert.DilCIdeal.τ).loc Cert.DilCIdeal.main_arg0) = m ((c.tc : Thread Cert.DilCIdeal.nD Cert.DilCIdeal.τ).loc Cert.DilCIdeal.main_arg0))
      ∧ r.2.sem = fun _ => 0)

def quiescent_RefCIdeal [hRefCIdeal : Cert.RefCIdeal.Facts] : Prop :=
  ∀ (m : (ℓ : Loc Cert.RefCIdeal.nD Cert.RefCIdeal.τ Cert.RefCIdeal.sig) → Buf (Elt Ideal) ℓ) (g : Dev Cert.RefCIdeal.nD → PrngReg), Pre_RefCIdeal m →
    θ_run (Cert.RefCIdeal.defs (F := Ideal)) (onTc (τ := Cert.RefCIdeal.τ) (Cert.RefCIdeal.main (F := Ideal))) ⟨m, fun _ => 0, g⟩ (fun r => (∀ c : Dev Cert.RefCIdeal.nD,
      r.2.mem ((c.tc : Thread Cert.RefCIdeal.nD Cert.RefCIdeal.τ).loc Cert.RefCIdeal.main_arg0) = m ((c.tc : Thread Cert.RefCIdeal.nD Cert.RefCIdeal.τ).loc Cert.RefCIdeal.main_arg0))
      ∧ r.2.sem = fun _ => 0)

def quiescent_RefCIdeal_pre_finite [hRefCIdeal : Cert.RefCIdeal.Facts] [hPre_finite : Cert.Pre_finite.Facts] : Prop :=
  ∀ (m : (ℓ : Loc Cert.RefCIdeal.nD Cert.RefCIdeal.τ Cert.RefCIdeal.sig) → Buf (Elt Ideal) ℓ) (g : Dev Cert.RefCIdeal.nD → PrngReg), Pre_RefCIdeal_finite m →
    θ_run (Cert.RefCIdeal.defs (F := Ideal)) (onTc (τ := Cert.RefCIdeal.τ) (Cert.RefCIdeal.main (F := Ideal))) ⟨m, fun _ => 0, g⟩ (fun r => (∀ c : Dev Cert.RefCIdeal.nD,
      r.2.mem ((c.tc : Thread Cert.RefCIdeal.nD Cert.RefCIdeal.τ).loc Cert.RefCIdeal.main_arg0) = m ((c.tc : Thread Cert.RefCIdeal.nD Cert.RefCIdeal.τ).loc Cert.RefCIdeal.main_arg0))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_RefMIdeal [hRefMIdeal : Cert.RefMIdeal.Facts] : Prop :=
  ∀ (m : (ℓ : Loc Cert.RefMIdeal.nD Cert.RefMIdeal.τ Cert.RefMIdeal.sig) → Buf (Elt Ideal) ℓ) (g : Dev Cert.RefMIdeal.nD → PrngReg), Pre_RefMIdeal m →
    θ_run (Cert.RefMIdeal.defs (F := Ideal)) (onTc (τ := Cert.RefMIdeal.τ) (Cert.RefMIdeal.main (F := Ideal))) ⟨m, fun _ => 0, g⟩ (fun r => (∀ c : Dev Cert.RefMIdeal.nD,
      r.2.mem ((c.tc : Thread Cert.RefMIdeal.nD Cert.RefMIdeal.τ).loc Cert.RefMIdeal.main_arg0) = m ((c.tc : Thread Cert.RefMIdeal.nD Cert.RefMIdeal.τ).loc Cert.RefMIdeal.main_arg0)
      ∧ r.2.mem ((c.tc : Thread Cert.RefMIdeal.nD Cert.RefMIdeal.τ).loc Cert.RefMIdeal.main_arg1) = m ((c.tc : Thread Cert.RefMIdeal.nD Cert.RefMIdeal.τ).loc Cert.RefMIdeal.main_arg1)
      ∧ r.2.mem ((c.tc : Thread Cert.RefMIdeal.nD Cert.RefMIdeal.τ).loc Cert.RefMIdeal.main_arg2) = m ((c.tc : Thread Cert.RefMIdeal.nD Cert.RefMIdeal.τ).loc Cert.RefMIdeal.main_arg2)
      ∧ r.2.mem ((c.tc : Thread Cert.RefMIdeal.nD Cert.RefMIdeal.τ).loc Cert.RefMIdeal.main_arg3) = m ((c.tc : Thread Cert.RefMIdeal.nD Cert.RefMIdeal.τ).loc Cert.RefMIdeal.main_arg3)
      ∧ r.2.mem ((c.tc : Thread Cert.RefMIdeal.nD Cert.RefMIdeal.τ).loc Cert.RefMIdeal.main_arg4) = m ((c.tc : Thread Cert.RefMIdeal.nD Cert.RefMIdeal.τ).loc Cert.RefMIdeal.main_arg4)
      ∧ r.2.mem ((c.tc : Thread Cert.RefMIdeal.nD Cert.RefMIdeal.τ).loc Cert.RefMIdeal.main_arg5) = m ((c.tc : Thread Cert.RefMIdeal.nD Cert.RefMIdeal.τ).loc Cert.RefMIdeal.main_arg5)
      ∧ r.2.mem ((c.tc : Thread Cert.RefMIdeal.nD Cert.RefMIdeal.τ).loc Cert.RefMIdeal.main_arg6) = m ((c.tc : Thread Cert.RefMIdeal.nD Cert.RefMIdeal.τ).loc Cert.RefMIdeal.main_arg6)
      ∧ r.2.mem ((c.tc : Thread Cert.RefMIdeal.nD Cert.RefMIdeal.τ).loc Cert.RefMIdeal.main_arg7) = m ((c.tc : Thread Cert.RefMIdeal.nD Cert.RefMIdeal.τ).loc Cert.RefMIdeal.main_arg7)
      ∧ r.2.mem ((c.tc : Thread Cert.RefMIdeal.nD Cert.RefMIdeal.τ).loc Cert.RefMIdeal.main_arg8) = m ((c.tc : Thread Cert.RefMIdeal.nD Cert.RefMIdeal.τ).loc Cert.RefMIdeal.main_arg8)
      ∧ r.2.mem ((c.tc : Thread Cert.RefMIdeal.nD Cert.RefMIdeal.τ).loc Cert.RefMIdeal.main_arg9) = m ((c.tc : Thread Cert.RefMIdeal.nD Cert.RefMIdeal.τ).loc Cert.RefMIdeal.main_arg9)
      ∧ r.2.mem ((c.tc : Thread Cert.RefMIdeal.nD Cert.RefMIdeal.τ).loc Cert.RefMIdeal.main_arg10) = m ((c.tc : Thread Cert.RefMIdeal.nD Cert.RefMIdeal.τ).loc Cert.RefMIdeal.main_arg10)
      ∧ r.2.mem ((c.tc : Thread Cert.RefMIdeal.nD Cert.RefMIdeal.τ).loc Cert.RefMIdeal.main_arg11) = m ((c.tc : Thread Cert.RefMIdeal.nD Cert.RefMIdeal.τ).loc Cert.RefMIdeal.main_arg11))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ r.2.sem = fun _ => 0)

def quiescent_MoeIdeal_pre_finite_route [hMoeIdeal : Cert.MoeIdeal.Facts] [hPre_finite_route : Cert.Pre_finite_route.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_finite_route m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ r.2.sem = fun _ => 0)

def quiescent_RefEIdeal [hRefEIdeal : Cert.RefEIdeal.Facts] : Prop :=
  ∀ (m : (ℓ : Loc Cert.RefEIdeal.nD Cert.RefEIdeal.τ Cert.RefEIdeal.sig) → Buf (Elt Ideal) ℓ) (g : Dev Cert.RefEIdeal.nD → PrngReg), Pre_RefEIdeal m →
    θ_run (Cert.RefEIdeal.defs (F := Ideal)) (onTc (τ := Cert.RefEIdeal.τ) (Cert.RefEIdeal.main (F := Ideal))) ⟨m, fun _ => 0, g⟩ (fun r => (∀ c : Dev Cert.RefEIdeal.nD,
      r.2.mem ((c.tc : Thread Cert.RefEIdeal.nD Cert.RefEIdeal.τ).loc Cert.RefEIdeal.main_arg0) = m ((c.tc : Thread Cert.RefEIdeal.nD Cert.RefEIdeal.τ).loc Cert.RefEIdeal.main_arg0)
      ∧ r.2.mem ((c.tc : Thread Cert.RefEIdeal.nD Cert.RefEIdeal.τ).loc Cert.RefEIdeal.main_arg1) = m ((c.tc : Thread Cert.RefEIdeal.nD Cert.RefEIdeal.τ).loc Cert.RefEIdeal.main_arg1)
      ∧ r.2.mem ((c.tc : Thread Cert.RefEIdeal.nD Cert.RefEIdeal.τ).loc Cert.RefEIdeal.main_arg2) = m ((c.tc : Thread Cert.RefEIdeal.nD Cert.RefEIdeal.τ).loc Cert.RefEIdeal.main_arg2)
      ∧ r.2.mem ((c.tc : Thread Cert.RefEIdeal.nD Cert.RefEIdeal.τ).loc Cert.RefEIdeal.main_arg3) = m ((c.tc : Thread Cert.RefEIdeal.nD Cert.RefEIdeal.τ).loc Cert.RefEIdeal.main_arg3)
      ∧ r.2.mem ((c.tc : Thread Cert.RefEIdeal.nD Cert.RefEIdeal.τ).loc Cert.RefEIdeal.main_arg4) = m ((c.tc : Thread Cert.RefEIdeal.nD Cert.RefEIdeal.τ).loc Cert.RefEIdeal.main_arg4)
      ∧ r.2.mem ((c.tc : Thread Cert.RefEIdeal.nD Cert.RefEIdeal.τ).loc Cert.RefEIdeal.main_arg5) = m ((c.tc : Thread Cert.RefEIdeal.nD Cert.RefEIdeal.τ).loc Cert.RefEIdeal.main_arg5)
      ∧ r.2.mem ((c.tc : Thread Cert.RefEIdeal.nD Cert.RefEIdeal.τ).loc Cert.RefEIdeal.main_arg6) = m ((c.tc : Thread Cert.RefEIdeal.nD Cert.RefEIdeal.τ).loc Cert.RefEIdeal.main_arg6)
      ∧ r.2.mem ((c.tc : Thread Cert.RefEIdeal.nD Cert.RefEIdeal.τ).loc Cert.RefEIdeal.main_arg7) = m ((c.tc : Thread Cert.RefEIdeal.nD Cert.RefEIdeal.τ).loc Cert.RefEIdeal.main_arg7)
      ∧ r.2.mem ((c.tc : Thread Cert.RefEIdeal.nD Cert.RefEIdeal.τ).loc Cert.RefEIdeal.main_arg8) = m ((c.tc : Thread Cert.RefEIdeal.nD Cert.RefEIdeal.τ).loc Cert.RefEIdeal.main_arg8))
      ∧ r.2.sem = fun _ => 0)

def quiescent_RefEIdeal_pre_finite_route [hRefEIdeal : Cert.RefEIdeal.Facts] [hPre_finite_route : Cert.Pre_finite_route.Facts] : Prop :=
  ∀ (m : (ℓ : Loc Cert.RefEIdeal.nD Cert.RefEIdeal.τ Cert.RefEIdeal.sig) → Buf (Elt Ideal) ℓ) (g : Dev Cert.RefEIdeal.nD → PrngReg), Pre_RefEIdeal_finite_route m →
    θ_run (Cert.RefEIdeal.defs (F := Ideal)) (onTc (τ := Cert.RefEIdeal.τ) (Cert.RefEIdeal.main (F := Ideal))) ⟨m, fun _ => 0, g⟩ (fun r => (∀ c : Dev Cert.RefEIdeal.nD,
      r.2.mem ((c.tc : Thread Cert.RefEIdeal.nD Cert.RefEIdeal.τ).loc Cert.RefEIdeal.main_arg0) = m ((c.tc : Thread Cert.RefEIdeal.nD Cert.RefEIdeal.τ).loc Cert.RefEIdeal.main_arg0)
      ∧ r.2.mem ((c.tc : Thread Cert.RefEIdeal.nD Cert.RefEIdeal.τ).loc Cert.RefEIdeal.main_arg1) = m ((c.tc : Thread Cert.RefEIdeal.nD Cert.RefEIdeal.τ).loc Cert.RefEIdeal.main_arg1)
      ∧ r.2.mem ((c.tc : Thread Cert.RefEIdeal.nD Cert.RefEIdeal.τ).loc Cert.RefEIdeal.main_arg2) = m ((c.tc : Thread Cert.RefEIdeal.nD Cert.RefEIdeal.τ).loc Cert.RefEIdeal.main_arg2)
      ∧ r.2.mem ((c.tc : Thread Cert.RefEIdeal.nD Cert.RefEIdeal.τ).loc Cert.RefEIdeal.main_arg3) = m ((c.tc : Thread Cert.RefEIdeal.nD Cert.RefEIdeal.τ).loc Cert.RefEIdeal.main_arg3)
      ∧ r.2.mem ((c.tc : Thread Cert.RefEIdeal.nD Cert.RefEIdeal.τ).loc Cert.RefEIdeal.main_arg4) = m ((c.tc : Thread Cert.RefEIdeal.nD Cert.RefEIdeal.τ).loc Cert.RefEIdeal.main_arg4)
      ∧ r.2.mem ((c.tc : Thread Cert.RefEIdeal.nD Cert.RefEIdeal.τ).loc Cert.RefEIdeal.main_arg5) = m ((c.tc : Thread Cert.RefEIdeal.nD Cert.RefEIdeal.τ).loc Cert.RefEIdeal.main_arg5)
      ∧ r.2.mem ((c.tc : Thread Cert.RefEIdeal.nD Cert.RefEIdeal.τ).loc Cert.RefEIdeal.main_arg6) = m ((c.tc : Thread Cert.RefEIdeal.nD Cert.RefEIdeal.τ).loc Cert.RefEIdeal.main_arg6)
      ∧ r.2.mem ((c.tc : Thread Cert.RefEIdeal.nD Cert.RefEIdeal.τ).loc Cert.RefEIdeal.main_arg7) = m ((c.tc : Thread Cert.RefEIdeal.nD Cert.RefEIdeal.τ).loc Cert.RefEIdeal.main_arg7)
      ∧ r.2.mem ((c.tc : Thread Cert.RefEIdeal.nD Cert.RefEIdeal.τ).loc Cert.RefEIdeal.main_arg8) = m ((c.tc : Thread Cert.RefEIdeal.nD Cert.RefEIdeal.τ).loc Cert.RefEIdeal.main_arg8))
      ∧ r.2.sem = fun _ => 0)

def preserves_DilA_DilAIdeal : Prop :=
  True

def algebraic_DilAIdeal_RefAIdeal_pre_finite [hDilAIdeal : Cert.DilAIdeal.Facts] [hRefAIdeal : Cert.RefAIdeal.Facts] [hPre_finite : Cert.Pre_finite.Facts] : Prop :=
  ∀ (m : (ℓ : Loc Cert.DilAIdeal.nD Cert.DilAIdeal.τ Cert.DilAIdeal.sig) → Buf (Elt Ideal) ℓ) (g : Dev Cert.DilAIdeal.nD → PrngReg)
    (m' : (ℓ : Loc Cert.RefAIdeal.nD Cert.RefAIdeal.τ Cert.RefAIdeal.sig) → Buf (Elt Ideal) ℓ) (g' : Dev Cert.RefAIdeal.nD → PrngReg), Pre_DilAIdeal_finite m →
    (∀ c : Dev Cert.DilAIdeal.nD,
      m' ((c.tc : Thread Cert.RefAIdeal.nD Cert.RefAIdeal.τ).loc Cert.RefAIdeal.main_arg0) = m ((c.tc : Thread Cert.DilAIdeal.nD Cert.DilAIdeal.τ).loc Cert.DilAIdeal.main_arg0)) →
    ∃ (v0 : (c : Dev Cert.DilAIdeal.nD) → Buf (Elt Ideal) ((c.tc : Thread Cert.DilAIdeal.nD Cert.DilAIdeal.τ).loc Cert.DilAIdeal.main_v0_0)) (v1 : (c : Dev Cert.DilAIdeal.nD) → Buf (Elt Ideal) ((c.tc : Thread Cert.DilAIdeal.nD Cert.DilAIdeal.τ).loc Cert.DilAIdeal.main_v0_1)),
      θ_run (Cert.DilAIdeal.defs (F := Ideal)) (onTc (τ := Cert.DilAIdeal.τ) (Cert.DilAIdeal.main (F := Ideal))) ⟨m, fun _ => 0, g⟩ (fun r => ∀ c : Dev Cert.DilAIdeal.nD,
          r.2.mem ((c.tc : Thread Cert.DilAIdeal.nD Cert.DilAIdeal.τ).loc Cert.DilAIdeal.main_v0_0) = v0 c
          ∧ r.2.mem ((c.tc : Thread Cert.DilAIdeal.nD Cert.DilAIdeal.τ).loc Cert.DilAIdeal.main_v0_1) = v1 c
          ∧ r.2.mem ((c.tc : Thread Cert.DilAIdeal.nD Cert.DilAIdeal.τ).loc Cert.DilAIdeal.main_arg0) = m ((c.tc : Thread Cert.DilAIdeal.nD Cert.DilAIdeal.τ).loc Cert.DilAIdeal.main_arg0))
      ∧ θ_run (Cert.RefAIdeal.defs (F := Ideal)) (onTc (τ := Cert.RefAIdeal.τ) (Cert.RefAIdeal.main (F := Ideal))) ⟨m', fun _ => 0, g'⟩ (fun r => ∀ c : Dev Cert.RefAIdeal.nD,
          r.2.mem ((c.tc : Thread Cert.RefAIdeal.nD Cert.RefAIdeal.τ).loc Cert.RefAIdeal.main_v39) = v0 c
          ∧ r.2.mem ((c.tc : Thread Cert.RefAIdeal.nD Cert.RefAIdeal.τ).loc Cert.RefAIdeal.main_v40) = v1 c
          ∧ r.2.mem ((c.tc : Thread Cert.RefAIdeal.nD Cert.RefAIdeal.τ).loc Cert.RefAIdeal.main_arg0) = m' ((c.tc : Thread Cert.RefAIdeal.nD Cert.RefAIdeal.τ).loc Cert.RefAIdeal.main_arg0))

def preserves_DilB_DilBIdeal : Prop :=
  True

def algebraic_DilBIdeal_RefBIdeal_pre_finite [hDilBIdeal : Cert.DilBIdeal.Facts] [hRefBIdeal : Cert.RefBIdeal.Facts] [hPre_finite : Cert.Pre_finite.Facts] : Prop :=
  ∀ (m : (ℓ : Loc Cert.DilBIdeal.nD Cert.DilBIdeal.τ Cert.DilBIdeal.sig) → Buf (Elt Ideal) ℓ) (g : Dev Cert.DilBIdeal.nD → PrngReg)
    (m' : (ℓ : Loc Cert.RefBIdeal.nD Cert.RefBIdeal.τ Cert.RefBIdeal.sig) → Buf (Elt Ideal) ℓ) (g' : Dev Cert.RefBIdeal.nD → PrngReg), Pre_DilBIdeal_finite m →
    (∀ c : Dev Cert.DilBIdeal.nD,
      m' ((c.tc : Thread Cert.RefBIdeal.nD Cert.RefBIdeal.τ).loc Cert.RefBIdeal.main_arg0) = m ((c.tc : Thread Cert.DilBIdeal.nD Cert.DilBIdeal.τ).loc Cert.DilBIdeal.main_arg0)) →
    ∃ (v0 : (c : Dev Cert.DilBIdeal.nD) → Buf (Elt Ideal) ((c.tc : Thread Cert.DilBIdeal.nD Cert.DilBIdeal.τ).loc Cert.DilBIdeal.main_v0_0)) (v1 : (c : Dev Cert.DilBIdeal.nD) → Buf (Elt Ideal) ((c.tc : Thread Cert.DilBIdeal.nD Cert.DilBIdeal.τ).loc Cert.DilBIdeal.main_v0_1)),
      θ_run (Cert.DilBIdeal.defs (F := Ideal)) (onTc (τ := Cert.DilBIdeal.τ) (Cert.DilBIdeal.main (F := Ideal))) ⟨m, fun _ => 0, g⟩ (fun r => ∀ c : Dev Cert.DilBIdeal.nD,
          r.2.mem ((c.tc : Thread Cert.DilBIdeal.nD Cert.DilBIdeal.τ).loc Cert.DilBIdeal.main_v0_0) = v0 c
          ∧ r.2.mem ((c.tc : Thread Cert.DilBIdeal.nD Cert.DilBIdeal.τ).loc Cert.DilBIdeal.main_v0_1) = v1 c
          ∧ r.2.mem ((c.tc : Thread Cert.DilBIdeal.nD Cert.DilBIdeal.τ).loc Cert.DilBIdeal.main_arg0) = m ((c.tc : Thread Cert.DilBIdeal.nD Cert.DilBIdeal.τ).loc Cert.DilBIdeal.main_arg0))
      ∧ θ_run (Cert.RefBIdeal.defs (F := Ideal)) (onTc (τ := Cert.RefBIdeal.τ) (Cert.RefBIdeal.main (F := Ideal))) ⟨m', fun _ => 0, g'⟩ (fun r => ∀ c : Dev Cert.RefBIdeal.nD,
          r.2.mem ((c.tc : Thread Cert.RefBIdeal.nD Cert.RefBIdeal.τ).loc Cert.RefBIdeal.main_v39) = v0 c
          ∧ r.2.mem ((c.tc : Thread Cert.RefBIdeal.nD Cert.RefBIdeal.τ).loc Cert.RefBIdeal.main_v40) = v1 c
          ∧ r.2.mem ((c.tc : Thread Cert.RefBIdeal.nD Cert.RefBIdeal.τ).loc Cert.RefBIdeal.main_arg0) = m' ((c.tc : Thread Cert.RefBIdeal.nD Cert.RefBIdeal.τ).loc Cert.RefBIdeal.main_arg0))

def preserves_DilC_DilCIdeal : Prop :=
  True

def algebraic_DilCIdeal_RefCIdeal_pre_finite [hDilCIdeal : Cert.DilCIdeal.Facts] [hRefCIdeal : Cert.RefCIdeal.Facts] [hPre_finite : Cert.Pre_finite.Facts] : Prop :=
  ∀ (m : (ℓ : Loc Cert.DilCIdeal.nD Cert.DilCIdeal.τ Cert.DilCIdeal.sig) → Buf (Elt Ideal) ℓ) (g : Dev Cert.DilCIdeal.nD → PrngReg)
    (m' : (ℓ : Loc Cert.RefCIdeal.nD Cert.RefCIdeal.τ Cert.RefCIdeal.sig) → Buf (Elt Ideal) ℓ) (g' : Dev Cert.RefCIdeal.nD → PrngReg), Pre_DilCIdeal_finite m →
    (∀ c : Dev Cert.DilCIdeal.nD,
      m' ((c.tc : Thread Cert.RefCIdeal.nD Cert.RefCIdeal.τ).loc Cert.RefCIdeal.main_arg0) = m ((c.tc : Thread Cert.DilCIdeal.nD Cert.DilCIdeal.τ).loc Cert.DilCIdeal.main_arg0)) →
    ∃ (v0 : (c : Dev Cert.DilCIdeal.nD) → Buf (Elt Ideal) ((c.tc : Thread Cert.DilCIdeal.nD Cert.DilCIdeal.τ).loc Cert.DilCIdeal.main_v0_0)) (v1 : (c : Dev Cert.DilCIdeal.nD) → Buf (Elt Ideal) ((c.tc : Thread Cert.DilCIdeal.nD Cert.DilCIdeal.τ).loc Cert.DilCIdeal.main_v0_1)),
      θ_run (Cert.DilCIdeal.defs (F := Ideal)) (onTc (τ := Cert.DilCIdeal.τ) (Cert.DilCIdeal.main (F := Ideal))) ⟨m, fun _ => 0, g⟩ (fun r => ∀ c : Dev Cert.DilCIdeal.nD,
          r.2.mem ((c.tc : Thread Cert.DilCIdeal.nD Cert.DilCIdeal.τ).loc Cert.DilCIdeal.main_v0_0) = v0 c
          ∧ r.2.mem ((c.tc : Thread Cert.DilCIdeal.nD Cert.DilCIdeal.τ).loc Cert.DilCIdeal.main_v0_1) = v1 c
          ∧ r.2.mem ((c.tc : Thread Cert.DilCIdeal.nD Cert.DilCIdeal.τ).loc Cert.DilCIdeal.main_arg0) = m ((c.tc : Thread Cert.DilCIdeal.nD Cert.DilCIdeal.τ).loc Cert.DilCIdeal.main_arg0))
      ∧ θ_run (Cert.RefCIdeal.defs (F := Ideal)) (onTc (τ := Cert.RefCIdeal.τ) (Cert.RefCIdeal.main (F := Ideal))) ⟨m', fun _ => 0, g'⟩ (fun r => ∀ c : Dev Cert.RefCIdeal.nD,
          r.2.mem ((c.tc : Thread Cert.RefCIdeal.nD Cert.RefCIdeal.τ).loc Cert.RefCIdeal.main_v39) = v0 c
          ∧ r.2.mem ((c.tc : Thread Cert.RefCIdeal.nD Cert.RefCIdeal.τ).loc Cert.RefCIdeal.main_v40) = v1 c
          ∧ r.2.mem ((c.tc : Thread Cert.RefCIdeal.nD Cert.RefCIdeal.τ).loc Cert.RefCIdeal.main_arg0) = m' ((c.tc : Thread Cert.RefCIdeal.nD Cert.RefCIdeal.τ).loc Cert.RefCIdeal.main_arg0))

def preserves_Mix_MixIdeal : Prop :=
  True

def algebraic_MixIdeal_RefMIdeal [hMixIdeal : Cert.MixIdeal.Facts] [hRefMIdeal : Cert.RefMIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.RefMIdeal.nD Cert.RefMIdeal.τ Cert.RefMIdeal.sig) → Buf (Elt Ideal) ℓ) (g' : Dev Cert.RefMIdeal.nD → PrngReg), Pre_MixIdeal m →
    (∀ c : Dev Cert.MixIdeal.nD,
      m' ((c.tc : Thread Cert.RefMIdeal.nD Cert.RefMIdeal.τ).loc Cert.RefMIdeal.main_arg0) = m ((c.tc : Thread Cert.MixIdeal.nD Cert.MixIdeal.τ).loc Cert.MixIdeal.main_arg0)
      ∧ m' ((c.tc : Thread Cert.RefMIdeal.nD Cert.RefMIdeal.τ).loc Cert.RefMIdeal.main_arg1) = m ((c.tc : Thread Cert.MixIdeal.nD Cert.MixIdeal.τ).loc Cert.MixIdeal.main_arg1)
      ∧ m' ((c.tc : Thread Cert.RefMIdeal.nD Cert.RefMIdeal.τ).loc Cert.RefMIdeal.main_arg2) = m ((c.tc : Thread Cert.MixIdeal.nD Cert.MixIdeal.τ).loc Cert.MixIdeal.main_arg2)
      ∧ m' ((c.tc : Thread Cert.RefMIdeal.nD Cert.RefMIdeal.τ).loc Cert.RefMIdeal.main_arg3) = m ((c.tc : Thread Cert.MixIdeal.nD Cert.MixIdeal.τ).loc Cert.MixIdeal.main_arg3)
      ∧ m' ((c.tc : Thread Cert.RefMIdeal.nD Cert.RefMIdeal.τ).loc Cert.RefMIdeal.main_arg4) = m ((c.tc : Thread Cert.MixIdeal.nD Cert.MixIdeal.τ).loc Cert.MixIdeal.main_arg4)
      ∧ m' ((c.tc : Thread Cert.RefMIdeal.nD Cert.RefMIdeal.τ).loc Cert.RefMIdeal.main_arg5) = m ((c.tc : Thread Cert.MixIdeal.nD Cert.MixIdeal.τ).loc Cert.MixIdeal.main_arg5)
      ∧ m' ((c.tc : Thread Cert.RefMIdeal.nD Cert.RefMIdeal.τ).loc Cert.RefMIdeal.main_arg6) = m ((c.tc : Thread Cert.MixIdeal.nD Cert.MixIdeal.τ).loc Cert.MixIdeal.main_arg6)
      ∧ m' ((c.tc : Thread Cert.RefMIdeal.nD Cert.RefMIdeal.τ).loc Cert.RefMIdeal.main_arg7) = m ((c.tc : Thread Cert.MixIdeal.nD Cert.MixIdeal.τ).loc Cert.MixIdeal.main_arg7)
      ∧ m' ((c.tc : Thread Cert.RefMIdeal.nD Cert.RefMIdeal.τ).loc Cert.RefMIdeal.main_arg8) = m ((c.tc : Thread Cert.MixIdeal.nD Cert.MixIdeal.τ).loc Cert.MixIdeal.main_arg8)
      ∧ m' ((c.tc : Thread Cert.RefMIdeal.nD Cert.RefMIdeal.τ).loc Cert.RefMIdeal.main_arg9) = m ((c.tc : Thread Cert.MixIdeal.nD Cert.MixIdeal.τ).loc Cert.MixIdeal.main_arg9)
      ∧ m' ((c.tc : Thread Cert.RefMIdeal.nD Cert.RefMIdeal.τ).loc Cert.RefMIdeal.main_arg10) = m ((c.tc : Thread Cert.MixIdeal.nD Cert.MixIdeal.τ).loc Cert.MixIdeal.main_arg10)
      ∧ m' ((c.tc : Thread Cert.RefMIdeal.nD Cert.RefMIdeal.τ).loc Cert.RefMIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.RefMIdeal.defs (F := Ideal)) (onTc (τ := Cert.RefMIdeal.τ) (Cert.RefMIdeal.main (F := Ideal))) ⟨m', fun _ => 0, g'⟩ (fun r => ∀ c : Dev Cert.RefMIdeal.nD,
          r.2.mem ((c.tc : Thread Cert.RefMIdeal.nD Cert.RefMIdeal.τ).loc Cert.RefMIdeal.main_v55) = v0 c
          ∧ r.2.mem ((c.tc : Thread Cert.RefMIdeal.nD Cert.RefMIdeal.τ).loc Cert.RefMIdeal.main_arg0) = m' ((c.tc : Thread Cert.RefMIdeal.nD Cert.RefMIdeal.τ).loc Cert.RefMIdeal.main_arg0)
          ∧ r.2.mem ((c.tc : Thread Cert.RefMIdeal.nD Cert.RefMIdeal.τ).loc Cert.RefMIdeal.main_arg1) = m' ((c.tc : Thread Cert.RefMIdeal.nD Cert.RefMIdeal.τ).loc Cert.RefMIdeal.main_arg1)
          ∧ r.2.mem ((c.tc : Thread Cert.RefMIdeal.nD Cert.RefMIdeal.τ).loc Cert.RefMIdeal.main_arg2) = m' ((c.tc : Thread Cert.RefMIdeal.nD Cert.RefMIdeal.τ).loc Cert.RefMIdeal.main_arg2)
          ∧ r.2.mem ((c.tc : Thread Cert.RefMIdeal.nD Cert.RefMIdeal.τ).loc Cert.RefMIdeal.main_arg3) = m' ((c.tc : Thread Cert.RefMIdeal.nD Cert.RefMIdeal.τ).loc Cert.RefMIdeal.main_arg3)
          ∧ r.2.mem ((c.tc : Thread Cert.RefMIdeal.nD Cert.RefMIdeal.τ).loc Cert.RefMIdeal.main_arg4) = m' ((c.tc : Thread Cert.RefMIdeal.nD Cert.RefMIdeal.τ).loc Cert.RefMIdeal.main_arg4)
          ∧ r.2.mem ((c.tc : Thread Cert.RefMIdeal.nD Cert.RefMIdeal.τ).loc Cert.RefMIdeal.main_arg5) = m' ((c.tc : Thread Cert.RefMIdeal.nD Cert.RefMIdeal.τ).loc Cert.RefMIdeal.main_arg5)
          ∧ r.2.mem ((c.tc : Thread Cert.RefMIdeal.nD Cert.RefMIdeal.τ).loc Cert.RefMIdeal.main_arg6) = m' ((c.tc : Thread Cert.RefMIdeal.nD Cert.RefMIdeal.τ).loc Cert.RefMIdeal.main_arg6)
          ∧ r.2.mem ((c.tc : Thread Cert.RefMIdeal.nD Cert.RefMIdeal.τ).loc Cert.RefMIdeal.main_arg7) = m' ((c.tc : Thread Cert.RefMIdeal.nD Cert.RefMIdeal.τ).loc Cert.RefMIdeal.main_arg7)
          ∧ r.2.mem ((c.tc : Thread Cert.RefMIdeal.nD Cert.RefMIdeal.τ).loc Cert.RefMIdeal.main_arg8) = m' ((c.tc : Thread Cert.RefMIdeal.nD Cert.RefMIdeal.τ).loc Cert.RefMIdeal.main_arg8)
          ∧ r.2.mem ((c.tc : Thread Cert.RefMIdeal.nD Cert.RefMIdeal.τ).loc Cert.RefMIdeal.main_arg9) = m' ((c.tc : Thread Cert.RefMIdeal.nD Cert.RefMIdeal.τ).loc Cert.RefMIdeal.main_arg9)
          ∧ r.2.mem ((c.tc : Thread Cert.RefMIdeal.nD Cert.RefMIdeal.τ).loc Cert.RefMIdeal.main_arg10) = m' ((c.tc : Thread Cert.RefMIdeal.nD Cert.RefMIdeal.τ).loc Cert.RefMIdeal.main_arg10)
          ∧ r.2.mem ((c.tc : Thread Cert.RefMIdeal.nD Cert.RefMIdeal.τ).loc Cert.RefMIdeal.main_arg11) = m' ((c.tc : Thread Cert.RefMIdeal.nD Cert.RefMIdeal.τ).loc Cert.RefMIdeal.main_arg11))

def algebraic_MoeIdeal_RefEIdeal_pre_finite_route [hMoeIdeal : Cert.MoeIdeal.Facts] [hRefEIdeal : Cert.RefEIdeal.Facts] [hPre_finite_route : Cert.Pre_finite_route.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.RefEIdeal.nD Cert.RefEIdeal.τ Cert.RefEIdeal.sig) → Buf (Elt Ideal) ℓ) (g' : Dev Cert.RefEIdeal.nD → PrngReg), Pre_MoeIdeal_finite_route m →
    (∀ c : Dev Cert.MoeIdeal.nD,
      m' ((c.tc : Thread Cert.RefEIdeal.nD Cert.RefEIdeal.τ).loc Cert.RefEIdeal.main_arg0) = m ((c.tc : Thread Cert.MoeIdeal.nD Cert.MoeIdeal.τ).loc Cert.MoeIdeal.main_arg0)
      ∧ m' ((c.tc : Thread Cert.RefEIdeal.nD Cert.RefEIdeal.τ).loc Cert.RefEIdeal.main_arg1) = m ((c.tc : Thread Cert.MoeIdeal.nD Cert.MoeIdeal.τ).loc Cert.MoeIdeal.main_arg1)
      ∧ m' ((c.tc : Thread Cert.RefEIdeal.nD Cert.RefEIdeal.τ).loc Cert.RefEIdeal.main_arg2) = m ((c.tc : Thread Cert.MoeIdeal.nD Cert.MoeIdeal.τ).loc Cert.MoeIdeal.main_arg2)
      ∧ m' ((c.tc : Thread Cert.RefEIdeal.nD Cert.RefEIdeal.τ).loc Cert.RefEIdeal.main_arg3) = m ((c.tc : Thread Cert.MoeIdeal.nD Cert.MoeIdeal.τ).loc Cert.MoeIdeal.main_arg3)
      ∧ m' ((c.tc : Thread Cert.RefEIdeal.nD Cert.RefEIdeal.τ).loc Cert.RefEIdeal.main_arg4) = m ((c.tc : Thread Cert.MoeIdeal.nD Cert.MoeIdeal.τ).loc Cert.MoeIdeal.main_arg4)
      ∧ m' ((c.tc : Thread Cert.RefEIdeal.nD Cert.RefEIdeal.τ).loc Cert.RefEIdeal.main_arg5) = m ((c.tc : Thread Cert.MoeIdeal.nD Cert.MoeIdeal.τ).loc Cert.MoeIdeal.main_arg5)
      ∧ m' ((c.tc : Thread Cert.RefEIdeal.nD Cert.RefEIdeal.τ).loc Cert.RefEIdeal.main_arg6) = m ((c.tc : Thread Cert.MoeIdeal.nD Cert.MoeIdeal.τ).loc Cert.MoeIdeal.main_arg6)
      ∧ m' ((c.tc : Thread Cert.RefEIdeal.nD Cert.RefEIdeal.τ).loc Cert.RefEIdeal.main_arg7) = m ((c.tc : Thread Cert.MoeIdeal.nD Cert.MoeIdeal.τ).loc Cert.MoeIdeal.main_arg7)
      ∧ m' ((c.tc : Thread Cert.RefEIdeal.nD Cert.RefEIdeal.τ).loc Cert.RefEIdeal.main_arg8) = m ((c.tc : Thread Cert.MoeIdeal.nD Cert.MoeIdeal.τ).loc Cert.MoeIdeal.main_arg8)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ θ_run (Cert.RefEIdeal.defs (F := Ideal)) (onTc (τ := Cert.RefEIdeal.τ) (Cert.RefEIdeal.main (F := Ideal))) ⟨m', fun _ => 0, g'⟩ (fun r => ∀ c : Dev Cert.RefEIdeal.nD,
          r.2.mem ((c.tc : Thread Cert.RefEIdeal.nD Cert.RefEIdeal.τ).loc Cert.RefEIdeal.main_v123) = v0 c
          ∧ r.2.mem ((c.tc : Thread Cert.RefEIdeal.nD Cert.RefEIdeal.τ).loc Cert.RefEIdeal.main_arg0) = m' ((c.tc : Thread Cert.RefEIdeal.nD Cert.RefEIdeal.τ).loc Cert.RefEIdeal.main_arg0)
          ∧ r.2.mem ((c.tc : Thread Cert.RefEIdeal.nD Cert.RefEIdeal.τ).loc Cert.RefEIdeal.main_arg1) = m' ((c.tc : Thread Cert.RefEIdeal.nD Cert.RefEIdeal.τ).loc Cert.RefEIdeal.main_arg1)
          ∧ r.2.mem ((c.tc : Thread Cert.RefEIdeal.nD Cert.RefEIdeal.τ).loc Cert.RefEIdeal.main_arg2) = m' ((c.tc : Thread Cert.RefEIdeal.nD Cert.RefEIdeal.τ).loc Cert.RefEIdeal.main_arg2)
          ∧ r.2.mem ((c.tc : Thread Cert.RefEIdeal.nD Cert.RefEIdeal.τ).loc Cert.RefEIdeal.main_arg3) = m' ((c.tc : Thread Cert.RefEIdeal.nD Cert.RefEIdeal.τ).loc Cert.RefEIdeal.main_arg3)
          ∧ r.2.mem ((c.tc : Thread Cert.RefEIdeal.nD Cert.RefEIdeal.τ).loc Cert.RefEIdeal.main_arg4) = m' ((c.tc : Thread Cert.RefEIdeal.nD Cert.RefEIdeal.τ).loc Cert.RefEIdeal.main_arg4)
          ∧ r.2.mem ((c.tc : Thread Cert.RefEIdeal.nD Cert.RefEIdeal.τ).loc Cert.RefEIdeal.main_arg5) = m' ((c.tc : Thread Cert.RefEIdeal.nD Cert.RefEIdeal.τ).loc Cert.RefEIdeal.main_arg5)
          ∧ r.2.mem ((c.tc : Thread Cert.RefEIdeal.nD Cert.RefEIdeal.τ).loc Cert.RefEIdeal.main_arg6) = m' ((c.tc : Thread Cert.RefEIdeal.nD Cert.RefEIdeal.τ).loc Cert.RefEIdeal.main_arg6)
          ∧ r.2.mem ((c.tc : Thread Cert.RefEIdeal.nD Cert.RefEIdeal.τ).loc Cert.RefEIdeal.main_arg7) = m' ((c.tc : Thread Cert.RefEIdeal.nD Cert.RefEIdeal.τ).loc Cert.RefEIdeal.main_arg7)
          ∧ r.2.mem ((c.tc : Thread Cert.RefEIdeal.nD Cert.RefEIdeal.τ).loc Cert.RefEIdeal.main_arg8) = m' ((c.tc : Thread Cert.RefEIdeal.nD Cert.RefEIdeal.τ).loc Cert.RefEIdeal.main_arg8))

def Claim : Prop :=
  ∃ (hDilA : Cert.DilA.Facts) (hDilAIdeal : Cert.DilAIdeal.Facts) (hRefAIdeal : Cert.RefAIdeal.Facts) (hDilB : Cert.DilB.Facts) (hDilBIdeal : Cert.DilBIdeal.Facts) (hRefBIdeal : Cert.RefBIdeal.Facts) (hDilC : Cert.DilC.Facts) (hDilCIdeal : Cert.DilCIdeal.Facts) (hRefCIdeal : Cert.RefCIdeal.Facts) (hMix : Cert.Mix.Facts) (hMixIdeal : Cert.MixIdeal.Facts) (hRefMIdeal : Cert.RefMIdeal.Facts) (hMoeIdeal : Cert.MoeIdeal.Facts) (hRefEIdeal : Cert.RefEIdeal.Facts) (hPre_finite : Cert.Pre_finite.Facts) (hPre_finite_route : Cert.Pre_finite_route.Facts),
    quiescent_DilA (hDilA := hDilA)
    ∧ quiescent_DilAIdeal (hDilAIdeal := hDilAIdeal)
    ∧ quiescent_DilAIdeal_pre_finite (hDilAIdeal := hDilAIdeal) (hPre_finite := hPre_finite)
    ∧ quiescent_RefAIdeal (hRefAIdeal := hRefAIdeal)
    ∧ quiescent_RefAIdeal_pre_finite (hRefAIdeal := hRefAIdeal) (hPre_finite := hPre_finite)
    ∧ quiescent_DilB (hDilB := hDilB)
    ∧ quiescent_DilBIdeal (hDilBIdeal := hDilBIdeal)
    ∧ quiescent_DilBIdeal_pre_finite (hDilBIdeal := hDilBIdeal) (hPre_finite := hPre_finite)
    ∧ quiescent_RefBIdeal (hRefBIdeal := hRefBIdeal)
    ∧ quiescent_RefBIdeal_pre_finite (hRefBIdeal := hRefBIdeal) (hPre_finite := hPre_finite)
    ∧ quiescent_DilC (hDilC := hDilC)
    ∧ quiescent_DilCIdeal (hDilCIdeal := hDilCIdeal)
    ∧ quiescent_DilCIdeal_pre_finite (hDilCIdeal := hDilCIdeal) (hPre_finite := hPre_finite)
    ∧ quiescent_RefCIdeal (hRefCIdeal := hRefCIdeal)
    ∧ quiescent_RefCIdeal_pre_finite (hRefCIdeal := hRefCIdeal) (hPre_finite := hPre_finite)
    ∧ quiescent_Mix (hMix := hMix)
    ∧ quiescent_MixIdeal (hMixIdeal := hMixIdeal)
    ∧ quiescent_RefMIdeal (hRefMIdeal := hRefMIdeal)
    ∧ quiescent_MoeIdeal (hMoeIdeal := hMoeIdeal)
    ∧ quiescent_MoeIdeal_pre_finite_route (hMoeIdeal := hMoeIdeal) (hPre_finite_route := hPre_finite_route)
    ∧ quiescent_RefEIdeal (hRefEIdeal := hRefEIdeal)
    ∧ quiescent_RefEIdeal_pre_finite_route (hRefEIdeal := hRefEIdeal) (hPre_finite_route := hPre_finite_route)
    ∧ preserves_DilA_DilAIdeal
    ∧ algebraic_DilAIdeal_RefAIdeal_pre_finite (hDilAIdeal := hDilAIdeal) (hRefAIdeal := hRefAIdeal) (hPre_finite := hPre_finite)
    ∧ preserves_DilB_DilBIdeal
    ∧ algebraic_DilBIdeal_RefBIdeal_pre_finite (hDilBIdeal := hDilBIdeal) (hRefBIdeal := hRefBIdeal) (hPre_finite := hPre_finite)
    ∧ preserves_DilC_DilCIdeal
    ∧ algebraic_DilCIdeal_RefCIdeal_pre_finite (hDilCIdeal := hDilCIdeal) (hRefCIdeal := hRefCIdeal) (hPre_finite := hPre_finite)
    ∧ preserves_Mix_MixIdeal
    ∧ algebraic_MixIdeal_RefMIdeal (hMixIdeal := hMixIdeal) (hRefMIdeal := hRefMIdeal)
    ∧ algebraic_MoeIdeal_RefEIdeal_pre_finite_route (hMoeIdeal := hMoeIdeal) (hRefEIdeal := hRefEIdeal) (hPre_finite_route := hPre_finite_route)
-- ==== Pre_finite.lean ====
abbrev S65536x768 : Shape := ⟨2, ![65536, 768]⟩
abbrev S_ : Shape := ⟨0, ![]⟩

class Facts : Prop where
  bitsLt_bf16_f32 : FTy.bits .bf16 < FTy.bits .f32
  bcast_S_S65536x768 : S_.BroadcastsInDim S65536x768 (![] : Fin 0 → Fin S65536x768.rank)
  reducesTo_S65536x768_S_d0_1 : S65536x768.ReducesTo [0, 1] S_
  h_S_ : 0 < S_.numel

variable [Facts]

def fn {F : FTy → Type} [FloatOps F] (main_arg0 : FVec F S65536x768 .bf16) : IVec S_ 1 :=
  let main_v0 : FVec F S65536x768 .f32 := (extf .f32 · bitsLt_bf16_f32) main_arg0
  let main_v1 : FVec F S65536x768 .f32 := Host.absf main_v0
  let main_cst : FVec F S_ .f32 := constant S_ .f32 0x7F800000#32
  let main_v2 : FVec F S65536x768 .f32 := broadcastInDim S65536x768 ![] bcast_S_S65536x768 main_cst
  let main_v3 : IVec S65536x768 1 := cmpf .olt main_v1 main_v2
  let main_c : IVec S_ 1 := constantI S_ 1 1#1
  let main_v4 : IVec S_ 1 := (fun x v => Host.reduce IntOp.andi x v reducesTo_S65536x768_S_d0_1 h_S_) main_v3 main_c
  main_v4
-- ==== Pre_finite_route.lean ====
abbrev S65536x1024 : Shape := ⟨2, ![65536, 1024]⟩
abbrev S1024x128 : Shape := ⟨2, ![1024, 128]⟩
abbrev S1x128 : Shape := ⟨2, ![1, 128]⟩
abbrev S32x1024x256 : Shape := ⟨3, ![32, 1024, 256]⟩
abbrev S32x256x1024 : Shape := ⟨3, ![32, 256, 1024]⟩
abbrev S1x1024 : Shape := ⟨2, ![1, 1024]⟩
abbrev S_ : Shape := ⟨0, ![]⟩

class Facts : Prop where
  bitsLt_bf16_f32 : FTy.bits .bf16 < FTy.bits .f32
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S65536x1024 .f32) (main_arg1 : FVec F S1024x128 .bf16) (main_arg2 : FVec F S1024x128 .bf16) (main_arg3 : FVec F S1x128 .f32) (main_arg4 : FVec F S32x1024x256 .bf16) (main_arg5 : FVec F S32x1024x256 .bf16) (main_arg6 : FVec F S32x256x1024 .bf16) (main_arg7 : FVec F S1x1024 .f32) (main_arg8 : FVec F S1x1024 .f32) : IVec S_ 1 :=
  let main_v0 : FVec F S1024x128 .f32 := (extf .f32 · bitsLt_bf16_f32) main_arg1
  let main_v1 : FVec F S1024x128 .f32 := Host.absf main_v0
  let main_cst : FVec F S_ .f32 := constant S_ .f32 0x7F800000#32
  let main_v2 : FVec F S1024x128 .f32 := broadcastInDim S1024x128 ![] bcast_S_S1024x128 main_cst
  let main_v3 : IVec S1024x128 1 := cmpf .olt main_v1 main_v2
  let main_c : IVec S_ 1 := constantI S_ 1 1#1
  let main_v4 : IVec S_ 1 := (fun x v => Host.reduce IntOp.andi x v reducesTo_S1024x128_S_d0_1 h_S_) main_v3 main_c
  let main_v5 : FVec F S1024x128 .f32 := (extf .f32 · bitsLt_bf16_f32) main_arg2
  let main_v6 : FVec F S1024x128 .f32 := Host.absf main_v5
  let main_cst_0 : FVec F S_ .f32 := constant S_ .f32 0x7F800000#32
  let main_v7 : FVec F S1024x128 .f32 := broadcastInDim S1024x128 ![] bcast_S_S1024x128 main_cst_0
  let main_v8 : IVec S1024x128 1 := cmpf .olt main_v6 main_v7
  let main_c_1 : IVec S_ 1 := constantI S_ 1 1#1
  let main_v9 : IVec S_ 1 := (fun x v => Host.reduce IntOp.andi x v reducesTo_S1024x128_S_d0_1 h_S_) main_v8 main_c_1
  let main_v10 : IVec S_ 1 := andi main_v4 main_v9
  let main_v11 : FVec F S1x128 .f32 := Host.absf main_arg3
  let main_cst_2 : FVec F S_ .f32 := constant S_ .f32 0x7F800000#32
  let main_v12 : FVec F S1x128 .f32 := broadcastInDim S1x128 ![] bcast_S_S1x128 main_cst_2
  let main_v13 : IVec S1x128 1 := cmpf .olt main_v11 main_v12
  let main_c_3 : IVec S_ 1 := constantI S_ 1 1#1
  let main_v14 : IVec S_ 1 := (fun x v => Host.reduce IntOp.andi x v reducesTo_S1x128_S_d0_1 h_S_) main_v13 main_c_3
  let main_v15 : IVec S_ 1 := andi main_v10 main_v14
  main_v15
-- ==== DilA.lean ====
abbrev S65536x768 : Shape := ⟨2, ![65536, 768]⟩
abbrev S65536x256 : Shape := ⟨2, ![65536, 256]⟩
abbrev S65536x128 : Shape := ⟨2, ![65536, 128]⟩
abbrev S1024x768 : Shape := ⟨2, ![1024, 768]⟩
abbrev S128x768 : Shape := ⟨2, ![128, 768]⟩
abbrev S1024x256 : Shape := ⟨2, ![1024, 256]⟩
abbrev S1024x128 : Shape := ⟨2, ![1024, 128]⟩
abbrev S8x4x2x128x128 : Shape := ⟨5, ![8, 4, 2, 128, 128]⟩
abbrev S128x256 : Shape := ⟨2, ![128, 256]⟩
abbrev S256x128 : Shape := ⟨2, ![256, 128]⟩
abbrev S128x128 : Shape := ⟨2, ![128, 128]⟩
abbrev S128x64 : Shape := ⟨2, ![128, 64]⟩
abbrev S1x1x1x128x128 : Shape := ⟨5, ![1, 1, 1, 128, 128]⟩
abbrev S128 : Shape := ⟨1, ![128]⟩
abbrev S1x128 : Shape := ⟨2, ![1, 128]⟩
abbrev S124x128 : Shape := ⟨2, ![124, 128]⟩
abbrev S64x128 : Shape := ⟨2, ![64, 128]⟩

abbrev nBuf : Space → Nat
  | .hbm => 3
  | .vmem => 10
  | .smem => 0
  | _ => 0

abbrev bufTy : (tb : Table) → Fin (tcTables nBuf tb) → BufTy
  | .hbm, ⟨0, _⟩ => ⟨S65536x768, .bf16⟩
  | .hbm, ⟨1, _⟩ => ⟨S65536x256, .bf16⟩
  | .hbm, ⟨2, _⟩ => ⟨S65536x128, .f32⟩
  | .local _ .vmem, ⟨0, _⟩ => ⟨S1024x768, .bf16⟩
  | .local _ .vmem, ⟨1, _⟩ => ⟨S1024x768, .bf16⟩
  | .local _ .vmem, ⟨2, _⟩ => ⟨S128x768, .bf16⟩
  | .local _ .vmem, ⟨3, _⟩ => ⟨S128x768, .bf16⟩
  | .local _ .vmem, ⟨4, _⟩ => ⟨S1024x256, .bf16⟩
  | .local _ .vmem, ⟨5, _⟩ => ⟨S1024x256, .bf16⟩
  | .local _ .vmem, ⟨6, _⟩ => ⟨S1024x128, .f32⟩
  | .local _ .vmem, ⟨7, _⟩ => ⟨S1024x128, .f32⟩
  | .local _ .vmem, ⟨8, _⟩ => ⟨S8x4x2x128x128, .f32⟩
  | .local _ .vmem, ⟨9, _⟩ => ⟨S8x4x2x128x128, .bf16⟩
  | _, _ => ⟨S65536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefAIdeal.lean ====
abbrev S65536x768 : Shape := ⟨2, ![65536, 768]⟩
abbrev S512x128x3x4x64 : Shape := ⟨5, ![512, 128, 3, 4, 64]⟩
abbrev S512x128x1x4x64 : Shape := ⟨5, ![512, 128, 1, 4, 64]⟩
abbrev S512x128x4x64 : Shape := ⟨4, ![512, 128, 4, 64]⟩
abbrev S512x4x128x128 : Shape := ⟨4, ![512, 4, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S512x4x128 : Shape := ⟨3, ![512, 4, 128]⟩
abbrev S512x4x128x1 : Shape := ⟨4, ![512, 4, 128, 1]⟩
abbrev S512x4x64x128 : Shape := ⟨4, ![512, 4, 64, 128]⟩
abbrev S512x128x4 : Shape := ⟨3, ![512, 128, 4]⟩
abbrev S65536x4 : Shape := ⟨2, ![65536, 4]⟩
abbrev S65536x256 : Shape := ⟨2, ![65536, 256]⟩
abbrev S65536x128 : Shape := ⟨2, ![65536, 128]⟩

abbrev nBuf : Space → Nat
  | .hbm => 52
  | .vmem => 0
  | .smem => 0
  | _ => 0

abbrev bufTy : (tb : Table) → Fin (tcTables nBuf tb) → BufTy
  | .hbm, ⟨0, _⟩ => ⟨S65536x768, .bf16⟩
  | .hbm, ⟨1, _⟩ => ⟨S65536x768, .f32⟩
  | .hbm, ⟨2, _⟩ => ⟨S512x128x3x4x64, .f32⟩
  | .hbm, ⟨3, _⟩ => ⟨S512x128x1x4x64, .f32⟩
  | .hbm, ⟨4, _⟩ => ⟨S512x128x4x64, .f32⟩
  | .hbm, ⟨5, _⟩ => ⟨S512x128x1x4x64, .f32⟩
  | .hbm, ⟨6, _⟩ => ⟨S512x128x4x64, .f32⟩
  | .hbm, ⟨7, _⟩ => ⟨S512x128x1x4x64, .f32⟩
  | .hbm, ⟨8, _⟩ => ⟨S512x128x4x64, .f32⟩
  | .hbm, ⟨9, _⟩ => ⟨S512x4x128x128, .f32⟩
  | .hbm, ⟨10, _⟩ => ⟨S128, .i32⟩
  | .hbm, ⟨11, _⟩ => ⟨S128x1, .i32⟩
  | .hbm, ⟨12, _⟩ => ⟨S128, .i32⟩
  | .hbm, ⟨13, _⟩ => ⟨S1x128, .i32⟩
  | .hbm, ⟨14, _⟩ => ⟨S128x128, .i32⟩
  | .hbm, ⟨15, _⟩ => ⟨S128x128, .i32⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i1⟩
  | .hbm, ⟨20, _⟩ => ⟨S_, .i32⟩
  | .hbm, ⟨21, _⟩ => ⟨S128x128, .i32⟩
  | .hbm, ⟨22, _⟩ => ⟨S128x128, .i1⟩
  | .hbm, ⟨23, _⟩ => ⟨S128x128, .i1⟩
  | .hbm, ⟨24, _⟩ => ⟨S_, .f32⟩
  | .hbm, ⟨25, _⟩ => ⟨S_, .f32⟩
  | .hbm, ⟨26, _⟩ => ⟨S512x4x128x128, .i1⟩
  | .hbm, ⟨27, _⟩ => ⟨S512x4x128x128, .f32⟩
  | .hbm, ⟨28, _⟩ => ⟨S512x4x128x128, .f32⟩
  | .hbm, ⟨29, _⟩ => ⟨S_, .f32⟩
  | .hbm, ⟨30, _⟩ => ⟨S512x4x128, .f32⟩
  | .hbm, ⟨31, _⟩ => ⟨S512x4x128x1, .f32⟩
  | .hbm, ⟨32, _⟩ => ⟨S512x4x128x128, .f32⟩
  | .hbm, ⟨33, _⟩ => ⟨S512x4x128x128, .f32⟩
  | .hbm, ⟨34, _⟩ => ⟨S512x4x128x128, .f32⟩
  | .hbm, ⟨35, _⟩ => ⟨S_, .f32⟩
  | .hbm, ⟨36, _⟩ => ⟨S512x4x128, .f32⟩
  | .hbm, ⟨37, _⟩ => ⟨S512x4x128, .f32⟩
  | .hbm, ⟨38, _⟩ => ⟨S512x4x128, .f32⟩
  | .hbm, ⟨39, _⟩ => ⟨S512x4x128x1, .f32⟩
  | .hbm, ⟨40, _⟩ => ⟨S512x4x128x128, .f32⟩
  | .hbm, ⟨41, _⟩ => ⟨S512x4x128x128, .f32⟩
  | .hbm, ⟨42, _⟩ => ⟨S512x4x128x128, .f32⟩
  | .hbm, ⟨43, _⟩ => ⟨S512x4x64x128, .f32⟩
  | .hbm, ⟨44, _⟩ => ⟨S512x128x4x64, .f32⟩
  | .hbm, ⟨45, _⟩ => ⟨S512x128x4, .f32⟩
  | .hbm, ⟨46, _⟩ => ⟨S65536x4, .f32⟩
  | .hbm, ⟨47, _⟩ => ⟨S65536x256, .f32⟩
  | .hbm, ⟨48, _⟩ => ⟨S65536x256, .bf16⟩
  | .hbm, ⟨49, _⟩ => ⟨S_, .i32⟩
  | .hbm, ⟨50, _⟩ => ⟨S_, .f32⟩
  | .hbm, ⟨51, _⟩ => ⟨S65536x128, .f32⟩
  | _, _ => ⟨S65536x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_c : Ref sig .tc := ⟨.hbm, 17, rfl⟩
abbrev main_v16 : Ref sig .tc := ⟨.hbm, 18, rfl⟩
abbrev main_v17 : Ref sig .tc := ⟨.hbm, 19, rfl⟩
abbrev main_c_0 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_3 : Ref sig .tc := ⟨.hbm, 49, rfl⟩
abbrev main_call1_v0 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== DilB.lean ====
abbrev S65536x768 : Shape := ⟨2, ![65536, 768]⟩
abbrev S65536x256 : Shape := ⟨2, ![65536, 256]⟩
abbrev S65536x128 : Shape := ⟨2, ![65536, 128]⟩
abbrev S1024x768 : Shape := ⟨2, ![1024, 768]⟩
abbrev S128x768 : Shape := ⟨2, ![128, 768]⟩
abbrev S1024x256 : Shape := ⟨2, ![1024, 256]⟩
abbrev S1024x128 : Shape := ⟨2, ![1024, 128]⟩
abbrev S8x4x2x128x128 : Shape := ⟨5, ![8, 4, 2, 128, 128]⟩
abbrev S128x256 : Shape := ⟨2, ![128, 256]⟩
abbrev S256x128 : Shape := ⟨2, ![256, 128]⟩
abbrev S128x128 : Shape := ⟨2, ![128, 128]⟩
abbrev S128x64 : Shape := ⟨2, ![128, 64]⟩
abbrev S1x1x1x128x128 : Shape := ⟨5, ![1, 1, 1, 128, 128]⟩
abbrev S128 : Shape := ⟨1, ![128]⟩
abbrev S1x128 : Shape := ⟨2, ![1, 128]⟩
abbrev S124x128 : Shape := ⟨2, ![124, 128]⟩
abbrev S64x128 : Shape := ⟨2, ![64, 128]⟩

abbrev nBuf : Space → Nat
  | .hbm => 3
  | .vmem => 10
  | .smem => 0
  | _ => 0

abbrev bufTy : (tb : Table) → Fin (tcTables nBuf tb) → BufTy
  | .hbm, ⟨0, _⟩ => ⟨S65536x768, .bf16⟩
  | .hbm, ⟨1, _⟩ => ⟨S65536x256, .bf16⟩
  | .hbm, ⟨2, _⟩ => ⟨S65536x128, .f32⟩
  | .local _ .vmem, ⟨0, _⟩ => ⟨S1024x768, .bf16⟩
  | .local _ .vmem, ⟨1, _⟩ => ⟨S1024x768, .bf16⟩
  | .local _ .vmem, ⟨2, _⟩ => ⟨S128x768, .bf16⟩
  | .local _ .vmem, ⟨3, _⟩ => ⟨S128x768, .bf16⟩
  | .local _ .vmem, ⟨4, _⟩ => ⟨S1024x256, .bf16⟩
  | .local _ .vmem, ⟨5, _⟩ => ⟨S1024x256, .bf16⟩
  | .local _ .vmem, ⟨6, _⟩ => ⟨S1024x128, .f32⟩
  | .local _ .vmem, ⟨7, _⟩ => ⟨S1024x128, .f32⟩
  | .local _ .vmem, ⟨8, _⟩ => ⟨S8x4x2x128x128, .f32⟩
  | .local _ .vmem, ⟨9, _⟩ => ⟨S8x4x2x128x128, .bf16⟩
  | _, _ => ⟨S65536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefBIdeal.lean ====
abbrev S65536x768 : Shape := ⟨2, ![65536, 768]⟩
abbrev S128x512x3x4x64 : Shape := ⟨5, ![128, 512, 3, 4, 64]⟩
abbrev S128x512x1x4x64 : Shape := ⟨5, ![128, 512, 1, 4, 64]⟩
abbrev S128x512x4x64 : Shape := ⟨4, ![128, 512, 4, 64]⟩
abbrev S128x4x512x512 : Shape := ⟨4, ![128, 4, 512, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S128x4x512 : Shape := ⟨3, ![128, 4, 512]⟩
abbrev S128x4x512x1 : Shape := ⟨4, ![128, 4, 512, 1]⟩
abbrev S128x4x64x512 : Shape := ⟨4, ![128, 4, 64, 512]⟩
abbrev S128x512x4 : Shape := ⟨3, ![128, 512, 4]⟩
abbrev S65536x4 : Shape := ⟨2, ![65536, 4]⟩
abbrev S65536x256 : Shape := ⟨2, ![65536, 256]⟩
abbrev S65536x128 : Shape := ⟨2, ![65536, 128]⟩

abbrev nBuf : Space → Nat
  | .hbm => 52
  | .vmem => 0
  | .smem => 0
  | _ => 0

abbrev bufTy : (tb : Table) → Fin (tcTables nBuf tb) → BufTy
  | .hbm, ⟨0, _⟩ => ⟨S65536x768, .bf16⟩
  | .hbm, ⟨1, _⟩ => ⟨S65536x768, .f32⟩
  | .hbm, ⟨2, _⟩ => ⟨S128x512x3x4x64, .f32⟩
  | .hbm, ⟨3, _⟩ => ⟨S128x512x1x4x64, .f32⟩
  | .hbm, ⟨4, _⟩ => ⟨S128x512x4x64, .f32⟩
  | .hbm, ⟨5, _⟩ => ⟨S128x512x1x4x64, .f32⟩
  | .hbm, ⟨6, _⟩ => ⟨S128x512x4x64, .f32⟩
  | .hbm, ⟨7, _⟩ => ⟨S128x512x1x4x64, .f32⟩
  | .hbm, ⟨8, _⟩ => ⟨S128x512x4x64, .f32⟩
  | .hbm, ⟨9, _⟩ => ⟨S128x4x512x512, .f32⟩
  | .hbm, ⟨10, _⟩ => ⟨S512, .i32⟩
  | .hbm, ⟨11, _⟩ => ⟨S512x1, .i32⟩
  | .hbm, ⟨12, _⟩ => ⟨S512, .i32⟩
  | .hbm, ⟨13, _⟩ => ⟨S1x512, .i32⟩
  | .hbm, ⟨14, _⟩ => ⟨S512x512, .i32⟩
  | .hbm, ⟨15, _⟩ => ⟨S512x512, .i32⟩
  | .hbm, ⟨16, _⟩ => ⟨S512x512, .i32⟩
  | .hbm, ⟨17, _⟩ => ⟨S_, .i32⟩
  | .hbm, ⟨18, _⟩ => ⟨S512x512, .i32⟩
  | .hbm, ⟨19, _⟩ => ⟨S512x512, .i1⟩
  | .hbm, ⟨20, _⟩ => ⟨S_, .i32⟩
  | .hbm, ⟨21, _⟩ => ⟨S512x512, .i32⟩
  | .hbm, ⟨22, _⟩ => ⟨S512x512, .i1⟩
  | .hbm, ⟨23, _⟩ => ⟨S512x512, .i1⟩
  | .hbm, ⟨24, _⟩ => ⟨S_, .f32⟩
  | .hbm, ⟨25, _⟩ => ⟨S_, .f32⟩
  | .hbm, ⟨26, _⟩ => ⟨S128x4x512x512, .i1⟩
  | .hbm, ⟨27, _⟩ => ⟨S128x4x512x512, .f32⟩
  | .hbm, ⟨28, _⟩ => ⟨S128x4x512x512, .f32⟩
  | .hbm, ⟨29, _⟩ => ⟨S_, .f32⟩
  | .hbm, ⟨30, _⟩ => ⟨S128x4x512, .f32⟩
  | .hbm, ⟨31, _⟩ => ⟨S128x4x512x1, .f32⟩
  | .hbm, ⟨32, _⟩ => ⟨S128x4x512x512, .f32⟩
  | .hbm, ⟨33, _⟩ => ⟨S128x4x512x512, .f32⟩
  | .hbm, ⟨34, _⟩ => ⟨S128x4x512x512, .f32⟩
  | .hbm, ⟨35, _⟩ => ⟨S_, .f32⟩
  | .hbm, ⟨36, _⟩ => ⟨S128x4x512, .f32⟩
  | .hbm, ⟨37, _⟩ => ⟨S128x4x512, .f32⟩
  | .hbm, ⟨38, _⟩ => ⟨S128x4x512, .f32⟩
  | .hbm, ⟨39, _⟩ => ⟨S128x4x512x1, .f32⟩
  | .hbm, ⟨40, _⟩ => ⟨S128x4x512x512, .f32⟩
  | .hbm, ⟨41, _⟩ => ⟨S128x4x512x512, .f32⟩
  | .hbm, ⟨42, _⟩ => ⟨S128x4x512x512, .f32⟩
  | .hbm, ⟨43, _⟩ => ⟨S128x4x64x512, .f32⟩
  | .hbm, ⟨44, _⟩ => ⟨S128x512x4x64, .f32⟩
  | .hbm, ⟨45, _⟩ => ⟨S128x512x4, .f32⟩
  | .hbm, ⟨46, _⟩ => ⟨S65536x4, .f32⟩
  | .hbm, ⟨47, _⟩ => ⟨S65536x256, .f32⟩
  | .hbm, ⟨48, _⟩ => ⟨S65536x256, .bf16⟩
  | .hbm, ⟨49, _⟩ => ⟨S_, .i32⟩
  | .hbm, ⟨50, _⟩ => ⟨S_, .f32⟩
  | .hbm, ⟨51, _⟩ => ⟨S65536x128, .f32⟩
  | _, _ => ⟨S65536x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_c : Ref sig .tc := ⟨.hbm, 17, rfl⟩
abbrev main_v16 : Ref sig .tc := ⟨.hbm, 18, rfl⟩
abbrev main_v17 : Ref sig .tc := ⟨.hbm, 19, rfl⟩
abbrev main_c_0 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_3 : Ref sig .tc := ⟨.hbm, 49, rfl⟩
abbrev main_call1_v0 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== DilC.lean ====
abbrev S65536x768 : Shape := ⟨2, ![65536, 768]⟩
abbrev S65536x256 : Shape := ⟨2, ![65536, 256]⟩
abbrev S65536x128 : Shape := ⟨2, ![65536, 128]⟩
abbrev S1024x768 : Shape := ⟨2, ![1024, 768]⟩
abbrev S128x768 : Shape := ⟨2, ![128, 768]⟩
abbrev S1024x256 : Shape := ⟨2, ![1024, 256]⟩
abbrev S1024x128 : Shape := ⟨2, ![1024, 128]⟩
abbrev S8x4x2x128x128 : Shape := ⟨5, ![8, 4, 2, 128, 128]⟩
abbrev S128x256 : Shape := ⟨2, ![128, 256]⟩
abbrev S256x128 : Shape := ⟨2, ![256, 128]⟩
abbrev S128x128 : Shape := ⟨2, ![128, 128]⟩
abbrev S128x64 : Shape := ⟨2, ![128, 64]⟩
abbrev S1x1x1x128x128 : Shape := ⟨5, ![1, 1, 1, 128, 128]⟩
abbrev S128 : Shape := ⟨1, ![128]⟩
abbrev S1x128 : Shape := ⟨2, ![1, 128]⟩
abbrev S124x128 : Shape := ⟨2, ![124, 128]⟩
abbrev S64x128 : Shape := ⟨2, ![64, 128]⟩

abbrev nBuf : Space → Nat
  | .hbm => 3
  | .vmem => 10
  | .smem => 0
  | _ => 0

abbrev bufTy : (tb : Table) → Fin (tcTables nBuf tb) → BufTy
  | .hbm, ⟨0, _⟩ => ⟨S65536x768, .bf16⟩
  | .hbm, ⟨1, _⟩ => ⟨S65536x256, .bf16⟩
  | .hbm, ⟨2, _⟩ => ⟨S65536x128, .f32⟩
  | .local _ .vmem, ⟨0, _⟩ => ⟨S1024x768, .bf16⟩
  | .local _ .vmem, ⟨1, _⟩ => ⟨S1024x768, .bf16⟩
  | .local _ .vmem, ⟨2, _⟩ => ⟨S128x768, .bf16⟩
  | .local _ .vmem, ⟨3, _⟩ => ⟨S128x768, .bf16⟩
  | .local _ .vmem, ⟨4, _⟩ => ⟨S1024x256, .bf16⟩
  | .local _ .vmem, ⟨5, _⟩ => ⟨S1024x256, .bf16⟩
  | .local _ .vmem, ⟨6, _⟩ => ⟨S1024x128, .f32⟩
  | .local _ .vmem, ⟨7, _⟩ => ⟨S1024x128, .f32⟩
  | .local _ .vmem, ⟨8, _⟩ => ⟨S8x4x2x128x128, .f32⟩
  | .local _ .vmem, ⟨9, _⟩ => ⟨S8x4x2x128x128, .bf16⟩
  | _, _ => ⟨S65536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefCIdeal.lean ====
abbrev S65536x768 : Shape := ⟨2, ![65536, 768]⟩
abbrev S32x2048x3x4x64 : Shape := ⟨5, ![32, 2048, 3, 4, 64]⟩
abbrev S32x2048x1x4x64 : Shape := ⟨5, ![32, 2048, 1, 4, 64]⟩
abbrev S32x2048x4x64 : Shape := ⟨4, ![32, 2048, 4, 64]⟩
abbrev S32x4x2048x2048 : Shape := ⟨4, ![32, 4, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S32x4x2048 : Shape := ⟨3, ![32, 4, 2048]⟩
abbrev S32x4x2048x1 : Shape := ⟨4, ![32, 4, 2048, 1]⟩
abbrev S32x4x64x2048 : Shape := ⟨4, ![32, 4, 64, 2048]⟩
abbrev S32x2048x4 : Shape := ⟨3, ![32, 2048, 4]⟩
abbrev S65536x4 : Shape := ⟨2, ![65536, 4]⟩
abbrev S65536x256 : Shape := ⟨2, ![65536, 256]⟩
abbrev S65536x128 : Shape := ⟨2, ![65536, 128]⟩

abbrev nBuf : Space → Nat
  | .hbm => 52
  | .vmem => 0
  | .smem => 0
  | _ => 0

abbrev bufTy : (tb : Table) → Fin (tcTables nBuf tb) → BufTy
  | .hbm, ⟨0, _⟩ => ⟨S65536x768, .bf16⟩
  | .hbm, ⟨1, _⟩ => ⟨S65536x768, .f32⟩
  | .hbm, ⟨2, _⟩ => ⟨S32x2048x3x4x64, .f32⟩
  | .hbm, ⟨3, _⟩ => ⟨S32x2048x1x4x64, .f32⟩
  | .hbm, ⟨4, _⟩ => ⟨S32x2048x4x64, .f32⟩
  | .hbm, ⟨5, _⟩ => ⟨S32x2048x1x4x64, .f32⟩
  | .hbm, ⟨6, _⟩ => ⟨S32x2048x4x64, .f32⟩
  | .hbm, ⟨7, _⟩ => ⟨S32x2048x1x4x64, .f32⟩
  | .hbm, ⟨8, _⟩ => ⟨S32x2048x4x64, .f32⟩
  | .hbm, ⟨9, _⟩ => ⟨S32x4x2048x2048, .f32⟩
  | .hbm, ⟨10, _⟩ => ⟨S2048, .i32⟩
  | .hbm, ⟨11, _⟩ => ⟨S2048x1, .i32⟩
  | .hbm, ⟨12, _⟩ => ⟨S2048, .i32⟩
  | .hbm, ⟨13, _⟩ => ⟨S1x2048, .i32⟩
  | .hbm, ⟨14, _⟩ => ⟨S2048x2048, .i32⟩
  | .hbm, ⟨15, _⟩ => ⟨S2048x2048, .i32⟩
  | .hbm, ⟨16, _⟩ => ⟨S2048x2048, .i32⟩
  | .hbm, ⟨17, _⟩ => ⟨S_, .i32⟩
  | .hbm, ⟨18, _⟩ => ⟨S2048x2048, .i32⟩
  | .hbm, ⟨19, _⟩ => ⟨S2048x2048, .i1⟩
  | .hbm, ⟨20, _⟩ => ⟨S_, .i32⟩
  | .hbm, ⟨21, _⟩ => ⟨S2048x2048, .i32⟩
  | .hbm, ⟨22, _⟩ => ⟨S2048x2048, .i1⟩
  | .hbm, ⟨23, _⟩ => ⟨S2048x2048, .i1⟩
  | .hbm, ⟨24, _⟩ => ⟨S_, .f32⟩
  | .hbm, ⟨25, _⟩ => ⟨S_, .f32⟩
  | .hbm, ⟨26, _⟩ => ⟨S32x4x2048x2048, .i1⟩
  | .hbm, ⟨27, _⟩ => ⟨S32x4x2048x2048, .f32⟩
  | .hbm, ⟨28, _⟩ => ⟨S32x4x2048x2048, .f32⟩
  | .hbm, ⟨29, _⟩ => ⟨S_, .f32⟩
  | .hbm, ⟨30, _⟩ => ⟨S32x4x2048, .f32⟩
  | .hbm, ⟨31, _⟩ => ⟨S32x4x2048x1, .f32⟩
  | .hbm, ⟨32, _⟩ => ⟨S32x4x2048x2048, .f32⟩
  | .hbm, ⟨33, _⟩ => ⟨S32x4x2048x2048, .f32⟩
  | .hbm, ⟨34, _⟩ => ⟨S32x4x2048x2048, .f32⟩
  | .hbm, ⟨35, _⟩ => ⟨S_, .f32⟩
  | .hbm, ⟨36, _⟩ => ⟨S32x4x2048, .f32⟩
  | .hbm, ⟨37, _⟩ => ⟨S32x4x2048, .f32⟩
  | .hbm, ⟨38, _⟩ => ⟨S32x4x2048, .f32⟩
  | .hbm, ⟨39, _⟩ => ⟨S32x4x2048x1, .f32⟩
  | .hbm, ⟨40, _⟩ => ⟨S32x4x2048x2048, .f32⟩
  | .hbm, ⟨41, _⟩ => ⟨S32x4x2048x2048, .f32⟩
  | .hbm, ⟨42, _⟩ => ⟨S32x4x2048x2048, .f32⟩
  | .hbm, ⟨43, _⟩ => ⟨S32x4x64x2048, .f32⟩
  | .hbm, ⟨44, _⟩ => ⟨S32x2048x4x64, .f32⟩
  | .hbm, ⟨45, _⟩ => ⟨S32x2048x4, .f32⟩
  | .hbm, ⟨46, _⟩ => ⟨S65536x4, .f32⟩
  | .hbm, ⟨47, _⟩ => ⟨S65536x256, .f32⟩
  | .hbm, ⟨48, _⟩ => ⟨S65536x256, .bf16⟩
  | .hbm, ⟨49, _⟩ => ⟨S_, .i32⟩
  | .hbm, ⟨50, _⟩ => ⟨S_, .f32⟩
  | .hbm, ⟨51, _⟩ => ⟨S65536x128, .f32⟩
  | _, _ => ⟨S65536x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_c : Ref sig .tc := ⟨.hbm, 17, rfl⟩
abbrev main_v16 : Ref sig .tc := ⟨.hbm, 18, rfl⟩
abbrev main_v17 : Ref sig .tc := ⟨.hbm, 19, rfl⟩
abbrev main_c_0 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_3 : Ref sig .tc := ⟨.hbm, 49, rfl⟩
abbrev main_call1_v0 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Mix.lean ====
abbrev S65536x1024 : Shape := ⟨2, ![65536, 1024]⟩
abbrev S65536x512 : Shape := ⟨2, ![65536, 512]⟩
abbrev S65536x256 : Shape := ⟨2, ![65536, 256]⟩
abbrev S1024x3072 : Shape := ⟨2, ![1024, 3072]⟩
abbrev S1x3072 : Shape := ⟨2, ![1, 3072]⟩
abbrev S512x1024 : Shape := ⟨2, ![512, 1024]⟩
abbrev S256x1024 : Shape := ⟨2, ![256, 1024]⟩
abbrev S1024x1024 : Shape := ⟨2, ![1024, 1024]⟩
abbrev S1x1024 : Shape := ⟨2, ![1, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 18
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x256, .bf16⟩
  | .hbm, ⟨3, _⟩ => ⟨S65536x512, .bf16⟩
  | .hbm, ⟨4, _⟩ => ⟨S1024x3072, .bf16⟩
  | .hbm, ⟨5, _⟩ => ⟨S1x3072, .f32⟩
  | .hbm, ⟨6, _⟩ => ⟨S512x1024, .bf16⟩
  | .hbm, ⟨7, _⟩ => ⟨S256x1024, .bf16⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S1024x3072, .bf16⟩
  | .local _ .vmem, ⟨9, _⟩ => ⟨S1x3072, .f32⟩
  | .local _ .vmem, ⟨10, _⟩ => ⟨S512x1024, .bf16⟩
  | .local _ .vmem, ⟨11, _⟩ => ⟨S256x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== RefMIdeal.lean ====
abbrev S65536x1024 : Shape := ⟨2, ![65536, 1024]⟩
abbrev S65536x512 : Shape := ⟨2, ![65536, 512]⟩
abbrev S65536x256 : Shape := ⟨2, ![65536, 256]⟩
abbrev S1024x3072 : Shape := ⟨2, ![1024, 3072]⟩
abbrev S1x3072 : Shape := ⟨2, ![1, 3072]⟩
abbrev S512x1024 : Shape := ⟨2, ![512, 1024]⟩
abbrev S256x1024 : Shape := ⟨2, ![256, 1024]⟩
abbrev S1024x1024 : Shape := ⟨2, ![1024, 1024]⟩
abbrev S1x1024 : Shape := ⟨2, ![1, 1024]⟩
abbrev S65536x3072 : Shape := ⟨2, ![65536, 3072]⟩
abbrev S_ : Shape := ⟨0, ![]⟩
abbrev S65536x3x1024 : Shape := ⟨3, ![65536, 3, 1024]⟩
abbrev S65536x1x1024 : Shape := ⟨3, ![65536, 1, 1024]⟩
abbrev S65536 : Shape := ⟨1, ![65536]⟩
abbrev S65536x1 : Shape := ⟨2, ![65536, 1]⟩

abbrev nBuf : Space → Nat
  | .hbm => 76
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x256, .bf16⟩
  | .hbm, ⟨3, _⟩ => ⟨S65536x512, .bf16⟩
  | .hbm, ⟨4, _⟩ => ⟨S1024x3072, .bf16⟩
  | .hbm, ⟨5, _⟩ => ⟨S1x3072, .f32⟩
  | .hbm, ⟨6, _⟩ => ⟨S512x1024, .bf16⟩
  | .hbm, ⟨7, _⟩ => ⟨S256x1024, .bf16⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S65536x512, .f32⟩
  | .hbm, ⟨13, _⟩ => ⟨S65536x256, .f32⟩
  | .hbm, ⟨14, _⟩ => ⟨S65536x512, .f32⟩
  | .hbm, ⟨15, _⟩ => ⟨S1024x3072, .f32⟩
  | .hbm, ⟨16, _⟩ => ⟨S512x1024, .f32⟩
  | .hbm, ⟨17, _⟩ => ⟨S256x1024, .f32⟩
  | .hbm, ⟨18, _⟩ => ⟨S512x1024, .f32⟩
  | .hbm, ⟨19, _⟩ => ⟨S1024x1024, .f32⟩
  | .hbm, ⟨20, _⟩ => ⟨S65536x3072, .f32⟩
  | .hbm, ⟨21, _⟩ => ⟨S65536x3072, .f32⟩
  | .hbm, ⟨22, _⟩ => ⟨S65536x3072, .f32⟩
  | .hbm, ⟨23, _⟩ => ⟨S65536x3072, .f32⟩
  | .hbm, ⟨24, _⟩ => ⟨S65536x3072, .f32⟩
  | .hbm, ⟨25, _⟩ => ⟨S_, .f32⟩
  | .hbm, ⟨26, _⟩ => ⟨S65536x3072, .f32⟩
  | .hbm, ⟨27, _⟩ => ⟨S65536x3072, .f32⟩
  | .hbm, ⟨28, _⟩ => ⟨S_, .f32⟩
  | .hbm, ⟨29, _⟩ => ⟨S65536x3072, .f32⟩
  | .hbm, ⟨30, _⟩ => ⟨S65536x3072, .f32⟩
  | .hbm, ⟨31, _⟩ => ⟨S65536x3x1024, .f32⟩
  | .hbm, ⟨32, _⟩ => ⟨S65536x1x1024, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S65536x1x1024, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S65536x1024, .f32⟩
  | .hbm, ⟨41, _⟩ => ⟨S65536x1x1024, .f32⟩
  | .hbm, ⟨42, _⟩ => ⟨S65536x1024, .f32⟩
  | .hbm, ⟨43, _⟩ => ⟨S65536x1024, .f32⟩
  | .hbm, ⟨44, _⟩ => ⟨S65536x1024, .f32⟩
  | .hbm, ⟨45, _⟩ => ⟨S65536x1024, .f32⟩
  | .hbm, ⟨46, _⟩ => ⟨S_, .f32⟩
  | .hbm, ⟨47, _⟩ => ⟨S65536x1024, .f32⟩
  | .hbm, ⟨48, _⟩ => ⟨S65536x1024, .f32⟩
  | .hbm, ⟨49, _⟩ => ⟨S65536x1024, .f32⟩
  | .hbm, ⟨50, _⟩ => ⟨S65536x1024, .f32⟩
  | .hbm, ⟨51, _⟩ => ⟨S_, .f32⟩
  | .hbm, ⟨52, _⟩ => ⟨S65536, .f32⟩
  | .hbm, ⟨53, _⟩ => ⟨S65536x1, .f32⟩
  | .hbm, ⟨54, _⟩ => ⟨S_, .f32⟩
  | .hbm, ⟨55, _⟩ => ⟨S65536x1, .f32⟩
  | .hbm, ⟨56, _⟩ => ⟨S65536x1, .f32⟩
  | .hbm, ⟨57, _⟩ => ⟨S65536x1024, .f32⟩
  | .hbm, ⟨58, _⟩ => ⟨S65536x1024, .f32⟩
  | .hbm, ⟨59, _⟩ => ⟨S65536x1024, .f32⟩
  | .hbm, ⟨60, _⟩ => ⟨S_, .f32⟩
  | .hbm, ⟨61, _⟩ => ⟨S65536, .f32⟩
  | .hbm, ⟨62, _⟩ => ⟨S65536x1, .f32⟩
  | .hbm, ⟨63, _⟩ => ⟨S_, .f32⟩
  | .hbm, ⟨64, _⟩ => ⟨S65536x1, .f32⟩
  | .hbm, ⟨65, _⟩ => ⟨S65536x1, .f32⟩
  | .hbm, ⟨66, _⟩ => ⟨S_, .f32⟩
  | .hbm, ⟨67, _⟩ => ⟨S65536x1, .f32⟩
  | .hbm, ⟨68, _⟩ => ⟨S65536x1, .f32⟩
  | .hbm, ⟨69, _⟩ => ⟨S65536x1, .f32⟩
  | .hbm, ⟨70, _⟩ => ⟨S65536x1024, .f32⟩
  | .hbm, ⟨71, _⟩ => ⟨S65536x1024, .f32⟩
  | .hbm, ⟨72, _⟩ => ⟨S65536x1024, .f32⟩
  | .hbm, ⟨73, _⟩ => ⟨S65536x1024, .f32⟩
  | .hbm, ⟨74, _⟩ => ⟨S65536x1024, .f32⟩
  | .hbm, ⟨75, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_1 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_2 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_4 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== MoeIdeal.lean ====
abbrev S65536x1024 : Shape := ⟨2, ![65536, 1024]⟩
abbrev S1024x128 : Shape := ⟨2, ![1024, 128]⟩
abbrev S1x128 : Shape := ⟨2, ![1, 128]⟩
abbrev S32x1024x256 : Shape := ⟨3, ![32, 1024, 256]⟩
abbrev S32x256x1024 : Shape := ⟨3, ![32, 256, 1024]⟩
abbrev S1x1024 : Shape := ⟨2, ![1, 1024]⟩
abbrev S1024x1024 : Shape := ⟨2, ![1024, 1024]⟩
abbrev S4x1024x256 : Shape := ⟨3, ![4, 1024, 256]⟩
abbrev S4x256x1024 : Shape := ⟨3, ![4, 256, 1024]⟩
abbrev S1408x1024 : Shape := ⟨2, ![1408, 1024]⟩
abbrev S1408x128 : Shape := ⟨2, ![1408, 128]⟩
abbrev S1024x1408 : Shape := ⟨2, ![1024, 1408]⟩
abbrev S8 : Shape := ⟨1, ![8]⟩
abbrev S1024 : Shape := ⟨1, ![1024]⟩
abbrev S1024x1 : Shape := ⟨2, ![1024, 1]⟩
abbrev S128 : Shape := ⟨1, ![128]⟩
abbrev S128x1024 : Shape := ⟨2, ![128, 1024]⟩
abbrev S1x1x128 : Shape := ⟨3, ![1, 1, 128]⟩
abbrev S1 : Shape := ⟨1, ![1]⟩
abbrev S1x1x1 : Shape := ⟨3, ![1, 1, 1]⟩
abbrev S320x128 : Shape := ⟨2, ![320, 128]⟩
abbrev S320x1024 : Shape := ⟨2, ![320, 1024]⟩
abbrev S320 : Shape := ⟨1, ![320]⟩
abbrev S320x1 : Shape := ⟨2, ![320, 1]⟩
abbrev S1x1024x256 : Shape := ⟨3, ![1, 1024, 256]⟩
abbrev S1024x256 : Shape := ⟨2, ![1024, 256]⟩
abbrev S320x256 : Shape := ⟨2, ![320, 256]⟩
abbrev S1x256x1024 : Shape := ⟨3, ![1, 256, 1024]⟩
abbrev S256x1024 : Shape := ⟨2, ![256, 1024]⟩

abbrev nBuf : Space → Nat
  | .hbm => 10
  | .vmem => 19
  | .smem => 1
  | _ => 0

abbrev bufTy : (tb : Table) → Fin (tcTables nBuf tb) → BufTy
  | .hbm, ⟨0, _⟩ => ⟨S65536x1024, .f32⟩
  | .hbm, ⟨1, _⟩ => ⟨S1024x128, .bf16⟩
  | .hbm, ⟨2, _⟩ => ⟨S1024x128, .bf16⟩
  | .hbm, ⟨3, _⟩ => ⟨S1x128, .f32⟩
  | .hbm, ⟨4, _⟩ => ⟨S32x1024x256, .bf16⟩
  | .hbm, ⟨5, _⟩ => ⟨S32x1024x256, .bf16⟩
  | .hbm, ⟨6, _⟩ => ⟨S32x256x1024, .bf16⟩
  | .hbm, ⟨7, _⟩ => ⟨S1x1024, .f32⟩
  | .hbm, ⟨8, _⟩ => ⟨S1x1024, .f32⟩
  | .hbm, ⟨9, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .bf16⟩
  | .local _ .vmem, ⟨3, _⟩ => ⟨S1024x128, .bf16⟩
  | .local _ .vmem, ⟨4, _⟩ => ⟨S1x128, .f32⟩
  | .local _ .vmem, ⟨5, _⟩ => ⟨S4x1024x256, .bf16⟩
  | .local _ .vmem, ⟨6, _⟩ => ⟨S4x1024x256, .bf16⟩
  | .local _ .vmem, ⟨7, _⟩ => ⟨S4x1024x256, .bf16⟩
  | .local _ .vmem, ⟨8, _⟩ => ⟨S4x1024x256, .bf16⟩
  | .local _ .vmem, ⟨9, _⟩ => ⟨S4x256x1024, .bf16⟩
  | .local _ .vmem, ⟨10, _⟩ => ⟨S4x256x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1408x1024, .bf16⟩
  | .local _ .vmem, ⟨16, _⟩ => ⟨S1408x128, .f32⟩
  | .local _ .vmem, ⟨17, _⟩ => ⟨S1024x1408, .bf16⟩
  | .local _ .vmem, ⟨18, _⟩ => ⟨S1408x1024, .f32⟩
  | .local _ .smem, ⟨0, _⟩ => ⟨S8, .i32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![64, 8], ![false, false]⟩

def k0_off1 (i : grid0.Coords) : Fin 1 → Nat :=
  let arg1 : BitVec 32 := BitVec.ofNat 32 (i 1).val
  let c4_i32 : BitVec 32 := 4#32
  let v3 : BitVec 32 := Scalar.muli arg1 c4_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c8_i32 : BitVec 32 := 8#32
  let c0_i32_3 : BitVec 32 := 0#32
  let v10 : BitVec 1 := Scalar.cmpi .sgt c8_i32 c0_i32_3
  let v11 : BitVec 32 := Scalar.extui v10
  let c0_i32_4 : BitVec 32 := 0#32
  let v12 : BitVec 1 := Scalar.cmpi .slt c8_i32 c0_i32_4
  let v13 : BitVec 32 := Scalar.extui v12
  let v14 : BitVec 32 := Scalar.subi v11 v13
  let v15 : BitVec 1 := Scalar.cmpi .ne v9 v14
  let v16 : BitVec 32 := Scalar.remsi v3 c8_i32
  let c0_i32_5 : BitVec 32 := 0#32
  let v17 : BitVec 1 := Scalar.cmpi .ne v16 c0_i32_5
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let v22 : Index := Scalar.indexCast v20
  ![v22.toNat]
def k0_off2 (i : grid0.Coords) : Fin 1 → Nat :=
  let c4_i32_6 : BitVec 32 := 4#32
  let arg1 : BitVec 32 := BitVec.ofNat 32 (i 1).val
  let c4_i32 : BitVec 32 := 4#32
  let v3 : BitVec 32 := Scalar.muli arg1 c4_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c8_i32 : BitVec 32 := 8#32
  let c0_i32_3 : BitVec 32 := 0#32
  let v10 : BitVec 1 := Scalar.cmpi .sgt c8_i32 c0_i32_3
  let v11 : BitVec 32 := Scalar.extui v10
  let c0_i32_4 : BitVec 32 := 0#32
  let v12 : BitVec 1 := Scalar.cmpi .slt c8_i32 c0_i32_4
  let v13 : BitVec 32 := Scalar.extui v12
  let v14 : BitVec 32 := Scalar.subi v11 v13
  let v15 : BitVec 1 := Scalar.cmpi .ne v9 v14
  let v16 : BitVec 32 := Scalar.remsi v3 c8_i32
  let c0_i32_5 : BitVec 32 := 0#32
  let v17 : BitVec 1 := Scalar.cmpi .ne v16 c0_i32_5
  let v18 : BitVec 1 := Scalar.andi v15 v17
  let v4 : BitVec 32 := Scalar.divsi v3 c8_i32
  let c1_i32 : BitVec 32 := 1#32
  let v19 : BitVec 32 := Scalar.subi v4 c1_i32
  let v20 : BitVec 32 := Scalar.select v18 v19 v4
  let v24 : BitVec 32 := Scalar.addi c4_i32_6 v20
  let v25 : Index := Scalar.indexCast v24
  ![v25.toNat]
@[reducible] def k0_t1_loop (v26 : BitVec 32) : Scf.Loop 32 :=
  let c0_i32_7 : BitVec 32 := 0#32
  let v27 : BitVec 32 := Scalar.subi v26 c0_i32_7
  let c1_i32_9 : BitVec 32 := 1#32
  let v29 : BitVec 32 := Scalar.divsi v27 c1_i32_9
  let v30 : BitVec 32 := Scalar.muli v29 c1_i32_9
  let v31 : BitVec 32 := Scalar.addi c0_i32_7 v30
  let c1_i32_10 : BitVec 32 := 1#32
  ⟨c0_i32_7, v31, c1_i32_10⟩

def k0_mult1 (v23 : BitVec 32) (v26 : BitVec 32) (k0_t1 : Fin (k0_t1_loop v26).trips) : BitVec 32 :=
  let c0_i32_7 : BitVec 32 := 0#32
  let c1_i32_10 : BitVec 32 := 1#32
  let arg17 : BitVec 32 := Scf.iv c0_i32_7 c1_i32_10 k0_t1
  let c320_i32 : BitVec 32 := 320#32
  let v37 : BitVec 32 := Scalar.muli arg17 c320_i32
  let v38 : BitVec 32 := Scalar.addi v23 v37
  v38
def k0_off3 (v23 : BitVec 32) (v26 : BitVec 32) (k0_t1 : Fin (k0_t1_loop v26).trips) : Fin 2 → Nat :=
  let c0_i32_7 : BitVec 32 := 0#32
  let c1_i32_10 : BitVec 32 := 1#32
  let arg17 : BitVec 32 := Scf.iv c0_i32_7 c1_i32_10 k0_t1
  let c320_i32 : BitVec 32 := 320#32
  let v37 : BitVec 32 := Scalar.muli arg17 c320_i32
  let v38 : BitVec 32 := Scalar.addi v23 v37
  let v39 : BitVec 32 := v38
  let v40 : Index := Scalar.indexCast v39
  let c0 : Index := 0#32
  ![v40.toNat, 0]
def k0_off4 (v23 : BitVec 32) (v26 : BitVec 32) (k0_t1 : Fin (k0_t1_loop v26).trips) : Fin 2 → Nat :=
  let c0_i32_7 : BitVec 32 := 0#32
  let c1_i32_10 : BitVec 32 := 1#32
  let arg17 : BitVec 32 := Scf.iv c0_i32_7 c1_i32_10 k0_t1
  let c320_i32 : BitVec 32 := 320#32
  let v37 : BitVec 32 := Scalar.muli arg17 c320_i32
  let v38 : BitVec 32 := Scalar.addi v23 v37
  let v39 : BitVec 32 := v38
  let v42 : Index := Scalar.indexCast v39
  let c0_13 : Index := 0#32
  ![v42.toNat, 0]
@[reducible] def k0_t2_loop (v26 : BitVec 32) : Scf.Loop 32 :=
  let c0_i32_7 : BitVec 32 := 0#32
  let v27 : BitVec 32 := Scalar.subi v26 c0_i32_7
  let c1_i32_9 : BitVec 32 := 1#32
  let v29 : BitVec 32 := Scalar.divsi v27 c1_i32_9
  let v30 : BitVec 32 := Scalar.muli v29 c1_i32_9
  let v31 : BitVec 32 := Scalar.addi c0_i32_7 v30
  let v28 : BitVec 32 := Scalar.addi c0_i32_7 v27
  let c1_i32_11 : BitVec 32 := 1#32
  ⟨v31, v28, c1_i32_11⟩
def k0_mult2 (v23 : BitVec 32) (v26 : BitVec 32) (k0_t2 : Fin (k0_t2_loop v26).trips) : BitVec 32 :=
  let c0_i32_7 : BitVec 32 := 0#32
  let v27 : BitVec 32 := Scalar.subi v26 c0_i32_7
  let c1_i32_9 : BitVec 32 := 1#32
  let v29 : BitVec 32 := Scalar.divsi v27 c1_i32_9
  let v30 : BitVec 32 := Scalar.muli v29 c1_i32_9
  let v31 : BitVec 32 := Scalar.addi c0_i32_7 v30
  let c1_i32_11 : BitVec 32 := 1#32
  let arg17 : BitVec 32 := Scf.iv v31 c1_i32_11 k0_t2
  let c320_i32 : BitVec 32 := 320#32
  let v37 : BitVec 32 := Scalar.muli arg17 c320_i32
  let v38 : BitVec 32 := Scalar.addi v23 v37
  v38
def k0_off5 (v23 : BitVec 32) (v26 : BitVec 32) (k0_t2 : Fin (k0_t2_loop v26).trips) : Fin 2 → Nat :=
  let c0_i32_7 : BitVec 32 := 0#32
  let v27 : BitVec 32 := Scalar.subi v26 c0_i32_7
  let c1_i32_9 : BitVec 32 := 1#32
  let v29 : BitVec 32 := Scalar.divsi v27 c1_i32_9
  let v30 : BitVec 32 := Scalar.muli v29 c1_i32_9
  let v31 : BitVec 32 := Scalar.addi c0_i32_7 v30
  let c1_i32_11 : BitVec 32 := 1#32
  let arg17 : BitVec 32 := Scf.iv v31 c1_i32_11 k0_t2
  let c320_i32 : BitVec 32 := 320#32
  let v37 : BitVec 32 := Scalar.muli arg17 c320_i32
  let v38 : BitVec 32 := Scalar.addi v23 v37
  let v39 : BitVec 32 := v38
  let v40 : Index := Scalar.indexCast v39
  let c0 : Index := 0#32
  ![v40.toNat, 0]
def k0_off6 (v23 : BitVec 32) (v26 : BitVec 32) (k0_t2 : Fin (k0_t2_loop v26).trips) : Fin 2 → Nat :=
  let c0_i32_7 : BitVec 32 := 0#32
  let v27 : BitVec 32 := Scalar.subi v26 c0_i32_7
  let c1_i32_9 : BitVec 32 := 1#32
  let v29 : BitVec 32 := Scalar.divsi v27 c1_i32_9
  let v30 : BitVec 32 := Scalar.muli v29 c1_i32_9
  let v31 : BitVec 32 := Scalar.addi c0_i32_7 v30
  let c1_i32_11 : BitVec 32 := 1#32
  let arg17 : BitVec 32 := Scf.iv v31 c1_i32_11 k0_t2
  let c320_i32 : BitVec 32 := 320#32
  let v37 : BitVec 32 := Scalar.muli arg17 c320_i32
  let v38 : BitVec 32 := Scalar.addi v23 v37
  let v39 : BitVec 32 := v38
  let v42 : Index := Scalar.indexCast v39
  let c0_13 : Index := 0#32
  ![v42.toNat, 0]

def k0_chk1 (v23 : BitVec 32) (v26 : BitVec 32) : Prop :=
  ((k0_t1_loop v26).OK) ∧
  (∀ k0_t1 : Fin (k0_t1_loop v26).trips, 16 ∣ (k0_mult1 v23 v26 k0_t1).toNat) ∧
  (∀ k0_t1 : Fin (k0_t1_loop v26).trips, ∀ a, (k0_off3 v23 v26 k0_t1) a + S320x1024.size a ≤ S1408x1024.size a) ∧
  (∀ k0_t1 : Fin (k0_t1_loop v26).trips, ∀ a, (k0_off4 v23 v26 k0_t1) a + S320x128.size a ≤ S1408x128.size a) ∧
  ((k0_t2_loop v26).OK) ∧
  (∀ k0_t2 : Fin (k0_t2_loop v26).trips, 16 ∣ (k0_mult2 v23 v26 k0_t2).toNat) ∧
  (∀ k0_t2 : Fin (k0_t2_loop v26).trips, ∀ a, (k0_off5 v23 v26 k0_t2) a + S320x1024.size a ≤ S1408x1024.size a) ∧
  (∀ k0_t2 : Fin (k0_t2_loop v26).trips, ∀ a, (k0_off6 v23 v26 k0_t2) a + S320x128.size a ≤ S1408x128.size a)
theorem k0_t1_ok : ∀ (v23 : BitVec 32) (v26 : BitVec 32) (k0_hw1 : k0_chk1 v23 v26), (k0_t1_loop v26).OK := fun v23 v26 k0_hw1 => k0_hw1.1
theorem k0_mult1_dvd : ∀ (v23 : BitVec 32) (v26 : BitVec 32) (k0_hw1 : k0_chk1 v23 v26) (k0_t1 : Fin (k0_t1_loop v26).trips), 16 ∣ (k0_mult1 v23 v26 k0_t1).toNat := fun v23 v26 k0_hw1 k0_t1 => k0_hw1.2.1 k0_t1
theorem k0_off3_inb : ∀ (v23 : BitVec 32) (v26 : BitVec 32) (k0_hw1 : k0_chk1 v23 v26) (k0_t1 : Fin (k0_t1_loop v26).trips), ∀ a, (k0_off3 v23 v26 k0_t1) a + S320x1024.size a ≤ S1408x1024.size a := fun v23 v26 k0_hw1 k0_t1 => k0_hw1.2.2.1 k0_t1
theorem k0_off4_inb : ∀ (v23 : BitVec 32) (v26 : BitVec 32) (k0_hw1 : k0_chk1 v23 v26) (k0_t1 : Fin (k0_t1_loop v26).trips), ∀ a, (k0_off4 v23 v26 k0_t1) a + S320x128.size a ≤ S1408x128.size a := fun v23 v26 k0_hw1 k0_t1 => k0_hw1.2.2.2.1 k0_t1
theorem k0_t2_ok : ∀ (v23 : BitVec 32) (v26 : BitVec 32) (k0_hw1 : k0_chk1 v23 v26), (k0_t2_loop v26).OK := fun v23 v26 k0_hw1 => k0_hw1.2.2.2.2.1
theorem k0_mult2_dvd : ∀ (v23 : BitVec 32) (v26 : BitVec 32) (k0_hw1 : k0_chk1 v23 v26) (k0_t2 : Fin (k0_t2_loop v26).trips), 16 ∣ (k0_mult2 v23 v26 k0_t2).toNat := fun v23 v26 k0_hw1 k0_t2 => k0_hw1.2.2.2.2.2.1 k0_t2
theorem k0_off5_inb : ∀ (v23 : BitVec 32) (v26 : BitVec 32) (k0_hw1 : k0_chk1 v23 v26) (k0_t2 : Fin (k0_t2_loop v26).trips), ∀ a, (k0_off5 v23 v26 k0_t2) a + S320x1024.size a ≤ S1408x1024.size a := fun v23 v26 k0_hw1 k0_t2 => k0_hw1.2.2.2.2.2.2.1 k0_t2
theorem k0_off6_inb : ∀ (v23 : BitVec 32) (v26 : BitVec 32) (k0_hw1 : k0_chk1 v23 v26) (k0_t2 : Fin (k0_t2_loop v26).trips), ∀ a, (k0_off6 v23 v26 k0_t2) a + S320x128.size a ≤ S1408x128.size a := fun v23 v26 k0_hw1 k0_t2 => k0_hw1.2.2.2.2.2.2.2 k0_t2

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_12 : BitVec 32 := 0#32
  let v36 : BitVec 1 := Scalar.cmpi .ne v35 c0_i32_12
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== RefEIdeal.lean ====
abbrev S65536x1024 : Shape := ⟨2, ![65536, 1024]⟩
abbrev S1024x128 : Shape := ⟨2, ![1024, 128]⟩
abbrev S1x128 : Shape := ⟨2, ![1, 128]⟩
abbrev S32x1024x256 : Shape := ⟨3, ![32, 1024, 256]⟩
abbrev S32x256x1024 : Shape := ⟨3, ![32, 256, 1024]⟩
abbrev S1x1024 : Shape := ⟨2, ![1, 1024]⟩
abbrev S_ : Shape := ⟨0, ![]⟩
abbrev S65536x128 : Shape := ⟨2, ![65536, 128]⟩
abbrev S65536x4 : Shape := ⟨2, ![65536, 4]⟩
abbrev S65536x32 : Shape := ⟨2, ![65536, 32]⟩
abbrev S65536 : Shape := ⟨1, ![65536]⟩
abbrev S65536x1 : Shape := ⟨2, ![65536, 1]⟩
abbrev S4 : Shape := ⟨1, ![4]⟩
abbrev S32 : Shape := ⟨1, ![32]⟩
abbrev S1x32 : Shape := ⟨2, ![1, 32]⟩
abbrev S65536x32x256 : Shape := ⟨3, ![65536, 32, 256]⟩
abbrev S32x65536x1024 : Shape := ⟨3, ![32, 65536, 1024]⟩
abbrev S32x65536 : Shape := ⟨2, ![32, 65536]⟩
abbrev S32x65536x1 : Shape := ⟨3, ![32, 65536, 1]⟩

abbrev nBuf : Space → Nat
  | .hbm => 184
  | .vmem => 0
  | .smem => 0
  | _ => 0

abbrev hbmTy0_0 (i : Nat) : BufTy := match i % 128 with
  | 0 => ⟨S65536x1024, .f32⟩
  | 1 => ⟨S1024x128, .bf16⟩
  | 2 => ⟨S1024x128, .bf16⟩
  | 3 => ⟨S1x128, .f32⟩
  | 4 => ⟨S32x1024x256, .bf16⟩
  | 5 => ⟨S32x1024x256, .bf16⟩
  | 6 => ⟨S32x256x1024, .bf16⟩
  | 7 => ⟨S1x1024, .f32⟩
  | 8 => ⟨S1x1024, .f32⟩
  | 9 => ⟨S_, .f32⟩
  | 10 => ⟨S65536x1024, .f32⟩
  | 11 => ⟨S65536x1024, .f32⟩
  | 12 => ⟨S1024x128, .f32⟩
  | 13 => ⟨S1024x128, .f32⟩
  | 14 => ⟨S1024x128, .f32⟩
  | 15 => ⟨S65536x128, .f32⟩
  | 16 => ⟨S65536x128, .f32⟩
  | 17 => ⟨S65536x128, .f32⟩
  | 18 => ⟨S65536x4, .f32⟩
  | 19 => ⟨S65536x32, .f32⟩
  | 20 => ⟨S_, .f32⟩
  | 21 => ⟨S65536, .f32⟩
  | 22 => ⟨S_, .f32⟩
  | 23 => ⟨S65536, .f32⟩
  | 24 => ⟨S65536, .f32⟩
  | 25 => ⟨S65536x1, .f32⟩
  | 26 => ⟨S65536x4, .f32⟩
  | 27 => ⟨S65536x4, .f32⟩
  | 28 => ⟨S65536x4, .f32⟩
  | 29 => ⟨S_, .f32⟩
  | 30 => ⟨S65536, .f32⟩
  | 31 => ⟨S65536x1, .f32⟩
  | 32 => ⟨S65536x4, .f32⟩
  | 33 => ⟨S65536x4, .f32⟩
  | 34 => ⟨S_, .f32⟩
  | 35 => ⟨S65536, .f32⟩
  | 36 => ⟨S65536x1, .f32⟩
  | 37 => ⟨S_, .f32⟩
  | 38 => ⟨S65536, .f32⟩
  | 39 => ⟨S65536x1, .f32⟩
  | 40 => ⟨S65536x4, .f32⟩
  | 41 => ⟨S65536x4, .i1⟩
  | 42 => ⟨S4, .f32⟩
  | 43 => ⟨S_, .f32⟩
  | 44 => ⟨S_, .f32⟩
  | 45 => ⟨S65536x4, .f32⟩
  | 46 => ⟨S65536x4, .f32⟩
  | 47 => ⟨S65536x4, .f32⟩
  | 48 => ⟨S_, .f32⟩
  | 49 => ⟨S65536, .f32⟩
  | 50 => ⟨S65536x1, .f32⟩
  | 51 => ⟨S32, .f32⟩
  | 52 => ⟨S_, .f32⟩
  | 53 => ⟨S65536x1, .f32⟩
  | 54 => ⟨S65536x1, .f32⟩
  | 55 => ⟨S1x32, .f32⟩
  | 56 => ⟨S65536x32, .f32⟩
  | 57 => ⟨S65536x32, .f32⟩
  | 58 => ⟨S65536x32, .i1⟩
  | 59 => ⟨S_, .f32⟩
  | 60 => ⟨S65536x1, .f32⟩
  | 61 => ⟨S65536x1, .f32⟩
  | 62 => ⟨S1x32, .f32⟩
  | 63 => ⟨S65536x32, .f32⟩
  | 64 => ⟨S65536x32, .f32⟩
  | 65 => ⟨S65536x32, .i1⟩
  | 66 => ⟨S65536x32, .i1⟩
  | 67 => ⟨S_, .f32⟩
  | 68 => ⟨S_, .f32⟩
  | 69 => ⟨S65536x32, .f32⟩
  | 70 => ⟨S65536x32, .f32⟩
  | 71 => ⟨S_, .f32⟩
  | 72 => ⟨S65536, .f32⟩
  | 73 => ⟨S65536x1, .f32⟩
  | 74 => ⟨S65536x32, .f32⟩
  | 75 => ⟨S65536x32, .i1⟩
  | 76 => ⟨S32, .f32⟩
  | 77 => ⟨S_, .f32⟩
  | 78 => ⟨S_, .f32⟩
  | 79 => ⟨S65536x32, .f32⟩
  | 80 => ⟨S65536x32, .f32⟩
  | 81 => ⟨S65536x32, .f32⟩
  | 82 => ⟨S_, .f32⟩
  | 83 => ⟨S65536, .f32⟩
  | 84 => ⟨S65536x1, .f32⟩
  | 85 => ⟨S1x32, .f32⟩
  | 86 => ⟨S65536x32, .f32⟩
  | 87 => ⟨S65536x32, .f32⟩
  | 88 => ⟨S65536x32, .i1⟩
  | 89 => ⟨S_, .f32⟩
  | 90 => ⟨S_, .f32⟩
  | 91 => ⟨S65536x32, .f32⟩
  | 92 => ⟨S65536x32, .f32⟩
  | 93 => ⟨S_, .f32⟩
  | 94 => ⟨S65536, .f32⟩
  | 95 => ⟨S65536x1, .f32⟩
  | 96 => ⟨S65536x32, .f32⟩
  | 97 => ⟨S65536x32, .i1⟩
  | 98 => ⟨S32, .f32⟩
  | 99 => ⟨S_, .f32⟩
  | 100 => ⟨S_, .f32⟩
  | 101 => ⟨S65536x32, .f32⟩
  | 102 => ⟨S65536x32, .f32⟩
  | 103 => ⟨S65536x32, .f32⟩
  | 104 => ⟨S_, .f32⟩
  | 105 => ⟨S65536, .f32⟩
  | 106 => ⟨S65536x1, .f32⟩
  | 107 => ⟨S1x32, .f32⟩
  | 108 => ⟨S65536x32, .f32⟩
  | 109 => ⟨S65536x32, .f32⟩
  | 110 => ⟨S65536x32, .i1⟩
  | 111 => ⟨S1x32, .f32⟩
  | 112 => ⟨S65536x32, .f32⟩
  | 113 => ⟨S65536x32, .f32⟩
  | 114 => ⟨S65536x32, .i1⟩
  | 115 => ⟨S65536x32, .i1⟩
  | 116 => ⟨S_, .f32⟩
  | 117 => ⟨S_, .f32⟩
  | 118 => ⟨S65536x32, .f32⟩
  | 119 => ⟨S65536x32, .f32⟩
  | 120 => ⟨S_, .f32⟩
  | 121 => ⟨S65536, .f32⟩
  | 122 => ⟨S_, .f32⟩
  | 123 => ⟨S65536, .f32⟩
  | 124 => ⟨S65536, .f32⟩
  | 125 => ⟨S65536x1, .f32⟩
  | 126 => ⟨S65536x32, .f32⟩
  | 127 => ⟨S65536x32, .f32⟩
  | _ => ⟨S65536x1024, .f32⟩

abbrev hbmTy0_1 (i : Nat) : BufTy := match i % 128 with
  | 0 => ⟨S65536x32, .f32⟩
  | 1 => ⟨S_, .f32⟩
  | 2 => ⟨S65536, .f32⟩
  | 3 => ⟨S65536x1, .f32⟩
  | 4 => ⟨S65536x32, .f32⟩
  | 5 => ⟨S65536x32, .f32⟩
  | 6 => ⟨S65536x32, .f32⟩
  | 7 => ⟨S65536x32, .f32⟩
  | 8 => ⟨S32x1024x256, .f32⟩
  | 9 => ⟨S65536x32x256, .f32⟩
  | 10 => ⟨S32x1024x256, .f32⟩
  | 11 => ⟨S65536x32x256, .f32⟩
  | 12 => ⟨S65536x32x256, .f32⟩
  | 13 => ⟨S65536x32x256, .f32⟩
  | 14 => ⟨S_, .f32⟩
  | 15 => ⟨S65536x32x256, .f32⟩
  | 16 => ⟨S65536x32x256, .f32⟩
  | 17 => ⟨S_, .f32⟩
  | 18 => ⟨S65536x32x256, .f32⟩
  | 19 => ⟨S65536x32x256, .f32⟩
  | 20 => ⟨S65536x32x256, .f32⟩
  | 21 => ⟨S65536x32x256, .f32⟩
  | 22 => ⟨S32x256x1024, .f32⟩
  | 23 => ⟨S32x65536x1024, .f32⟩
  | 24 => ⟨S32x65536, .f32⟩
  | 25 => ⟨S32x65536x1, .f32⟩
  | 26 => ⟨S32x65536x1024, .f32⟩
  | 27 => ⟨S32x65536x1024, .f32⟩
  | 28 => ⟨S_, .f32⟩
  | 29 => ⟨S65536x1024, .f32⟩
  | 30 => ⟨S65536x1024, .f32⟩
  | 31 => ⟨S_, .f32⟩
  | 32 => ⟨S65536, .f32⟩
  | 33 => ⟨S65536x1, .f32⟩
  | 34 => ⟨S_, .f32⟩
  | 35 => ⟨S65536x1, .f32⟩
  | 36 => ⟨S65536x1, .f32⟩
  | 37 => ⟨S65536x1024, .f32⟩
  | 38 => ⟨S65536x1024, .f32⟩
  | 39 => ⟨S65536x1024, .f32⟩
  | 40 => ⟨S_, .f32⟩
  | 41 => ⟨S65536, .f32⟩
  | 42 => ⟨S65536x1, .f32⟩
  | 43 => ⟨S_, .f32⟩
  | 44 => ⟨S65536x1, .f32⟩
  | 45 => ⟨S65536x1, .f32⟩
  | 46 => ⟨S_, .f32⟩
  | 47 => ⟨S65536x1, .f32⟩
  | 48 => ⟨S65536x1, .f32⟩
  | 49 => ⟨S65536x1, .f32⟩
  | 50 => ⟨S65536x1024, .f32⟩
  | 51 => ⟨S65536x1024, .f32⟩
  | 52 => ⟨S65536x1024, .f32⟩
  | 53 => ⟨S65536x1024, .f32⟩
  | 54 => ⟨S65536x1024, .f32⟩
  | 55 => ⟨S65536x1024, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_call1_v0 : Ref sig .tc := ⟨.hbm, 68, rfl⟩
abbrev main_call1_v1 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v51 : Ref sig .tc := ⟨.hbm, 81, rfl⟩
abbrev main_cst_12 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_13 : Ref sig .tc := ⟨.hbm, 89, rfl⟩
abbrev main_call3_v0 : Ref sig .tc := ⟨.hbm, 90, rfl⟩
abbrev main_call3_v1 : Ref sig .tc := ⟨.hbm, 91, rfl⟩
abbrev main_v58 : Ref sig .tc := ⟨.hbm, 92, rfl⟩
abbrev main_cst_14 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_15 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_v64 : Ref sig .tc := ⟨.hbm, 103, rfl⟩
abbrev main_cst_16 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_17 : Ref sig .tc := ⟨.hbm, 116, rfl⟩
abbrev main_call5_v0 : Ref sig .tc := ⟨.hbm, 117, rfl⟩
abbrev main_call5_v1 : Ref sig .tc := ⟨.hbm, 118, rfl⟩
abbrev main_v76 : Ref sig .tc := ⟨.hbm, 119, rfl⟩
abbrev main_cst_18 : Ref sig .tc := ⟨.hbm, 120, rfl⟩
abbrev main_v77 : Ref sig .tc := ⟨.hbm, 121, rfl⟩
abbrev main_cst_19 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_cst_20 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_call6_v0 : Ref sig .tc := ⟨.hbm, 140, rfl⟩
abbrev main_call6_v1 : Ref sig .tc := ⟨.hbm, 141, rfl⟩
abbrev main_call6_cst : Ref sig .tc := ⟨.hbm, 142, rfl⟩
abbrev main_call6_v2 : Ref sig .tc := ⟨.hbm, 143, rfl⟩
abbrev main_call6_v3 : Ref sig .tc := ⟨.hbm, 144, rfl⟩
abbrev main_call6_cst_0 : Ref sig .tc := ⟨.hbm, 145, rfl⟩
abbrev main_call6_v4 : Ref sig .tc := ⟨.hbm, 146, rfl⟩
abbrev main_call6_v5 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_cst_21 : Ref sig .tc := ⟨.hbm, 156, rfl⟩
abbrev main_v102 : Ref sig .tc := ⟨.hbm, 157, rfl⟩
abbrev main_v103 : Ref sig .tc := ⟨.hbm, 158, rfl⟩
abbrev main_cst_22 : Ref sig .tc := ⟨.hbm, 159, rfl⟩
abbrev main_v104 : Ref sig .tc := ⟨.hbm, 160, rfl⟩
abbrev main_v105 : Ref sig .tc := ⟨.hbm, 161, rfl⟩
abbrev main_cst_23 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_cst_24 : Ref sig .tc := ⟨.hbm, 168, rfl⟩
abbrev main_v111 : Ref sig .tc := ⟨.hbm, 169, rfl⟩
abbrev main_v112 : Ref sig .tc := ⟨.hbm, 170, rfl⟩
abbrev main_cst_25 : Ref sig .tc := ⟨.hbm, 171, rfl⟩
abbrev main_v113 : Ref sig .tc := ⟨.hbm, 172, rfl⟩
abbrev main_v114 : Ref sig .tc := ⟨.hbm, 173, rfl⟩
abbrev main_cst_26 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩

abbrev nD : Nat := 1
abbrev τ : Topo := Topo.v7x

variable {F : FTy → Type} [FloatOps F]
-- ==== Proof.Band.Softmax.lean ====
/-
  Softmax attention of one query over the extended reals, in closed form.

  A masked softmax whose scores and values are real numbers and whose mask lets at least one key through has the value
  `weighted / total`, whatever real number is subtracted from the scores before the exponential is taken. Two programs
  that arrange the same keys differently (one over all keys of a sequence, one over a window of two tiles) are compared
  through that closed form.
-/
module

public import Idealize.ShloMosaic.Lib.Pointwise
public import Mathlib.Analysis.SpecialFunctions.Log.Basic

@[expose] public section

noncomputable section

open Idealize.ShloMosaic

namespace Cert.Band

/-- A sum of reals, read as an extended real, is the sum of the terms so read. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A masked score: the score where the mask is set, minus infinity elsewhere. -/
def masked (p : Prop) [Decidable p] (x : ℝ) : EReal := if p then (x : EReal) else ⊥

/-- The exponential of a masked score, zero where the mask is not set. -/
def weight (p : Prop) [Decidable p] (x : ℝ) : ℝ := if p then Real.exp x else 0

theorem weight_nonneg (p : Prop) [Decidable p] (x : ℝ) : 0 ≤ weight p x := by
  unfold weight; split
  · exact (Real.exp_pos x).le
  · exact le_refl 0

/-- Subtracting a real from a masked score multiplies its exponential by a constant. -/
theorem exp_masked (p : Prop) [Decidable p] (x M : ℝ) :
    Ideal.exp (masked p x - (M : EReal)) = ((Real.exp (-M) * weight p x : ℝ) : EReal) := by
  unfold masked weight
  split
  · rw [← EReal.coe_sub]
    show ((Real.exp (x - M) : ℝ) : EReal) = _
    rw [← Real.exp_add]; congr 2; ring
  · rw [EReal.bot_sub]
    show (0 : EReal) = _
    simp

/-- The largest of finitely many masked scores, one of which the mask lets through, is a real number. -/
theorem sup_masked {ι : Type} [Fintype ι] (A : ι → Prop) [DecidablePred A] (S : ι → ℝ) (i₀ : ι) (h₀ : A i₀) :
    ∃ M : ℝ, (Finset.univ.fold max (⊥ : EReal) fun i => masked (A i) (S i)) = (M : EReal) := by
  have hs : (Finset.univ.fold max (⊥ : EReal) fun i => masked (A i) (S i)) = Finset.univ.sup fun i => masked (A i) (S i) := rfl
  rw [hs]
  have hlo : ((S i₀ : ℝ) : EReal) ≤ Finset.univ.sup fun i => masked (A i) (S i) :=
    le_trans (by simp [masked, h₀]) (Finset.le_sup (f := fun i => masked (A i) (S i)) (Finset.mem_univ i₀))
  have hhi : (Finset.univ.sup fun i => masked (A i) (S i)) < ⊤ := by
    rw [Finset.sup_lt_iff bot_lt_top]
    intro i _
    unfold masked; split
    · exact EReal.coe_lt_top _
    · exact bot_lt_top
  refine ⟨(Finset.univ.sup fun i => masked (A i) (S i)).toReal, (EReal.coe_toReal hhi.ne ?_).symm⟩
  exact (lt_of_lt_of_le (EReal.bot_lt_coe _) hlo).ne'

/-- The largest of finitely many masked scores is never plus infinity. -/
theorem sup_masked_lt {ι : Type} [Fintype ι] (A : ι → Prop) [DecidablePred A] (S : ι → ℝ) :
    (Finset.univ.fold max (⊥ : EReal) fun i => masked (A i) (S i)) < ⊤ := by
  have hs : (Finset.univ.fold max (⊥ : EReal) fun i => masked (A i) (S i)) = Finset.univ.sup fun i => masked (A i) (S i) := rfl
  rw [hs, Finset.sup_lt_iff bot_lt_top]
  intro i _
  unfold masked; split
  · exact EReal.coe_lt_top _
  · exact bot_lt_top

/-- The larger of a real number and of the largest of finitely many masked scores is a real number. -/
theorem max_masked {ι : Type} [Fintype ι] (A : ι → Prop) [DecidablePred A] (S : ι → ℝ) (M : ℝ) :
    ∃ M' : ℝ, max (M : EReal) (Finset.univ.fold max (⊥ : EReal) fun i => masked (A i) (S i)) = (M' : EReal) := by
  have h := sup_masked_lt A S
  refine ⟨(max (M : EReal) (Finset.univ.fold max (⊥ : EReal) fun i => masked (A i) (S i))).toReal, (EReal.coe_toReal ?_ ?_).symm⟩
  · exact (max_lt (EReal.coe_lt_top _) h).ne
  · exact (lt_of_lt_of_le (EReal.bot_lt_coe M) (le_max_left _ _)).ne'

/-- The logarithm of a positive real. -/
theorem log_coe {r : ℝ} (h : 0 < r) : Ideal.log (r : EReal) = (Real.log r : EReal) := by
  show (if r ≤ 0 then (⊥ : EReal) else (Real.log r : EReal)) = _
  rw [if_neg (not_le.mpr h)]

/-- The quotient of a real by a nonzero real. -/
theorem div_coe (a : ℝ) {b : ℝ} (h : b ≠ 0) : Ideal.div (a : EReal) (b : EReal) = ((a / b : ℝ) : EReal) := by
  unfold Ideal.div
  rw [if_neg (by exact_mod_cast h), ← EReal.coe_inv, ← EReal.coe_mul, div_eq_mul_inv]

/-- A weighted sum of exponentials of masked scores less `M`: the constant `exp (-M)` comes out of the sum. -/
theorem sum_exp {ι : Type} [Fintype ι] (A : ι → Prop) [DecidablePred A] (S : ι → ℝ) (M : ℝ) :
    ∑ i, Ideal.exp (masked (A i) (S i) - (M : EReal)) = ((Real.exp (-M) * ∑ i, weight (A i) (S i) : ℝ) : EReal) := by
  rw [Finset.mul_sum, coe_sum]
  exact Finset.sum_congr rfl fun i _ => exp_masked _ _ _

theorem sum_mul_exp {ι : Type} [Fintype ι] (A : ι → Prop) [DecidablePred A] (S V : ι → ℝ) (M : ℝ) :
    ∑ i, (V i : EReal) * Ideal.exp (masked (A i) (S i) - (M : EReal))
      = ((Real.exp (-M) * ∑ i, weight (A i) (S i) * V i : ℝ) : EReal) := by
  rw [Finset.mul_sum, coe_sum]
  refine Finset.sum_congr rfl fun i _ => ?_
  rw [exp_masked, ← EReal.coe_mul]; congr 1; ring

theorem sum_exp_mul {ι : Type} [Fintype ι] (A : ι → Prop) [DecidablePred A] (S V : ι → ℝ) (M : ℝ) :
    ∑ i, Ideal.exp (masked (A i) (S i) - (M : EReal)) * (V i : EReal)
      = ((Real.exp (-M) * ∑ i, weight (A i) (S i) * V i : ℝ) : EReal) := by
  rw [← sum_mul_exp]
  exact Finset.sum_congr rfl fun i _ => mul_comm _ _

/-- The logarithm of the sum of exponentials does not depend on the real subtracted before it is taken. -/
theorem lse_of (M Z : ℝ) (hZ : 0 < Z) : (M : EReal) + Ideal.log ((Real.exp (-M) * Z : ℝ) : EReal) = (Real.log Z : EReal) := by
  rw [log_coe (mul_pos (Real.exp_pos _) hZ), ← EReal.coe_add, Real.log_mul (Real.exp_pos _).ne' hZ.ne', Real.log_exp]
  congr 1; ring

/-- Nor does the quotient of the weighted sum by the sum. -/
theorem quot_of (M N Z : ℝ) (hZ : 0 < Z) :
    Ideal.div ((Real.exp (-M) * N : ℝ) : EReal) ((Real.exp (-M) * Z : ℝ) : EReal) = ((N / Z : ℝ) : EReal) := by
  rw [div_coe _ (mul_pos (Real.exp_pos _) hZ).ne', mul_div_mul_left _ _ (Real.exp_pos _).ne']

/-- The sum of the weights is positive as soon as the mask lets one key through. -/
theorem total_pos {ι : Type} [Fintype ι] (A : ι → Prop) [DecidablePred A] (S : ι → ℝ) (i₀ : ι) (h₀ : A i₀) :
    0 < ∑ i, weight (A i) (S i) := by
  refine Finset.sum_pos' (fun i _ => weight_nonneg _ _) ⟨i₀, Finset.mem_univ _, ?_⟩
  unfold weight; rw [if_pos h₀]; exact Real.exp_pos _

/-! ### All keys at once: the scores less their log-sum-exp -/

/-- The log-sum-exp of a row of masked scores. -/
def lse {n : ℕ} (s : Fin n → EReal) : EReal :=
  Finset.univ.fold max ⊥ s + Ideal.log (∑ k, Ideal.exp (s k - Finset.univ.fold max ⊥ s))

theorem lse_masked {n : ℕ} (A : Fin n → Prop) [DecidablePred A] (S : Fin n → ℝ) (i₀ : Fin n) (h₀ : A i₀) :
    lse (fun k => masked (A k) (S k)) = (Real.log (∑ k, weight (A k) (S k)) : EReal) := by
  obtain ⟨M, hM⟩ := sup_masked A S i₀ h₀
  unfold lse
  rw [hM, sum_exp, lse_of _ _ (total_pos A S i₀ h₀)]

theorem attend_masked {n : ℕ} (A : Fin n → Prop) [DecidablePred A] (S V : Fin n → ℝ) (i₀ : Fin n) (h₀ : A i₀) :
    ∑ k, Ideal.exp (masked (A k) (S k) - lse (fun k => masked (A k) (S k))) * (V k : EReal)
      = (((∑ k, weight (A k) (S k) * V k) / ∑ k, weight (A k) (S k) : ℝ) : EReal) := by
  have hZ := total_pos A S i₀ h₀
  rw [lse_masked A S i₀ h₀, sum_exp_mul, Real.exp_neg, Real.exp_log hZ]
  congr 1; field_simp

/-! ### Two tiles of keys: the tile of the query and the tile before it -/

/-- Row maximum of the two tiles' masked scores. -/
def top {n : ℕ} (sc sp : Fin n → EReal) : EReal := max (Finset.univ.fold max ⊥ sc) (Finset.univ.fold max ⊥ sp)

/-- The two tiles' sum of exponentials. -/
def mass {n : ℕ} (sc sp : Fin n → EReal) : EReal :=
  ∑ k, Ideal.exp (sc k - top sc sp) + ∑ k, Ideal.exp (sp k - top sc sp)

theorem two_tiles {n : ℕ} (A B : Fin n → Prop) [DecidablePred A] [DecidablePred B] (S T : Fin n → ℝ) (i₀ : Fin n) (h₀ : A i₀) :
    ∃ M : ℝ, top (fun k => masked (A k) (S k)) (fun k => masked (B k) (T k)) = (M : EReal)
      ∧ mass (fun k => masked (A k) (S k)) (fun k => masked (B k) (T k))
        = ((Real.exp (-M) * (∑ k, weight (A k) (S k) + ∑ k, weight (B k) (T k)) : ℝ) : EReal)
      ∧ 0 < ∑ k, weight (A k) (S k) + ∑ k, weight (B k) (T k) := by
  obtain ⟨M₀, h₁⟩ := sup_masked A S i₀ h₀
  obtain ⟨M, hM⟩ := max_masked B T M₀
  have ht : top (fun k => masked (A k) (S k)) (fun k => masked (B k) (T k)) = (M : EReal) := by
    unfold top; rw [h₁, hM]
  refine ⟨M, ht, ?_, ?_⟩
  · unfold mass; rw [ht, sum_exp, sum_exp, ← EReal.coe_add, mul_add]
  · exact add_pos_of_pos_of_nonneg (total_pos A S i₀ h₀) (Finset.sum_nonneg fun _ _ => weight_nonneg _ _)

theorem lse_tiles {n : ℕ} (A B : Fin n → Prop) [DecidablePred A] [DecidablePred B] (S T : Fin n → ℝ) (i₀ : Fin n) (h₀ : A i₀) :
    top (fun k => masked (A k) (S k)) (fun k => masked (B k) (T k))
        + Ideal.log (mass (fun k => masked (A k) (S k)) (fun k => masked (B k) (T k)))
      = (Real.log (∑ k, weight (A k) (S k) + ∑ k, weight (B k) (T k)) : EReal) := by
  obtain ⟨M, h₁, h₂, h₃⟩ := two_tiles A B S T i₀ h₀
  rw [h₂, h₁, lse_of _ _ h₃]

theorem attend_tiles {n : ℕ} (A B : Fin n → Prop) [DecidablePred A] [DecidablePred B] (S T V W : Fin n → ℝ) (i₀ : Fin n) (h₀ : A i₀) :
    Ideal.div (∑ k, (V k : EReal) * Ideal.exp (masked (A k) (S k) - top (fun k => masked (A k) (S k)) (fun k => masked (B k) (T k)))
          + ∑ k, (W k : EReal) * Ideal.exp (masked (B k) (T k) - top (fun k => masked (A k) (S k)) (fun k => masked (B k) (T k))))
        (mass (fun k => masked (A k) (S k)) (fun k => masked (B k) (T k)))
      = (((∑ k, weight (A k) (S k) * V k + ∑ k, weight (B k) (T k) * W k)
          / (∑ k, weight (A k) (S k) + ∑ k, weight (B k) (T k)) : ℝ) : EReal) := by
  obtain ⟨M, h₁, h₂, h₃⟩ := two_tiles A B S T i₀ h₀
  rw [h₂, h₁, sum_mul_exp, sum_mul_exp, ← EReal.coe_add, ← mul_add, quot_of _ _ _ h₃]

/-! ### One tile of keys, where there is no tile before the query's -/

theorem lse_tile {n : ℕ} (A : Fin n → Prop) [DecidablePred A] (S : Fin n → ℝ) (i₀ : Fin n) (h₀ : A i₀) :
    (Finset.univ.fold max ⊥ fun k => masked (A k) (S k))
        + Ideal.log (∑ k, Ideal.exp (masked (A k) (S k) - Finset.univ.fold max ⊥ fun k => masked (A k) (S k)))
      = (Real.log (∑ k, weight (A k) (S k)) : EReal) := lse_masked A S i₀ h₀

theorem attend_tile {n : ℕ} (A : Fin n → Prop) [DecidablePred A] (S V : Fin n → ℝ) (i₀ : Fin n) (h₀ : A i₀) :
    Ideal.div (∑ k, (V k : EReal) * Ideal.exp (masked (A k) (S k) - Finset.univ.fold max ⊥ fun k => masked (A k) (S k)))
        (∑ k, Ideal.exp (masked (A k) (S k) - Finset.univ.fold max ⊥ fun k => masked (A k) (S k)))
      = (((∑ k, weight (A k) (S k) * V k) / ∑ k, weight (A k) (S k) : ℝ) : EReal) := by
  obtain ⟨M, hM⟩ := sup_masked A S i₀ h₀
  rw [hM, sum_exp, sum_mul_exp, quot_of _ _ _ (total_pos A S i₀ h₀)]

/-! ### A window of a sequence as two tiles -/

/-- The keys of a sequence of `M` rows that a query at position `q` may see are those of its own tile of 128 rows up to
    itself and those of the tile before it from the query's place in its tile on; a sum over the first is the two
    tiles' sums. -/
theorem window_sum (M a q : ℕ) (r : ℕ) (hq : q = (a + 1) * 128 + r) (hr : r < 128) (hM : q < M) (hd : 128 ∣ M) (f : ℕ → ℝ) :
    ∑ k ∈ Finset.range M, (if k ≤ q ∧ q ≤ k + 128 then f k else 0)
      = (∑ k ∈ Finset.range 128, if k ≤ r then f ((a + 1) * 128 + k) else 0)
        + ∑ k ∈ Finset.range 128, if r ≤ k then f (a * 128 + k) else 0 := by
  obtain ⟨c, hc⟩ := hd
  obtain ⟨b, rfl⟩ : ∃ b, M = a * 128 + (128 + (128 + b)) := ⟨M - (a * 128 + 256), by omega⟩
  rw [Finset.sum_range_add, Finset.sum_range_add, Finset.sum_range_add]
  rw [Finset.sum_eq_zero (s := Finset.range (a * 128)), zero_add]
  · rw [Finset.sum_eq_zero (s := Finset.range b), add_zero, add_comm]
    · congr 1
      · refine Finset.sum_congr rfl fun k hk => ?_
        have := Finset.mem_range.mp hk
        rw [show a * 128 + (128 + k) = (a + 1) * 128 + k by ring]
        exact if_congr (by omega) rfl rfl
      · refine Finset.sum_congr rfl fun k hk => ?_
        have := Finset.mem_range.mp hk
        exact if_congr (by omega) rfl rfl
    · intro k _; rw [if_neg (by omega)]
  · intro k hk; have := Finset.mem_range.mp hk; rw [if_neg (by omega)]

/-- The first tile of a sequence has no tile before it. -/
theorem window_sum_first (M q : ℕ) (hr : q < 128) (hd : 128 ≤ M) (f : ℕ → ℝ) :
    ∑ k ∈ Finset.range M, (if k ≤ q ∧ q ≤ k + 128 then f k else 0) = ∑ k ∈ Finset.range 128, if k ≤ q then f k else 0 := by
  obtain ⟨b, rfl⟩ : ∃ b, M = 128 + b := ⟨M - 128, by omega⟩
  rw [Finset.sum_range_add, Finset.sum_eq_zero (s := Finset.range b), add_zero]
  · refine Finset.sum_congr rfl fun k hk => ?_
    have := Finset.mem_range.mp hk
    exact if_congr (by omega) rfl rfl
  · intro k _; rw [if_neg (by omega)]

end Cert.Band

end
-- ==== Proof.Band.Tile.lean ====
/-
  One query of the banded attention, as the kernel computes it over tiles of 128 rows and in closed form over the rows
  of its sequence.

  The activations are an array of 65536 rows and 768 columns: 256 columns of queries, 256 of keys, 256 of values, four
  heads of 64 columns in each. `Data` is that array as real numbers, indexed by naturals.
-/
module

public import proofs.«01_k».proof.Proof.Band.Softmax
public import Idealize.ShloMosaic.Lib.WordCmp

@[expose] public section

noncomputable section

open Idealize.ShloMosaic

namespace Cert.Band

/-- The activations' array over the extended reals. -/
abbrev Acts := (⟨2, ![65536, 768]⟩ : Shape).Idx → EReal

/-- An activation as a real number, zero outside the array. -/
def data (A : Acts) (r c : ℕ) : ℝ := if h : r < 65536 ∧ c < 768 then (A (ix2 ⟨r, h.1⟩ ⟨c, h.2⟩)).toReal else 0

/-- Where no entry is infinite, an entry is its real number. -/
theorem eq_data (A : Acts) (hA : ∀ i, A i ≠ ⊤ ∧ A i ≠ ⊥) (r : Fin 65536) (c : Fin 768) :
    A (ix2 r c) = ((data A r.val c.val : ℝ) : EReal) := by
  unfold data
  rw [dif_pos ⟨r.isLt, c.isLt⟩]
  exact (EReal.coe_toReal (hA _).1 (hA _).2).symm

/-- The score of query row `t` against key row `b` in head `h`. -/
def dotp (X : ℕ → ℕ → ℝ) (h t b : ℕ) : ℝ := ∑ c : Fin 64, X b (256 + (64 * h + c.val)) * X t (64 * h + c.val)

/-- Minus infinity as the programs write it. -/
theorem ninf : Ideal.ofBits .f32 0xFF800000#32 = (⊥ : EReal) := by
  simp [Ideal.ofBits, Ideal.ieee]

theorem sle_iff {a b : ℕ} (ha : a < 2 ^ 31) (hb : b < 2 ^ 31) :
    IntOp.cmpi .sle (BitVec.ofNat 32 a) (BitVec.ofNat 32 b) = BitVec.ofBool (decide (a ≤ b)) := by
  show BitVec.ofBool (BitVec.sle (BitVec.ofNat 32 a) (BitVec.ofNat 32 b)) = _
  congr 1
  rw [Bool.eq_iff_iff]
  simp only [BitVec.sle, decide_eq_true_eq]
  have e : ∀ n : ℕ, n < 2 ^ 31 → (BitVec.ofNat 32 n).toInt = (n : ℤ) := fun n hn => by
    rw [BitVec.toInt_eq_toNat_of_lt (by rw [BitVec.toNat_ofNat]; omega), BitVec.toNat_ofNat, Nat.mod_eq_of_lt (by omega)]
  rw [e a ha, e b hb]
  omega

theorem sge_iff {a b : ℕ} (ha : a < 2 ^ 31) (hb : b < 2 ^ 31) :
    IntOp.cmpi .sge (BitVec.ofNat 32 a) (BitVec.ofNat 32 b) = BitVec.ofBool (decide (b ≤ a)) := by
  rw [← sle_iff hb ha]; rfl

/-- A condition's word picks the first operand where the condition holds. -/
theorem select_ofBool {α : Type} (p : Prop) [Decidable p] (x y : α) :
    Scalar.select (BitVec.ofBool (decide p)) x y = if p then x else y := by
  by_cases h : p <;> simp [Scalar.select, h]

/-- Adding zero where a condition holds and minus infinity elsewhere masks a real score by the condition. -/
theorem add_bias (p : Prop) [Decidable p] (x : ℝ) :
    (x : EReal) + Scalar.select (BitVec.ofBool (decide p)) 0 (Ideal.ofBits .f32 0xFF800000#32) = masked p x := by
  rw [select_ofBool, ninf]
  unfold masked
  split
  · exact add_zero _
  · exact EReal.add_bot _

/-! ### The kernel's formulas on tiles of queries, keys and values -/

/-- A tile of 128 rows of four heads. -/
abbrev Tile := (⟨2, ![128, 256]⟩ : Shape).Idx → EReal

/-- The score of query `r` against key `x` in head `h`. -/
def score (q k : Tile) (h : Fin 4) (r x : Fin 128) : EReal :=
  ∑ c : Fin 64, k (ix2 x ⟨64 * h.val + c.val, by omega⟩) * q (ix2 r ⟨64 * h.val + c.val, by omega⟩)

/-- The score with the bias of the query's own tile: only keys up to the query. -/
def cur (q k : Tile) (h : Fin 4) (r x : Fin 128) : EReal :=
  score q k h r x + Scalar.select (IntOp.cmpi .sle (BitVec.ofNat 32 x.val) (BitVec.ofNat 32 r.val)) 0 (Ideal.ofBits .f32 0xFF800000#32)

/-- The score with the bias of the tile before: only keys from the query's place on. -/
def prev (q k : Tile) (h : Fin 4) (r x : Fin 128) : EReal :=
  score q k h r x + Scalar.select (IntOp.cmpi .sge (BitVec.ofNat 32 x.val) (BitVec.ofNat 32 r.val)) 0 (Ideal.ofBits .f32 0xFF800000#32)

/-- The attention's result where there is no tile before. -/
def outFirst (q k v : Tile) (h : Fin 4) (r : Fin 128) (j : Fin 256) : EReal :=
  Ideal.div
    (∑ x, v (ix2 x j) * Ideal.exp (cur q k h r x - Finset.univ.fold max (Ideal.ofBits .f32 0xFF800000#32) fun x => cur q k h r x))
    (∑ x, Ideal.exp (cur q k h r x - Finset.univ.fold max (Ideal.ofBits .f32 0xFF800000#32) fun x => cur q k h r x))

/-- Its log-sum-exp. -/
def lseFirst (q k : Tile) (h : Fin 4) (r : Fin 128) : EReal :=
  (Finset.univ.fold max (Ideal.ofBits .f32 0xFF800000#32) fun x => cur q k h r x)
    + Ideal.log (∑ x, Ideal.exp (cur q k h r x - Finset.univ.fold max (Ideal.ofBits .f32 0xFF800000#32) fun x => cur q k h r x))

/-- The larger of the two tiles' row maxima. -/
def topNext (q k kp : Tile) (h : Fin 4) (r : Fin 128) : EReal :=
  max (Finset.univ.fold max (Ideal.ofBits .f32 0xFF800000#32) fun x => cur q k h r x)
    (Finset.univ.fold max (Ideal.ofBits .f32 0xFF800000#32) fun x => prev q kp h r x)

/-- The attention's result from the query's tile and the tile before. -/
def outNext (q k v kp vp : Tile) (h : Fin 4) (r : Fin 128) (j : Fin 256) : EReal :=
  Ideal.div
    (∑ x, v (ix2 x j) * Ideal.exp (cur q k h r x - topNext q k kp h r)
      + ∑ x, vp (ix2 x j) * Ideal.exp (prev q kp h r x - topNext q k kp h r))
    (∑ x, Ideal.exp (cur q k h r x - topNext q k kp h r) + ∑ x, Ideal.exp (prev q kp h r x - topNext q k kp h r))

/-- Its log-sum-exp. -/
def lseNext (q k kp : Tile) (h : Fin 4) (r : Fin 128) : EReal :=
  topNext q k kp h r
    + Ideal.log (∑ x, Ideal.exp (cur q k h r x - topNext q k kp h r) + ∑ x, Ideal.exp (prev q kp h r x - topNext q k kp h r))

/-! ### The tiles of an array -/

/-- Rows `128 g …` of the array, columns `256 p …`: the queries (`p = 0`), keys (`1`) and values (`2`) of tile `g`. -/
def tileOf (A : Acts) (p : Fin 3) (g : Fin 512) : Tile := fun i =>
  A (ix2 ⟨128 * g.val + (i 0).val, by have h : (i 0).val < 128 := (i 0).isLt; omega⟩
    ⟨256 * p.val + (i 1).val, by have h : (i 1).val < 256 := (i 1).isLt; omega⟩)

section Closed

variable (A : Acts) (hA : ∀ i, A i ≠ ⊤ ∧ A i ≠ ⊥)
include hA

theorem tileOf_eq (p : Fin 3) (g : Fin 512) (r : Fin 128) (c : Fin 256) :
    tileOf A p g (ix2 r c) = ((data A (128 * g.val + r.val) (256 * p.val + c.val) : ℝ) : EReal) :=
  eq_data A hA _ _

theorem score_eq (g g' : Fin 512) (h : Fin 4) (r x : Fin 128) :
    score (tileOf A 0 g) (tileOf A 1 g') h r x
      = ((dotp (data A) h.val (128 * g.val + r.val) (128 * g'.val + x.val) : ℝ) : EReal) := by
  unfold score dotp
  rw [coe_sum]
  refine Finset.sum_congr rfl fun c _ => ?_
  rw [tileOf_eq A hA, tileOf_eq A hA, ← EReal.coe_mul]
  simp

theorem cur_eq (g g' : Fin 512) (h : Fin 4) (r x : Fin 128) :
    cur (tileOf A 0 g) (tileOf A 1 g') h r x
      = masked (x.val ≤ r.val) (dotp (data A) h.val (128 * g.val + r.val) (128 * g'.val + x.val)) := by
  unfold cur
  rw [score_eq A hA, sle_iff (by omega) (by omega), add_bias]

theorem prev_eq (g g' : Fin 512) (h : Fin 4) (r x : Fin 128) :
    prev (tileOf A 0 g) (tileOf A 1 g') h r x
      = masked (r.val ≤ x.val) (dotp (data A) h.val (128 * g.val + r.val) (128 * g'.val + x.val)) := by
  unfold prev
  rw [score_eq A hA, sge_iff (by omega) (by omega), add_bias]

end Closed

/-! ### The closed form over the rows of a sequence -/

/-- The sum of `f` over the rows of a sequence (`M` rows from row `base` on) that the query at position `q` sees. -/
def seen (M base q : ℕ) (f : ℕ → ℝ) : ℝ := ∑ k ∈ Finset.range M, if k ≤ q ∧ q ≤ k + 128 then f (base + k) else 0

/-- The sum of the exponentials of the scores a query sees. -/
def total (X : ℕ → ℕ → ℝ) (M base q h : ℕ) : ℝ := seen M base q fun b => Real.exp (dotp X h (base + q) b)

/-- The same sum, weighted by column `j` of the values. -/
def weighted (X : ℕ → ℕ → ℝ) (M base q h j : ℕ) : ℝ :=
  seen M base q fun b => Real.exp (dotp X h (base + q) b) * X b (512 + j)

theorem weight_ite (p : Prop) [Decidable p] (x : ℝ) : weight p x = if p then Real.exp x else 0 := rfl

theorem weight_mul (p : Prop) [Decidable p] (x v : ℝ) : weight p x * v = if p then Real.exp x * v else 0 := by
  unfold weight; split <;> simp

/-- A sum over `Fin n` as a sum over a range. -/
theorem fin_range (n : ℕ) (f : ℕ → ℝ) : ∑ k : Fin n, f k.val = ∑ k ∈ Finset.range n, f k := (Finset.sum_range f).symm

/-- A query in a sequence's first tile sees the rows of its tile up to itself. -/
theorem seen_first (M base q : ℕ) (hq : q < 128) (hM : 128 ≤ M) (f : ℕ → ℝ) :
    seen M base q f = ∑ x : Fin 128, if x.val ≤ q then f (base + x.val) else 0 := by
  rw [fin_range 128 fun k => if k ≤ q then f (base + k) else 0]
  exact window_sum_first M q hq hM fun k => f (base + k)

/-- A query in a later tile sees the rows of its tile up to itself and those of the tile before from its place on. -/
theorem seen_next (M base q a r : ℕ) (hq : q = (a + 1) * 128 + r) (hr : r < 128) (hM : q < M) (hd : 128 ∣ M) (f : ℕ → ℝ) :
    seen M base q f = (∑ x : Fin 128, if x.val ≤ r then f (base + (a + 1) * 128 + x.val) else 0)
      + ∑ x : Fin 128, if r ≤ x.val then f (base + a * 128 + x.val) else 0 := by
  rw [fin_range 128 fun k => if k ≤ r then f (base + (a + 1) * 128 + k) else 0,
    fin_range 128 fun k => if r ≤ k then f (base + a * 128 + k) else 0]
  refine (window_sum M a q r hq hr hM hd fun k => f (base + k)).trans ?_
  simp only [Nat.add_assoc]

section Values

variable (A : Acts) (hA : ∀ i, A i ≠ ⊤ ∧ A i ≠ ⊥)
include hA

/-- Tile `g` is the first of its sequence: the kernel's result is the closed form. -/
theorem outFirst_eq (g : Fin 512) (M base : ℕ) (hb : base = 128 * g.val) (hM : 128 ≤ M) (h : Fin 4) (r : Fin 128) (j : Fin 256) :
    outFirst (tileOf A 0 g) (tileOf A 1 g) (tileOf A 2 g) h r j
      = ((weighted (data A) M base r.val h.val j.val / total (data A) M base r.val h.val : ℝ) : EReal) := by
  subst hb
  unfold outFirst
  simp only [cur_eq A hA, tileOf_eq A hA, ninf]
  rw [attend_tile (fun x : Fin 128 => x.val ≤ r.val) _ _ r (le_refl _)]
  unfold weighted total
  rw [seen_first _ _ _ r.isLt hM, seen_first _ _ _ r.isLt hM]
  simp only [weight_mul]
  simp only [weight_ite]
  rfl

theorem lseFirst_eq (g : Fin 512) (M base : ℕ) (hb : base = 128 * g.val) (hM : 128 ≤ M) (h : Fin 4) (r : Fin 128) :
    lseFirst (tileOf A 0 g) (tileOf A 1 g) h r = (Real.log (total (data A) M base r.val h.val) : EReal) := by
  subst hb
  unfold lseFirst
  simp only [cur_eq A hA, ninf]
  rw [lse_tile (fun x : Fin 128 => x.val ≤ r.val) _ r (le_refl _)]
  unfold total
  rw [seen_first _ _ _ r.isLt hM]
  simp only [weight_ite]

/-- Tile `g` has tile `g'` before it in its sequence: the kernel's result is the closed form. -/
theorem outNext_eq (g g' : Fin 512) (M base a : ℕ) (hg : 128 * g.val = base + (a + 1) * 128) (hg' : 128 * g'.val = base + a * 128)
    (hM : (a + 2) * 128 ≤ M) (hd : 128 ∣ M) (h : Fin 4) (r : Fin 128) (j : Fin 256) :
    outNext (tileOf A 0 g) (tileOf A 1 g) (tileOf A 2 g) (tileOf A 1 g') (tileOf A 2 g') h r j
      = ((weighted (data A) M base ((a + 1) * 128 + r.val) h.val j.val / total (data A) M base ((a + 1) * 128 + r.val) h.val : ℝ) : EReal) := by
  unfold outNext topNext
  simp only [cur_eq A hA, prev_eq A hA, tileOf_eq A hA, ninf]
  have e := attend_tiles (fun x : Fin 128 => x.val ≤ r.val) (fun x : Fin 128 => r.val ≤ x.val)
    (fun x => dotp (data A) h.val (128 * g.val + r.val) (128 * g.val + x.val))
    (fun x => dotp (data A) h.val (128 * g.val + r.val) (128 * g'.val + x.val))
    (fun x => data A (128 * g.val + x.val) (256 * (2 : Fin 3).val + j.val))
    (fun x => data A (128 * g'.val + x.val) (256 * (2 : Fin 3).val + j.val)) r (le_refl _)
  unfold mass top at e
  refine e.trans ?_
  unfold weighted total
  rw [seen_next M base _ a r.val rfl r.isLt (by omega) hd, seen_next M base _ a r.val rfl r.isLt (by omega) hd]
  simp only [weight_mul]
  simp only [weight_ite, hg, hg', Nat.add_assoc]
  rfl

theorem lseNext_eq (g g' : Fin 512) (M base a : ℕ) (hg : 128 * g.val = base + (a + 1) * 128) (hg' : 128 * g'.val = base + a * 128)
    (hM : (a + 2) * 128 ≤ M) (hd : 128 ∣ M) (h : Fin 4) (r : Fin 128) :
    lseNext (tileOf A 0 g) (tileOf A 1 g) (tileOf A 1 g') h r
      = (Real.log (total (data A) M base ((a + 1) * 128 + r.val) h.val) : EReal) := by
  unfold lseNext topNext
  simp only [cur_eq A hA, prev_eq A hA, ninf]
  have e := lse_tiles (fun x : Fin 128 => x.val ≤ r.val) (fun x : Fin 128 => r.val ≤ x.val)
    (fun x => dotp (data A) h.val (128 * g.val + r.val) (128 * g.val + x.val))
    (fun x => dotp (data A) h.val (128 * g.val + r.val) (128 * g'.val + x.val)) r (le_refl _)
  unfold mass top at e
  refine e.trans ?_
  unfold total
  rw [seen_next M base _ a r.val rfl r.isLt (by omega) hd]
  simp only [weight_ite, hg, hg', Nat.add_assoc]

/-- The program over all rows of a sequence: masked scores, their log-sum-exp, the weighted values. -/
theorem lse_dense (M : ℕ) (base q h : ℕ) (hq : q < M) (s : Fin M → EReal)
    (hs : ∀ k, s k = masked (k.val ≤ q ∧ q ≤ k.val + 128) (dotp (data A) h (base + q) (base + k.val))) :
    lse s = (Real.log (total (data A) M base q h) : EReal) := by
  rw [show s = fun k => masked (k.val ≤ q ∧ q ≤ k.val + 128) (dotp (data A) h (base + q) (base + k.val)) from funext hs,
    lse_masked (fun k : Fin M => k.val ≤ q ∧ q ≤ k.val + 128) _ ⟨q, hq⟩ ⟨le_refl _, Nat.le_add_right _ _⟩]
  unfold total seen
  simp only [weight_ite]
  rw [fin_range M fun k => if k ≤ q ∧ q ≤ k + 128 then Real.exp (dotp (data A) h (base + q) (base + k)) else 0]

theorem attend_dense (M : ℕ) (base q h j : ℕ) (hq : q < M) (s v : Fin M → EReal)
    (hs : ∀ k, s k = masked (k.val ≤ q ∧ q ≤ k.val + 128) (dotp (data A) h (base + q) (base + k.val)))
    (hv : ∀ k, v k = ((data A (base + k.val) (512 + j) : ℝ) : EReal)) :
    ∑ k, v k * Ideal.exp (s k - lse s) = ((weighted (data A) M base q h j / total (data A) M base q h : ℝ) : EReal) := by
  rw [show s = fun k => masked (k.val ≤ q ∧ q ≤ k.val + 128) (dotp (data A) h (base + q) (base + k.val)) from funext hs,
    show v = fun k => ((data A (base + k.val) (512 + j) : ℝ) : EReal) from funext hv]
  rw [Finset.sum_congr rfl fun k _ => mul_comm _ _]
  rw [attend_masked (fun k : Fin M => k.val ≤ q ∧ q ≤ k.val + 128) _ _ ⟨q, hq⟩ ⟨le_refl _, Nat.le_add_right _ _⟩]
  unfold weighted total seen
  simp only [weight_mul]
  simp only [weight_ite]
  rw [fin_range M fun k => if k ≤ q ∧ q ≤ k + 128 then Real.exp (dotp (data A) h (base + q) (base + k)) * data A (base + k) (512 + j) else 0,
    fin_range M fun k => if k ≤ q ∧ q ≤ k + 128 then Real.exp (dotp (data A) h (base + q) (base + k)) else 0]

end Values

end Cert.Band

end
-- ==== Proof.Band.Block.lean ====
/-
  The tiles of a block: a block has 1024 rows, eight tiles of 128 rows, and a grid point works on one block.
-/
module

public import proofs.«01_k».proof.Proof.Band.Tile
public import Idealize.ShloMosaic.Lib.Pipeline.ReadBack
public import Idealize.ShloMosaic.Lib.Pipeline.ValueKit

@[expose] public section

noncomputable section

open Idealize.ShloMosaic

namespace Cert.Band

/-- A block of 1024 rows of the activations. -/
abbrev Blk := (⟨2, ![1024, 768]⟩ : Shape).Idx → EReal

/-- Tile `u` of a block: its queries (`p = 0`), keys (`1`) or values (`2`). -/
def blkTile (x : Blk) (p : Fin 3) (u : Fin 8) : Tile := fun i =>
  x (ix2 ⟨128 * u.val + (i 0).val, by have h : (i 0).val < 128 := (i 0).isLt; omega⟩
    ⟨256 * p.val + (i 1).val, by have h : (i 1).val < 256 := (i 1).isLt; omega⟩)

/-- The part of one tile of rows (the halo: 128 rows) that holds its keys (`p = 1`) or values (`2`). -/
def haloTile (x : (⟨2, ![128, 768]⟩ : Shape).Idx → EReal) (p : Fin 3) : Tile := fun i =>
  x (ix2 ⟨(i 0).val, (i 0).isLt⟩ ⟨256 * p.val + (i 1).val, by have h : (i 1).val < 256 := (i 1).isLt; omega⟩)

/-- Reading 128 rows and 256 columns of a block at a tile's offsets gives the tile. -/
theorem ld_blk (x : Vec Ideal ⟨2, ![1024, 768]⟩ .bf16) (p : Fin 3) (u : Fin 8) (a b : ℕ) (ha : a = 128 * u.val) (hb : b = 256 * p.val)
    (inb : ∀ i, (![a, b] : Fin 2 → ℕ) i + (⟨2, ![128, 256]⟩ : Shape).size i ≤ (⟨2, ![1024, 768]⟩ : Shape).size i) :
    View.ld x (Rect.unit (s := ⟨2, ![1024, 768]⟩) ![a, b] (⟨2, ![128, 256]⟩ : Shape).size inb) = blkTile x p u := by
  subst ha hb
  funext i
  rw [View.ld_apply]
  unfold blkTile
  congr 1
  funext a
  apply Fin.ext
  match a with
  | 0 => simp
  | 1 => simp

/-- Reading 128 rows and 256 columns of the halo gives its keys or values. -/
theorem ld_halo (x : Vec Ideal ⟨2, ![128, 768]⟩ .bf16) (p : Fin 3) (b : ℕ) (hb : b = 256 * p.val)
    (inb : ∀ i, (![0, b] : Fin 2 → ℕ) i + (⟨2, ![128, 256]⟩ : Shape).size i ≤ (⟨2, ![128, 768]⟩ : Shape).size i) :
    View.ld x (Rect.unit (s := ⟨2, ![128, 768]⟩) ![0, b] (⟨2, ![128, 256]⟩ : Shape).size inb) = haloTile x p := by
  subst hb
  funext i
  rw [View.ld_apply]
  unfold haloTile
  congr 1
  funext a
  apply Fin.ext
  match a with
  | 0 => simp
  | 1 => simp

/-- A block of attention results, given tile by tile, head by head. -/
def blkOut (f : Fin 8 → Fin 4 → Fin 128 → Fin 256 → EReal) (i : (⟨2, ![1024, 256]⟩ : Shape).Idx) : EReal :=
  f ⟨(i 0).val / 128, by have h : (i 0).val < 1024 := (i 0).isLt; omega⟩
    ⟨(i 1).val / 64, by have h : (i 1).val < 256 := (i 1).isLt; omega⟩ ⟨(i 0).val % 128, by omega⟩ (i 1)

/-- A block of log-sum-exps: the four heads' in the first four columns, zeros after them. -/
def blkLse (f : Fin 8 → Fin 4 → Fin 128 → EReal) (i : (⟨2, ![1024, 128]⟩ : Shape).Idx) : EReal :=
  if h : (i 1).val < 4 then
    f ⟨(i 0).val / 128, by have h : (i 0).val < 1024 := (i 0).isLt; omega⟩ ⟨(i 1).val, h⟩ ⟨(i 0).val % 128, by omega⟩
  else 0

theorem blkOut_at (f : Fin 8 → Fin 4 → Fin 128 → Fin 256 → EReal) (u : Fin 8) (r : Fin 128) (j : Fin 256) (h : Fin 4)
    (hh : h.val = j.val / 64) (i : (⟨2, ![1024, 256]⟩ : Shape).Idx) (h0 : (i 0).val = 128 * u.val + r.val)
    (h1 : (i 1).val = j.val) : blkOut f i = f u h r j := by
  unfold blkOut
  have e1 : (⟨(i 0).val / 128, by have h : (i 0).val < 1024 := (i 0).isLt; omega⟩ : Fin 8) = u := Fin.ext (by simp only; omega)
  have e2 : (⟨(i 0).val % 128, by omega⟩ : Fin 128) = r := Fin.ext (by simp only; omega)
  have e3 : (⟨(i 1).val / 64, by have h : (i 1).val < 256 := (i 1).isLt; omega⟩ : Fin 4) = h := Fin.ext (by simp only; omega)
  have e4 : i 1 = j := Fin.ext h1
  rw [e1, e2, e3, e4]

theorem blkLse_at (f : Fin 8 → Fin 4 → Fin 128 → EReal) (u : Fin 8) (r j : Fin 128)
    (i : (⟨2, ![1024, 128]⟩ : Shape).Idx) (h0 : (i 0).val = 128 * u.val + r.val) (h1 : (i 1).val = j.val) :
    blkLse f i = if h : j.val < 4 then f u ⟨j.val, h⟩ r else 0 := by
  unfold blkLse
  have e1 : (⟨(i 0).val / 128, by have h : (i 0).val < 1024 := (i 0).isLt; omega⟩ : Fin 8) = u := Fin.ext (by simp only; omega)
  have e2 : (⟨(i 0).val % 128, by omega⟩ : Fin 128) = r := Fin.ext (by simp only; omega)
  simp only [e1, e2, h1]

/-! ### The keys before a tile under a flag -/

/-- The score with the bias of the tile before, and minus infinity throughout where the flag is down. -/
def prevIf (w : BitVec 1) (q k : Tile) (h : Fin 4) (r x : Fin 128) : EReal :=
  score q k h r x + Scalar.select w (Scalar.select (IntOp.cmpi .sge (BitVec.ofNat 32 x.val) (BitVec.ofNat 32 r.val)) 0
    (Ideal.ofBits .f32 0xFF800000#32)) (Ideal.ofBits .f32 0xFF800000#32)

/-- The larger of the two row maxima. -/
def topIf (w : BitVec 1) (q k kp : Tile) (h : Fin 4) (r : Fin 128) : EReal :=
  max (Finset.univ.fold max (Ideal.ofBits .f32 0xFF800000#32) fun x => cur q k h r x)
    (Finset.univ.fold max (Ideal.ofBits .f32 0xFF800000#32) fun x => prevIf w q kp h r x)

/-- The attention's result from the query's tile and, where the flag is up, the tile before. -/
def outIf (w : BitVec 1) (q k v kp vp : Tile) (h : Fin 4) (r : Fin 128) (j : Fin 256) : EReal :=
  Ideal.div
    (∑ x, v (ix2 x j) * Ideal.exp (cur q k h r x - topIf w q k kp h r)
      + ∑ x, vp (ix2 x j) * Ideal.exp (prevIf w q kp h r x - topIf w q k kp h r))
    (∑ x, Ideal.exp (cur q k h r x - topIf w q k kp h r) + ∑ x, Ideal.exp (prevIf w q kp h r x - topIf w q k kp h r))

/-- Its log-sum-exp. -/
def lseIf (w : BitVec 1) (q k kp : Tile) (h : Fin 4) (r : Fin 128) : EReal :=
  topIf w q k kp h r
    + Ideal.log (∑ x, Ideal.exp (cur q k h r x - topIf w q k kp h r) + ∑ x, Ideal.exp (prevIf w q kp h r x - topIf w q k kp h r))

theorem prevIf_up (q k : Tile) (h : Fin 4) (r x : Fin 128) : prevIf 1#1 q k h r x = prev q k h r x := rfl

theorem prevIf_down (q k : Tile) (h : Fin 4) (r x : Fin 128) : prevIf 0#1 q k h r x = ⊥ := by
  unfold prevIf
  show _ + Ideal.ofBits .f32 0xFF800000#32 = _
  rw [ninf, EReal.add_bot]

theorem outIf_up (q k v kp vp : Tile) (h : Fin 4) (r : Fin 128) (j : Fin 256) :
    outIf 1#1 q k v kp vp h r j = outNext q k v kp vp h r j := rfl

theorem lseIf_up (q k kp : Tile) (h : Fin 4) (r : Fin 128) : lseIf 1#1 q k kp h r = lseNext q k kp h r := rfl

theorem topIf_down (q k kp : Tile) (h : Fin 4) (r : Fin 128) :
    topIf 0#1 q k kp h r = Finset.univ.fold max (Ideal.ofBits .f32 0xFF800000#32) fun x => cur q k h r x := by
  unfold topIf
  simp only [prevIf_down, ninf]
  exact max_eq_left ((Finset.fold_max_le _).2 ⟨bot_le, fun _ _ => bot_le⟩)

theorem exp_bot_sub (y : EReal) : Ideal.exp (⊥ - y) = 0 := by
  rw [EReal.bot_sub]; rfl

theorem outIf_down (q k v kp vp : Tile) (h : Fin 4) (r : Fin 128) (j : Fin 256) :
    outIf 0#1 q k v kp vp h r j = outFirst q k v h r j := by
  unfold outIf outFirst
  simp only [prevIf_down, topIf_down, exp_bot_sub, mul_zero, Finset.sum_const_zero, add_zero]

theorem lseIf_down (q k kp : Tile) (h : Fin 4) (r : Fin 128) : lseIf 0#1 q k kp h r = lseFirst q k h r := by
  unfold lseIf lseFirst
  simp only [prevIf_down, topIf_down, exp_bot_sub, Finset.sum_const_zero, add_zero]

/-! ### Four heads side by side -/

/-- A value that holds in each of four stretches of 64 columns. -/
theorem ladder {α : Type} (n : ℕ) (hn : n < 256) (z : α) (a : n < 64 → α) (b : ¬ n < 64 → n - 64 < 64 → α)
    (c : ¬ n < 64 → ¬ n - 64 < 64 → n - 64 - 64 < 64 → α) (d : ¬ n < 64 → ¬ n - 64 < 64 → ¬ n - 64 - 64 < 64 → α)
    (ha : ∀ g1, n / 64 = 0 → a g1 = z) (hb : ∀ g1 g2, n / 64 = 1 → 64 + (n - 64) = n → b g1 g2 = z)
    (hc : ∀ g1 g2 g3, n / 64 = 2 → 128 + (n - 64 - 64) = n → c g1 g2 g3 = z)
    (hd : ∀ g1 g2 g3, n / 64 = 3 → 192 + (n - 64 - 64 - 64) = n → d g1 g2 g3 = z) :
    (if g1 : n < 64 then a g1 else if g2 : n - 64 < 64 then b g1 g2 else if g3 : n - 64 - 64 < 64 then c g1 g2 g3 else d g1 g2 g3) = z := by
  by_cases g1 : n < 64
  · rw [dif_pos g1]; exact ha _ (by omega)
  · rw [dif_neg g1]
    by_cases g2 : n - 64 < 64
    · rw [dif_pos g2]; exact hb _ _ (by omega) (by omega)
    · rw [dif_neg g2]
      by_cases g3 : n - 64 - 64 < 64
      · rw [dif_pos g3]; exact hc _ _ _ (by omega) (by omega)
      · rw [dif_neg g3]; exact hd _ _ _ (by omega) (by omega)

/-- The same for four single columns before others that hold zero. -/
theorem steps (n : ℕ) (z : (n < 4) → EReal) (a : n < 1 → EReal) (b : ¬ n < 1 → n - 1 < 1 → EReal)
    (c : ¬ n < 1 → ¬ n - 1 < 1 → n - 1 - 1 < 1 → EReal) (d : ¬ n < 1 → ¬ n - 1 < 1 → ¬ n - 1 - 1 < 1 → n - 1 - 1 - 1 < 1 → EReal)
    (ha : ∀ g1, ∀ h : n < 4, n = 0 → a g1 = z h) (hb : ∀ g1 g2, ∀ h : n < 4, n = 1 → b g1 g2 = z h)
    (hc : ∀ g1 g2 g3, ∀ h : n < 4, n = 2 → c g1 g2 g3 = z h)
    (hd : ∀ g1 g2 g3 g4, ∀ h : n < 4, n = 3 → d g1 g2 g3 g4 = z h) :
    (if g1 : n < 1 then a g1 else if g2 : n - 1 < 1 then b g1 g2 else if g3 : n - 1 - 1 < 1 then c g1 g2 g3
      else if g4 : n - 1 - 1 - 1 < 1 then d g1 g2 g3 g4 else 0) = if h : n < 4 then z h else 0 := by
  by_cases g1 : n < 1
  · rw [dif_pos g1, dif_pos (by omega)]; exact ha _ (by omega) (by omega)
  · rw [dif_neg g1]
    by_cases g2 : n - 1 < 1
    · rw [dif_pos g2, dif_pos (by omega)]; exact hb _ _ (by omega) (by omega)
    · rw [dif_neg g2]
      by_cases g3 : n - 1 - 1 < 1
      · rw [dif_pos g3, dif_pos (by omega)]; exact hc _ _ _ (by omega) (by omega)
      · rw [dif_neg g3]
        by_cases g4 : n - 1 - 1 - 1 < 1
        · rw [dif_pos g4, dif_pos (by omega)]; exact hd _ _ _ _ (by omega) (by omega)
        · rw [dif_neg g4, dif_neg (by omega)]

/-! The kernel's formulas, spelled with a head's first column `o`. -/

theorem outFirst_from (q k v : Tile) (h : Fin 4) (r : Fin 128) (j : Fin 256) (o : ℕ) (ho : h.val = o / 64) (ho' : o = 64 * (o / 64)) (ob : o ≤ 192)
    (j' : ℕ) (hj : j' = j.val) :
    Ideal.div
      (∑ x : Fin 128, v (ix2 x ⟨j', by omega⟩) * Ideal.exp (∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32)
          - (Finset.univ.fold max (Ideal.ofBits .f32 0xFF800000#32) fun x : Fin 128 =>
            ∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32))))
      (∑ x : Fin 128, Ideal.exp (∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32)
          - (Finset.univ.fold max (Ideal.ofBits .f32 0xFF800000#32) fun x : Fin 128 =>
            ∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32))))
      = outFirst q k v h r j := by
  obtain rfl : o = 64 * h.val := by omega
  subst hj
  rfl

theorem lseFirst_from (q k : Tile) (h : Fin 4) (r : Fin 128) (o : ℕ) (ho : h.val = o / 64) (ho' : o = 64 * (o / 64)) (ob : o ≤ 192) :
    (Finset.univ.fold max (Ideal.ofBits .f32 0xFF800000#32) fun x : Fin 128 =>
            ∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32))
      + Ideal.log (∑ x : Fin 128, Ideal.exp (∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32)
          - (Finset.univ.fold max (Ideal.ofBits .f32 0xFF800000#32) fun x : Fin 128 =>
            ∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32))))
      = lseFirst q k h r := by
  obtain rfl : o = 64 * h.val := by omega
  rfl

theorem outNext_from (q k v kp vp : Tile) (h : Fin 4) (r : Fin 128) (j : Fin 256) (o : ℕ) (ho : h.val = o / 64) (ho' : o = 64 * (o / 64)) (ob : o ≤ 192)
    (j' : ℕ) (hj : j' = j.val) :
    Ideal.div
      (∑ x : Fin 128, v (ix2 x ⟨j', by omega⟩) * Ideal.exp (∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32)
          - (max (Finset.univ.fold max (Ideal.ofBits .f32 0xFF800000#32) fun x : Fin 128 =>
            ∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32))
            (Finset.univ.fold max (Ideal.ofBits .f32 0xFF800000#32) fun x : Fin 128 =>
            ∑ c : Fin 64, kp (ix2 x ⟨o + c.val, by omega⟩) * q (ix2 r ⟨o + c.val, by omega⟩)
            + Scalar.select (IntOp.cmpi .sge (BitVec.ofNat 32 x.val) (BitVec.ofNat 32 r.val)) 0 (Ideal.ofBits .f32 0xFF800000#32))))
        + ∑ x : Fin 128, vp (ix2 x ⟨j', by omega⟩) * Ideal.exp (∑ c : Fin 64, kp (ix2 x ⟨o + c.val, by omega⟩) * q (ix2 r ⟨o + c.val, by omega⟩)
            + Scalar.select (IntOp.cmpi .sge (BitVec.ofNat 32 x.val) (BitVec.ofNat 32 r.val)) 0 (Ideal.ofBits .f32 0xFF800000#32)
          - (max (Finset.univ.fold max (Ideal.ofBits .f32 0xFF800000#32) fun x : Fin 128 =>
            ∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32))
            (Finset.univ.fold max (Ideal.ofBits .f32 0xFF800000#32) fun x : Fin 128 =>
            ∑ c : Fin 64, kp (ix2 x ⟨o + c.val, by omega⟩) * q (ix2 r ⟨o + c.val, by omega⟩)
            + Scalar.select (IntOp.cmpi .sge (BitVec.ofNat 32 x.val) (BitVec.ofNat 32 r.val)) 0 (Ideal.ofBits .f32 0xFF800000#32)))))
      (∑ x : Fin 128, Ideal.exp (∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32)
          - (max (Finset.univ.fold max (Ideal.ofBits .f32 0xFF800000#32) fun x : Fin 128 =>
            ∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32))
            (Finset.univ.fold max (Ideal.ofBits .f32 0xFF800000#32) fun x : Fin 128 =>
            ∑ c : Fin 64, kp (ix2 x ⟨o + c.val, by omega⟩) * q (ix2 r ⟨o + c.val, by omega⟩)
            + Scalar.select (IntOp.cmpi .sge (BitVec.ofNat 32 x.val) (BitVec.ofNat 32 r.val)) 0 (Ideal.ofBits .f32 0xFF800000#32))))
        + ∑ x : Fin 128, Ideal.exp (∑ c : Fin 64, kp (ix2 x ⟨o + c.val, by omega⟩) * q (ix2 r ⟨o + c.val, by omega⟩)
            + Scalar.select (IntOp.cmpi .sge (BitVec.ofNat 32 x.val) (BitVec.ofNat 32 r.val)) 0 (Ideal.ofBits .f32 0xFF800000#32)
          - (max (Finset.univ.fold max (Ideal.ofBits .f32 0xFF800000#32) fun x : Fin 128 =>
            ∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32))
            (Finset.univ.fold max (Ideal.ofBits .f32 0xFF800000#32) fun x : Fin 128 =>
            ∑ c : Fin 64, kp (ix2 x ⟨o + c.val, by omega⟩) * q (ix2 r ⟨o + c.val, by omega⟩)
            + Scalar.select (IntOp.cmpi .sge (BitVec.ofNat 32 x.val) (BitVec.ofNat 32 r.val)) 0 (Ideal.ofBits .f32 0xFF800000#32)))))
      = outNext q k v kp vp h r j := by
  obtain rfl : o = 64 * h.val := by omega
  subst hj
  rfl

theorem lseNext_from (q k kp : Tile) (h : Fin 4) (r : Fin 128) (o : ℕ) (ho : h.val = o / 64) (ho' : o = 64 * (o / 64)) (ob : o ≤ 192) :
    (max (Finset.univ.fold max (Ideal.ofBits .f32 0xFF800000#32) fun x : Fin 128 =>
            ∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32))
            (Finset.univ.fold max (Ideal.ofBits .f32 0xFF800000#32) fun x : Fin 128 =>
            ∑ c : Fin 64, kp (ix2 x ⟨o + c.val, by omega⟩) * q (ix2 r ⟨o + c.val, by omega⟩)
            + Scalar.select (IntOp.cmpi .sge (BitVec.ofNat 32 x.val) (BitVec.ofNat 32 r.val)) 0 (Ideal.ofBits .f32 0xFF800000#32)))
      + Ideal.log (∑ x : Fin 128, Ideal.exp (∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32)
          - (max (Finset.univ.fold max (Ideal.ofBits .f32 0xFF800000#32) fun x : Fin 128 =>
            ∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32))
            (Finset.univ.fold max (Ideal.ofBits .f32 0xFF800000#32) fun x : Fin 128 =>
            ∑ c : Fin 64, kp (ix2 x ⟨o + c.val, by omega⟩) * q (ix2 r ⟨o + c.val, by omega⟩)
            + Scalar.select (IntOp.cmpi .sge (BitVec.ofNat 32 x.val) (BitVec.ofNat 32 r.val)) 0 (Ideal.ofBits .f32 0xFF800000#32))))
        + ∑ x : Fin 128, Ideal.exp (∑ c : Fin 64, kp (ix2 x ⟨o + c.val, by omega⟩) * q (ix2 r ⟨o + c.val, by omega⟩)
            + Scalar.select (IntOp.cmpi .sge (BitVec.ofNat 32 x.val) (BitVec.ofNat 32 r.val)) 0 (Ideal.ofBits .f32 0xFF800000#32)
          - (max (Finset.univ.fold max (Ideal.ofBits .f32 0xFF800000#32) fun x : Fin 128 =>
            ∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32))
            (Finset.univ.fold max (Ideal.ofBits .f32 0xFF800000#32) fun x : Fin 128 =>
            ∑ c : Fin 64, kp (ix2 x ⟨o + c.val, by omega⟩) * q (ix2 r ⟨o + c.val, by omega⟩)
            + Scalar.select (IntOp.cmpi .sge (BitVec.ofNat 32 x.val) (BitVec.ofNat 32 r.val)) 0 (Ideal.ofBits .f32 0xFF800000#32)))))
      = lseNext q k kp h r := by
  obtain rfl : o = 64 * h.val := by omega
  rfl

theorem outIf_from (w : BitVec 1) (q k v kp vp : Tile) (h : Fin 4) (r : Fin 128) (j : Fin 256) (o : ℕ) (ho : h.val = o / 64) (ho' : o = 64 * (o / 64)) (ob : o ≤ 192)
    (j' : ℕ) (hj : j' = j.val) :
    Ideal.div
      (∑ x : Fin 128, v (ix2 x ⟨j', by omega⟩) * Ideal.exp (∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32)
          - (max (Finset.univ.fold max (Ideal.ofBits .f32 0xFF800000#32) fun x : Fin 128 =>
            ∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32))
            (Finset.univ.fold max (Ideal.ofBits .f32 0xFF800000#32) fun x : Fin 128 =>
            ∑ c : Fin 64, kp (ix2 x ⟨o + c.val, by omega⟩) * q (ix2 r ⟨o + c.val, by omega⟩)
            + Scalar.select w (Scalar.select (IntOp.cmpi .sge (BitVec.ofNat 32 x.val) (BitVec.ofNat 32 r.val)) 0 (Ideal.ofBits .f32 0xFF800000#32)) (Ideal.ofBits .f32 0xFF800000#32))))
        + ∑ x : Fin 128, vp (ix2 x ⟨j', by omega⟩) * Ideal.exp (∑ c : Fin 64, kp (ix2 x ⟨o + c.val, by omega⟩) * q (ix2 r ⟨o + c.val, by omega⟩)
            + Scalar.select w (Scalar.select (IntOp.cmpi .sge (BitVec.ofNat 32 x.val) (BitVec.ofNat 32 r.val)) 0 (Ideal.ofBits .f32 0xFF800000#32)) (Ideal.ofBits .f32 0xFF800000#32)
          - (max (Finset.univ.fold max (Ideal.ofBits .f32 0xFF800000#32) fun x : Fin 128 =>
            ∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32))
            (Finset.univ.fold max (Ideal.ofBits .f32 0xFF800000#32) fun x : Fin 128 =>
            ∑ c : Fin 64, kp (ix2 x ⟨o + c.val, by omega⟩) * q (ix2 r ⟨o + c.val, by omega⟩)
            + Scalar.select w (Scalar.select (IntOp.cmpi .sge (BitVec.ofNat 32 x.val) (BitVec.ofNat 32 r.val)) 0 (Ideal.ofBits .f32 0xFF800000#32)) (Ideal.ofBits .f32 0xFF800000#32)))))
      (∑ x : Fin 128, Ideal.exp (∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32)
          - (max (Finset.univ.fold max (Ideal.ofBits .f32 0xFF800000#32) fun x : Fin 128 =>
            ∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32))
            (Finset.univ.fold max (Ideal.ofBits .f32 0xFF800000#32) fun x : Fin 128 =>
            ∑ c : Fin 64, kp (ix2 x ⟨o + c.val, by omega⟩) * q (ix2 r ⟨o + c.val, by omega⟩)
            + Scalar.select w (Scalar.select (IntOp.cmpi .sge (BitVec.ofNat 32 x.val) (BitVec.ofNat 32 r.val)) 0 (Ideal.ofBits .f32 0xFF800000#32)) (Ideal.ofBits .f32 0xFF800000#32))))
        + ∑ x : Fin 128, Ideal.exp (∑ c : Fin 64, kp (ix2 x ⟨o + c.val, by omega⟩) * q (ix2 r ⟨o + c.val, by omega⟩)
            + Scalar.select w (Scalar.select (IntOp.cmpi .sge (BitVec.ofNat 32 x.val) (BitVec.ofNat 32 r.val)) 0 (Ideal.ofBits .f32 0xFF800000#32)) (Ideal.ofBits .f32 0xFF800000#32)
          - (max (Finset.univ.fold max (Ideal.ofBits .f32 0xFF800000#32) fun x : Fin 128 =>
            ∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32))
            (Finset.univ.fold max (Ideal.ofBits .f32 0xFF800000#32) fun x : Fin 128 =>
            ∑ c : Fin 64, kp (ix2 x ⟨o + c.val, by omega⟩) * q (ix2 r ⟨o + c.val, by omega⟩)
            + Scalar.select w (Scalar.select (IntOp.cmpi .sge (BitVec.ofNat 32 x.val) (BitVec.ofNat 32 r.val)) 0 (Ideal.ofBits .f32 0xFF800000#32)) (Ideal.ofBits .f32 0xFF800000#32)))))
      = outIf w q k v kp vp h r j := by
  obtain rfl : o = 64 * h.val := by omega
  subst hj
  rfl

theorem lseIf_from (w : BitVec 1) (q k kp : Tile) (h : Fin 4) (r : Fin 128) (o : ℕ) (ho : h.val = o / 64) (ho' : o = 64 * (o / 64)) (ob : o ≤ 192) :
    (max (Finset.univ.fold max (Ideal.ofBits .f32 0xFF800000#32) fun x : Fin 128 =>
            ∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32))
            (Finset.univ.fold max (Ideal.ofBits .f32 0xFF800000#32) fun x : Fin 128 =>
            ∑ c : Fin 64, kp (ix2 x ⟨o + c.val, by omega⟩) * q (ix2 r ⟨o + c.val, by omega⟩)
            + Scalar.select w (Scalar.select (IntOp.cmpi .sge (BitVec.ofNat 32 x.val) (BitVec.ofNat 32 r.val)) 0 (Ideal.ofBits .f32 0xFF800000#32)) (Ideal.ofBits .f32 0xFF800000#32)))
      + Ideal.log (∑ x : Fin 128, Ideal.exp (∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32)
          - (max (Finset.univ.fold max (Ideal.ofBits .f32 0xFF800000#32) fun x : Fin 128 =>
            ∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32))
            (Finset.univ.fold max (Ideal.ofBits .f32 0xFF800000#32) fun x : Fin 128 =>
            ∑ c : Fin 64, kp (ix2 x ⟨o + c.val, by omega⟩) * q (ix2 r ⟨o + c.val, by omega⟩)
            + Scalar.select w (Scalar.select (IntOp.cmpi .sge (BitVec.ofNat 32 x.val) (BitVec.ofNat 32 r.val)) 0 (Ideal.ofBits .f32 0xFF800000#32)) (Ideal.ofBits .f32 0xFF800000#32))))
        + ∑ x : Fin 128, Ideal.exp (∑ c : Fin 64, kp (ix2 x ⟨o + c.val, by omega⟩) * q (ix2 r ⟨o + c.val, by omega⟩)
            + Scalar.select w (Scalar.select (IntOp.cmpi .sge (BitVec.ofNat 32 x.val) (BitVec.ofNat 32 r.val)) 0 (Ideal.ofBits .f32 0xFF800000#32)) (Ideal.ofBits .f32 0xFF800000#32)
          - (max (Finset.univ.fold max (Ideal.ofBits .f32 0xFF800000#32) fun x : Fin 128 =>
            ∑ c : Fin 64, k (ix2 x ⟨o + c.val, by omega⟩) * q (ix2 r ⟨o + c.val, by omega⟩)
            + Scalar.select (IntOp.cmpi .sle (BitVec.ofNat 32 x.val) (BitVec.ofNat 32 r.val)) 0 (Ideal.ofBits .f32 0xFF800000#32))
            (Finset.univ.fold max (Ideal.ofBits .f32 0xFF800000#32) fun x : Fin 128 =>
            ∑ c : Fin 64, kp (ix2 x ⟨o + c.val, by omega⟩) * q (ix2 r ⟨o + c.val, by omega⟩)
            + Scalar.select w (Scalar.select (IntOp.cmpi .sge (BitVec.ofNat 32 x.val) (BitVec.ofNat 32 r.val)) 0 (Ideal.ofBits .f32 0xFF800000#32)) (Ideal.ofBits .f32 0xFF800000#32)))))
      = lseIf w q k kp h r := by
  obtain rfl : o = 64 * h.val := by omega
  rfl

/-- The first head's columns start at zero. -/
theorem fin_zero_add (c : Fin 64) (hc : 0 + c.val < 256) : (⟨0 + c.val, hc⟩ : Fin 256) = ⟨c.val, by omega⟩ :=
  Fin.ext (Nat.zero_add _)

end Cert.Band

end
-- ==== Proof.DilA.Out.lean ====
/-
  The dilated attention's block (dilation 16: a sequence is one tile, so no tile has one before it): the attention's results a grid point leaves are the formulas of
  `Band/Tile.lean` on the tiles of its block.
-/
module

public import proofs.«01_k».proof.Proof.Gen.DilAIdeal.Value
public import proofs.«01_k».proof.Proof.Band.Block
public import Idealize.ShloMosaic.Lib.Pointwise
public import Idealize.ShloMosaic.Lib.Tactic
public import Idealize.ShloMosaic.Lib.Pipeline.ReadBack
public import Idealize.ShloMosaic.Lib.Pipeline.ValueKit

@[expose] public section

set_option maxRecDepth 16384
set_option maxHeartbeats 4000000

noncomputable section

open Idealize.ShloMosaic Idealize.ShloMosaic.TcCoe Idealize.SL.Sem

namespace Cert.DilAIdeal.V

open Cert.DilAIdeal Cert.DilAIdeal.Gen

local notation "F" => Ideal

/-- The attention's results of tile `u` of a block. -/
def outA (x0 : Band.Blk) (u : Fin 8) (h : Fin 4) (r : Fin 128) (j : Fin 256) : EReal :=
  Band.outFirst (Band.blkTile x0 0 u) (Band.blkTile x0 1 u) (Band.blkTile x0 2 u) h r j

theorem ld_blk_o (x : Vec F S1024x768 .bf16) (p : Fin 3) (u : Fin 8) (a b : ℕ) (ha : a = 128 * u.val) (hb : b = 256 * p.val)
    (inb : ∀ i, (![a, b] : Fin 2 → ℕ) i + S128x256.size i ≤ S1024x768.size i) :
    View.ld x (Rect.unit (s := S1024x768) ![a, b] S128x256.size inb) = Band.blkTile x p u := Band.ld_blk x p u a b ha hb inb

/-- What a grid point leaves in its block of the attention's results. -/
theorem out_eq (c : Dev nD) (i : grid0.Coords) (arg1 : Memref sig .tc .vmem S1024x768 .bf16) (harg1 : arg1.IsWhole)
    (arg2 : Memref sig .tc .vmem S128x768 .bf16) (harg2 : arg2.IsWhole) (arg3 : Memref sig .tc .vmem S1024x256 .bf16)
    (harg3 : arg3.IsWhole) (arg4 : Memref sig .tc .vmem S1024x128 .f32) (harg4 : arg4.IsWhole)
    (arg5 : Memref sig .tc .vmem S8x4x2x128x128 .f32) (harg5 : arg5.IsWhole)
    (arg6 : Memref sig .tc .vmem S8x4x2x128x128 .bf16) (harg6 : arg6.IsWhole)
    (x0 : Vec F S1024x768 .bf16) (x1 : Vec F S128x768 .bf16) (j : S1024x256.Idx) :
    out0_A_2 c i arg1 harg1 arg2 harg2 arg3 harg3 arg4 harg4 arg5 harg5 arg6 harg6 x0 x1 j = Band.blkOut (outA x0) j := by
  unfold out0_A_2
  rw [View.read_writes_eq_canon _ _ _ (cover0_A_2 c i arg1 harg1 arg2 harg2 arg3 harg3 arg4 harg4 arg5 harg5 arg6 harg6 x0 x1)]
  refine (View.canon_apply_of_pieces (Band.blkOut (outA x0)) _ ?_ j
    (cover0_A_2 c i arg1 harg1 arg2 harg2 arg3 harg3 arg4 harg4 arg5 harg5 arg6 harg6 x0 x1 j))
  unfold kernelRun0_A
  dsimp only
  simp only [List.forall_mem_cons, List.not_mem_nil, false_implies, implies_true, and_true]
  refine ⟨?_, ?_, ?_, ?_, ?_, ?_, ?_, ?_⟩
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outA x0) 7 j0 j1 h hh _ (by simp) (by simp),
      show outA x0 7 h j0 j1 = Band.outFirst (Band.blkTile x0 0 7) (Band.blkTile x0 1 7) (Band.blkTile x0 2 7) h j0 j1 from rfl]
    simp only [ld_blk_o x0 0 7 896 0 rfl rfl,
      ld_blk_o x0 1 7 896 256 rfl rfl,
      ld_blk_o x0 2 7 896 512 rfl rfl]
    generalize Band.blkTile x0 0 7 = q
    generalize Band.blkTile x0 1 7 = k
    generalize Band.blkTile x0 2 7 = v
    unfold_payloads
    pointwise
    refine Band.ladder j1.val j1.isLt _ _ _ _ _ ?_ ?_ ?_ ?_
    · intro _ e
      have := Band.outFirst_from q k v h j0 j1 0 (hh.trans e) rfl (by omega) j1.val rfl
      simp only [Band.fin_zero_add] at this
      exact this
    · intro _ _ e e'
      exact Band.outFirst_from q k v h j0 j1 64 (hh.trans e) rfl (by omega) _ e'
    · intro _ _ _ e e'
      exact Band.outFirst_from q k v h j0 j1 128 (hh.trans e) rfl (by omega) _ e'
    · intro _ _ _ e e'
      exact Band.outFirst_from q k v h j0 j1 192 (hh.trans e) rfl (by omega) _ e'
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outA x0) 6 j0 j1 h hh _ (by simp) (by simp),
      show outA x0 6 h j0 j1 = Band.outFirst (Band.blkTile x0 0 6) (Band.blkTile x0 1 6) (Band.blkTile x0 2 6) h j0 j1 from rfl]
    simp only [ld_blk_o x0 0 6 768 0 rfl rfl,
      ld_blk_o x0 1 6 768 256 rfl rfl,
      ld_blk_o x0 2 6 768 512 rfl rfl]
    generalize Band.blkTile x0 0 6 = q
    generalize Band.blkTile x0 1 6 = k
    generalize Band.blkTile x0 2 6 = v
    unfold_payloads
    pointwise
    refine Band.ladder j1.val j1.isLt _ _ _ _ _ ?_ ?_ ?_ ?_
    · intro _ e
      have := Band.outFirst_from q k v h j0 j1 0 (hh.trans e) rfl (by omega) j1.val rfl
      simp only [Band.fin_zero_add] at this
      exact this
    · intro _ _ e e'
      exact Band.outFirst_from q k v h j0 j1 64 (hh.trans e) rfl (by omega) _ e'
    · intro _ _ _ e e'
      exact Band.outFirst_from q k v h j0 j1 128 (hh.trans e) rfl (by omega) _ e'
    · intro _ _ _ e e'
      exact Band.outFirst_from q k v h j0 j1 192 (hh.trans e) rfl (by omega) _ e'
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outA x0) 5 j0 j1 h hh _ (by simp) (by simp),
      show outA x0 5 h j0 j1 = Band.outFirst (Band.blkTile x0 0 5) (Band.blkTile x0 1 5) (Band.blkTile x0 2 5) h j0 j1 from rfl]
    simp only [ld_blk_o x0 0 5 640 0 rfl rfl,
      ld_blk_o x0 1 5 640 256 rfl rfl,
      ld_blk_o x0 2 5 640 512 rfl rfl]
    generalize Band.blkTile x0 0 5 = q
    generalize Band.blkTile x0 1 5 = k
    generalize Band.blkTile x0 2 5 = v
    unfold_payloads
    pointwise
    refine Band.ladder j1.val j1.isLt _ _ _ _ _ ?_ ?_ ?_ ?_
    · intro _ e
      have := Band.outFirst_from q k v h j0 j1 0 (hh.trans e) rfl (by omega) j1.val rfl
      simp only [Band.fin_zero_add] at this
      exact this
    · intro _ _ e e'
      exact Band.outFirst_from q k v h j0 j1 64 (hh.trans e) rfl (by omega) _ e'
    · intro _ _ _ e e'
      exact Band.outFirst_from q k v h j0 j1 128 (hh.trans e) rfl (by omega) _ e'
    · intro _ _ _ e e'
      exact Band.outFirst_from q k v h j0 j1 192 (hh.trans e) rfl (by omega) _ e'
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outA x0) 4 j0 j1 h hh _ (by simp) (by simp),
      show outA x0 4 h j0 j1 = Band.outFirst (Band.blkTile x0 0 4) (Band.blkTile x0 1 4) (Band.blkTile x0 2 4) h j0 j1 from rfl]
    simp only [ld_blk_o x0 0 4 512 0 rfl rfl,
      ld_blk_o x0 1 4 512 256 rfl rfl,
      ld_blk_o x0 2 4 512 512 rfl rfl]
    generalize Band.blkTile x0 0 4 = q
    generalize Band.blkTile x0 1 4 = k
    generalize Band.blkTile x0 2 4 = v
    unfold_payloads
    pointwise
    refine Band.ladder j1.val j1.isLt _ _ _ _ _ ?_ ?_ ?_ ?_
    · intro _ e
      have := Band.outFirst_from q k v h j0 j1 0 (hh.trans e) rfl (by omega) j1.val rfl
      simp only [Band.fin_zero_add] at this
      exact this
    · intro _ _ e e'
      exact Band.outFirst_from q k v h j0 j1 64 (hh.trans e) rfl (by omega) _ e'
    · intro _ _ _ e e'
      exact Band.outFirst_from q k v h j0 j1 128 (hh.trans e) rfl (by omega) _ e'
    · intro _ _ _ e e'
      exact Band.outFirst_from q k v h j0 j1 192 (hh.trans e) rfl (by omega) _ e'
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outA x0) 3 j0 j1 h hh _ (by simp) (by simp),
      show outA x0 3 h j0 j1 = Band.outFirst (Band.blkTile x0 0 3) (Band.blkTile x0 1 3) (Band.blkTile x0 2 3) h j0 j1 from rfl]
    simp only [ld_blk_o x0 0 3 384 0 rfl rfl,
      ld_blk_o x0 1 3 384 256 rfl rfl,
      ld_blk_o x0 2 3 384 512 rfl rfl]
    generalize Band.blkTile x0 0 3 = q
    generalize Band.blkTile x0 1 3 = k
    generalize Band.blkTile x0 2 3 = v
    unfold_payloads
    pointwise
    refine Band.ladder j1.val j1.isLt _ _ _ _ _ ?_ ?_ ?_ ?_
    · intro _ e
      have := Band.outFirst_from q k v h j0 j1 0 (hh.trans e) rfl (by omega) j1.val rfl
      simp only [Band.fin_zero_add] at this
      exact this
    · intro _ _ e e'
      exact Band.outFirst_from q k v h j0 j1 64 (hh.trans e) rfl (by omega) _ e'
    · intro _ _ _ e e'
      exact Band.outFirst_from q k v h j0 j1 128 (hh.trans e) rfl (by omega) _ e'
    · intro _ _ _ e e'
      exact Band.outFirst_from q k v h j0 j1 192 (hh.trans e) rfl (by omega) _ e'
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outA x0) 2 j0 j1 h hh _ (by simp) (by simp),
      show outA x0 2 h j0 j1 = Band.outFirst (Band.blkTile x0 0 2) (Band.blkTile x0 1 2) (Band.blkTile x0 2 2) h j0 j1 from rfl]
    simp only [ld_blk_o x0 0 2 256 0 rfl rfl,
      ld_blk_o x0 1 2 256 256 rfl rfl,
      ld_blk_o x0 2 2 256 512 rfl rfl]
    generalize Band.blkTile x0 0 2 = q
    generalize Band.blkTile x0 1 2 = k
    generalize Band.blkTile x0 2 2 = v
    unfold_payloads
    pointwise
    refine Band.ladder j1.val j1.isLt _ _ _ _ _ ?_ ?_ ?_ ?_
    · intro _ e
      have := Band.outFirst_from q k v h j0 j1 0 (hh.trans e) rfl (by omega) j1.val rfl
      simp only [Band.fin_zero_add] at this
      exact this
    · intro _ _ e e'
      exact Band.outFirst_from q k v h j0 j1 64 (hh.trans e) rfl (by omega) _ e'
    · intro _ _ _ e e'
      exact Band.outFirst_from q k v h j0 j1 128 (hh.trans e) rfl (by omega) _ e'
    · intro _ _ _ e e'
      exact Band.outFirst_from q k v h j0 j1 192 (hh.trans e) rfl (by omega) _ e'
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outA x0) 1 j0 j1 h hh _ (by simp) (by simp),
      show outA x0 1 h j0 j1 = Band.outFirst (Band.blkTile x0 0 1) (Band.blkTile x0 1 1) (Band.blkTile x0 2 1) h j0 j1 from rfl]
    simp only [ld_blk_o x0 0 1 128 0 rfl rfl,
      ld_blk_o x0 1 1 128 256 rfl rfl,
      ld_blk_o x0 2 1 128 512 rfl rfl]
    generalize Band.blkTile x0 0 1 = q
    generalize Band.blkTile x0 1 1 = k
    generalize Band.blkTile x0 2 1 = v
    unfold_payloads
    pointwise
    refine Band.ladder j1.val j1.isLt _ _ _ _ _ ?_ ?_ ?_ ?_
    · intro _ e
      have := Band.outFirst_from q k v h j0 j1 0 (hh.trans e) rfl (by omega) j1.val rfl
      simp only [Band.fin_zero_add] at this
      exact this
    · intro _ _ e e'
      exact Band.outFirst_from q k v h j0 j1 64 (hh.trans e) rfl (by omega) _ e'
    · intro _ _ _ e e'
      exact Band.outFirst_from q k v h j0 j1 128 (hh.trans e) rfl (by omega) _ e'
    · intro _ _ _ e e'
      exact Band.outFirst_from q k v h j0 j1 192 (hh.trans e) rfl (by omega) _ e'
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outA x0) 0 j0 j1 h hh _ (by simp) (by simp),
      show outA x0 0 h j0 j1 = Band.outFirst (Band.blkTile x0 0 0) (Band.blkTile x0 1 0) (Band.blkTile x0 2 0) h j0 j1 from rfl]
    simp only [ld_blk_o x0 0 0 0 0 rfl rfl,
      ld_blk_o x0 1 0 0 256 rfl rfl,
      ld_blk_o x0 2 0 0 512 rfl rfl]
    generalize Band.blkTile x0 0 0 = q
    generalize Band.blkTile x0 1 0 = k
    generalize Band.blkTile x0 2 0 = v
    unfold_payloads
    pointwise
    refine Band.ladder j1.val j1.isLt _ _ _ _ _ ?_ ?_ ?_ ?_
    · intro _ e
      have := Band.outFirst_from q k v h j0 j1 0 (hh.trans e) rfl (by omega) j1.val rfl
      simp only [Band.fin_zero_add] at this
      exact this
    · intro _ _ e e'
      exact Band.outFirst_from q k v h j0 j1 64 (hh.trans e) rfl (by omega) _ e'
    · intro _ _ _ e e'
      exact Band.outFirst_from q k v h j0 j1 128 (hh.trans e) rfl (by omega) _ e'
    · intro _ _ _ e e'
      exact Band.outFirst_from q k v h j0 j1 192 (hh.trans e) rfl (by omega) _ e'

end Cert.DilAIdeal.V

end
-- ==== Proof.DilA.Lse.lean ====
/-
  The dilated attention's block (dilation 16: a sequence is one tile, so no tile has one before it): the log-sum-exps a grid point leaves are the formulas of
  `Band/Tile.lean` on the tiles of its block.
-/
module

public import proofs.«01_k».proof.Proof.Gen.DilAIdeal.Value
public import proofs.«01_k».proof.Proof.Band.Block
public import Idealize.ShloMosaic.Lib.Pointwise
public import Idealize.ShloMosaic.Lib.Tactic
public import Idealize.ShloMosaic.Lib.Pipeline.ReadBack
public import Idealize.ShloMosaic.Lib.Pipeline.ValueKit

@[expose] public section

set_option maxRecDepth 16384
set_option maxHeartbeats 4000000

noncomputable section

open Idealize.ShloMosaic Idealize.ShloMosaic.TcCoe Idealize.SL.Sem

namespace Cert.DilAIdeal.V

open Cert.DilAIdeal Cert.DilAIdeal.Gen

local notation "F" => Ideal

/-- The log-sum-exps of tile `u` of a block. -/
def lseA (x0 : Band.Blk) (u : Fin 8) (h : Fin 4) (r : Fin 128) : EReal :=
  Band.lseFirst (Band.blkTile x0 0 u) (Band.blkTile x0 1 u) h r

theorem ld_blk_l (x : Vec F S1024x768 .bf16) (p : Fin 3) (u : Fin 8) (a b : ℕ) (ha : a = 128 * u.val) (hb : b = 256 * p.val)
    (inb : ∀ i, (![a, b] : Fin 2 → ℕ) i + S128x256.size i ≤ S1024x768.size i) :
    View.ld x (Rect.unit (s := S1024x768) ![a, b] S128x256.size inb) = Band.blkTile x p u := Band.ld_blk x p u a b ha hb inb

/-- What a grid point leaves in its block of the log-sum-exps. -/
theorem lse_eq (c : Dev nD) (i : grid0.Coords) (arg1 : Memref sig .tc .vmem S1024x768 .bf16) (harg1 : arg1.IsWhole)
    (arg2 : Memref sig .tc .vmem S128x768 .bf16) (harg2 : arg2.IsWhole) (arg3 : Memref sig .tc .vmem S1024x256 .bf16)
    (harg3 : arg3.IsWhole) (arg4 : Memref sig .tc .vmem S1024x128 .f32) (harg4 : arg4.IsWhole)
    (arg5 : Memref sig .tc .vmem S8x4x2x128x128 .f32) (harg5 : arg5.IsWhole)
    (arg6 : Memref sig .tc .vmem S8x4x2x128x128 .bf16) (harg6 : arg6.IsWhole)
    (x0 : Vec F S1024x768 .bf16) (x1 : Vec F S128x768 .bf16) (j : S1024x128.Idx) :
    out0_A_3 c i arg1 harg1 arg2 harg2 arg3 harg3 arg4 harg4 arg5 harg5 arg6 harg6 x0 x1 j = Band.blkLse (lseA x0) j := by
  unfold out0_A_3
  rw [View.read_writes_eq_canon _ _ _ (cover0_A_3 c i arg1 harg1 arg2 harg2 arg3 harg3 arg4 harg4 arg5 harg5 arg6 harg6 x0 x1)]
  refine (View.canon_apply_of_pieces (Band.blkLse (lseA x0)) _ ?_ j
    (cover0_A_3 c i arg1 harg1 arg2 harg2 arg3 harg3 arg4 harg4 arg5 harg5 arg6 harg6 x0 x1 j))
  unfold kernelRun0_A
  dsimp only
  simp only [List.forall_mem_cons, List.not_mem_nil, false_implies, implies_true, and_true]
  refine ⟨?_, ?_, ?_, ?_, ?_, ?_, ?_, ?_⟩
  · sl_unfold_words
    simp (disch := decide) only [↓ View.readCov_skip, ↓ View.readCov_cons_toLoadRect]
    simp only [View.readAt_eq_ld, harg1.read_unread, harg2.read_unread]
    intro j
    idx_vars j
    have e : ∀ h : Fin 4, lseA x0 7 h j0 = Band.lseFirst (Band.blkTile x0 0 7) (Band.blkTile x0 1 7) h j0 := fun _ => rfl
    rw [Band.blkLse_at (lseA x0) 7 j0 j1 _ (by simp) (by simp)]
    simp only [e]
    clear e
    simp only [ld_blk_l x0 0 7 896 0 rfl rfl,
      ld_blk_l x0 1 7 896 256 rfl rfl]
    generalize Band.blkTile x0 0 7 = q
    generalize Band.blkTile x0 1 7 = k
    unfold_payloads
    pointwise
    refine Band.steps j1.val _ _ _ _ _ ?_ ?_ ?_ ?_
    · intro _ h e
      have := Band.lseFirst_from q k ⟨j1.val, h⟩ j0 0 e rfl (by omega)
      simp only [Band.fin_zero_add] at this
      exact this
    · intro _ _ h e
      exact Band.lseFirst_from q k ⟨j1.val, h⟩ j0 64 e rfl (by omega)
    · intro _ _ _ h e
      exact Band.lseFirst_from q k ⟨j1.val, h⟩ j0 128 e rfl (by omega)
    · intro _ _ _ _ h e
      exact Band.lseFirst_from q k ⟨j1.val, h⟩ j0 192 e rfl (by omega)
  · sl_unfold_words
    simp (disch := decide) only [↓ View.readCov_skip, ↓ View.readCov_cons_toLoadRect]
    simp only [View.readAt_eq_ld, harg1.read_unread, harg2.read_unread]
    intro j
    idx_vars j
    have e : ∀ h : Fin 4, lseA x0 6 h j0 = Band.lseFirst (Band.blkTile x0 0 6) (Band.blkTile x0 1 6) h j0 := fun _ => rfl
    rw [Band.blkLse_at (lseA x0) 6 j0 j1 _ (by simp) (by simp)]
    simp only [e]
    clear e
    simp only [ld_blk_l x0 0 6 768 0 rfl rfl,
      ld_blk_l x0 1 6 768 256 rfl rfl]
    generalize Band.blkTile x0 0 6 = q
    generalize Band.blkTile x0 1 6 = k
    unfold_payloads
    pointwise
    refine Band.steps j1.val _ _ _ _ _ ?_ ?_ ?_ ?_
    · intro _ h e
      have := Band.lseFirst_from q k ⟨j1.val, h⟩ j0 0 e rfl (by omega)
      simp only [Band.fin_zero_add] at this
      exact this
    · intro _ _ h e
      exact Band.lseFirst_from q k ⟨j1.val, h⟩ j0 64 e rfl (by omega)
    · intro _ _ _ h e
      exact Band.lseFirst_from q k ⟨j1.val, h⟩ j0 128 e rfl (by omega)
    · intro _ _ _ _ h e
      exact Band.lseFirst_from q k ⟨j1.val, h⟩ j0 192 e rfl (by omega)
  · sl_unfold_words
    simp (disch := decide) only [↓ View.readCov_skip, ↓ View.readCov_cons_toLoadRect]
    simp only [View.readAt_eq_ld, harg1.read_unread, harg2.read_unread]
    intro j
    idx_vars j
    have e : ∀ h : Fin 4, lseA x0 5 h j0 = Band.lseFirst (Band.blkTile x0 0 5) (Band.blkTile x0 1 5) h j0 := fun _ => rfl
    rw [Band.blkLse_at (lseA x0) 5 j0 j1 _ (by simp) (by simp)]
    simp only [e]
    clear e
    simp only [ld_blk_l x0 0 5 640 0 rfl rfl,
      ld_blk_l x0 1 5 640 256 rfl rfl]
    generalize Band.blkTile x0 0 5 = q
    generalize Band.blkTile x0 1 5 = k
    unfold_payloads
    pointwise
    refine Band.steps j1.val _ _ _ _ _ ?_ ?_ ?_ ?_
    · intro _ h e
      have := Band.lseFirst_from q k ⟨j1.val, h⟩ j0 0 e rfl (by omega)
      simp only [Band.fin_zero_add] at this
      exact this
    · intro _ _ h e
      exact Band.lseFirst_from q k ⟨j1.val, h⟩ j0 64 e rfl (by omega)
    · intro _ _ _ h e
      exact Band.lseFirst_from q k ⟨j1.val, h⟩ j0 128 e rfl (by omega)
    · intro _ _ _ _ h e
      exact Band.lseFirst_from q k ⟨j1.val, h⟩ j0 192 e rfl (by omega)
  · sl_unfold_words
    simp (disch := decide) only [↓ View.readCov_skip, ↓ View.readCov_cons_toLoadRect]
    simp only [View.readAt_eq_ld, harg1.read_unread, harg2.read_unread]
    intro j
    idx_vars j
    have e : ∀ h : Fin 4, lseA x0 4 h j0 = Band.lseFirst (Band.blkTile x0 0 4) (Band.blkTile x0 1 4) h j0 := fun _ => rfl
    rw [Band.blkLse_at (lseA x0) 4 j0 j1 _ (by simp) (by simp)]
    simp only [e]
    clear e
    simp only [ld_blk_l x0 0 4 512 0 rfl rfl,
      ld_blk_l x0 1 4 512 256 rfl rfl]
    generalize Band.blkTile x0 0 4 = q
    generalize Band.blkTile x0 1 4 = k
    unfold_payloads
    pointwise
    refine Band.steps j1.val _ _ _ _ _ ?_ ?_ ?_ ?_
    · intro _ h e
      have := Band.lseFirst_from q k ⟨j1.val, h⟩ j0 0 e rfl (by omega)
      simp only [Band.fin_zero_add] at this
      exact this
    · intro _ _ h e
      exact Band.lseFirst_from q k ⟨j1.val, h⟩ j0 64 e rfl (by omega)
    · intro _ _ _ h e
      exact Band.lseFirst_from q k ⟨j1.val, h⟩ j0 128 e rfl (by omega)
    · intro _ _ _ _ h e
      exact Band.lseFirst_from q k ⟨j1.val, h⟩ j0 192 e rfl (by omega)
  · sl_unfold_words
    simp (disch := decide) only [↓ View.readCov_skip, ↓ View.readCov_cons_toLoadRect]
    simp only [View.readAt_eq_ld, harg1.read_unread, harg2.read_unread]
    intro j
    idx_vars j
    have e : ∀ h : Fin 4, lseA x0 3 h j0 = Band.lseFirst (Band.blkTile x0 0 3) (Band.blkTile x0 1 3) h j0 := fun _ => rfl
    rw [Band.blkLse_at (lseA x0) 3 j0 j1 _ (by simp) (by simp)]
    simp only [e]
    clear e
    simp only [ld_blk_l x0 0 3 384 0 rfl rfl,
      ld_blk_l x0 1 3 384 256 rfl rfl]
    generalize Band.blkTile x0 0 3 = q
    generalize Band.blkTile x0 1 3 = k
    unfold_payloads
    pointwise
    refine Band.steps j1.val _ _ _ _ _ ?_ ?_ ?_ ?_
    · intro _ h e
      have := Band.lseFirst_from q k ⟨j1.val, h⟩ j0 0 e rfl (by omega)
      simp only [Band.fin_zero_add] at this
      exact this
    · intro _ _ h e
      exact Band.lseFirst_from q k ⟨j1.val, h⟩ j0 64 e rfl (by omega)
    · intro _ _ _ h e
      exact Band.lseFirst_from q k ⟨j1.val, h⟩ j0 128 e rfl (by omega)
    · intro _ _ _ _ h e
      exact Band.lseFirst_from q k ⟨j1.val, h⟩ j0 192 e rfl (by omega)
  · sl_unfold_words
    simp (disch := decide) only [↓ View.readCov_skip, ↓ View.readCov_cons_toLoadRect]
    simp only [View.readAt_eq_ld, harg1.read_unread, harg2.read_unread]
    intro j
    idx_vars j
    have e : ∀ h : Fin 4, lseA x0 2 h j0 = Band.lseFirst (Band.blkTile x0 0 2) (Band.blkTile x0 1 2) h j0 := fun _ => rfl
    rw [Band.blkLse_at (lseA x0) 2 j0 j1 _ (by simp) (by simp)]
    simp only [e]
    clear e
    simp only [ld_blk_l x0 0 2 256 0 rfl rfl,
      ld_blk_l x0 1 2 256 256 rfl rfl]
    generalize Band.blkTile x0 0 2 = q
    generalize Band.blkTile x0 1 2 = k
    unfold_payloads
    pointwise
    refine Band.steps j1.val _ _ _ _ _ ?_ ?_ ?_ ?_
    · intro _ h e
      have := Band.lseFirst_from q k ⟨j1.val, h⟩ j0 0 e rfl (by omega)
      simp only [Band.fin_zero_add] at this
      exact this
    · intro _ _ h e
      exact Band.lseFirst_from q k ⟨j1.val, h⟩ j0 64 e rfl (by omega)
    · intro _ _ _ h e
      exact Band.lseFirst_from q k ⟨j1.val, h⟩ j0 128 e rfl (by omega)
    · intro _ _ _ _ h e
      exact Band.lseFirst_from q k ⟨j1.val, h⟩ j0 192 e rfl (by omega)
  · sl_unfold_words
    simp (disch := decide) only [↓ View.readCov_skip, ↓ View.readCov_cons_toLoadRect]
    simp only [View.readAt_eq_ld, harg1.read_unread, harg2.read_unread]
    intro j
    idx_vars j
    have e : ∀ h : Fin 4, lseA x0 1 h j0 = Band.lseFirst (Band.blkTile x0 0 1) (Band.blkTile x0 1 1) h j0 := fun _ => rfl
    rw [Band.blkLse_at (lseA x0) 1 j0 j1 _ (by simp) (by simp)]
    simp only [e]
    clear e
    simp only [ld_blk_l x0 0 1 128 0 rfl rfl,
      ld_blk_l x0 1 1 128 256 rfl rfl]
    generalize Band.blkTile x0 0 1 = q
    generalize Band.blkTile x0 1 1 = k
    unfold_payloads
    pointwise
    refine Band.steps j1.val _ _ _ _ _ ?_ ?_ ?_ ?_
    · intro _ h e
      have := Band.lseFirst_from q k ⟨j1.val, h⟩ j0 0 e rfl (by omega)
      simp only [Band.fin_zero_add] at this
      exact this
    · intro _ _ h e
      exact Band.lseFirst_from q k ⟨j1.val, h⟩ j0 64 e rfl (by omega)
    · intro _ _ _ h e
      exact Band.lseFirst_from q k ⟨j1.val, h⟩ j0 128 e rfl (by omega)
    · intro _ _ _ _ h e
      exact Band.lseFirst_from q k ⟨j1.val, h⟩ j0 192 e rfl (by omega)
  · sl_unfold_words
    simp (disch := decide) only [↓ View.readCov_skip, ↓ View.readCov_cons_toLoadRect]
    simp only [View.readAt_eq_ld, harg1.read_unread, harg2.read_unread]
    intro j
    idx_vars j
    have e : ∀ h : Fin 4, lseA x0 0 h j0 = Band.lseFirst (Band.blkTile x0 0 0) (Band.blkTile x0 1 0) h j0 := fun _ => rfl
    rw [Band.blkLse_at (lseA x0) 0 j0 j1 _ (by simp) (by simp)]
    simp only [e]
    clear e
    simp only [ld_blk_l x0 0 0 0 0 rfl rfl,
      ld_blk_l x0 1 0 0 256 rfl rfl]
    generalize Band.blkTile x0 0 0 = q
    generalize Band.blkTile x0 1 0 = k
    unfold_payloads
    pointwise
    refine Band.steps j1.val _ _ _ _ _ ?_ ?_ ?_ ?_
    · intro _ h e
      have := Band.lseFirst_from q k ⟨j1.val, h⟩ j0 0 e rfl (by omega)
      simp only [Band.fin_zero_add] at this
      exact this
    · intro _ _ h e
      exact Band.lseFirst_from q k ⟨j1.val, h⟩ j0 64 e rfl (by omega)
    · intro _ _ _ h e
      exact Band.lseFirst_from q k ⟨j1.val, h⟩ j0 128 e rfl (by omega)
    · intro _ _ _ _ h e
      exact Band.lseFirst_from q k ⟨j1.val, h⟩ j0 192 e rfl (by omega)

end Cert.DilAIdeal.V

end
-- ==== Proof.Band.Results.lean ====
/-
  The two results of the dilated attention in closed form, for sequences of `M` rows, and what the precondition says.
-/
module

public import proofs.«01_k».proof.Proof.Band.Tile
public import proofs.«01_k».proof.Proof.Gen.Pre_finite
public import Idealize.ShloMosaic.Lib.ReduceAll
public import Idealize.ShloMosaic.Lib.Pipeline.Value

@[expose] public section

noncomputable section

open Idealize.ShloMosaic

namespace Cert.Band

/-- Column `c` of row `R` of the attention's results. -/
def outVal (A : Acts) (M R c : ℕ) : EReal :=
  ((weighted (data A) M (R / M * M) (R % M) (c / 64) c / total (data A) M (R / M * M) (R % M) (c / 64) : ℝ) : EReal)

/-- Head `h`'s log-sum-exp of row `R`. -/
def lseVal (A : Acts) (M R h : ℕ) : EReal := (Real.log (total (data A) M (R / M * M) (R % M) h) : EReal)

/-- The array of the attention's results. -/
def outArr (A : Acts) (M : ℕ) : (⟨2, ![65536, 256]⟩ : Shape).Idx → EReal := fun i => outVal A M (i 0).val (i 1).val

/-- The array of the log-sum-exps: four columns of them, zeros in the other columns. -/
def lseArr (A : Acts) (M : ℕ) : (⟨2, ![65536, 128]⟩ : Shape).Idx → EReal := fun i =>
  if (i 1).val < 4 then lseVal A M (i 0).val (i 1).val else 0

/-- The zero word is zero. -/
theorem zero_word : (FloatOps.ofBits .f32 0x00000000#32 : Ideal .f32) = (0 : EReal) := by
  show Ideal.ofBits .f32 0x00000000#32 = 0
  simp [Ideal.ofBits, Ideal.ieee]

/-- The mask's word: the distance from key to query lies between 0 and 128. -/
theorem mask_word (q k : ℕ) (hq : q < 2048) (hk : k < 2048) :
    IntOp.andi (IntOp.cmpi .sge (IntOp.subi (BitVec.ofNat 32 q) (BitVec.ofNat 32 k)) 0#32)
      (IntOp.cmpi .sle (IntOp.subi (BitVec.ofNat 32 q) (BitVec.ofNat 32 k)) 128#32)
      = BitVec.ofBool (decide (k ≤ q ∧ q ≤ k + 128)) := by
  have hs : (BitVec.ofNat 32 q - BitVec.ofNat 32 k).toInt = (q : ℤ) - (k : ℤ) := by
    have e : ∀ n : ℕ, n < 2048 → (BitVec.ofNat 32 n).toInt = (n : ℤ) := fun n hn => by
      rw [BitVec.toInt_eq_toNat_of_lt (by rw [BitVec.toNat_ofNat]; omega), BitVec.toNat_ofNat, Nat.mod_eq_of_lt (by omega)]
    rw [BitVec.toInt_sub, e q hq, e k hk, Int.bmod_eq_of_le (by omega) (by omega)]
  show BitVec.ofBool (BitVec.sle 0#32 (BitVec.ofNat 32 q - BitVec.ofNat 32 k)) &&& BitVec.ofBool (BitVec.sle (BitVec.ofNat 32 q - BitVec.ofNat 32 k) 128#32) = _
  rw [BitVec.ofBool_and_ofBool]
  congr 1
  rw [Bool.eq_iff_iff]
  simp only [BitVec.sle, Bool.and_eq_true, decide_eq_true_eq, hs, show (0#32).toInt = 0 from rfl, show (128#32).toInt = 128 from rfl]
  omega

/-- Row `n * M + q` is query `q` of sequence `n`. -/
theorem split_row (M n q : ℕ) (hq : q < M) : (n * M + q) / M * M = n * M ∧ (n * M + q) % M = q := by
  have h : (n * M + q) / M = n := by
    rw [Nat.add_comm, Nat.add_mul_div_right _ _ (by omega), Nat.div_eq_of_lt hq, Nat.zero_add]
  refine ⟨by rw [h], ?_⟩
  rw [Nat.add_comm, Nat.add_mul_mod_self_right, Nat.mod_eq_of_lt hq]

/-- The precondition says that no entry is infinite. -/
theorem finite_of_pre [Cert.Pre_finite.Facts] (A : Acts) (h : Cert.Pre_finite.fn (F := Ideal) A = fun _ => 1#1) (i) : A i ≠ ⊤ ∧ A i ≠ ⊥ := by
  have hi := Host.reduce_andi_all (t := ⟨0, ![]⟩) _ _ _ _ (fun a => a.elim0) (congrFun h (fun a => a.elim0)) i
  have hb : broadcastInDim Cert.Pre_finite.S65536x768 ![] Cert.Pre_finite.Facts.bcast_S_S65536x768
      (constant (F := Ideal) Cert.Pre_finite.S_ .f32 0x7F800000#32) i = (⊤ : EReal) := by
    rw [broadcastInDim_apply _ Cert.Pre_finite.Facts.bcast_S_S65536x768 _ i (fun a => a.elim0) (fun a => a.elim0)]
    show Ideal.ofBits .f32 0x7F800000#32 = ⊤
    simp [Ideal.ofBits, Ideal.ieee]
  have hlt : Ideal.cmp .olt (max (A i) (-A i)) ⊤ = 1#1 := by
    rw [← hb]; exact hi
  have hlt' : max (A i) (-A i) < ⊤ := by
    by_contra hn
    simp [Ideal.cmp, hn] at hlt
  constructor
  · intro e; rw [e] at hlt'; simp at hlt'
  · intro e; rw [e] at hlt'; simp at hlt'

end Cert.Band

end
-- ==== Proof.Band.Assemble.lean ====
/-
  From the tiles of a block to the rows of the arrays.
-/
module

public import proofs.«01_k».proof.Proof.Band.Block
public import proofs.«01_k».proof.Proof.Band.Results

@[expose] public section

noncomputable section

open Idealize.ShloMosaic

namespace Cert.Band

variable (A : Acts)

/-- The tiles of block `t` of the array are tiles `8 t …` of the array. -/
theorem blk_tile (x : Blk) (t : Fin 64) (hx : ∀ (r : Fin 1024) (c : Fin 768), x (ix2 r c) = A (ix2 ⟨1024 * t.val + r.val, by omega⟩ c))
    (p : Fin 3) (u : Fin 8) : blkTile x p u = tileOf A p ⟨8 * t.val + u.val, by omega⟩ := by
  funext i
  unfold blkTile tileOf
  rw [hx]
  congr 1
  funext a
  apply Fin.ext
  match a with
  | ⟨0, _⟩ => show 1024 * t.val + (128 * u.val + (i 0).val) = 128 * (8 * t.val + u.val) + (i 0).val; omega
  | ⟨1, _⟩ => rfl

/-- The halo's tile is the tile of the array it was read from. -/
theorem halo_tile (x : (⟨2, ![128, 768]⟩ : Shape).Idx → EReal) (g : Fin 512)
    (hx : ∀ (r : Fin 128) (c : Fin 768), x (ix2 r c) = A (ix2 ⟨128 * g.val + r.val, by omega⟩ c))
    (p : Fin 3) : haloTile x p = tileOf A p g := by
  funext i
  unfold haloTile tileOf
  rw [hx]

variable (hA : ∀ i, A i ≠ ⊤ ∧ A i ≠ ⊥)
include hA

/-- A tile at the head of its sequence. -/
theorem outFirst_val (g : Fin 512) (n M : ℕ) (hg : 128 * g.val = n * M) (hM : 128 ≤ M) (h : Fin 4) (r : Fin 128) (j : Fin 256)
    (hh : h.val = j.val / 64) :
    outFirst (tileOf A 0 g) (tileOf A 1 g) (tileOf A 2 g) h r j = outVal A M (128 * g.val + r.val) j.val := by
  rw [outFirst_eq A hA g M (n * M) hg.symm hM]
  unfold outVal
  rw [hg, (split_row M n r.val (by omega)).1, (split_row M n r.val (by omega)).2, hh]

theorem lseFirst_val (g : Fin 512) (n M : ℕ) (hg : 128 * g.val = n * M) (hM : 128 ≤ M) (h : Fin 4) (r : Fin 128) :
    lseFirst (tileOf A 0 g) (tileOf A 1 g) h r = lseVal A M (128 * g.val + r.val) h.val := by
  rw [lseFirst_eq A hA g M (n * M) hg.symm hM]
  unfold lseVal
  rw [hg, (split_row M n r.val (by omega)).1, (split_row M n r.val (by omega)).2]

/-- A tile with a tile before it in its sequence. -/
theorem outNext_val (g g' : Fin 512) (n a M : ℕ) (hg : 128 * g.val = n * M + (a + 1) * 128) (hg' : 128 * g'.val = n * M + a * 128)
    (hM : (a + 2) * 128 ≤ M) (hd : 128 ∣ M) (h : Fin 4) (r : Fin 128) (j : Fin 256) (hh : h.val = j.val / 64) :
    outNext (tileOf A 0 g) (tileOf A 1 g) (tileOf A 2 g) (tileOf A 1 g') (tileOf A 2 g') h r j
      = outVal A M (128 * g.val + r.val) j.val := by
  rw [outNext_eq A hA g g' M (n * M) a hg hg' hM hd]
  unfold outVal
  rw [hg, Nat.add_assoc, (split_row M n ((a + 1) * 128 + r.val) (by omega)).1, (split_row M n ((a + 1) * 128 + r.val) (by omega)).2, hh]

theorem lseNext_val (g g' : Fin 512) (n a M : ℕ) (hg : 128 * g.val = n * M + (a + 1) * 128) (hg' : 128 * g'.val = n * M + a * 128)
    (hM : (a + 2) * 128 ≤ M) (hd : 128 ∣ M) (h : Fin 4) (r : Fin 128) :
    lseNext (tileOf A 0 g) (tileOf A 1 g) (tileOf A 1 g') h r = lseVal A M (128 * g.val + r.val) h.val := by
  rw [lseNext_eq A hA g g' M (n * M) a hg hg' hM hd]
  unfold lseVal
  rw [hg, Nat.add_assoc, (split_row M n ((a + 1) * 128 + r.val) (by omega)).1, (split_row M n ((a + 1) * 128 + r.val) (by omega)).2]

omit hA in
/-- A block given tile by tile is its part of the array. -/
theorem blkOut_val (M : ℕ) (t : Fin 64) (f : Fin 8 → Fin 4 → Fin 128 → Fin 256 → EReal)
    (hf : ∀ u h r (j : Fin 256), h.val = j.val / 64 → f u h r j = outVal A M (128 * (8 * t.val + u.val) + r.val) j.val)
    (i : (⟨2, ![1024, 256]⟩ : Shape).Idx) (k : (⟨2, ![65536, 256]⟩ : Shape).Idx) (h0 : (k 0).val = 1024 * t.val + (i 0).val)
    (h1 : (k 1).val = (i 1).val) : blkOut f i = outArr A M k := by
  unfold blkOut outArr
  have b0 : (i 0).val < 1024 := (i 0).isLt
  refine (hf _ _ _ _ rfl).trans ?_
  rw [h0, h1]
  congr 1
  simp only
  omega

omit hA in
theorem blkLse_val (M : ℕ) (t : Fin 64) (f : Fin 8 → Fin 4 → Fin 128 → EReal)
    (hf : ∀ u h r, f u h r = lseVal A M (128 * (8 * t.val + u.val) + r.val) h.val)
    (i : (⟨2, ![1024, 128]⟩ : Shape).Idx) (k : (⟨2, ![65536, 128]⟩ : Shape).Idx) (h0 : (k 0).val = 1024 * t.val + (i 0).val)
    (h1 : (k 1).val = (i 1).val) : blkLse f i = lseArr A M k := by
  unfold blkLse lseArr
  have b0 : (i 0).val < 1024 := (i 0).isLt
  rw [h0, h1]
  split_ifs with h
  · rw [hf]
    congr 1
    simp only
    omega
  · rfl

end Cert.Band

end
-- ==== Proof.DilA.Array.lean ====
/-
  The dilated attention's kernel, dilation 16 (sequences of 128 rows): the arrays its run leaves are the closed forms.
-/
module

public import proofs.«01_k».proof.Proof.Gen.DilAIdeal.Value
public import proofs.«01_k».proof.Proof.DilA.Out
public import proofs.«01_k».proof.Proof.DilA.Lse
public import proofs.«01_k».proof.Proof.Band.Assemble

@[expose] public section

set_option maxRecDepth 16384

noncomputable section

open Idealize.ShloMosaic Idealize.ShloMosaic.TcCoe Idealize.SL.Sem

namespace Cert.DilAIdeal.V

open Cert.DilAIdeal Cert.DilAIdeal.Gen Cert.DilAIdeal.Value

variable (m : (ℓ : Loc nD τ sig) → Buf (Elt Ideal) ℓ)

/-- The activations. -/
abbrev acts (c : Dev nD) : Band.Acts := m ((c : Thread nD τ).loc main_arg0)

theorem index0 : ∀ t : Fin cfg0.N, win0_0.index t 0 = t.val ∧ win0_0.index t 1 = 0 :=
  (by decide +kernel : ∀ t : Fin grid0.N, win0_0.index t 0 = t.val ∧ win0_0.index t 1 = 0)

theorem index2 : ∀ t : Fin cfg0.N, win0_2.index t 0 = t.val ∧ win0_2.index t 1 = 0 :=
  (by decide +kernel : ∀ t : Fin grid0.N, win0_2.index t 0 = t.val ∧ win0_2.index t 1 = 0)

theorem index3 : ∀ t : Fin cfg0.N, win0_3.index t 0 = t.val ∧ win0_3.index t 1 = 0 :=
  (by decide +kernel : ∀ t : Fin grid0.N, win0_3.index t 0 = t.val ∧ win0_3.index t 1 = 0)

/-- A grid point's number. -/
abbrev pt (t : Fin cfg0.N) : Fin 64 := ⟨t.val, N_0 ▸ t.isLt⟩

/-- The block of activations a grid point reads: 1024 rows of the array. -/
theorem block_row (c : Dev nD) (t : Fin cfg0.N) (r : Fin 1024) (k : Fin 768) :
    (iblk m c 0 t : Vec Ideal S1024x768 .bf16) (ix2 r k) = acts m c (ix2 ⟨1024 * (pt t).val + r.val, by omega⟩ k) := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = 1024 * t.val + r.val; rw [(index0 t).1]; omega
  | ⟨1, _⟩ => show win0_0.index t 1 * 768 + 1 * k.val = k.val; rw [(index0 t).2]; omega

variable (c : Dev nD) (hA : ∀ i, acts m c i ≠ ⊤ ∧ acts m c i ≠ ⊥)
include hA

/-- A tile's results at a grid point are the array's rows. -/
theorem out_tile (t : Fin cfg0.N) (u : Fin 8) (h : Fin 4) (r : Fin 128) (j : Fin 256) (hh : h.val = j.val / 64) :
    outA (iblk m c 0 t) u h r j = Band.outVal (acts m c) 128 (128 * (8 * (pt t).val + u.val) + r.val) j.val := by
  have hb : ∀ p u, Band.blkTile (iblk m c 0 t) p u = Band.tileOf (acts m c) p ⟨8 * (pt t).val + u.val, by omega⟩ :=
    fun p u => Band.blk_tile (acts m c) _ (pt t) (block_row m c t) p u
  unfold outA
  simp only [hb]
  exact Band.outFirst_val (acts m c) hA ⟨8 * (pt t).val + u.val, by omega⟩ ((8 * (pt t).val + u.val) / 1) 128 (by simp only; omega) (by decide) h r j hh

theorem lse_tile (t : Fin cfg0.N) (u : Fin 8) (h : Fin 4) (r : Fin 128) :
    lseA (iblk m c 0 t) u h r = Band.lseVal (acts m c) 128 (128 * (8 * (pt t).val + u.val) + r.val) h.val := by
  have hb : ∀ p u, Band.blkTile (iblk m c 0 t) p u = Band.tileOf (acts m c) p ⟨8 * (pt t).val + u.val, by omega⟩ :=
    fun p u => Band.blk_tile (acts m c) _ (pt t) (block_row m c t) p u
  unfold lseA
  simp only [hb]
  exact Band.lseFirst_val (acts m c) hA ⟨8 * (pt t).val + u.val, by omega⟩ ((8 * (pt t).val + u.val) / 1) 128 (by simp only; omega) (by decide) h r

/-- What a grid point writes back is its block of the array of results. -/
theorem flushed_out (t : Fin cfg0.N) :
    (dats m 0 c).flushed 2 t = ((cfg0.win 2).blk t).view.read (Elt Ideal) (Band.outArr (acts m c) 128) := by
  rw [flushed2_A]
  funext j
  rw [View.read_apply]
  refine (out_eq c _ _ _ _ _ _ _ _ _ _ _ _ _ _ _ _).trans ?_
  refine Band.blkOut_val (acts m c) 128 (pt t) _ (fun u h r k hh => out_tile m c hA t u h r k hh) _ _ ?_ ?_
  · show win0_2.index t 0 * 1024 + 1 * (j 0).val = 1024 * t.val + (j 0).val; rw [(index2 t).1]; omega
  · show win0_2.index t 1 * 256 + 1 * (j 1).val = (j 1).val; rw [(index2 t).2]; omega

theorem flushed_lse (t : Fin cfg0.N) :
    (dats m 0 c).flushed 3 t = ((cfg0.win 3).blk t).view.read (Elt Ideal) (Band.lseArr (acts m c) 128) := by
  rw [flushed3_A]
  funext j
  rw [View.read_apply]
  refine (lse_eq c _ _ _ _ _ _ _ _ _ _ _ _ _ _ _ _).trans ?_
  refine Band.blkLse_val (acts m c) 128 (pt t) _ (fun u h r => lse_tile m c hA t u h r) _ _ ?_ ?_
  · show win0_3.index t 0 * 1024 + 1 * (j 0).val = 1024 * t.val + (j 0).val; rw [(index3 t).1]; omega
  · show win0_3.index t 1 * 128 + 1 * (j 1).val = (j 1).val; rw [(index3 t).2]; omega

/-- The run leaves the attention's results in its first output. -/
theorem final_out : (dats m 0 c).arrAt 2 cfg0.N = Band.outArr (acts m c) 128 :=
  (dats m 0 c).arrAt_eq_of_cover 2 (Band.outArr (acts m c) 128) (fun t _ => flushed_out m c hA t) fun i => by
    have h0 : (i 0 : Nat) < 65536 := (i 0).isLt
    have h1 : (i 1 : Nat) < 256 := (i 1).isLt
    have hN : cfg0.N = 64 := N_0
    refine ⟨⟨(i 0 : Nat) / 1024, by omega⟩, flush0_2 _, ?_⟩
    generalize ht : (⟨(i 0 : Nat) / 1024, _⟩ : Fin cfg0.N) = t
    have hv : t.val = (i 0 : Nat) / 1024 := by rw [← ht]
    show i ∈ ((View.whole main_v0_0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [(index2 t).1, hv]; omega
    | ⟨1, _⟩ => show win0_2.index t 1 * 256 ≤ (i 1 : Nat) ∧ (i 1 : Nat) < win0_2.index t 1 * 256 + 256
                rw [(index2 t).2]; omega

/-- … and the log-sum-exps in its second. -/
theorem final_lse : (dats m 0 c).arrAt 3 cfg0.N = Band.lseArr (acts m c) 128 :=
  (dats m 0 c).arrAt_eq_of_cover 3 (Band.lseArr (acts m c) 128) (fun t _ => flushed_lse m c hA t) fun i => by
    have h0 : (i 0 : Nat) < 65536 := (i 0).isLt
    have h1 : (i 1 : Nat) < 128 := (i 1).isLt
    have hN : cfg0.N = 64 := N_0
    refine ⟨⟨(i 0 : Nat) / 1024, by omega⟩, flush0_3 _, ?_⟩
    generalize ht : (⟨(i 0 : Nat) / 1024, _⟩ : Fin cfg0.N) = t
    have hv : t.val = (i 0 : Nat) / 1024 := by rw [← ht]
    show i ∈ ((View.whole main_v0_1).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [(index3 t).1, hv]; omega
    | ⟨1, _⟩ => show win0_3.index t 1 * 128 ≤ (i 1 : Nat) ∧ (i 1 : Nat) < win0_3.index t 1 * 128 + 128
                rw [(index3 t).2]; omega

end Cert.DilAIdeal.V

end
-- ==== Proof.RefA.Value.lean ====
/-
  The attention's program over dense scores, read: its results are the closed forms (512 sequences of 128 rows).
-/
module

public import proofs.«01_k».proof.Proof.Gen.RefAIdeal.Read
public import proofs.«01_k».proof.Proof.Band.Results
public import Idealize.ShloMosaic.Lib.Pointwise

@[expose] public section

set_option maxRecDepth 16384

noncomputable section

open Idealize.ShloMosaic Idealize.ShloMosaic.TcCoe Idealize.SL.Sem

namespace Cert.RefAIdeal.V

open Cert.RefAIdeal Cert.RefAIdeal.Gen Cert.RefAIdeal.Read

variable (A : Band.Acts) (hA : ∀ i, A i ≠ ⊤ ∧ A i ≠ ⊥)

/-- An entry of the activations, split into sequence, row, part, head and column. -/
theorem entry (n : Fin 512) (q : Fin 128) (p : Fin 3) (h : Fin 4) (d : Fin 64) :
    val_main_v1 (F := Ideal) A (ix5 n q p h d)
      = A (ix2 ⟨n.val * 128 + q.val, by omega⟩ ⟨256 * p.val + (64 * h.val + d.val), by omega⟩) := by
  rw [val_main_v1_apply, val_main_v0_apply]
  show A _ = A _
  congr 1
  funext a
  apply Fin.ext
  match a with
  | ⟨0, _⟩ => show ((((n.val * 128 + q.val) * 3 + p.val) * 4 + h.val) * 64 + d.val) / 768 = n.val * 128 + q.val; omega
  | ⟨1, _⟩ => show ((((n.val * 128 + q.val) * 3 + p.val) * 4 + h.val) * 64 + d.val) % 768 = 256 * p.val + (64 * h.val + d.val); omega

theorem queries (n : Fin 512) (q : Fin 128) (h : Fin 4) (d : Fin 64) :
    val_main_v3 (F := Ideal) A (ix4 n q h d) = val_main_v1 (F := Ideal) A (ix5 n q 0 h d) := by
  rw [val_main_v3_apply, val_main_v2_apply]
  congr 1
  funext a
  apply Fin.ext
  match a with
  | ⟨0, _⟩ => show (((n.val * 128 + q.val) * 4 + h.val) * 64 + d.val) / 32768 = n.val; omega
  | ⟨1, _⟩ => show (((n.val * 128 + q.val) * 4 + h.val) * 64 + d.val) / 256 % 128 = q.val; omega
  | ⟨2, _⟩ => rfl
  | ⟨3, _⟩ => show (((n.val * 128 + q.val) * 4 + h.val) * 64 + d.val) / 64 % 4 = h.val; omega
  | ⟨4, _⟩ => show (((n.val * 128 + q.val) * 4 + h.val) * 64 + d.val) % 64 = d.val; omega

theorem keys (n : Fin 512) (q : Fin 128) (h : Fin 4) (d : Fin 64) :
    val_main_v5 (F := Ideal) A (ix4 n q h d) = val_main_v1 (F := Ideal) A (ix5 n q 1 h d) := by
  rw [val_main_v5_apply, val_main_v4_apply]
  congr 1
  funext a
  apply Fin.ext
  match a with
  | ⟨0, _⟩ => show (((n.val * 128 + q.val) * 4 + h.val) * 64 + d.val) / 32768 = n.val; omega
  | ⟨1, _⟩ => show (((n.val * 128 + q.val) * 4 + h.val) * 64 + d.val) / 256 % 128 = q.val; omega
  | ⟨2, _⟩ => rfl
  | ⟨3, _⟩ => show (((n.val * 128 + q.val) * 4 + h.val) * 64 + d.val) / 64 % 4 = h.val; omega
  | ⟨4, _⟩ => show (((n.val * 128 + q.val) * 4 + h.val) * 64 + d.val) % 64 = d.val; omega

theorem vals (n : Fin 512) (q : Fin 128) (h : Fin 4) (d : Fin 64) :
    val_main_v7 (F := Ideal) A (ix4 n q h d) = val_main_v1 (F := Ideal) A (ix5 n q 2 h d) := by
  rw [val_main_v7_apply, val_main_v6_apply]
  congr 1
  funext a
  apply Fin.ext
  match a with
  | ⟨0, _⟩ => show (((n.val * 128 + q.val) * 4 + h.val) * 64 + d.val) / 32768 = n.val; omega
  | ⟨1, _⟩ => show (((n.val * 128 + q.val) * 4 + h.val) * 64 + d.val) / 256 % 128 = q.val; omega
  | ⟨2, _⟩ => rfl
  | ⟨3, _⟩ => show (((n.val * 128 + q.val) * 4 + h.val) * 64 + d.val) / 64 % 4 = h.val; omega
  | ⟨4, _⟩ => show (((n.val * 128 + q.val) * 4 + h.val) * 64 + d.val) % 64 = d.val; omega

/-- The mask: a query sees its own row and up to 128 before it. -/
theorem mask (n : Fin 512) (h : Fin 4) (q k : Fin 128) :
    val_main_call0_v1 (F := Ideal) (ix4 n h q k) = BitVec.ofBool (decide (k.val ≤ q.val ∧ q.val ≤ k.val + 128)) := by
  rw [val_main_call0_v1_apply, val_main_v20_apply, val_main_v17_apply, val_main_v19_apply, val_main_v15_apply, val_main_v16_apply,
    val_main_v18_apply, val_main_c_apply, val_main_c_0_apply, val_main_v13_apply, val_main_v14_apply, val_main_v10_apply,
    val_main_v12_apply, val_main_v9_apply, val_main_v11_apply]
  exact Band.mask_word q.val k.val (by omega) (by omega)

include hA

/-- The scores: dot products under the mask. -/
theorem scores (n : Fin 512) (h : Fin 4) (q k : Fin 128) :
    val_main_v21 (F := Ideal) A (ix4 n h q k)
      = Band.masked (k.val ≤ q.val ∧ q.val ≤ k.val + 128) (Band.dotp (Band.data A) h.val (n.val * 128 + q.val) (n.val * 128 + k.val)) := by
  rw [val_main_v21_apply, mask, Band.select_ofBool, val_main_call0_v2_apply, val_main_call0_v0_apply, val_main_cst_apply]
  unfold Band.masked
  by_cases hp : k.val ≤ q.val ∧ q.val ≤ k.val + 128
  · rw [if_pos hp, if_pos hp, val_main_v8_apply]
    unfold Band.dotp
    rw [Band.coe_sum]
    refine Finset.sum_congr rfl fun d _ => ?_
    rw [show lidx_main_v8 (ix4 n h q k) d = ix4 n q h d from by funext a; match a with | ⟨0, _⟩ => rfl | ⟨1, _⟩ => rfl | ⟨2, _⟩ => rfl | ⟨3, _⟩ => rfl,
      show ridx_main_v8 (ix4 n h q k) d = ix4 n k h d from by funext a; match a with | ⟨0, _⟩ => rfl | ⟨1, _⟩ => rfl | ⟨2, _⟩ => rfl | ⟨3, _⟩ => rfl,
      queries, keys, entry, entry, Band.eq_data A hA, Band.eq_data A hA, ← EReal.coe_mul, mul_comm]
    simp
  · rw [if_neg hp, if_neg hp]
    exact Band.ninf

/-- The largest score of a row. -/
theorem row_max (n : Fin 512) (h : Fin 4) (q : Fin 128) :
    val_main_v22 (F := Ideal) A (ix3 n h q) = Finset.univ.fold max ⊥ fun k => val_main_v21 (F := Ideal) A (ix4 n h q k) := by
  unfold val_main_v22 val_main_cst_1
  generalize val_main_v21 (F := Ideal) A = y
  pointwise
  rw [Band.ninf]

/-- The log-sum-exp of a row. -/
theorem row_lse (n : Fin 512) (h : Fin 4) (q : Fin 128) :
    val_main_v29 (F := Ideal) A (ix3 n h q) = Band.lseVal A 128 (n.val * 128 + q.val) h.val := by
  have e : val_main_v29 (F := Ideal) A (ix3 n h q) = Band.lse fun k => val_main_v21 (F := Ideal) A (ix4 n h q k) := by
    have hs : val_main_v27 (F := Ideal) A (ix3 n h q) = ∑ k : Fin 128, Ideal.exp (val_main_v21 (F := Ideal) A (ix4 n h q k)
        - Finset.univ.fold max ⊥ fun k => val_main_v21 (F := Ideal) A (ix4 n h q k)) := by
      rw [val_main_v27_apply, val_main_cst_2_apply, Band.zero_word, zero_add]
      refine Finset.sum_congr rfl fun k _ => ?_
      rw [show idx_main_v27 (ix3 n h q) k = ix4 n h q k from by funext a; match a with | ⟨0, _⟩ => rfl | ⟨1, _⟩ => rfl | ⟨2, _⟩ => rfl | ⟨3, _⟩ => rfl,
        val_main_v26_apply, val_main_v25_apply, val_main_v24_apply, val_main_v23_apply]
      rw [show idx_main_v23 (idx_main_v24 (ix4 n h q k)) = ix3 n h q from by funext a; match a with | ⟨0, _⟩ => rfl | ⟨1, _⟩ => rfl | ⟨2, _⟩ => rfl, row_max A hA]
      rfl
    rw [val_main_v29_apply, row_max A hA, val_main_v28_apply, hs]
    rfl
  rw [e, Band.lse_dense A hA 128 (n.val * 128) q.val h.val q.isLt _ (fun k => scores A hA n h q k)]
  unfold Band.lseVal
  rw [(Band.split_row 128 n.val q.val q.isLt).1, (Band.split_row 128 n.val q.val q.isLt).2]

/-- The weighted values of a row. -/
theorem row_out (n : Fin 512) (h : Fin 4) (q : Fin 128) (d : Fin 64) :
    val_main_v34 (F := Ideal) A (ix4 n h d q) = Band.outVal A 128 (n.val * 128 + q.val) (64 * h.val + d.val) := by
  have hl : val_main_v29 (F := Ideal) A (ix3 n h q) = Band.lse fun k => val_main_v21 (F := Ideal) A (ix4 n h q k) := by
    rw [row_lse A hA, Band.lse_dense A hA 128 (n.val * 128) q.val h.val q.isLt _ (fun k => scores A hA n h q k)]
    unfold Band.lseVal
    rw [(Band.split_row 128 n.val q.val q.isLt).1, (Band.split_row 128 n.val q.val q.isLt).2]
  have e : val_main_v34 (F := Ideal) A (ix4 n h d q)
      = ∑ k : Fin 128, A (ix2 ⟨n.val * 128 + k.val, by omega⟩ ⟨512 + (64 * h.val + d.val), by omega⟩)
        * Ideal.exp (val_main_v21 (F := Ideal) A (ix4 n h q k) - Band.lse fun k => val_main_v21 (F := Ideal) A (ix4 n h q k)) := by
    rw [val_main_v34_apply]
    refine Finset.sum_congr rfl fun k _ => ?_
    rw [show lidx_main_v34 (ix4 n h d q) k = ix4 n k h d from by funext a; match a with | ⟨0, _⟩ => rfl | ⟨1, _⟩ => rfl | ⟨2, _⟩ => rfl | ⟨3, _⟩ => rfl,
      show ridx_main_v34 (ix4 n h d q) k = ix4 n h q k from by funext a; match a with | ⟨0, _⟩ => rfl | ⟨1, _⟩ => rfl | ⟨2, _⟩ => rfl | ⟨3, _⟩ => rfl,
      vals, entry, val_main_v33_apply, val_main_v32_apply, val_main_v31_apply, val_main_v30_apply,
      show idx_main_v30 (idx_main_v31 (ix4 n h q k)) = ix3 n h q from by funext a; match a with | ⟨0, _⟩ => rfl | ⟨1, _⟩ => rfl | ⟨2, _⟩ => rfl, hl]
    rfl
  rw [e, Band.attend_dense A hA 128 (n.val * 128) q.val h.val (64 * h.val + d.val) q.isLt _ _ (fun k => scores A hA n h q k) (fun k => Band.eq_data A hA _ _)]
  unfold Band.outVal
  rw [(Band.split_row 128 n.val q.val q.isLt).1, (Band.split_row 128 n.val q.val q.isLt).2,
    show (64 * h.val + d.val) / 64 = h.val by omega]

/-- The first result is the array of attention results. -/
theorem out_eq : val_main_v39 (F := Ideal) A = Band.outArr A 128 := by
  funext i
  idx_vars i
  rw [val_main_v39_apply, val_main_v38_apply, val_main_v35_apply]
  refine Eq.trans ?_ ((row_out A hA ⟨i0.val / 128, by omega⟩ ⟨i1.val / 64, by omega⟩ ⟨i0.val % 128, by omega⟩ ⟨i1.val % 64, by omega⟩).trans ?_)
  · show val_main_v34 (F := Ideal) A _ = _
    congr 1
    funext a
    apply Fin.ext
    match a with
    | ⟨0, _⟩ => show (i0.val * 256 + i1.val) / 32768 = i0.val / 128; omega
    | ⟨1, _⟩ => show (i0.val * 256 + i1.val) / 64 % 4 = i1.val / 64; omega
    | ⟨2, _⟩ => show (i0.val * 256 + i1.val) % 64 = i1.val % 64; omega
    | ⟨3, _⟩ => show (i0.val * 256 + i1.val) / 256 % 128 = i0.val % 128; omega
  · show Band.outVal A 128 (i0.val / 128 * 128 + i0.val % 128) (64 * (i1.val / 64) + i1.val % 64) = Band.outVal A 128 i0.val i1.val
    rw [show i0.val / 128 * 128 + i0.val % 128 = i0.val by omega, show 64 * (i1.val / 64) + i1.val % 64 = i1.val by omega]

/-- The second result is the array of log-sum-exps. -/
theorem lse_eq : val_main_v40 (F := Ideal) A = Band.lseArr A 128 := by
  have e : ∀ (r : Fin 65536) (h : Fin 4), val_main_v37 (F := Ideal) A (ix2 r h) = Band.lseVal A 128 r.val h.val := by
    intro r h
    rw [val_main_v37_apply, val_main_v36_apply]
    refine Eq.trans ?_ ((row_lse A hA ⟨r.val / 128, by omega⟩ h ⟨r.val % 128, by omega⟩).trans ?_)
    · congr 1
      funext a
      apply Fin.ext
      match a with
      | ⟨0, _⟩ => show (r.val * 4 + h.val) / 512 = r.val / 128; omega
      | ⟨1, _⟩ => show (r.val * 4 + h.val) % 4 = h.val; omega
      | ⟨2, _⟩ => show (r.val * 4 + h.val) / 4 % 128 = r.val % 128; omega
    · show Band.lseVal A 128 (r.val / 128 * 128 + r.val % 128) h.val = _
      rw [show r.val / 128 * 128 + r.val % 128 = r.val by omega]
  funext i
  idx_vars i
  unfold val_main_v40 val_main_call1_v0 val_main_c_3
  generalize val_main_v37 (F := Ideal) A = y at e
  pointwise
  unfold Band.lseArr
  show _ = if i1.val < 4 then Band.lseVal A 128 i0.val i1.val else 0
  split_ifs with h
  · exact e _ _
  · show (((0#32 : BitVec 32).toInt : ℝ) : EReal) = 0
    simp

end Cert.RefAIdeal.V

end
-- ==== Proof.DilA.Claim.lean ====
/-
  The claim of the dilated attention, dilation 16: the kernel's idealization and the reference's end in the same arrays.
-/
module

public import proofs.«01_k».proof.Defs
public import proofs.«01_k».proof.Proof.DilA.Array
public import proofs.«01_k».proof.Proof.RefA.Value
public import proofs.«01_k».proof.Proof.Gen.DilAIdeal.Frame
public import proofs.«01_k».proof.Proof.Gen.RefAIdeal.Run
public import Idealize.ShloMosaic.Lib.Quiescent

@[expose] public section

noncomputable section

open Idealize.ShloMosaic Idealize.SL.Sem

namespace Cert.Proof

/-- The reference's idealization terminates, keeps its argument and has no semaphore to leave up. -/
theorem frameRefA (m : (ℓ : Loc Cert.RefAIdeal.nD Cert.RefAIdeal.τ Cert.RefAIdeal.sig) → Buf (Elt Ideal) ℓ)
    (ρ : Dev Cert.RefAIdeal.nD → PrngReg) :
    θ_run (Cert.RefAIdeal.defs (F := Ideal)) (onTc (τ := Cert.RefAIdeal.τ) (Cert.RefAIdeal.main (F := Ideal))) ⟨m, fun _ => 0, ρ⟩
      (fun r => (∀ c : Dev Cert.RefAIdeal.nD,
        r.2.mem ((c.tc : Thread Cert.RefAIdeal.nD Cert.RefAIdeal.τ).loc Cert.RefAIdeal.main_arg0)
          = m ((c.tc : Thread Cert.RefAIdeal.nD Cert.RefAIdeal.τ).loc Cert.RefAIdeal.main_arg0)) ∧ r.2.sem = fun _ => 0) :=
  (θ_run Cert.RefAIdeal.defs _ _).mono (fun r h => ⟨fun c => (h c).2.2, sem_eq_zero_of_no_sems (by decide) r.2⟩)
    (Cert.RefAIdeal.Value.run m ρ)

/-- The kernel's idealization and the reference's, run on activations that agree and have no infinite entry, end in the
    same results and the same log-sum-exps: the closed forms of sequences of 128 rows. -/
theorem algebraicA : Cert.algebraic_DilAIdeal_RefAIdeal_pre_finite := by
  intro m ρ m' ρ' hpre hag
  have hA : ∀ (c : Dev Cert.DilAIdeal.nD) i, Cert.DilAIdeal.V.acts m c i ≠ ⊤ ∧ Cert.DilAIdeal.V.acts m c i ≠ ⊥ :=
    fun c i => Band.finite_of_pre _ (hpre c) i
  refine ⟨fun c => Band.outArr (Cert.DilAIdeal.V.acts m c) 128, fun c => Band.lseArr (Cert.DilAIdeal.V.acts m c) 128, ?_, ?_⟩
  · exact (θ_run Cert.DilAIdeal.defs _ _).mono
      (fun _ h c => ⟨(h c).1.trans (Cert.DilAIdeal.V.final_out m c (hA c)),
        (h c).2.1.trans (Cert.DilAIdeal.V.final_lse m c (hA c)), (h c).2.2⟩)
      (Cert.DilAIdeal.Value.run_blocks m ρ)
  · refine (θ_run Cert.RefAIdeal.defs _ _).mono (fun _ h c => ⟨(h c).1.trans ?_, (h c).2.1.trans ?_, (h c).2.2⟩)
      (Cert.RefAIdeal.Value.run m' ρ')
    · rw [Cert.RefAIdeal.Read.val_main_v39_eq, hag c]
      exact Cert.RefAIdeal.V.out_eq _ (hA c)
    · rw [Cert.RefAIdeal.Read.val_main_v40_eq, hag c]
      exact Cert.RefAIdeal.V.lse_eq _ (hA c)

end Cert.Proof

end
-- ==== Proof.DilB.Out.lean ====
/-
  The dilated attention's block (dilation 4: a sequence is four tiles, two sequences to a block): the attention's results a grid point leaves are the formulas of
  `Band/Tile.lean` on the tiles of its block.
-/
module

public import proofs.«01_k».proof.Proof.Gen.DilBIdeal.Value
public import proofs.«01_k».proof.Proof.Band.Block
public import Idealize.ShloMosaic.Lib.Pointwise
public import Idealize.ShloMosaic.Lib.Tactic
public import Idealize.ShloMosaic.Lib.Pipeline.ReadBack
public import Idealize.ShloMosaic.Lib.Pipeline.ValueKit

@[expose] public section

set_option maxRecDepth 16384
set_option maxHeartbeats 4000000

noncomputable section

open Idealize.ShloMosaic Idealize.ShloMosaic.TcCoe Idealize.SL.Sem

namespace Cert.DilBIdeal.V

open Cert.DilBIdeal Cert.DilBIdeal.Gen

local notation "F" => Ideal

/-- The attention's results of tile `u` of a block. -/
def outB (x0 : Band.Blk) (u : Fin 8) (h : Fin 4) (r : Fin 128) (j : Fin 256) : EReal :=
  if u.val % 4 = 0 then Band.outFirst (Band.blkTile x0 0 u) (Band.blkTile x0 1 u) (Band.blkTile x0 2 u) h r j
  else Band.outNext (Band.blkTile x0 0 u) (Band.blkTile x0 1 u) (Band.blkTile x0 2 u) (Band.blkTile x0 1 (u - 1)) (Band.blkTile x0 2 (u - 1)) h r j

theorem ld_blk_o (x : Vec F S1024x768 .bf16) (p : Fin 3) (u : Fin 8) (a b : ℕ) (ha : a = 128 * u.val) (hb : b = 256 * p.val)
    (inb : ∀ i, (![a, b] : Fin 2 → ℕ) i + S128x256.size i ≤ S1024x768.size i) :
    View.ld x (Rect.unit (s := S1024x768) ![a, b] S128x256.size inb) = Band.blkTile x p u := Band.ld_blk x p u a b ha hb inb

/-- What a grid point leaves in its block of the attention's results. -/
theorem out_eq (c : Dev nD) (i : grid0.Coords) (arg1 : Memref sig .tc .vmem S1024x768 .bf16) (harg1 : arg1.IsWhole)
    (arg2 : Memref sig .tc .vmem S128x768 .bf16) (harg2 : arg2.IsWhole) (arg3 : Memref sig .tc .vmem S1024x256 .bf16)
    (harg3 : arg3.IsWhole) (arg4 : Memref sig .tc .vmem S1024x128 .f32) (harg4 : arg4.IsWhole)
    (arg5 : Memref sig .tc .vmem S8x4x2x128x128 .f32) (harg5 : arg5.IsWhole)
    (arg6 : Memref sig .tc .vmem S8x4x2x128x128 .bf16) (harg6 : arg6.IsWhole)
    (x0 : Vec F S1024x768 .bf16) (x1 : Vec F S128x768 .bf16) (j : S1024x256.Idx) :
    out0_A_2 c i arg1 harg1 arg2 harg2 arg3 harg3 arg4 harg4 arg5 harg5 arg6 harg6 x0 x1 j = Band.blkOut (outB x0) j := by
  unfold out0_A_2
  rw [View.read_writes_eq_canon _ _ _ (cover0_A_2 c i arg1 harg1 arg2 harg2 arg3 harg3 arg4 harg4 arg5 harg5 arg6 harg6 x0 x1)]
  refine (View.canon_apply_of_pieces (Band.blkOut (outB x0)) _ ?_ j
    (cover0_A_2 c i arg1 harg1 arg2 harg2 arg3 harg3 arg4 harg4 arg5 harg5 arg6 harg6 x0 x1 j))
  unfold kernelRun0_A
  dsimp only
  simp only [List.forall_mem_cons, List.not_mem_nil, false_implies, implies_true, and_true]
  refine ⟨?_, ?_, ?_, ?_, ?_, ?_, ?_, ?_⟩
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outB x0) 7 j0 j1 h hh _ (by simp) (by simp),
      show outB x0 7 h j0 j1 = Band.outNext (Band.blkTile x0 0 7) (Band.blkTile x0 1 7) (Band.blkTile x0 2 7) (Band.blkTile x0 1 6) (Band.blkTile x0 2 6) h j0 j1 from rfl]
    simp only [ld_blk_o x0 0 7 896 0 rfl rfl,
      ld_blk_o x0 1 7 896 256 rfl rfl,
      ld_blk_o x0 2 7 896 512 rfl rfl,
      ld_blk_o x0 1 6 768 256 rfl rfl,
      ld_blk_o x0 2 6 768 512 rfl rfl]
    generalize Band.blkTile x0 0 7 = q
    generalize Band.blkTile x0 1 7 = k
    generalize Band.blkTile x0 2 7 = v
    generalize Band.blkTile x0 1 6 = kp
    generalize Band.blkTile x0 2 6 = vp
    unfold_payloads
    pointwise
    refine Band.ladder j1.val j1.isLt _ _ _ _ _ ?_ ?_ ?_ ?_
    · intro _ e
      have := Band.outNext_from q k v kp vp h j0 j1 0 (hh.trans e) rfl (by omega) j1.val rfl
      simp only [Band.fin_zero_add] at this
      exact this
    · intro _ _ e e'
      exact Band.outNext_from q k v kp vp h j0 j1 64 (hh.trans e) rfl (by omega) _ e'
    · intro _ _ _ e e'
      exact Band.outNext_from q k v kp vp h j0 j1 128 (hh.trans e) rfl (by omega) _ e'
    · intro _ _ _ e e'
      exact Band.outNext_from q k v kp vp h j0 j1 192 (hh.trans e) rfl (by omega) _ e'
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outB x0) 6 j0 j1 h hh _ (by simp) (by simp),
      show outB x0 6 h j0 j1 = Band.outNext (Band.blkTile x0 0 6) (Band.blkTile x0 1 6) (Band.blkTile x0 2 6) (Band.blkTile x0 1 5) (Band.blkTile x0 2 5) h j0 j1 from rfl]
    simp only [ld_blk_o x0 0 6 768 0 rfl rfl,
      ld_blk_o x0 1 6 768 256 rfl rfl,
      ld_blk_o x0 2 6 768 512 rfl rfl,
      ld_blk_o x0 1 5 640 256 rfl rfl,
      ld_blk_o x0 2 5 640 512 rfl rfl]
    generalize Band.blkTile x0 0 6 = q
    generalize Band.blkTile x0 1 6 = k
    generalize Band.blkTile x0 2 6 = v
    generalize Band.blkTile x0 1 5 = kp
    generalize Band.blkTile x0 2 5 = vp
    unfold_payloads
    pointwise
    refine Band.ladder j1.val j1.isLt _ _ _ _ _ ?_ ?_ ?_ ?_
    · intro _ e
      have := Band.outNext_from q k v kp vp h j0 j1 0 (hh.trans e) rfl (by omega) j1.val rfl
      simp only [Band.fin_zero_add] at this
      exact this
    · intro _ _ e e'
      exact Band.outNext_from q k v kp vp h j0 j1 64 (hh.trans e) rfl (by omega) _ e'
    · intro _ _ _ e e'
      exact Band.outNext_from q k v kp vp h j0 j1 128 (hh.trans e) rfl (by omega) _ e'
    · intro _ _ _ e e'
      exact Band.outNext_from q k v kp vp h j0 j1 192 (hh.trans e) rfl (by omega) _ e'
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outB x0) 5 j0 j1 h hh _ (by simp) (by simp),
      show outB x0 5 h j0 j1 = Band.outNext (Band.blkTile x0 0 5) (Band.blkTile x0 1 5) (Band.blkTile x0 2 5) (Band.blkTile x0 1 4) (Band.blkTile x0 2 4) h j0 j1 from rfl]
    simp only [ld_blk_o x0 0 5 640 0 rfl rfl,
      ld_blk_o x0 1 5 640 256 rfl rfl,
      ld_blk_o x0 2 5 640 512 rfl rfl,
      ld_blk_o x0 1 4 512 256 rfl rfl,
      ld_blk_o x0 2 4 512 512 rfl rfl]
    generalize Band.blkTile x0 0 5 = q
    generalize Band.blkTile x0 1 5 = k
    generalize Band.blkTile x0 2 5 = v
    generalize Band.blkTile x0 1 4 = kp
    generalize Band.blkTile x0 2 4 = vp
    unfold_payloads
    pointwise
    refine Band.ladder j1.val j1.isLt _ _ _ _ _ ?_ ?_ ?_ ?_
    · intro _ e
      have := Band.outNext_from q k v kp vp h j0 j1 0 (hh.trans e) rfl (by omega) j1.val rfl
      simp only [Band.fin_zero_add] at this
      exact this
    · intro _ _ e e'
      exact Band.outNext_from q k v kp vp h j0 j1 64 (hh.trans e) rfl (by omega) _ e'
    · intro _ _ _ e e'
      exact Band.outNext_from q k v kp vp h j0 j1 128 (hh.trans e) rfl (by omega) _ e'
    · intro _ _ _ e e'
      exact Band.outNext_from q k v kp vp h j0 j1 192 (hh.trans e) rfl (by omega) _ e'
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outB x0) 4 j0 j1 h hh _ (by simp) (by simp),
      show outB x0 4 h j0 j1 = Band.outFirst (Band.blkTile x0 0 4) (Band.blkTile x0 1 4) (Band.blkTile x0 2 4) h j0 j1 from rfl]
    simp only [ld_blk_o x0 0 4 512 0 rfl rfl,
      ld_blk_o x0 1 4 512 256 rfl rfl,
      ld_blk_o x0 2 4 512 512 rfl rfl]
    generalize Band.blkTile x0 0 4 = q
    generalize Band.blkTile x0 1 4 = k
    generalize Band.blkTile x0 2 4 = v
    unfold_payloads
    pointwise
    refine Band.ladder j1.val j1.isLt _ _ _ _ _ ?_ ?_ ?_ ?_
    · intro _ e
      have := Band.outFirst_from q k v h j0 j1 0 (hh.trans e) rfl (by omega) j1.val rfl
      simp only [Band.fin_zero_add] at this
      exact this
    · intro _ _ e e'
      exact Band.outFirst_from q k v h j0 j1 64 (hh.trans e) rfl (by omega) _ e'
    · intro _ _ _ e e'
      exact Band.outFirst_from q k v h j0 j1 128 (hh.trans e) rfl (by omega) _ e'
    · intro _ _ _ e e'
      exact Band.outFirst_from q k v h j0 j1 192 (hh.trans e) rfl (by omega) _ e'
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outB x0) 3 j0 j1 h hh _ (by simp) (by simp),
      show outB x0 3 h j0 j1 = Band.outNext (Band.blkTile x0 0 3) (Band.blkTile x0 1 3) (Band.blkTile x0 2 3) (Band.blkTile x0 1 2) (Band.blkTile x0 2 2) h j0 j1 from rfl]
    simp only [ld_blk_o x0 0 3 384 0 rfl rfl,
      ld_blk_o x0 1 3 384 256 rfl rfl,
      ld_blk_o x0 2 3 384 512 rfl rfl,
      ld_blk_o x0 1 2 256 256 rfl rfl,
      ld_blk_o x0 2 2 256 512 rfl rfl]
    generalize Band.blkTile x0 0 3 = q
    generalize Band.blkTile x0 1 3 = k
    generalize Band.blkTile x0 2 3 = v
    generalize Band.blkTile x0 1 2 = kp
    generalize Band.blkTile x0 2 2 = vp
    unfold_payloads
    pointwise
    refine Band.ladder j1.val j1.isLt _ _ _ _ _ ?_ ?_ ?_ ?_
    · intro _ e
      have := Band.outNext_from q k v kp vp h j0 j1 0 (hh.trans e) rfl (by omega) j1.val rfl
      simp only [Band.fin_zero_add] at this
      exact this
    · intro _ _ e e'
      exact Band.outNext_from q k v kp vp h j0 j1 64 (hh.trans e) rfl (by omega) _ e'
    · intro _ _ _ e e'
      exact Band.outNext_from q k v kp vp h j0 j1 128 (hh.trans e) rfl (by omega) _ e'
    · intro _ _ _ e e'
      exact Band.outNext_from q k v kp vp h j0 j1 192 (hh.trans e) rfl (by omega) _ e'
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outB x0) 2 j0 j1 h hh _ (by simp) (by simp),
      show outB x0 2 h j0 j1 = Band.outNext (Band.blkTile x0 0 2) (Band.blkTile x0 1 2) (Band.blkTile x0 2 2) (Band.blkTile x0 1 1) (Band.blkTile x0 2 1) h j0 j1 from rfl]
    simp only [ld_blk_o x0 0 2 256 0 rfl rfl,
      ld_blk_o x0 1 2 256 256 rfl rfl,
      ld_blk_o x0 2 2 256 512 rfl rfl,
      ld_blk_o x0 1 1 128 256 rfl rfl,
      ld_blk_o x0 2 1 128 512 rfl rfl]
    generalize Band.blkTile x0 0 2 = q
    generalize Band.blkTile x0 1 2 = k
    generalize Band.blkTile x0 2 2 = v
    generalize Band.blkTile x0 1 1 = kp
    generalize Band.blkTile x0 2 1 = vp
    unfold_payloads
    pointwise
    refine Band.ladder j1.val j1.isLt _ _ _ _ _ ?_ ?_ ?_ ?_
    · intro _ e
      have := Band.outNext_from q k v kp vp h j0 j1 0 (hh.trans e) rfl (by omega) j1.val rfl
      simp only [Band.fin_zero_add] at this
      exact this
    · intro _ _ e e'
      exact Band.outNext_from q k v kp vp h j0 j1 64 (hh.trans e) rfl (by omega) _ e'
    · intro _ _ _ e e'
      exact Band.outNext_from q k v kp vp h j0 j1 128 (hh.trans e) rfl (by omega) _ e'
    · intro _ _ _ e e'
      exact Band.outNext_from q k v kp vp h j0 j1 192 (hh.trans e) rfl (by omega) _ e'
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outB x0) 1 j0 j1 h hh _ (by simp) (by simp),
      show outB x0 1 h j0 j1 = Band.outNext (Band.blkTile x0 0 1) (Band.blkTile x0 1 1) (Band.blkTile x0 2 1) (Band.blkTile x0 1 0) (Band.blkTile x0 2 0) h j0 j1 from rfl]
    simp only [ld_blk_o x0 0 1 128 0 rfl rfl,
      ld_blk_o x0 1 1 128 256 rfl rfl,
      ld_blk_o x0 2 1 128 512 rfl rfl,
      ld_blk_o x0 1 0 0 256 rfl rfl,
      ld_blk_o x0 2 0 0 512 rfl rfl]
    generalize Band.blkTile x0 0 1 = q
    generalize Band.blkTile x0 1 1 = k
    generalize Band.blkTile x0 2 1 = v
    generalize Band.blkTile x0 1 0 = kp
    generalize Band.blkTile x0 2 0 = vp
    unfold_payloads
    pointwise
    refine Band.ladder j1.val j1.isLt _ _ _ _ _ ?_ ?_ ?_ ?_
    · intro _ e
      have := Band.outNext_from q k v kp vp h j0 j1 0 (hh.trans e) rfl (by omega) j1.val rfl
      simp only [Band.fin_zero_add] at this
      exact this
    · intro _ _ e e'
      exact Band.outNext_from q k v kp vp h j0 j1 64 (hh.trans e) rfl (by omega) _ e'
    · intro _ _ _ e e'
      exact Band.outNext_from q k v kp vp h j0 j1 128 (hh.trans e) rfl (by omega) _ e'
    · intro _ _ _ e e'
      exact Band.outNext_from q k v kp vp h j0 j1 192 (hh.trans e) rfl (by omega) _ e'
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outB x0) 0 j0 j1 h hh _ (by simp) (by simp),
      show outB x0 0 h j0 j1 = Band.outFirst (Band.blkTile x0 0 0) (Band.blkTile x0 1 0) (Band.blkTile x0 2 0) h j0 j1 from rfl]
    simp only [ld_blk_o x0 0 0 0 0 rfl rfl,
      ld_blk_o x0 1 0 0 256 rfl rfl,
      ld_blk_o x0 2 0 0 512 rfl rfl]
    generalize Band.blkTile x0 0 0 = q
    generalize Band.blkTile x0 1 0 = k
    generalize Band.blkTile x0 2 0 = v
    unfold_payloads
    pointwise
    refine Band.ladder j1.val j1.isLt _ _ _ _ _ ?_ ?_ ?_ ?_
    · intro _ e
      have := Band.outFirst_from q k v h j0 j1 0 (hh.trans e) rfl (by omega) j1.val rfl
      simp only [Band.fin_zero_add] at this
      exact this
    · intro _ _ e e'
      exact Band.outFirst_from q k v h j0 j1 64 (hh.trans e) rfl (by omega) _ e'
    · intro _ _ _ e e'
      exact Band.outFirst_from q k v h j0 j1 128 (hh.trans e) rfl (by omega) _ e'
    · intro _ _ _ e e'
      exact Band.outFirst_from q k v h j0 j1 192 (hh.trans e) rfl (by omega) _ e'

end Cert.DilBIdeal.V

end
-- ==== Proof.DilB.Lse.lean ====
/-
  The dilated attention's block (dilation 4: a sequence is four tiles, two sequences to a block): the log-sum-exps a grid point leaves are the formulas of
  `Band/Tile.lean` on the tiles of its block.
-/
module

public import proofs.«01_k».proof.Proof.Gen.DilBIdeal.Value
public import proofs.«01_k».proof.Proof.Band.Block
public import Idealize.ShloMosaic.Lib.Pointwise
public import Idealize.ShloMosaic.Lib.Tactic
public import Idealize.ShloMosaic.Lib.Pipeline.ReadBack
public import Idealize.ShloMosaic.Lib.Pipeline.ValueKit

@[expose] public section

set_option maxRecDepth 16384
set_option maxHeartbeats 4000000

noncomputable section

open Idealize.ShloMosaic Idealize.ShloMosaic.TcCoe Idealize.SL.Sem

namespace Cert.DilBIdeal.V

open Cert.DilBIdeal Cert.DilBIdeal.Gen

local notation "F" => Ideal

/-- The log-sum-exps of tile `u` of a block. -/
def lseB (x0 : Band.Blk) (u : Fin 8) (h : Fin 4) (r : Fin 128) : EReal :=
  if u.val % 4 = 0 then Band.lseFirst (Band.blkTile x0 0 u) (Band.blkTile x0 1 u) h r
  else Band.lseNext (Band.blkTile x0 0 u) (Band.blkTile x0 1 u) (Band.blkTile x0 1 (u - 1)) h r

theorem ld_blk_l (x : Vec F S1024x768 .bf16) (p : Fin 3) (u : Fin 8) (a b : ℕ) (ha : a = 128 * u.val) (hb : b = 256 * p.val)
    (inb : ∀ i, (![a, b] : Fin 2 → ℕ) i + S128x256.size i ≤ S1024x768.size i) :
    View.ld x (Rect.unit (s := S1024x768) ![a, b] S128x256.size inb) = Band.blkTile x p u := Band.ld_blk x p u a b ha hb inb

/-- What a grid point leaves in its block of the log-sum-exps. -/
theorem lse_eq (c : Dev nD) (i : grid0.Coords) (arg1 : Memref sig .tc .vmem S1024x768 .bf16) (harg1 : arg1.IsWhole)
    (arg2 : Memref sig .tc .vmem S128x768 .bf16) (harg2 : arg2.IsWhole) (arg3 : Memref sig .tc .vmem S1024x256 .bf16)
    (harg3 : arg3.IsWhole) (arg4 : Memref sig .tc .vmem S1024x128 .f32) (harg4 : arg4.IsWhole)
    (arg5 : Memref sig .tc .vmem S8x4x2x128x128 .f32) (harg5 : arg5.IsWhole)
    (arg6 : Memref sig .tc .vmem S8x4x2x128x128 .bf16) (harg6 : arg6.IsWhole)
    (x0 : Vec F S1024x768 .bf16) (x1 : Vec F S128x768 .bf16) (j : S1024x128.Idx) :
    out0_A_3 c i arg1 harg1 arg2 harg2 arg3 harg3 arg4 harg4 arg5 harg5 arg6 harg6 x0 x1 j = Band.blkLse (lseB x0) j := by
  unfold out0_A_3
  rw [View.read_writes_eq_canon _ _ _ (cover0_A_3 c i arg1 harg1 arg2 harg2 arg3 harg3 arg4 harg4 arg5 harg5 arg6 harg6 x0 x1)]
  refine (View.canon_apply_of_pieces (Band.blkLse (lseB x0)) _ ?_ j
    (cover0_A_3 c i arg1 harg1 arg2 harg2 arg3 harg3 arg4 harg4 arg5 harg5 arg6 harg6 x0 x1 j))
  unfold kernelRun0_A
  dsimp only
  simp only [List.forall_mem_cons, List.not_mem_nil, false_implies, implies_true, and_true]
  refine ⟨?_, ?_, ?_, ?_, ?_, ?_, ?_, ?_⟩
  · sl_unfold_words
    simp (disch := decide) only [↓ View.readCov_skip, ↓ View.readCov_cons_toLoadRect]
    simp only [View.readAt_eq_ld, harg1.read_unread, harg2.read_unread]
    intro j
    idx_vars j
    have e : ∀ h : Fin 4, lseB x0 7 h j0 = Band.lseNext (Band.blkTile x0 0 7) (Band.blkTile x0 1 7) (Band.blkTile x0 1 6) h j0 := fun _ => rfl
    rw [Band.blkLse_at (lseB x0) 7 j0 j1 _ (by simp) (by simp)]
    simp only [e]
    clear e
    simp only [ld_blk_l x0 0 7 896 0 rfl rfl,
      ld_blk_l x0 1 7 896 256 rfl rfl,
      ld_blk_l x0 1 6 768 256 rfl rfl]
    generalize Band.blkTile x0 0 7 = q
    generalize Band.blkTile x0 1 7 = k
    generalize Band.blkTile x0 1 6 = kp
    unfold_payloads
    pointwise
    refine Band.steps j1.val _ _ _ _ _ ?_ ?_ ?_ ?_
    · intro _ h e
      have := Band.lseNext_from q k kp ⟨j1.val, h⟩ j0 0 e rfl (by omega)
      simp only [Band.fin_zero_add] at this
      exact this
    · intro _ _ h e
      exact Band.lseNext_from q k kp ⟨j1.val, h⟩ j0 64 e rfl (by omega)
    · intro _ _ _ h e
      exact Band.lseNext_from q k kp ⟨j1.val, h⟩ j0 128 e rfl (by omega)
    · intro _ _ _ _ h e
      exact Band.lseNext_from q k kp ⟨j1.val, h⟩ j0 192 e rfl (by omega)
  · sl_unfold_words
    simp (disch := decide) only [↓ View.readCov_skip, ↓ View.readCov_cons_toLoadRect]
    simp only [View.readAt_eq_ld, harg1.read_unread, harg2.read_unread]
    intro j
    idx_vars j
    have e : ∀ h : Fin 4, lseB x0 6 h j0 = Band.lseNext (Band.blkTile x0 0 6) (Band.blkTile x0 1 6) (Band.blkTile x0 1 5) h j0 := fun _ => rfl
    rw [Band.blkLse_at (lseB x0) 6 j0 j1 _ (by simp) (by simp)]
    simp only [e]
    clear e
    simp only [ld_blk_l x0 0 6 768 0 rfl rfl,
      ld_blk_l x0 1 6 768 256 rfl rfl,
      ld_blk_l x0 1 5 640 256 rfl rfl]
    generalize Band.blkTile x0 0 6 = q
    generalize Band.blkTile x0 1 6 = k
    generalize Band.blkTile x0 1 5 = kp
    unfold_payloads
    pointwise
    refine Band.steps j1.val _ _ _ _ _ ?_ ?_ ?_ ?_
    · intro _ h e
      have := Band.lseNext_from q k kp ⟨j1.val, h⟩ j0 0 e rfl (by omega)
      simp only [Band.fin_zero_add] at this
      exact this
    · intro _ _ h e
      exact Band.lseNext_from q k kp ⟨j1.val, h⟩ j0 64 e rfl (by omega)
    · intro _ _ _ h e
      exact Band.lseNext_from q k kp ⟨j1.val, h⟩ j0 128 e rfl (by omega)
    · intro _ _ _ _ h e
      exact Band.lseNext_from q k kp ⟨j1.val, h⟩ j0 192 e rfl (by omega)
  · sl_unfold_words
    simp (disch := decide) only [↓ View.readCov_skip, ↓ View.readCov_cons_toLoadRect]
    simp only [View.readAt_eq_ld, harg1.read_unread, harg2.read_unread]
    intro j
    idx_vars j
    have e : ∀ h : Fin 4, lseB x0 5 h j0 = Band.lseNext (Band.blkTile x0 0 5) (Band.blkTile x0 1 5) (Band.blkTile x0 1 4) h j0 := fun _ => rfl
    rw [Band.blkLse_at (lseB x0) 5 j0 j1 _ (by simp) (by simp)]
    simp only [e]
    clear e
    simp only [ld_blk_l x0 0 5 640 0 rfl rfl,
      ld_blk_l x0 1 5 640 256 rfl rfl,
      ld_blk_l x0 1 4 512 256 rfl rfl]
    generalize Band.blkTile x0 0 5 = q
    generalize Band.blkTile x0 1 5 = k
    generalize Band.blkTile x0 1 4 = kp
    unfold_payloads
    pointwise
    refine Band.steps j1.val _ _ _ _ _ ?_ ?_ ?_ ?_
    · intro _ h e
      have := Band.lseNext_from q k kp ⟨j1.val, h⟩ j0 0 e rfl (by omega)
      simp only [Band.fin_zero_add] at this
      exact this
    · intro _ _ h e
      exact Band.lseNext_from q k kp ⟨j1.val, h⟩ j0 64 e rfl (by omega)
    · intro _ _ _ h e
      exact Band.lseNext_from q k kp ⟨j1.val, h⟩ j0 128 e rfl (by omega)
    · intro _ _ _ _ h e
      exact Band.lseNext_from q k kp ⟨j1.val, h⟩ j0 192 e rfl (by omega)
  · sl_unfold_words
    simp (disch := decide) only [↓ View.readCov_skip, ↓ View.readCov_cons_toLoadRect]
    simp only [View.readAt_eq_ld, harg1.read_unread, harg2.read_unread]
    intro j
    idx_vars j
    have e : ∀ h : Fin 4, lseB x0 4 h j0 = Band.lseFirst (Band.blkTile x0 0 4) (Band.blkTile x0 1 4) h j0 := fun _ => rfl
    rw [Band.blkLse_at (lseB x0) 4 j0 j1 _ (by simp) (by simp)]
    simp only [e]
    clear e
    simp only [ld_blk_l x0 0 4 512 0 rfl rfl,
      ld_blk_l x0 1 4 512 256 rfl rfl]
    generalize Band.blkTile x0 0 4 = q
    generalize Band.blkTile x0 1 4 = k
    unfold_payloads
    pointwise
    refine Band.steps j1.val _ _ _ _ _ ?_ ?_ ?_ ?_
    · intro _ h e
      have := Band.lseFirst_from q k ⟨j1.val, h⟩ j0 0 e rfl (by omega)
      simp only [Band.fin_zero_add] at this
      exact this
    · intro _ _ h e
      exact Band.lseFirst_from q k ⟨j1.val, h⟩ j0 64 e rfl (by omega)
    · intro _ _ _ h e
      exact Band.lseFirst_from q k ⟨j1.val, h⟩ j0 128 e rfl (by omega)
    · intro _ _ _ _ h e
      exact Band.lseFirst_from q k ⟨j1.val, h⟩ j0 192 e rfl (by omega)
  · sl_unfold_words
    simp (disch := decide) only [↓ View.readCov_skip, ↓ View.readCov_cons_toLoadRect]
    simp only [View.readAt_eq_ld, harg1.read_unread, harg2.read_unread]
    intro j
    idx_vars j
    have e : ∀ h : Fin 4, lseB x0 3 h j0 = Band.lseNext (Band.blkTile x0 0 3) (Band.blkTile x0 1 3) (Band.blkTile x0 1 2) h j0 := fun _ => rfl
    rw [Band.blkLse_at (lseB x0) 3 j0 j1 _ (by simp) (by simp)]
    simp only [e]
    clear e
    simp only [ld_blk_l x0 0 3 384 0 rfl rfl,
      ld_blk_l x0 1 3 384 256 rfl rfl,
      ld_blk_l x0 1 2 256 256 rfl rfl]
    generalize Band.blkTile x0 0 3 = q
    generalize Band.blkTile x0 1 3 = k
    generalize Band.blkTile x0 1 2 = kp
    unfold_payloads
    pointwise
    refine Band.steps j1.val _ _ _ _ _ ?_ ?_ ?_ ?_
    · intro _ h e
      have := Band.lseNext_from q k kp ⟨j1.val, h⟩ j0 0 e rfl (by omega)
      simp only [Band.fin_zero_add] at this
      exact this
    · intro _ _ h e
      exact Band.lseNext_from q k kp ⟨j1.val, h⟩ j0 64 e rfl (by omega)
    · intro _ _ _ h e
      exact Band.lseNext_from q k kp ⟨j1.val, h⟩ j0 128 e rfl (by omega)
    · intro _ _ _ _ h e
      exact Band.lseNext_from q k kp ⟨j1.val, h⟩ j0 192 e rfl (by omega)
  · sl_unfold_words
    simp (disch := decide) only [↓ View.readCov_skip, ↓ View.readCov_cons_toLoadRect]
    simp only [View.readAt_eq_ld, harg1.read_unread, harg2.read_unread]
    intro j
    idx_vars j
    have e : ∀ h : Fin 4, lseB x0 2 h j0 = Band.lseNext (Band.blkTile x0 0 2) (Band.blkTile x0 1 2) (Band.blkTile x0 1 1) h j0 := fun _ => rfl
    rw [Band.blkLse_at (lseB x0) 2 j0 j1 _ (by simp) (by simp)]
    simp only [e]
    clear e
    simp only [ld_blk_l x0 0 2 256 0 rfl rfl,
      ld_blk_l x0 1 2 256 256 rfl rfl,
      ld_blk_l x0 1 1 128 256 rfl rfl]
    generalize Band.blkTile x0 0 2 = q
    generalize Band.blkTile x0 1 2 = k
    generalize Band.blkTile x0 1 1 = kp
    unfold_payloads
    pointwise
    refine Band.steps j1.val _ _ _ _ _ ?_ ?_ ?_ ?_
    · intro _ h e
      have := Band.lseNext_from q k kp ⟨j1.val, h⟩ j0 0 e rfl (by omega)
      simp only [Band.fin_zero_add] at this
      exact this
    · intro _ _ h e
      exact Band.lseNext_from q k kp ⟨j1.val, h⟩ j0 64 e rfl (by omega)
    · intro _ _ _ h e
      exact Band.lseNext_from q k kp ⟨j1.val, h⟩ j0 128 e rfl (by omega)
    · intro _ _ _ _ h e
      exact Band.lseNext_from q k kp ⟨j1.val, h⟩ j0 192 e rfl (by omega)
  · sl_unfold_words
    simp (disch := decide) only [↓ View.readCov_skip, ↓ View.readCov_cons_toLoadRect]
    simp only [View.readAt_eq_ld, harg1.read_unread, harg2.read_unread]
    intro j
    idx_vars j
    have e : ∀ h : Fin 4, lseB x0 1 h j0 = Band.lseNext (Band.blkTile x0 0 1) (Band.blkTile x0 1 1) (Band.blkTile x0 1 0) h j0 := fun _ => rfl
    rw [Band.blkLse_at (lseB x0) 1 j0 j1 _ (by simp) (by simp)]
    simp only [e]
    clear e
    simp only [ld_blk_l x0 0 1 128 0 rfl rfl,
      ld_blk_l x0 1 1 128 256 rfl rfl,
      ld_blk_l x0 1 0 0 256 rfl rfl]
    generalize Band.blkTile x0 0 1 = q
    generalize Band.blkTile x0 1 1 = k
    generalize Band.blkTile x0 1 0 = kp
    unfold_payloads
    pointwise
    refine Band.steps j1.val _ _ _ _ _ ?_ ?_ ?_ ?_
    · intro _ h e
      have := Band.lseNext_from q k kp ⟨j1.val, h⟩ j0 0 e rfl (by omega)
      simp only [Band.fin_zero_add] at this
      exact this
    · intro _ _ h e
      exact Band.lseNext_from q k kp ⟨j1.val, h⟩ j0 64 e rfl (by omega)
    · intro _ _ _ h e
      exact Band.lseNext_from q k kp ⟨j1.val, h⟩ j0 128 e rfl (by omega)
    · intro _ _ _ _ h e
      exact Band.lseNext_from q k kp ⟨j1.val, h⟩ j0 192 e rfl (by omega)
  · sl_unfold_words
    simp (disch := decide) only [↓ View.readCov_skip, ↓ View.readCov_cons_toLoadRect]
    simp only [View.readAt_eq_ld, harg1.read_unread, harg2.read_unread]
    intro j
    idx_vars j
    have e : ∀ h : Fin 4, lseB x0 0 h j0 = Band.lseFirst (Band.blkTile x0 0 0) (Band.blkTile x0 1 0) h j0 := fun _ => rfl
    rw [Band.blkLse_at (lseB x0) 0 j0 j1 _ (by simp) (by simp)]
    simp only [e]
    clear e
    simp only [ld_blk_l x0 0 0 0 0 rfl rfl,
      ld_blk_l x0 1 0 0 256 rfl rfl]
    generalize Band.blkTile x0 0 0 = q
    generalize Band.blkTile x0 1 0 = k
    unfold_payloads
    pointwise
    refine Band.steps j1.val _ _ _ _ _ ?_ ?_ ?_ ?_
    · intro _ h e
      have := Band.lseFirst_from q k ⟨j1.val, h⟩ j0 0 e rfl (by omega)
      simp only [Band.fin_zero_add] at this
      exact this
    · intro _ _ h e
      exact Band.lseFirst_from q k ⟨j1.val, h⟩ j0 64 e rfl (by omega)
    · intro _ _ _ h e
      exact Band.lseFirst_from q k ⟨j1.val, h⟩ j0 128 e rfl (by omega)
    · intro _ _ _ _ h e
      exact Band.lseFirst_from q k ⟨j1.val, h⟩ j0 192 e rfl (by omega)

end Cert.DilBIdeal.V

end
-- ==== Proof.DilB.Array.lean ====
/-
  The dilated attention's kernel, dilation 4 (sequences of 512 rows): the arrays its run leaves are the closed forms.
-/
module

public import proofs.«01_k».proof.Proof.Gen.DilBIdeal.Value
public import proofs.«01_k».proof.Proof.DilB.Out
public import proofs.«01_k».proof.Proof.DilB.Lse
public import proofs.«01_k».proof.Proof.Band.Assemble

@[expose] public section

set_option maxRecDepth 16384

noncomputable section

open Idealize.ShloMosaic Idealize.ShloMosaic.TcCoe Idealize.SL.Sem

namespace Cert.DilBIdeal.V

open Cert.DilBIdeal Cert.DilBIdeal.Gen Cert.DilBIdeal.Value

variable (m : (ℓ : Loc nD τ sig) → Buf (Elt Ideal) ℓ)

/-- The activations. -/
abbrev acts (c : Dev nD) : Band.Acts := m ((c : Thread nD τ).loc main_arg0)

theorem index0 : ∀ t : Fin cfg0.N, win0_0.index t 0 = t.val ∧ win0_0.index t 1 = 0 :=
  (by decide +kernel : ∀ t : Fin grid0.N, win0_0.index t 0 = t.val ∧ win0_0.index t 1 = 0)

theorem index2 : ∀ t : Fin cfg0.N, win0_2.index t 0 = t.val ∧ win0_2.index t 1 = 0 :=
  (by decide +kernel : ∀ t : Fin grid0.N, win0_2.index t 0 = t.val ∧ win0_2.index t 1 = 0)

theorem index3 : ∀ t : Fin cfg0.N, win0_3.index t 0 = t.val ∧ win0_3.index t 1 = 0 :=
  (by decide +kernel : ∀ t : Fin grid0.N, win0_3.index t 0 = t.val ∧ win0_3.index t 1 = 0)

/-- A grid point's number. -/
abbrev pt (t : Fin cfg0.N) : Fin 64 := ⟨t.val, N_0 ▸ t.isLt⟩

/-- The block of activations a grid point reads: 1024 rows of the array. -/
theorem block_row (c : Dev nD) (t : Fin cfg0.N) (r : Fin 1024) (k : Fin 768) :
    (iblk m c 0 t : Vec Ideal S1024x768 .bf16) (ix2 r k) = acts m c (ix2 ⟨1024 * (pt t).val + r.val, by omega⟩ k) := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = 1024 * t.val + r.val; rw [(index0 t).1]; omega
  | ⟨1, _⟩ => show win0_0.index t 1 * 768 + 1 * k.val = k.val; rw [(index0 t).2]; omega

variable (c : Dev nD) (hA : ∀ i, acts m c i ≠ ⊤ ∧ acts m c i ≠ ⊥)
include hA

/-- A tile's results at a grid point are the array's rows. -/
theorem out_tile (t : Fin cfg0.N) (u : Fin 8) (h : Fin 4) (r : Fin 128) (j : Fin 256) (hh : h.val = j.val / 64) :
    outB (iblk m c 0 t) u h r j = Band.outVal (acts m c) 512 (128 * (8 * (pt t).val + u.val) + r.val) j.val := by
  have hb : ∀ p u, Band.blkTile (iblk m c 0 t) p u = Band.tileOf (acts m c) p ⟨8 * (pt t).val + u.val, by omega⟩ :=
    fun p u => Band.blk_tile (acts m c) _ (pt t) (block_row m c t) p u
  unfold outB
  split_ifs with hu0
  · simp only [hb]
    exact Band.outFirst_val (acts m c) hA ⟨8 * (pt t).val + u.val, by omega⟩ ((8 * (pt t).val + u.val) / 4) 512 (by simp only; omega) (by decide) h r j hh
  · simp only [hb]
    have hu : (u - 1 : Fin 8).val = u.val - 1 := by
      have : ∀ u : Fin 8, ¬ u.val % 4 = 0 → (u - 1 : Fin 8).val = u.val - 1 := by decide
      exact this u hu0
    exact Band.outNext_val (acts m c) hA ⟨8 * (pt t).val + u.val, by omega⟩ ⟨8 * (pt t).val + (u - 1 : Fin 8).val, by omega⟩
      ((8 * (pt t).val + u.val) / 4) ((8 * (pt t).val + u.val) % 4 - 1) 512 (by simp only; omega) (by simp only; omega) (by omega) (by decide) h r j hh

theorem lse_tile (t : Fin cfg0.N) (u : Fin 8) (h : Fin 4) (r : Fin 128) :
    lseB (iblk m c 0 t) u h r = Band.lseVal (acts m c) 512 (128 * (8 * (pt t).val + u.val) + r.val) h.val := by
  have hb : ∀ p u, Band.blkTile (iblk m c 0 t) p u = Band.tileOf (acts m c) p ⟨8 * (pt t).val + u.val, by omega⟩ :=
    fun p u => Band.blk_tile (acts m c) _ (pt t) (block_row m c t) p u
  unfold lseB
  split_ifs with hu0
  · simp only [hb]
    exact Band.lseFirst_val (acts m c) hA ⟨8 * (pt t).val + u.val, by omega⟩ ((8 * (pt t).val + u.val) / 4) 512 (by simp only; omega) (by decide) h r
  · simp only [hb]
    have hu : (u - 1 : Fin 8).val = u.val - 1 := by
      have : ∀ u : Fin 8, ¬ u.val % 4 = 0 → (u - 1 : Fin 8).val = u.val - 1 := by decide
      exact this u hu0
    exact Band.lseNext_val (acts m c) hA ⟨8 * (pt t).val + u.val, by omega⟩ ⟨8 * (pt t).val + (u - 1 : Fin 8).val, by omega⟩
      ((8 * (pt t).val + u.val) / 4) ((8 * (pt t).val + u.val) % 4 - 1) 512 (by simp only; omega) (by simp only; omega) (by omega) (by decide) h r

/-- What a grid point writes back is its block of the array of results. -/
theorem flushed_out (t : Fin cfg0.N) :
    (dats m 0 c).flushed 2 t = ((cfg0.win 2).blk t).view.read (Elt Ideal) (Band.outArr (acts m c) 512) := by
  rw [flushed2_A]
  funext j
  rw [View.read_apply]
  refine (out_eq c _ _ _ _ _ _ _ _ _ _ _ _ _ _ _ _).trans ?_
  refine Band.blkOut_val (acts m c) 512 (pt t) _ (fun u h r k hh => out_tile m c hA t u h r k hh) _ _ ?_ ?_
  · show win0_2.index t 0 * 1024 + 1 * (j 0).val = 1024 * t.val + (j 0).val; rw [(index2 t).1]; omega
  · show win0_2.index t 1 * 256 + 1 * (j 1).val = (j 1).val; rw [(index2 t).2]; omega

theorem flushed_lse (t : Fin cfg0.N) :
    (dats m 0 c).flushed 3 t = ((cfg0.win 3).blk t).view.read (Elt Ideal) (Band.lseArr (acts m c) 512) := by
  rw [flushed3_A]
  funext j
  rw [View.read_apply]
  refine (lse_eq c _ _ _ _ _ _ _ _ _ _ _ _ _ _ _ _).trans ?_
  refine Band.blkLse_val (acts m c) 512 (pt t) _ (fun u h r => lse_tile m c hA t u h r) _ _ ?_ ?_
  · show win0_3.index t 0 * 1024 + 1 * (j 0).val = 1024 * t.val + (j 0).val; rw [(index3 t).1]; omega
  · show win0_3.index t 1 * 128 + 1 * (j 1).val = (j 1).val; rw [(index3 t).2]; omega

/-- The run leaves the attention's results in its first output. -/
theorem final_out : (dats m 0 c).arrAt 2 cfg0.N = Band.outArr (acts m c) 512 :=
  (dats m 0 c).arrAt_eq_of_cover 2 (Band.outArr (acts m c) 512) (fun t _ => flushed_out m c hA t) fun i => by
    have h0 : (i 0 : Nat) < 65536 := (i 0).isLt
    have h1 : (i 1 : Nat) < 256 := (i 1).isLt
    have hN : cfg0.N = 64 := N_0
    refine ⟨⟨(i 0 : Nat) / 1024, by omega⟩, flush0_2 _, ?_⟩
    generalize ht : (⟨(i 0 : Nat) / 1024, _⟩ : Fin cfg0.N) = t
    have hv : t.val = (i 0 : Nat) / 1024 := by rw [← ht]
    show i ∈ ((View.whole main_v0_0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [(index2 t).1, hv]; omega
    | ⟨1, _⟩ => show win0_2.index t 1 * 256 ≤ (i 1 : Nat) ∧ (i 1 : Nat) < win0_2.index t 1 * 256 + 256
                rw [(index2 t).2]; omega

/-- … and the log-sum-exps in its second. -/
theorem final_lse : (dats m 0 c).arrAt 3 cfg0.N = Band.lseArr (acts m c) 512 :=
  (dats m 0 c).arrAt_eq_of_cover 3 (Band.lseArr (acts m c) 512) (fun t _ => flushed_lse m c hA t) fun i => by
    have h0 : (i 0 : Nat) < 65536 := (i 0).isLt
    have h1 : (i 1 : Nat) < 128 := (i 1).isLt
    have hN : cfg0.N = 64 := N_0
    refine ⟨⟨(i 0 : Nat) / 1024, by omega⟩, flush0_3 _, ?_⟩
    generalize ht : (⟨(i 0 : Nat) / 1024, _⟩ : Fin cfg0.N) = t
    have hv : t.val = (i 0 : Nat) / 1024 := by rw [← ht]
    show i ∈ ((View.whole main_v0_1).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [(index3 t).1, hv]; omega
    | ⟨1, _⟩ => show win0_3.index t 1 * 128 ≤ (i 1 : Nat) ∧ (i 1 : Nat) < win0_3.index t 1 * 128 + 128
                rw [(index3 t).2]; omega

end Cert.DilBIdeal.V

end
-- ==== Proof.RefB.Value.lean ====
/-
  The attention's program over dense scores, read: its results are the closed forms (128 sequences of 512 rows).
-/
module

public import proofs.«01_k».proof.Proof.Gen.RefBIdeal.Read
public import proofs.«01_k».proof.Proof.Band.Results
public import Idealize.ShloMosaic.Lib.Pointwise

@[expose] public section

set_option maxRecDepth 16384

noncomputable section

open Idealize.ShloMosaic Idealize.ShloMosaic.TcCoe Idealize.SL.Sem

namespace Cert.RefBIdeal.V

open Cert.RefBIdeal Cert.RefBIdeal.Gen Cert.RefBIdeal.Read

variable (A : Band.Acts) (hA : ∀ i, A i ≠ ⊤ ∧ A i ≠ ⊥)

/-- An entry of the activations, split into sequence, row, part, head and column. -/
theorem entry (n : Fin 128) (q : Fin 512) (p : Fin 3) (h : Fin 4) (d : Fin 64) :
    val_main_v1 (F := Ideal) A (ix5 n q p h d)
      = A (ix2 ⟨n.val * 512 + q.val, by omega⟩ ⟨256 * p.val + (64 * h.val + d.val), by omega⟩) := by
  rw [val_main_v1_apply, val_main_v0_apply]
  show A _ = A _
  congr 1
  funext a
  apply Fin.ext
  match a with
  | ⟨0, _⟩ => show ((((n.val * 512 + q.val) * 3 + p.val) * 4 + h.val) * 64 + d.val) / 768 = n.val * 512 + q.val; omega
  | ⟨1, _⟩ => show ((((n.val * 512 + q.val) * 3 + p.val) * 4 + h.val) * 64 + d.val) % 768 = 256 * p.val + (64 * h.val + d.val); omega

theorem queries (n : Fin 128) (q : Fin 512) (h : Fin 4) (d : Fin 64) :
    val_main_v3 (F := Ideal) A (ix4 n q h d) = val_main_v1 (F := Ideal) A (ix5 n q 0 h d) := by
  rw [val_main_v3_apply, val_main_v2_apply]
  congr 1
  funext a
  apply Fin.ext
  match a with
  | ⟨0, _⟩ => show (((n.val * 512 + q.val) * 4 + h.val) * 64 + d.val) / 131072 = n.val; omega
  | ⟨1, _⟩ => show (((n.val * 512 + q.val) * 4 + h.val) * 64 + d.val) / 256 % 512 = q.val; omega
  | ⟨2, _⟩ => rfl
  | ⟨3, _⟩ => show (((n.val * 512 + q.val) * 4 + h.val) * 64 + d.val) / 64 % 4 = h.val; omega
  | ⟨4, _⟩ => show (((n.val * 512 + q.val) * 4 + h.val) * 64 + d.val) % 64 = d.val; omega

theorem keys (n : Fin 128) (q : Fin 512) (h : Fin 4) (d : Fin 64) :
    val_main_v5 (F := Ideal) A (ix4 n q h d) = val_main_v1 (F := Ideal) A (ix5 n q 1 h d) := by
  rw [val_main_v5_apply, val_main_v4_apply]
  congr 1
  funext a
  apply Fin.ext
  match a with
  | ⟨0, _⟩ => show (((n.val * 512 + q.val) * 4 + h.val) * 64 + d.val) / 131072 = n.val; omega
  | ⟨1, _⟩ => show (((n.val * 512 + q.val) * 4 + h.val) * 64 + d.val) / 256 % 512 = q.val; omega
  | ⟨2, _⟩ => rfl
  | ⟨3, _⟩ => show (((n.val * 512 + q.val) * 4 + h.val) * 64 + d.val) / 64 % 4 = h.val; omega
  | ⟨4, _⟩ => show (((n.val * 512 + q.val) * 4 + h.val) * 64 + d.val) % 64 = d.val; omega

theorem vals (n : Fin 128) (q : Fin 512) (h : Fin 4) (d : Fin 64) :
    val_main_v7 (F := Ideal) A (ix4 n q h d) = val_main_v1 (F := Ideal) A (ix5 n q 2 h d) := by
  rw [val_main_v7_apply, val_main_v6_apply]
  congr 1
  funext a
  apply Fin.ext
  match a with
  | ⟨0, _⟩ => show (((n.val * 512 + q.val) * 4 + h.val) * 64 + d.val) / 131072 = n.val; omega
  | ⟨1, _⟩ => show (((n.val * 512 + q.val) * 4 + h.val) * 64 + d.val) / 256 % 512 = q.val; omega
  | ⟨2, _⟩ => rfl
  | ⟨3, _⟩ => show (((n.val * 512 + q.val) * 4 + h.val) * 64 + d.val) / 64 % 4 = h.val; omega
  | ⟨4, _⟩ => show (((n.val * 512 + q.val) * 4 + h.val) * 64 + d.val) % 64 = d.val; omega

/-- The mask: a query sees its own row and up to 128 before it. -/
theorem mask (n : Fin 128) (h : Fin 4) (q k : Fin 512) :
    val_main_call0_v1 (F := Ideal) (ix4 n h q k) = BitVec.ofBool (decide (k.val ≤ q.val ∧ q.val ≤ k.val + 128)) := by
  rw [val_main_call0_v1_apply, val_main_v20_apply, val_main_v17_apply, val_main_v19_apply, val_main_v15_apply, val_main_v16_apply,
    val_main_v18_apply, val_main_c_apply, val_main_c_0_apply, val_main_v13_apply, val_main_v14_apply, val_main_v10_apply,
    val_main_v12_apply, val_main_v9_apply, val_main_v11_apply]
  exact Band.mask_word q.val k.val (by omega) (by omega)

include hA

/-- The scores: dot products under the mask. -/
theorem scores (n : Fin 128) (h : Fin 4) (q k : Fin 512) :
    val_main_v21 (F := Ideal) A (ix4 n h q k)
      = Band.masked (k.val ≤ q.val ∧ q.val ≤ k.val + 128) (Band.dotp (Band.data A) h.val (n.val * 512 + q.val) (n.val * 512 + k.val)) := by
  rw [val_main_v21_apply, mask, Band.select_ofBool, val_main_call0_v2_apply, val_main_call0_v0_apply, val_main_cst_apply]
  unfold Band.masked
  by_cases hp : k.val ≤ q.val ∧ q.val ≤ k.val + 128
  · rw [if_pos hp, if_pos hp, val_main_v8_apply]
    unfold Band.dotp
    rw [Band.coe_sum]
    refine Finset.sum_congr rfl fun d _ => ?_
    rw [show lidx_main_v8 (ix4 n h q k) d = ix4 n q h d from by funext a; match a with | ⟨0, _⟩ => rfl | ⟨1, _⟩ => rfl | ⟨2, _⟩ => rfl | ⟨3, _⟩ => rfl,
      show ridx_main_v8 (ix4 n h q k) d = ix4 n k h d from by funext a; match a with | ⟨0, _⟩ => rfl | ⟨1, _⟩ => rfl | ⟨2, _⟩ => rfl | ⟨3, _⟩ => rfl,
      queries, keys, entry, entry, Band.eq_data A hA, Band.eq_data A hA, ← EReal.coe_mul, mul_comm]
    simp
  · rw [if_neg hp, if_neg hp]
    exact Band.ninf

/-- The largest score of a row. -/
theorem row_max (n : Fin 128) (h : Fin 4) (q : Fin 512) :
    val_main_v22 (F := Ideal) A (ix3 n h q) = Finset.univ.fold max ⊥ fun k => val_main_v21 (F := Ideal) A (ix4 n h q k) := by
  unfold val_main_v22 val_main_cst_1
  generalize val_main_v21 (F := Ideal) A = y
  pointwise
  rw [Band.ninf]

/-- The log-sum-exp of a row. -/
theorem row_lse (n : Fin 128) (h : Fin 4) (q : Fin 512) :
    val_main_v29 (F := Ideal) A (ix3 n h q) = Band.lseVal A 512 (n.val * 512 + q.val) h.val := by
  have e : val_main_v29 (F := Ideal) A (ix3 n h q) = Band.lse fun k => val_main_v21 (F := Ideal) A (ix4 n h q k) := by
    have hs : val_main_v27 (F := Ideal) A (ix3 n h q) = ∑ k : Fin 512, Ideal.exp (val_main_v21 (F := Ideal) A (ix4 n h q k)
        - Finset.univ.fold max ⊥ fun k => val_main_v21 (F := Ideal) A (ix4 n h q k)) := by
      rw [val_main_v27_apply, val_main_cst_2_apply, Band.zero_word, zero_add]
      refine Finset.sum_congr rfl fun k _ => ?_
      rw [show idx_main_v27 (ix3 n h q) k = ix4 n h q k from by funext a; match a with | ⟨0, _⟩ => rfl | ⟨1, _⟩ => rfl | ⟨2, _⟩ => rfl | ⟨3, _⟩ => rfl,
        val_main_v26_apply, val_main_v25_apply, val_main_v24_apply, val_main_v23_apply]
      rw [show idx_main_v23 (idx_main_v24 (ix4 n h q k)) = ix3 n h q from by funext a; match a with | ⟨0, _⟩ => rfl | ⟨1, _⟩ => rfl | ⟨2, _⟩ => rfl, row_max A hA]
      rfl
    rw [val_main_v29_apply, row_max A hA, val_main_v28_apply, hs]
    rfl
  rw [e, Band.lse_dense A hA 512 (n.val * 512) q.val h.val q.isLt _ (fun k => scores A hA n h q k)]
  unfold Band.lseVal
  rw [(Band.split_row 512 n.val q.val q.isLt).1, (Band.split_row 512 n.val q.val q.isLt).2]

/-- The weighted values of a row. -/
theorem row_out (n : Fin 128) (h : Fin 4) (q : Fin 512) (d : Fin 64) :
    val_main_v34 (F := Ideal) A (ix4 n h d q) = Band.outVal A 512 (n.val * 512 + q.val) (64 * h.val + d.val) := by
  have hl : val_main_v29 (F := Ideal) A (ix3 n h q) = Band.lse fun k => val_main_v21 (F := Ideal) A (ix4 n h q k) := by
    rw [row_lse A hA, Band.lse_dense A hA 512 (n.val * 512) q.val h.val q.isLt _ (fun k => scores A hA n h q k)]
    unfold Band.lseVal
    rw [(Band.split_row 512 n.val q.val q.isLt).1, (Band.split_row 512 n.val q.val q.isLt).2]
  have e : val_main_v34 (F := Ideal) A (ix4 n h d q)
      = ∑ k : Fin 512, A (ix2 ⟨n.val * 512 + k.val, by omega⟩ ⟨512 + (64 * h.val + d.val), by omega⟩)
        * Ideal.exp (val_main_v21 (F := Ideal) A (ix4 n h q k) - Band.lse fun k => val_main_v21 (F := Ideal) A (ix4 n h q k)) := by
    rw [val_main_v34_apply]
    refine Finset.sum_congr rfl fun k _ => ?_
    rw [show lidx_main_v34 (ix4 n h d q) k = ix4 n k h d from by funext a; match a with | ⟨0, _⟩ => rfl | ⟨1, _⟩ => rfl | ⟨2, _⟩ => rfl | ⟨3, _⟩ => rfl,
      show ridx_main_v34 (ix4 n h d q) k = ix4 n h q k from by funext a; match a with | ⟨0, _⟩ => rfl | ⟨1, _⟩ => rfl | ⟨2, _⟩ => rfl | ⟨3, _⟩ => rfl,
      vals, entry, val_main_v33_apply, val_main_v32_apply, val_main_v31_apply, val_main_v30_apply,
      show idx_main_v30 (idx_main_v31 (ix4 n h q k)) = ix3 n h q from by funext a; match a with | ⟨0, _⟩ => rfl | ⟨1, _⟩ => rfl | ⟨2, _⟩ => rfl, hl]
    rfl
  rw [e, Band.attend_dense A hA 512 (n.val * 512) q.val h.val (64 * h.val + d.val) q.isLt _ _ (fun k => scores A hA n h q k) (fun k => Band.eq_data A hA _ _)]
  unfold Band.outVal
  rw [(Band.split_row 512 n.val q.val q.isLt).1, (Band.split_row 512 n.val q.val q.isLt).2,
    show (64 * h.val + d.val) / 64 = h.val by omega]

/-- The first result is the array of attention results. -/
theorem out_eq : val_main_v39 (F := Ideal) A = Band.outArr A 512 := by
  funext i
  idx_vars i
  rw [val_main_v39_apply, val_main_v38_apply, val_main_v35_apply]
  refine Eq.trans ?_ ((row_out A hA ⟨i0.val / 512, by omega⟩ ⟨i1.val / 64, by omega⟩ ⟨i0.val % 512, by omega⟩ ⟨i1.val % 64, by omega⟩).trans ?_)
  · show val_main_v34 (F := Ideal) A _ = _
    congr 1
    funext a
    apply Fin.ext
    match a with
    | ⟨0, _⟩ => show (i0.val * 256 + i1.val) / 131072 = i0.val / 512; omega
    | ⟨1, _⟩ => show (i0.val * 256 + i1.val) / 64 % 4 = i1.val / 64; omega
    | ⟨2, _⟩ => show (i0.val * 256 + i1.val) % 64 = i1.val % 64; omega
    | ⟨3, _⟩ => show (i0.val * 256 + i1.val) / 256 % 512 = i0.val % 512; omega
  · show Band.outVal A 512 (i0.val / 512 * 512 + i0.val % 512) (64 * (i1.val / 64) + i1.val % 64) = Band.outVal A 512 i0.val i1.val
    rw [show i0.val / 512 * 512 + i0.val % 512 = i0.val by omega, show 64 * (i1.val / 64) + i1.val % 64 = i1.val by omega]

/-- The second result is the array of log-sum-exps. -/
theorem lse_eq : val_main_v40 (F := Ideal) A = Band.lseArr A 512 := by
  have e : ∀ (r : Fin 65536) (h : Fin 4), val_main_v37 (F := Ideal) A (ix2 r h) = Band.lseVal A 512 r.val h.val := by
    intro r h
    rw [val_main_v37_apply, val_main_v36_apply]
    refine Eq.trans ?_ ((row_lse A hA ⟨r.val / 512, by omega⟩ h ⟨r.val % 512, by omega⟩).trans ?_)
    · congr 1
      funext a
      apply Fin.ext
      match a with
      | ⟨0, _⟩ => show (r.val * 4 + h.val) / 2048 = r.val / 512; omega
      | ⟨1, _⟩ => show (r.val * 4 + h.val) % 4 = h.val; omega
      | ⟨2, _⟩ => show (r.val * 4 + h.val) / 4 % 512 = r.val % 512; omega
    · show Band.lseVal A 512 (r.val / 512 * 512 + r.val % 512) h.val = _
      rw [show r.val / 512 * 512 + r.val % 512 = r.val by omega]
  funext i
  idx_vars i
  unfold val_main_v40 val_main_call1_v0 val_main_c_3
  generalize val_main_v37 (F := Ideal) A = y at e
  pointwise
  unfold Band.lseArr
  show _ = if i1.val < 4 then Band.lseVal A 512 i0.val i1.val else 0
  split_ifs with h
  · exact e _ _
  · show (((0#32 : BitVec 32).toInt : ℝ) : EReal) = 0
    simp

end Cert.RefBIdeal.V

end
-- ==== Proof.DilB.Claim.lean ====
/-
  The claim of the dilated attention, dilation 4: the kernel's idealization and the reference's end in the same arrays.
-/
module

public import proofs.«01_k».proof.Defs
public import proofs.«01_k».proof.Proof.DilB.Array
public import proofs.«01_k».proof.Proof.RefB.Value
public import proofs.«01_k».proof.Proof.Gen.DilBIdeal.Frame
public import proofs.«01_k».proof.Proof.Gen.RefBIdeal.Run
public import Idealize.ShloMosaic.Lib.Quiescent

@[expose] public section

noncomputable section

open Idealize.ShloMosaic Idealize.SL.Sem

namespace Cert.Proof

/-- The reference's idealization terminates, keeps its argument and has no semaphore to leave up. -/
theorem frameRefB (m : (ℓ : Loc Cert.RefBIdeal.nD Cert.RefBIdeal.τ Cert.RefBIdeal.sig) → Buf (Elt Ideal) ℓ)
    (ρ : Dev Cert.RefBIdeal.nD → PrngReg) :
    θ_run (Cert.RefBIdeal.defs (F := Ideal)) (onTc (τ := Cert.RefBIdeal.τ) (Cert.RefBIdeal.main (F := Ideal))) ⟨m, fun _ => 0, ρ⟩
      (fun r => (∀ c : Dev Cert.RefBIdeal.nD,
        r.2.mem ((c.tc : Thread Cert.RefBIdeal.nD Cert.RefBIdeal.τ).loc Cert.RefBIdeal.main_arg0)
          = m ((c.tc : Thread Cert.RefBIdeal.nD Cert.RefBIdeal.τ).loc Cert.RefBIdeal.main_arg0)) ∧ r.2.sem = fun _ => 0) :=
  (θ_run Cert.RefBIdeal.defs _ _).mono (fun r h => ⟨fun c => (h c).2.2, sem_eq_zero_of_no_sems (by decide) r.2⟩)
    (Cert.RefBIdeal.Value.run m ρ)

/-- The kernel's idealization and the reference's, run on activations that agree and have no infinite entry, end in the
    same results and the same log-sum-exps: the closed forms of sequences of 512 rows. -/
theorem algebraicB : Cert.algebraic_DilBIdeal_RefBIdeal_pre_finite := by
  intro m ρ m' ρ' hpre hag
  have hA : ∀ (c : Dev Cert.DilBIdeal.nD) i, Cert.DilBIdeal.V.acts m c i ≠ ⊤ ∧ Cert.DilBIdeal.V.acts m c i ≠ ⊥ :=
    fun c i => Band.finite_of_pre _ (hpre c) i
  refine ⟨fun c => Band.outArr (Cert.DilBIdeal.V.acts m c) 512, fun c => Band.lseArr (Cert.DilBIdeal.V.acts m c) 512, ?_, ?_⟩
  · exact (θ_run Cert.DilBIdeal.defs _ _).mono
      (fun _ h c => ⟨(h c).1.trans (Cert.DilBIdeal.V.final_out m c (hA c)),
        (h c).2.1.trans (Cert.DilBIdeal.V.final_lse m c (hA c)), (h c).2.2⟩)
      (Cert.DilBIdeal.Value.run_blocks m ρ)
  · refine (θ_run Cert.RefBIdeal.defs _ _).mono (fun _ h c => ⟨(h c).1.trans ?_, (h c).2.1.trans ?_, (h c).2.2⟩)
      (Cert.RefBIdeal.Value.run m' ρ')
    · rw [Cert.RefBIdeal.Read.val_main_v39_eq, hag c]
      exact Cert.RefBIdeal.V.out_eq _ (hA c)
    · rw [Cert.RefBIdeal.Read.val_main_v40_eq, hag c]
      exact Cert.RefBIdeal.V.lse_eq _ (hA c)

end Cert.Proof

end
-- ==== Proof.DilC.Word.lean ====
/-
  The flag the dilation-1 kernel computes at a grid point.
-/
module

public import proofs.«01_k».proof.Proof.Gen.DilCIdeal.Value

@[expose] public section

noncomputable section

open Idealize.ShloMosaic Idealize.ShloMosaic.TcCoe Idealize.SL.Sem

namespace Cert.DilCIdeal.V

open Cert.DilCIdeal Cert.DilCIdeal.Gen

/-- The flag of a grid point: up where its block has a block before it in its sequence. -/
abbrev word (i : grid0.Coords) : BitVec 1 :=
  (Scalar.cmpi CmpIPredicate.ne (Scalar.select (Scalar.andi (Scalar.xori (Scalar.cmpi CmpIPredicate.slt (Scalar.remsi (Scalar.muli (BitVec.ofNat 32 (i 0).val) 8#32) (Scalar.select (Scalar.cmpi CmpIPredicate.eq 16#32 0#32) 1#32 16#32)) 0#32) (Scalar.cmpi CmpIPredicate.slt (Scalar.select (Scalar.cmpi CmpIPredicate.eq 16#32 0#32) 1#32 16#32) 0#32)) (Scalar.cmpi CmpIPredicate.ne (Scalar.remsi (Scalar.muli (BitVec.ofNat 32 (i 0).val) 8#32) (Scalar.select (Scalar.cmpi CmpIPredicate.eq 16#32 0#32) 1#32 16#32)) 0#32)) (Scalar.addi (Scalar.remsi (Scalar.muli (BitVec.ofNat 32 (i 0).val) 8#32) (Scalar.select (Scalar.cmpi CmpIPredicate.eq 16#32 0#32) 1#32 16#32)) (Scalar.select (Scalar.cmpi CmpIPredicate.eq 16#32 0#32) 1#32 16#32)) (Scalar.remsi (Scalar.muli (BitVec.ofNat 32 (i 0).val) 8#32) (Scalar.select (Scalar.cmpi CmpIPredicate.eq 16#32 0#32) 1#32 16#32))) 0#32)

end Cert.DilCIdeal.V

end
-- ==== Proof.DilC.Out.lean ====
/-
  The dilated attention's block (dilation 1: a sequence is sixteen tiles, two blocks; the tile before a block's first is the halo): the attention's results a grid point leaves are the formulas of
  `Band/Tile.lean` on the tiles of its block.
-/
module

public import proofs.«01_k».proof.Proof.Gen.DilCIdeal.Value
public import proofs.«01_k».proof.Proof.Band.Block
public import proofs.«01_k».proof.Proof.DilC.Word
public import Idealize.ShloMosaic.Lib.Pointwise
public import Idealize.ShloMosaic.Lib.Tactic
public import Idealize.ShloMosaic.Lib.Pipeline.ReadBack
public import Idealize.ShloMosaic.Lib.Pipeline.ValueKit

@[expose] public section

set_option maxRecDepth 16384
set_option maxHeartbeats 40000000

noncomputable section

open Idealize.ShloMosaic Idealize.ShloMosaic.TcCoe Idealize.SL.Sem

namespace Cert.DilCIdeal.V

open Cert.DilCIdeal Cert.DilCIdeal.Gen

local notation "F" => Ideal

/-- The attention's results of tile `u` of a block. -/
def outC (i : grid0.Coords) (x0 : Band.Blk) (x1 : (⟨2, ![128, 768]⟩ : Shape).Idx → EReal) (u : Fin 8) (h : Fin 4) (r : Fin 128) (j : Fin 256) : EReal :=
  if u.val = 0 then Band.outIf (word i) (Band.blkTile x0 0 u) (Band.blkTile x0 1 u) (Band.blkTile x0 2 u) (Band.haloTile x1 1) (Band.haloTile x1 2) h r j
  else Band.outNext (Band.blkTile x0 0 u) (Band.blkTile x0 1 u) (Band.blkTile x0 2 u) (Band.blkTile x0 1 (u - 1)) (Band.blkTile x0 2 (u - 1)) h r j

theorem ld_blk_o (x : Vec F S1024x768 .bf16) (p : Fin 3) (u : Fin 8) (a b : ℕ) (ha : a = 128 * u.val) (hb : b = 256 * p.val)
    (inb : ∀ i, (![a, b] : Fin 2 → ℕ) i + S128x256.size i ≤ S1024x768.size i) :
    View.ld x (Rect.unit (s := S1024x768) ![a, b] S128x256.size inb) = Band.blkTile x p u := Band.ld_blk x p u a b ha hb inb

theorem ld_halo_o (x : Vec F S128x768 .bf16) (p : Fin 3) (b : ℕ) (hb : b = 256 * p.val)
    (inb : ∀ i, (![0, b] : Fin 2 → ℕ) i + S128x256.size i ≤ S128x768.size i) :
    View.ld x (Rect.unit (s := S128x768) ![0, b] S128x256.size inb) = Band.haloTile x p := Band.ld_halo x p b hb inb

/-- What a grid point leaves in its block of the attention's results. -/
theorem out_eq (c : Dev nD) (i : grid0.Coords) (arg1 : Memref sig .tc .vmem S1024x768 .bf16) (harg1 : arg1.IsWhole)
    (arg2 : Memref sig .tc .vmem S128x768 .bf16) (harg2 : arg2.IsWhole) (arg3 : Memref sig .tc .vmem S1024x256 .bf16)
    (harg3 : arg3.IsWhole) (arg4 : Memref sig .tc .vmem S1024x128 .f32) (harg4 : arg4.IsWhole)
    (arg5 : Memref sig .tc .vmem S8x4x2x128x128 .f32) (harg5 : arg5.IsWhole)
    (arg6 : Memref sig .tc .vmem S8x4x2x128x128 .bf16) (harg6 : arg6.IsWhole)
    (x0 : Vec F S1024x768 .bf16) (x1 : Vec F S128x768 .bf16) (j : S1024x256.Idx) :
    out0_A_2 c i arg1 harg1 arg2 harg2 arg3 harg3 arg4 harg4 arg5 harg5 arg6 harg6 x0 x1 j = Band.blkOut (outC i x0 x1) j := by
  unfold out0_A_2
  rw [View.read_writes_eq_canon _ _ _ (cover0_A_2 c i arg1 harg1 arg2 harg2 arg3 harg3 arg4 harg4 arg5 harg5 arg6 harg6 x0 x1)]
  refine (View.canon_apply_of_pieces (Band.blkOut (outC i x0 x1)) _ ?_ j
    (cover0_A_2 c i arg1 harg1 arg2 harg2 arg3 harg3 arg4 harg4 arg5 harg5 arg6 harg6 x0 x1 j))
  unfold kernelRun0_A
  dsimp only
  simp only [List.forall_mem_cons, List.not_mem_nil, false_implies, implies_true, and_true]
  refine ⟨?_, ?_, ?_, ?_, ?_, ?_, ?_, ?_⟩
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outC i x0 x1) 7 j0 j1 h hh _ (by simp) (by simp),
      show outC i x0 x1 7 h j0 j1 = Band.outNext (Band.blkTile x0 0 7) (Band.blkTile x0 1 7) (Band.blkTile x0 2 7) (Band.blkTile x0 1 6) (Band.blkTile x0 2 6) h j0 j1 from rfl]
    simp only [ld_blk_o x0 0 7 896 0 rfl rfl,
      ld_blk_o x0 1 7 896 256 rfl rfl,
      ld_blk_o x0 2 7 896 512 rfl rfl,
      ld_blk_o x0 1 6 768 256 rfl rfl,
      ld_blk_o x0 2 6 768 512 rfl rfl]
    generalize Band.blkTile x0 0 7 = q
    generalize Band.blkTile x0 1 7 = k
    generalize Band.blkTile x0 2 7 = v
    generalize Band.blkTile x0 1 6 = kp
    generalize Band.blkTile x0 2 6 = vp
    unfold_payloads
    pointwise
    refine Band.ladder j1.val j1.isLt _ _ _ _ _ ?_ ?_ ?_ ?_
    · intro _ e
      have := Band.outNext_from q k v kp vp h j0 j1 0 (hh.trans e) rfl (by omega) j1.val rfl
      simp only [Band.fin_zero_add] at this
      exact this
    · intro _ _ e e'
      exact Band.outNext_from q k v kp vp h j0 j1 64 (hh.trans e) rfl (by omega) _ e'
    · intro _ _ _ e e'
      exact Band.outNext_from q k v kp vp h j0 j1 128 (hh.trans e) rfl (by omega) _ e'
    · intro _ _ _ e e'
      exact Band.outNext_from q k v kp vp h j0 j1 192 (hh.trans e) rfl (by omega) _ e'
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outC i x0 x1) 6 j0 j1 h hh _ (by simp) (by simp),
      show outC i x0 x1 6 h j0 j1 = Band.outNext (Band.blkTile x0 0 6) (Band.blkTile x0 1 6) (Band.blkTile x0 2 6) (Band.blkTile x0 1 5) (Band.blkTile x0 2 5) h j0 j1 from rfl]
    simp only [ld_blk_o x0 0 6 768 0 rfl rfl,
      ld_blk_o x0 1 6 768 256 rfl rfl,
      ld_blk_o x0 2 6 768 512 rfl rfl,
      ld_blk_o x0 1 5 640 256 rfl rfl,
      ld_blk_o x0 2 5 640 512 rfl rfl]
    generalize Band.blkTile x0 0 6 = q
    generalize Band.blkTile x0 1 6 = k
    generalize Band.blkTile x0 2 6 = v
    generalize Band.blkTile x0 1 5 = kp
    generalize Band.blkTile x0 2 5 = vp
    unfold_payloads
    pointwise
    refine Band.ladder j1.val j1.isLt _ _ _ _ _ ?_ ?_ ?_ ?_
    · intro _ e
      have := Band.outNext_from q k v kp vp h j0 j1 0 (hh.trans e) rfl (by omega) j1.val rfl
      simp only [Band.fin_zero_add] at this
      exact this
    · intro _ _ e e'
      exact Band.outNext_from q k v kp vp h j0 j1 64 (hh.trans e) rfl (by omega) _ e'
    · intro _ _ _ e e'
      exact Band.outNext_from q k v kp vp h j0 j1 128 (hh.trans e) rfl (by omega) _ e'
    · intro _ _ _ e e'
      exact Band.outNext_from q k v kp vp h j0 j1 192 (hh.trans e) rfl (by omega) _ e'
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outC i x0 x1) 5 j0 j1 h hh _ (by simp) (by simp),
      show outC i x0 x1 5 h j0 j1 = Band.outNext (Band.blkTile x0 0 5) (Band.blkTile x0 1 5) (Band.blkTile x0 2 5) (Band.blkTile x0 1 4) (Band.blkTile x0 2 4) h j0 j1 from rfl]
    simp only [ld_blk_o x0 0 5 640 0 rfl rfl,
      ld_blk_o x0 1 5 640 256 rfl rfl,
      ld_blk_o x0 2 5 640 512 rfl rfl,
      ld_blk_o x0 1 4 512 256 rfl rfl,
      ld_blk_o x0 2 4 512 512 rfl rfl]
    generalize Band.blkTile x0 0 5 = q
    generalize Band.blkTile x0 1 5 = k
    generalize Band.blkTile x0 2 5 = v
    generalize Band.blkTile x0 1 4 = kp
    generalize Band.blkTile x0 2 4 = vp
    unfold_payloads
    pointwise
    refine Band.ladder j1.val j1.isLt _ _ _ _ _ ?_ ?_ ?_ ?_
    · intro _ e
      have := Band.outNext_from q k v kp vp h j0 j1 0 (hh.trans e) rfl (by omega) j1.val rfl
      simp only [Band.fin_zero_add] at this
      exact this
    · intro _ _ e e'
      exact Band.outNext_from q k v kp vp h j0 j1 64 (hh.trans e) rfl (by omega) _ e'
    · intro _ _ _ e e'
      exact Band.outNext_from q k v kp vp h j0 j1 128 (hh.trans e) rfl (by omega) _ e'
    · intro _ _ _ e e'
      exact Band.outNext_from q k v kp vp h j0 j1 192 (hh.trans e) rfl (by omega) _ e'
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outC i x0 x1) 4 j0 j1 h hh _ (by simp) (by simp),
      show outC i x0 x1 4 h j0 j1 = Band.outNext (Band.blkTile x0 0 4) (Band.blkTile x0 1 4) (Band.blkTile x0 2 4) (Band.blkTile x0 1 3) (Band.blkTile x0 2 3) h j0 j1 from rfl]
    simp only [ld_blk_o x0 0 4 512 0 rfl rfl,
      ld_blk_o x0 1 4 512 256 rfl rfl,
      ld_blk_o x0 2 4 512 512 rfl rfl,
      ld_blk_o x0 1 3 384 256 rfl rfl,
      ld_blk_o x0 2 3 384 512 rfl rfl]
    generalize Band.blkTile x0 0 4 = q
    generalize Band.blkTile x0 1 4 = k
    generalize Band.blkTile x0 2 4 = v
    generalize Band.blkTile x0 1 3 = kp
    generalize Band.blkTile x0 2 3 = vp
    unfold_payloads
    pointwise
    refine Band.ladder j1.val j1.isLt _ _ _ _ _ ?_ ?_ ?_ ?_
    · intro _ e
      have := Band.outNext_from q k v kp vp h j0 j1 0 (hh.trans e) rfl (by omega) j1.val rfl
      simp only [Band.fin_zero_add] at this
      exact this
    · intro _ _ e e'
      exact Band.outNext_from q k v kp vp h j0 j1 64 (hh.trans e) rfl (by omega) _ e'
    · intro _ _ _ e e'
      exact Band.outNext_from q k v kp vp h j0 j1 128 (hh.trans e) rfl (by omega) _ e'
    · intro _ _ _ e e'
      exact Band.outNext_from q k v kp vp h j0 j1 192 (hh.trans e) rfl (by omega) _ e'
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outC i x0 x1) 3 j0 j1 h hh _ (by simp) (by simp),
      show outC i x0 x1 3 h j0 j1 = Band.outNext (Band.blkTile x0 0 3) (Band.blkTile x0 1 3) (Band.blkTile x0 2 3) (Band.blkTile x0 1 2) (Band.blkTile x0 2 2) h j0 j1 from rfl]
    simp only [ld_blk_o x0 0 3 384 0 rfl rfl,
      ld_blk_o x0 1 3 384 256 rfl rfl,
      ld_blk_o x0 2 3 384 512 rfl rfl,
      ld_blk_o x0 1 2 256 256 rfl rfl,
      ld_blk_o x0 2 2 256 512 rfl rfl]
    generalize Band.blkTile x0 0 3 = q
    generalize Band.blkTile x0 1 3 = k
    generalize Band.blkTile x0 2 3 = v
    generalize Band.blkTile x0 1 2 = kp
    generalize Band.blkTile x0 2 2 = vp
    unfold_payloads
    pointwise
    refine Band.ladder j1.val j1.isLt _ _ _ _ _ ?_ ?_ ?_ ?_
    · intro _ e
      have := Band.outNext_from q k v kp vp h j0 j1 0 (hh.trans e) rfl (by omega) j1.val rfl
      simp only [Band.fin_zero_add] at this
      exact this
    · intro _ _ e e'
      exact Band.outNext_from q k v kp vp h j0 j1 64 (hh.trans e) rfl (by omega) _ e'
    · intro _ _ _ e e'
      exact Band.outNext_from q k v kp vp h j0 j1 128 (hh.trans e) rfl (by omega) _ e'
    · intro _ _ _ e e'
      exact Band.outNext_from q k v kp vp h j0 j1 192 (hh.trans e) rfl (by omega) _ e'
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outC i x0 x1) 2 j0 j1 h hh _ (by simp) (by simp),
      show outC i x0 x1 2 h j0 j1 = Band.outNext (Band.blkTile x0 0 2) (Band.blkTile x0 1 2) (Band.blkTile x0 2 2) (Band.blkTile x0 1 1) (Band.blkTile x0 2 1) h j0 j1 from rfl]
    simp only [ld_blk_o x0 0 2 256 0 rfl rfl,
      ld_blk_o x0 1 2 256 256 rfl rfl,
      ld_blk_o x0 2 2 256 512 rfl rfl,
      ld_blk_o x0 1 1 128 256 rfl rfl,
      ld_blk_o x0 2 1 128 512 rfl rfl]
    generalize Band.blkTile x0 0 2 = q
    generalize Band.blkTile x0 1 2 = k
    generalize Band.blkTile x0 2 2 = v
    generalize Band.blkTile x0 1 1 = kp
    generalize Band.blkTile x0 2 1 = vp
    unfold_payloads
    pointwise
    refine Band.ladder j1.val j1.isLt _ _ _ _ _ ?_ ?_ ?_ ?_
    · intro _ e
      have := Band.outNext_from q k v kp vp h j0 j1 0 (hh.trans e) rfl (by omega) j1.val rfl
      simp only [Band.fin_zero_add] at this
      exact this
    · intro _ _ e e'
      exact Band.outNext_from q k v kp vp h j0 j1 64 (hh.trans e) rfl (by omega) _ e'
    · intro _ _ _ e e'
      exact Band.outNext_from q k v kp vp h j0 j1 128 (hh.trans e) rfl (by omega) _ e'
    · intro _ _ _ e e'
      exact Band.outNext_from q k v kp vp h j0 j1 192 (hh.trans e) rfl (by omega) _ e'
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outC i x0 x1) 1 j0 j1 h hh _ (by simp) (by simp),
      show outC i x0 x1 1 h j0 j1 = Band.outNext (Band.blkTile x0 0 1) (Band.blkTile x0 1 1) (Band.blkTile x0 2 1) (Band.blkTile x0 1 0) (Band.blkTile x0 2 0) h j0 j1 from rfl]
    simp only [ld_blk_o x0 0 1 128 0 rfl rfl,
      ld_blk_o x0 1 1 128 256 rfl rfl,
      ld_blk_o x0 2 1 128 512 rfl rfl,
      ld_blk_o x0 1 0 0 256 rfl rfl,
      ld_blk_o x0 2 0 0 512 rfl rfl]
    generalize Band.blkTile x0 0 1 = q
    generalize Band.blkTile x0 1 1 = k
    generalize Band.blkTile x0 2 1 = v
    generalize Band.blkTile x0 1 0 = kp
    generalize Band.blkTile x0 2 0 = vp
    unfold_payloads
    pointwise
    refine Band.ladder j1.val j1.isLt _ _ _ _ _ ?_ ?_ ?_ ?_
    · intro _ e
      have := Band.outNext_from q k v kp vp h j0 j1 0 (hh.trans e) rfl (by omega) j1.val rfl
      simp only [Band.fin_zero_add] at this
      exact this
    · intro _ _ e e'
      exact Band.outNext_from q k v kp vp h j0 j1 64 (hh.trans e) rfl (by omega) _ e'
    · intro _ _ _ e e'
      exact Band.outNext_from q k v kp vp h j0 j1 128 (hh.trans e) rfl (by omega) _ e'
    · intro _ _ _ e e'
      exact Band.outNext_from q k v kp vp h j0 j1 192 (hh.trans e) rfl (by omega) _ e'
  · sl_unfold_words
    simp (disch := decide) only [↓ View.readCov_skip, ↓ View.readCov_cons_toLoadRect]
    simp only [View.readAt_eq_ld, harg1.read_unread, harg2.read_unread]
    intro j
    idx_vars j
    obtain ⟨h, hh⟩ : ∃ h : Fin 4, h.val = j1.val / 64 := ⟨⟨j1.val / 64, by omega⟩, rfl⟩
    rw [Band.blkOut_at (outC i x0 x1) 0 j0 j1 h hh _ (by simp) (by simp),
      show outC i x0 x1 0 h j0 j1 = Band.outIf (word i) (Band.blkTile x0 0 0) (Band.blkTile x0 1 0) (Band.blkTile x0 2 0) (Band.haloTile x1 1) (Band.haloTile x1 2) h j0 j1 from rfl]
    simp only [ld_blk_o x0 0 0 0 0 rfl rfl,
      ld_blk_o x0 1 0 0 256 rfl rfl,
      ld_blk_o x0 2 0 0 512 rfl rfl,
      ld_halo_o x1 1 256 rfl,
      ld_halo_o x1 2 512 rfl]
    generalize Band.blkTile x0 0 0 = q
    generalize Band.blkTile x0 1 0 = k
    generalize Band.blkTile x0 2 0 = v
    generalize Band.haloTile x1 1 = kp
    generalize Band.haloTile x1 2 = vp
    unfold_payloads
    pointwise
    refine Band.ladder j1.val j1.isLt _ _ _ _ _ ?_ ?_ ?_ ?_
    · intro _ e
      have := Band.outIf_from (word i) q k v kp vp h j0 j1 0 (hh.trans e) rfl (by omega) j1.val rfl
      simp only [Band.fin_zero_add] at this
      exact this
    · intro _ _ e e'
      exact Band.outIf_from (word i) q k v kp vp h j0 j1 64 (hh.trans e) rfl (by omega) _ e'
    · intro _ _ _ e e'
      exact Band.outIf_from (word i) q k v kp vp h j0 j1 128 (hh.trans e) rfl (by omega) _ e'
    · intro _ _ _ e e'
      exact Band.outIf_from (word i) q k v kp vp h j0 j1 192 (hh.trans e) rfl (by omega) _ e'

end Cert.DilCIdeal.V

end
-- ==== Proof.DilC.Lse.lean ====
/-
  The dilated attention's block (dilation 1: a sequence is sixteen tiles, two blocks; the tile before a block's first is the halo): the log-sum-exps a grid point leaves are the formulas of
  `Band/Tile.lean` on the tiles of its block.
-/
module

public import proofs.«01_k».proof.Proof.Gen.DilCIdeal.Value
public import proofs.«01_k».proof.Proof.Band.Block
public import proofs.«01_k».proof.Proof.DilC.Word
public import Idealize.ShloMosaic.Lib.Pointwise
public import Idealize.ShloMosaic.Lib.Tactic
public import Idealize.ShloMosaic.Lib.Pipeline.ReadBack
public import Idealize.ShloMosaic.Lib.Pipeline.ValueKit

@[expose] public section

set_option maxRecDepth 16384
set_option maxHeartbeats 4000000

noncomputable section

open Idealize.ShloMosaic Idealize.ShloMosaic.TcCoe Idealize.SL.Sem

namespace Cert.DilCIdeal.V

open Cert.DilCIdeal Cert.DilCIdeal.Gen

local notation "F" => Ideal

/-- The log-sum-exps of tile `u` of a block. -/
def lseC (i : grid0.Coords) (x0 : Band.Blk) (x1 : (⟨2, ![128, 768]⟩ : Shape).Idx → EReal) (u : Fin 8) (h : Fin 4) (r : Fin 128) : EReal :=
  if u.val = 0 then Band.lseIf (word i) (Band.blkTile x0 0 u) (Band.blkTile x0 1 u) (Band.haloTile x1 1) h r
  else Band.lseNext (Band.blkTile x0 0 u) (Band.blkTile x0 1 u) (Band.blkTile x0 1 (u - 1)) h r

theorem ld_blk_l (x : Vec F S1024x768 .bf16) (p : Fin 3) (u : Fin 8) (a b : ℕ) (ha : a = 128 * u.val) (hb : b = 256 * p.val)
    (inb : ∀ i, (![a, b] : Fin 2 → ℕ) i + S128x256.size i ≤ S1024x768.size i) :
    View.ld x (Rect.unit (s := S1024x768) ![a, b] S128x256.size inb) = Band.blkTile x p u := Band.ld_blk x p u a b ha hb inb

theorem ld_halo_l (x : Vec F S128x768 .bf16) (p : Fin 3) (b : ℕ) (hb : b = 256 * p.val)
    (inb : ∀ i, (![0, b] : Fin 2 → ℕ) i + S128x256.size i ≤ S128x768.size i) :
    View.ld x (Rect.unit (s := S128x768) ![0, b] S128x256.size inb) = Band.haloTile x p := Band.ld_halo x p b hb inb

/-- What a grid point leaves in its block of the log-sum-exps. -/
theorem lse_eq (c : Dev nD) (i : grid0.Coords) (arg1 : Memref sig .tc .vmem S1024x768 .bf16) (harg1 : arg1.IsWhole)
    (arg2 : Memref sig .tc .vmem S128x768 .bf16) (harg2 : arg2.IsWhole) (arg3 : Memref sig .tc .vmem S1024x256 .bf16)
    (harg3 : arg3.IsWhole) (arg4 : Memref sig .tc .vmem S1024x128 .f32) (harg4 : arg4.IsWhole)
    (arg5 : Memref sig .tc .vmem S8x4x2x128x128 .f32) (harg5 : arg5.IsWhole)
    (arg6 : Memref sig .tc .vmem S8x4x2x128x128 .bf16) (harg6 : arg6.IsWhole)
    (x0 : Vec F S1024x768 .bf16) (x1 : Vec F S128x768 .bf16) (j : S1024x128.Idx) :
    out0_A_3 c i arg1 harg1 arg2 harg2 arg3 harg3 arg4 harg4 arg5 harg5 arg6 harg6 x0 x1 j = Band.blkLse (lseC i x0 x1) j := by
  unfold out0_A_3
  rw [View.read_writes_eq_canon _ _ _ (cover0_A_3 c i arg1 harg1 arg2 harg2 arg3 harg3 arg4 harg4 arg5 harg5 arg6 harg6 x0 x1)]
  refine (View.canon_apply_of_pieces (Band.blkLse (lseC i x0 x1)) _ ?_ j
    (cover0_A_3 c i arg1 harg1 arg2 harg2 arg3 harg3 arg4 harg4 arg5 harg5 arg6 harg6 x0 x1 j))
  unfold kernelRun0_A
  dsimp only
  simp only [List.forall_mem_cons, List.not_mem_nil, false_implies, implies_true, and_true]
  refine ⟨?_, ?_, ?_, ?_, ?_, ?_, ?_, ?_⟩
  · sl_unfold_words
    simp (disch := decide) only [↓ View.readCov_skip, ↓ View.readCov_cons_toLoadRect]
    simp only [View.readAt_eq_ld, harg1.read_unread, harg2.read_unread]
    intro j
    idx_vars j
    have e : ∀ h : Fin 4, lseC i x0 x1 7 h j0 = Band.lseNext (Band.blkTile x0 0 7) (Band.blkTile x0 1 7) (Band.blkTile x0 1 6) h j0 := fun _ => rfl
    rw [Band.blkLse_at (lseC i x0 x1) 7 j0 j1 _ (by simp) (by simp)]
    simp only [e]
    clear e
    simp only [ld_blk_l x0 0 7 896 0 rfl rfl,
      ld_blk_l x0 1 7 896 256 rfl rfl,
      ld_blk_l x0 1 6 768 256 rfl rfl]
    generalize Band.blkTile x0 0 7 = q
    generalize Band.blkTile x0 1 7 = k
    generalize Band.blkTile x0 1 6 = kp
    unfold_payloads
    pointwise
    refine Band.steps j1.val _ _ _ _ _ ?_ ?_ ?_ ?_
    · intro _ h e
      have := Band.lseNext_from q k kp ⟨j1.val, h⟩ j0 0 e rfl (by omega)
      simp only [Band.fin_zero_add] at this
      exact this
    · intro _ _ h e
      exact Band.lseNext_from q k kp ⟨j1.val, h⟩ j0 64 e rfl (by omega)
    · intro _ _ _ h e
      exact Band.lseNext_from q k kp ⟨j1.val, h⟩ j0 128 e rfl (by omega)
    · intro _ _ _ _ h e
      exact Band.lseNext_from q k kp ⟨j1.val, h⟩ j0 192 e rfl (by omega)
  · sl_unfold_words
    simp (disch := decide) only [↓ View.readCov_skip, ↓ View.readCov_cons_toLoadRect]
    simp only [View.readAt_eq_ld, harg1.read_unread, harg2.read_unread]
    intro j
    idx_vars j
    have e : ∀ h : Fin 4, lseC i x0 x1 6 h j0 = Band.lseNext (Band.blkTile x0 0 6) (Band.blkTile x0 1 6) (Band.blkTile x0 1 5) h j0 := fun _ => rfl
    rw [Band.blkLse_at (lseC i x0 x1) 6 j0 j1 _ (by simp) (by simp)]
    simp only [e]
    clear e
    simp only [ld_blk_l x0 0 6 768 0 rfl rfl,
      ld_blk_l x0 1 6 768 256 rfl rfl,
      ld_blk_l x0 1 5 640 256 rfl rfl]
    generalize Band.blkTile x0 0 6 = q
    generalize Band.blkTile x0 1 6 = k
    generalize Band.blkTile x0 1 5 = kp
    unfold_payloads
    pointwise
    refine Band.steps j1.val _ _ _ _ _ ?_ ?_ ?_ ?_
    · intro _ h e
      have := Band.lseNext_from q k kp ⟨j1.val, h⟩ j0 0 e rfl (by omega)
      simp only [Band.fin_zero_add] at this
      exact this
    · intro _ _ h e
      exact Band.lseNext_from q k kp ⟨j1.val, h⟩ j0 64 e rfl (by omega)
    · intro _ _ _ h e
      exact Band.lseNext_from q k kp ⟨j1.val, h⟩ j0 128 e rfl (by omega)
    · intro _ _ _ _ h e
      exact Band.lseNext_from q k kp ⟨j1.val, h⟩ j0 192 e rfl (by omega)
  · sl_unfold_words
    simp (disch := decide) only [↓ View.readCov_skip, ↓ View.readCov_cons_toLoadRect]
    simp only [View.readAt_eq_ld, harg1.read_unread, harg2.read_unread]
    intro j
    idx_vars j
    have e : ∀ h : Fin 4, lseC i x0 x1 5 h j0 = Band.lseNext (Band.blkTile x0 0 5) (Band.blkTile x0 1 5) (Band.blkTile x0 1 4) h j0 := fun _ => rfl
    rw [Band.blkLse_at (lseC i x0 x1) 5 j0 j1 _ (by simp) (by simp)]
    simp only [e]
    clear e
    simp only [ld_blk_l x0 0 5 640 0 rfl rfl,
      ld_blk_l x0 1 5 640 256 rfl rfl,
      ld_blk_l x0 1 4 512 256 rfl rfl]
    generalize Band.blkTile x0 0 5 = q
    generalize Band.blkTile x0 1 5 = k
    generalize Band.blkTile x0 1 4 = kp
    unfold_payloads
    pointwise
    refine Band.steps j1.val _ _ _ _ _ ?_ ?_ ?_ ?_
    · intro _ h e
      have := Band.lseNext_from q k kp ⟨j1.val, h⟩ j0 0 e rfl (by omega)
      simp only [Band.fin_zero_add] at this
      exact this
    · intro _ _ h e
      exact Band.lseNext_from q k kp ⟨j1.val, h⟩ j0 64 e rfl (by omega)
    · intro _ _ _ h e
      exact Band.lseNext_from q k kp ⟨j1.val, h⟩ j0 128 e rfl (by omega)
    · intro _ _ _ _ h e
      exact Band.lseNext_from q k kp ⟨j1.val, h⟩ j0 192 e rfl (by omega)
  · sl_unfold_words
    simp (disch := decide) only [↓ View.readCov_skip, ↓ View.readCov_cons_toLoadRect]
    simp only [View.readAt_eq_ld, harg1.read_unread, harg2.read_unread]
    intro j
    idx_vars j
    have e : ∀ h : Fin 4, lseC i x0 x1 4 h j0 = Band.lseNext (Band.blkTile x0 0 4) (Band.blkTile x0 1 4) (Band.blkTile x0 1 3) h j0 := fun _ => rfl
    rw [Band.blkLse_at (lseC i x0 x1) 4 j0 j1 _ (by simp) (by simp)]
    simp only [e]
    clear e
    simp only [ld_blk_l x0 0 4 512 0 rfl rfl,
      ld_blk_l x0 1 4 512 256 rfl rfl,
      ld_blk_l x0 1 3 384 256 rfl rfl]
    generalize Band.blkTile x0 0 4 = q
    generalize Band.blkTile x0 1 4 = k
    generalize Band.blkTile x0 1 3 = kp
    unfold_payloads
    pointwise
    refine Band.steps j1.val _ _ _ _ _ ?_ ?_ ?_ ?_
    · intro _ h e
      have := Band.lseNext_from q k kp ⟨j1.val, h⟩ j0 0 e rfl (by omega)
      simp only [Band.fin_zero_add] at this
      exact this
    · intro _ _ h e
      exact Band.lseNext_from q k kp ⟨j1.val, h⟩ j0 64 e rfl (by omega)
    · intro _ _ _ h e
      exact Band.lseNext_from q k kp ⟨j1.val, h⟩ j0 128 e rfl (by omega)
    · intro _ _ _ _ h e
      exact Band.lseNext_from q k kp ⟨j1.val, h⟩ j0 192 e rfl (by omega)
  · sl_unfold_words
    simp (disch := decide) only [↓ View.readCov_skip, ↓ View.readCov_cons_toLoadRect]
    simp only [View.readAt_eq_ld, harg1.read_unread, harg2.read_unread]
    intro j
    idx_vars j
    have e : ∀ h : Fin 4, lseC i x0 x1 3 h j0 = Band.lseNext (Band.blkTile x0 0 3) (Band.blkTile x0 1 3) (Band.blkTile x0 1 2) h j0 := fun _ => rfl
    rw [Band.blkLse_at (lseC i x0 x1) 3 j0 j1 _ (by simp) (by simp)]
    simp only [e]
    clear e
    simp only [ld_blk_l x0 0 3 384 0 rfl rfl,
      ld_blk_l x0 1 3 384 256 rfl rfl,
      ld_blk_l x0 1 2 256 256 rfl rfl]
    generalize Band.blkTile x0 0 3 = q
    generalize Band.blkTile x0 1 3 = k
    generalize Band.blkTile x0 1 2 = kp
    unfold_payloads
    pointwise
    refine Band.steps j1.val _ _ _ _ _ ?_ ?_ ?_ ?_
    · intro _ h e
      have := Band.lseNext_from q k kp ⟨j1.val, h⟩ j0 0 e rfl (by omega)
      simp only [Band.fin_zero_add] at this
      exact this
    · intro _ _ h e
      exact Band.lseNext_from q k kp ⟨j1.val, h⟩ j0 64 e rfl (by omega)
    · intro _ _ _ h e
      exact Band.lseNext_from q k kp ⟨j1.val, h⟩ j0 128 e rfl (by omega)
    · intro _ _ _ _ h e
      exact Band.lseNext_from q k kp ⟨j1.val, h⟩ j0 192 e rfl (by omega)
  · sl_unfold_words
    simp (disch := decide) only [↓ View.readCov_skip, ↓ View.readCov_cons_toLoadRect]
    simp only [View.readAt_eq_ld, harg1.read_unread, harg2.read_unread]
    intro j
    idx_vars j
    have e : ∀ h : Fin 4, lseC i x0 x1 2 h j0 = Band.lseNext (Band.blkTile x0 0 2) (Band.blkTile x0 1 2) (Band.blkTile x0 1 1) h j0 := fun _ => rfl
    rw [Band.blkLse_at (lseC i x0 x1) 2 j0 j1 _ (by simp) (by simp)]
    simp only [e]
    clear e
    simp only [ld_blk_l x0 0 2 256 0 rfl rfl,
      ld_blk_l x0 1 2 256 256 rfl rfl,
      ld_blk_l x0 1 1 128 256 rfl rfl]
    generalize Band.blkTile x0 0 2 = q
    generalize Band.blkTile x0 1 2 = k
    generalize Band.blkTile x0 1 1 = kp
    unfold_payloads
    pointwise
    refine Band.steps j1.val _ _ _ _ _ ?_ ?_ ?_ ?_
    · intro _ h e
      have := Band.lseNext_from q k kp ⟨j1.val, h⟩ j0 0 e rfl (by omega)
      simp only [Band.fin_zero_add] at this
      exact this
    · intro _ _ h e
      exact Band.lseNext_from q k kp ⟨j1.val, h⟩ j0 64 e rfl (by omega)
    · intro _ _ _ h e
      exact Band.lseNext_from q k kp ⟨j1.val, h⟩ j0 128 e rfl (by omega)
    · intro _ _ _ _ h e
      exact Band.lseNext_from q k kp ⟨j1.val, h⟩ j0 192 e rfl (by omega)
  · sl_unfold_words
    simp (disch := decide) only [↓ View.readCov_skip, ↓ View.readCov_cons_toLoadRect]
    simp only [View.readAt_eq_ld, harg1.read_unread, harg2.read_unread]
    intro j
    idx_vars j
    have e : ∀ h : Fin 4, lseC i x0 x1 1 h j0 = Band.lseNext (Band.blkTile x0 0 1) (Band.blkTile x0 1 1) (Band.blkTile x0 1 0) h j0 := fun _ => rfl
    rw [Band.blkLse_at (lseC i x0 x1) 1 j0 j1 _ (by simp) (by simp)]
    simp only [e]
    clear e
    simp only [ld_blk_l x0 0 1 128 0 rfl rfl,
      ld_blk_l x0 1 1 128 256 rfl rfl,
      ld_blk_l x0 1 0 0 256 rfl rfl]
    generalize Band.blkTile x0 0 1 = q
    generalize Band.blkTile x0 1 1 = k
    generalize Band.blkTile x0 1 0 = kp
    unfold_payloads
    pointwise
    refine Band.steps j1.val _ _ _ _ _ ?_ ?_ ?_ ?_
    · intro _ h e
      have := Band.lseNext_from q k kp ⟨j1.val, h⟩ j0 0 e rfl (by omega)
      simp only [Band.fin_zero_add] at this
      exact this
    · intro _ _ h e
      exact Band.lseNext_from q k kp ⟨j1.val, h⟩ j0 64 e rfl (by omega)
    · intro _ _ _ h e
      exact Band.lseNext_from q k kp ⟨j1.val, h⟩ j0 128 e rfl (by omega)
    · intro _ _ _ _ h e
      exact Band.lseNext_from q k kp ⟨j1.val, h⟩ j0 192 e rfl (by omega)
  · sl_unfold_words
    simp (disch := decide) only [↓ View.readCov_skip, ↓ View.readCov_cons_toLoadRect]
    simp only [View.readAt_eq_ld, harg1.read_unread, harg2.read_unread]
    intro j
    idx_vars j
    have e : ∀ h : Fin 4, lseC i x0 x1 0 h j0 = Band.lseIf (word i) (Band.blkTile x0 0 0) (Band.blkTile x0 1 0) (Band.haloTile x1 1) h j0 := fun _ => rfl
    rw [Band.blkLse_at (lseC i x0 x1) 0 j0 j1 _ (by simp) (by simp)]
    simp only [e]
    clear e
    simp only [ld_blk_l x0 0 0 0 0 rfl rfl,
      ld_blk_l x0 1 0 0 256 rfl rfl,
      ld_halo_l x1 1 256 rfl]
    generalize Band.blkTile x0 0 0 = q
    generalize Band.blkTile x0 1 0 = k
    generalize Band.haloTile x1 1 = kp
    unfold_payloads
    pointwise
    refine Band.steps j1.val _ _ _ _ _ ?_ ?_ ?_ ?_
    · intro _ h e
      have := Band.lseIf_from (word i) q k kp ⟨j1.val, h⟩ j0 0 e rfl (by omega)
      simp only [Band.fin_zero_add] at this
      exact this
    · intro _ _ h e
      exact Band.lseIf_from (word i) q k kp ⟨j1.val, h⟩ j0 64 e rfl (by omega)
    · intro _ _ _ h e
      exact Band.lseIf_from (word i) q k kp ⟨j1.val, h⟩ j0 128 e rfl (by omega)
    · intro _ _ _ _ h e
      exact Band.lseIf_from (word i) q k kp ⟨j1.val, h⟩ j0 192 e rfl (by omega)

end Cert.DilCIdeal.V

end
-- ==== Proof.DilC.Array.lean ====
/-
  The dilated attention's kernel, dilation 1 (sequences of 2048 rows): the arrays its run leaves are the closed forms.
-/
module

public import proofs.«01_k».proof.Proof.Gen.DilCIdeal.Value
public import proofs.«01_k».proof.Proof.DilC.Out
public import proofs.«01_k».proof.Proof.DilC.Lse
public import proofs.«01_k».proof.Proof.Band.Assemble

@[expose] public section

set_option maxRecDepth 16384

noncomputable section

open Idealize.ShloMosaic Idealize.ShloMosaic.TcCoe Idealize.SL.Sem

namespace Cert.DilCIdeal.V

open Cert.DilCIdeal Cert.DilCIdeal.Gen Cert.DilCIdeal.Value

variable (m : (ℓ : Loc nD τ sig) → Buf (Elt Ideal) ℓ)

/-- The activations. -/
abbrev acts (c : Dev nD) : Band.Acts := m ((c : Thread nD τ).loc main_arg0)

theorem index0 : ∀ t : Fin cfg0.N, win0_0.index t 0 = t.val ∧ win0_0.index t 1 = 0 :=
  (by decide +kernel : ∀ t : Fin grid0.N, win0_0.index t 0 = t.val ∧ win0_0.index t 1 = 0)

theorem index2 : ∀ t : Fin cfg0.N, win0_2.index t 0 = t.val ∧ win0_2.index t 1 = 0 :=
  (by decide +kernel : ∀ t : Fin grid0.N, win0_2.index t 0 = t.val ∧ win0_2.index t 1 = 0)

theorem index3 : ∀ t : Fin cfg0.N, win0_3.index t 0 = t.val ∧ win0_3.index t 1 = 0 :=
  (by decide +kernel : ∀ t : Fin grid0.N, win0_3.index t 0 = t.val ∧ win0_3.index t 1 = 0)

/-- A grid point's number. -/
abbrev pt (t : Fin cfg0.N) : Fin 64 := ⟨t.val, N_0 ▸ t.isLt⟩

/-- The block of activations a grid point reads: 1024 rows of the array. -/
theorem block_row (c : Dev nD) (t : Fin cfg0.N) (r : Fin 1024) (k : Fin 768) :
    (iblk m c 0 t : Vec Ideal S1024x768 .bf16) (ix2 r k) = acts m c (ix2 ⟨1024 * (pt t).val + r.val, by omega⟩ k) := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = 1024 * t.val + r.val; rw [(index0 t).1]; omega
  | ⟨1, _⟩ => show win0_0.index t 1 * 768 + 1 * k.val = k.val; rw [(index0 t).2]; omega

/-- The tile a grid point's halo holds: the one before its block, or the first one. -/
abbrev before (t : Fin cfg0.N) : Fin 512 := ⟨8 * (pt t).val - 1, by omega⟩

theorem index1 : ∀ t : Fin cfg0.N, win0_1.index t 0 = 8 * t.val - 1 ∧ win0_1.index t 1 = 0 :=
  (by decide +kernel : ∀ t : Fin grid0.N, win0_1.index t 0 = 8 * t.val - 1 ∧ win0_1.index t 1 = 0)

theorem halo (c : Dev nD) (t : Fin cfg0.N) (p : Fin 3) : Band.haloTile (iblk m c 1 t) p = Band.tileOf (acts m c) p (before t) := by
  refine Band.halo_tile (acts m c) _ (before t) (fun r k => ?_) p
  unfold iblk
  rw [View.read_apply]
  show V m c main_arg0 _ = m (c.tc.loc main_arg0) _
  unfold V
  congr 1
  funext a
  apply Fin.ext
  match a with
  | ⟨0, _⟩ => show win0_1.index t 0 * 128 + 1 * r.val = 128 * (8 * t.val - 1) + r.val; rw [(index1 t).1]; omega
  | ⟨1, _⟩ => show win0_1.index t 1 * 768 + 1 * k.val = k.val; rw [(index1 t).2]; omega

/-- The flag is down at the even grid points and up at the odd ones. -/
theorem word_cases : ∀ t : Fin cfg0.N,
    (word (grid0.coords t) = 0#1 ∧ t.val % 2 = 0) ∨ (word (grid0.coords t) = 1#1 ∧ t.val % 2 = 1) :=
  (by decide +kernel : ∀ t : Fin grid0.N,
    (word (grid0.coords t) = 0#1 ∧ t.val % 2 = 0) ∨ (word (grid0.coords t) = 1#1 ∧ t.val % 2 = 1))

variable (c : Dev nD) (hA : ∀ i, acts m c i ≠ ⊤ ∧ acts m c i ≠ ⊥)
include hA

/-- A tile's results at a grid point are the array's rows. -/
theorem out_tile (t : Fin cfg0.N) (u : Fin 8) (h : Fin 4) (r : Fin 128) (j : Fin 256) (hh : h.val = j.val / 64) :
    outC (grid0.coords t) (iblk m c 0 t) (iblk m c 1 t) u h r j = Band.outVal (acts m c) 2048 (128 * (8 * (pt t).val + u.val) + r.val) j.val := by
  have hb : ∀ p u, Band.blkTile (iblk m c 0 t) p u = Band.tileOf (acts m c) p ⟨8 * (pt t).val + u.val, by omega⟩ :=
    fun p u => Band.blk_tile (acts m c) _ (pt t) (block_row m c t) p u
  unfold outC
  split_ifs with hu0
  · rcases word_cases t with ⟨hw, he⟩ | ⟨hw, he⟩
    · rw [hw, Band.outIf_down]
      simp only [hb]
      exact Band.outFirst_val (acts m c) hA ⟨8 * (pt t).val + u.val, by omega⟩ ((8 * (pt t).val + u.val) / 16) 2048 (by simp only; omega) (by decide) h r j hh
    · rw [hw, Band.outIf_up]
      simp only [hb, halo m c t]
      exact Band.outNext_val (acts m c) hA ⟨8 * (pt t).val + u.val, by omega⟩ (before t)
        ((8 * (pt t).val + u.val) / 16) ((8 * (pt t).val + u.val) % 16 - 1) 2048 (by simp only; omega) (by simp only; omega) (by omega) (by decide) h r j hh
  · simp only [hb]
    have hu : (u - 1 : Fin 8).val = u.val - 1 := by
      have : ∀ u : Fin 8, ¬ u.val = 0 → (u - 1 : Fin 8).val = u.val - 1 := by decide
      exact this u hu0
    exact Band.outNext_val (acts m c) hA ⟨8 * (pt t).val + u.val, by omega⟩ ⟨8 * (pt t).val + (u - 1 : Fin 8).val, by omega⟩
      ((8 * (pt t).val + u.val) / 16) ((8 * (pt t).val + u.val) % 16 - 1) 2048 (by simp only; omega) (by simp only; omega) (by omega) (by decide) h r j hh

theorem lse_tile (t : Fin cfg0.N) (u : Fin 8) (h : Fin 4) (r : Fin 128) :
    lseC (grid0.coords t) (iblk m c 0 t) (iblk m c 1 t) u h r = Band.lseVal (acts m c) 2048 (128 * (8 * (pt t).val + u.val) + r.val) h.val := by
  have hb : ∀ p u, Band.blkTile (iblk m c 0 t) p u = Band.tileOf (acts m c) p ⟨8 * (pt t).val + u.val, by omega⟩ :=
    fun p u => Band.blk_tile (acts m c) _ (pt t) (block_row m c t) p u
  unfold lseC
  split_ifs with hu0
  · rcases word_cases t with ⟨hw, he⟩ | ⟨hw, he⟩
    · rw [hw, Band.lseIf_down]
      simp only [hb]
      exact Band.lseFirst_val (acts m c) hA ⟨8 * (pt t).val + u.val, by omega⟩ ((8 * (pt t).val + u.val) / 16) 2048 (by simp only; omega) (by decide) h r
    · rw [hw, Band.lseIf_up]
      simp only [hb, halo m c t]
      exact Band.lseNext_val (acts m c) hA ⟨8 * (pt t).val + u.val, by omega⟩ (before t)
        ((8 * (pt t).val + u.val) / 16) ((8 * (pt t).val + u.val) % 16 - 1) 2048 (by simp only; omega) (by simp only; omega) (by omega) (by decide) h r
  · simp only [hb]
    have hu : (u - 1 : Fin 8).val = u.val - 1 := by
      have : ∀ u : Fin 8, ¬ u.val = 0 → (u - 1 : Fin 8).val = u.val - 1 := by decide
      exact this u hu0
    exact Band.lseNext_val (acts m c) hA ⟨8 * (pt t).val + u.val, by omega⟩ ⟨8 * (pt t).val + (u - 1 : Fin 8).val, by omega⟩
      ((8 * (pt t).val + u.val) / 16) ((8 * (pt t).val + u.val) % 16 - 1) 2048 (by simp only; omega) (by simp only; omega) (by omega) (by decide) h r

/-- What a grid point writes back is its block of the array of results. -/
theorem flushed_out (t : Fin cfg0.N) :
    (dats m 0 c).flushed 2 t = ((cfg0.win 2).blk t).view.read (Elt Ideal) (Band.outArr (acts m c) 2048) := by
  rw [flushed2_A]
  funext j
  rw [View.read_apply]
  refine (out_eq c _ _ _ _ _ _ _ _ _ _ _ _ _ _ _ _).trans ?_
  refine Band.blkOut_val (acts m c) 2048 (pt t) _ (fun u h r k hh => out_tile m c hA t u h r k hh) _ _ ?_ ?_
  · show win0_2.index t 0 * 1024 + 1 * (j 0).val = 1024 * t.val + (j 0).val; rw [(index2 t).1]; omega
  · show win0_2.index t 1 * 256 + 1 * (j 1).val = (j 1).val; rw [(index2 t).2]; omega

theorem flushed_lse (t : Fin cfg0.N) :
    (dats m 0 c).flushed 3 t = ((cfg0.win 3).blk t).view.read (Elt Ideal) (Band.lseArr (acts m c) 2048) := by
  rw [flushed3_A]
  funext j
  rw [View.read_apply]
  refine (lse_eq c _ _ _ _ _ _ _ _ _ _ _ _ _ _ _ _).trans ?_
  refine Band.blkLse_val (acts m c) 2048 (pt t) _ (fun u h r => lse_tile m c hA t u h r) _ _ ?_ ?_
  · show win0_3.index t 0 * 1024 + 1 * (j 0).val = 1024 * t.val + (j 0).val; rw [(index3 t).1]; omega
  · show win0_3.index t 1 * 128 + 1 * (j 1).val = (j 1).val; rw [(index3 t).2]; omega

/-- The run leaves the attention's results in its first output. -/
theorem final_out : (dats m 0 c).arrAt 2 cfg0.N = Band.outArr (acts m c) 2048 :=
  (dats m 0 c).arrAt_eq_of_cover 2 (Band.outArr (acts m c) 2048) (fun t _ => flushed_out m c hA t) fun i => by
    have h0 : (i 0 : Nat) < 65536 := (i 0).isLt
    have h1 : (i 1 : Nat) < 256 := (i 1).isLt
    have hN : cfg0.N = 64 := N_0
    refine ⟨⟨(i 0 : Nat) / 1024, by omega⟩, flush0_2 _, ?_⟩
    generalize ht : (⟨(i 0 : Nat) / 1024, _⟩ : Fin cfg0.N) = t
    have hv : t.val = (i 0 : Nat) / 1024 := by rw [← ht]
    show i ∈ ((View.whole main_v0_0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [(index2 t).1, hv]; omega
    | ⟨1, _⟩ => show win0_2.index t 1 * 256 ≤ (i 1 : Nat) ∧ (i 1 : Nat) < win0_2.index t 1 * 256 + 256
                rw [(index2 t).2]; omega

/-- … and the log-sum-exps in its second. -/
theorem final_lse : (dats m 0 c).arrAt 3 cfg0.N = Band.lseArr (acts m c) 2048 :=
  (dats m 0 c).arrAt_eq_of_cover 3 (Band.lseArr (acts m c) 2048) (fun t _ => flushed_lse m c hA t) fun i => by
    have h0 : (i 0 : Nat) < 65536 := (i 0).isLt
    have h1 : (i 1 : Nat) < 128 := (i 1).isLt
    have hN : cfg0.N = 64 := N_0
    refine ⟨⟨(i 0 : Nat) / 1024, by omega⟩, flush0_3 _, ?_⟩
    generalize ht : (⟨(i 0 : Nat) / 1024, _⟩ : Fin cfg0.N) = t
    have hv : t.val = (i 0 : Nat) / 1024 := by rw [← ht]
    show i ∈ ((View.whole main_v0_1).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [(index3 t).1, hv]; omega
    | ⟨1, _⟩ => show win0_3.index t 1 * 128 ≤ (i 1 : Nat) ∧ (i 1 : Nat) < win0_3.index t 1 * 128 + 128
                rw [(index3 t).2]; omega

end Cert.DilCIdeal.V

end
-- ==== Proof.RefC.Value.lean ====
/-
  The attention's program over dense scores, read: its results are the closed forms (32 sequences of 2048 rows).
-/
module

public import proofs.«01_k».proof.Proof.Gen.RefCIdeal.Read
public import proofs.«01_k».proof.Proof.Band.Results
public import Idealize.ShloMosaic.Lib.Pointwise

@[expose] public section

set_option maxRecDepth 16384

noncomputable section

open Idealize.ShloMosaic Idealize.ShloMosaic.TcCoe Idealize.SL.Sem

namespace Cert.RefCIdeal.V

open Cert.RefCIdeal Cert.RefCIdeal.Gen Cert.RefCIdeal.Read

variable (A : Band.Acts) (hA : ∀ i, A i ≠ ⊤ ∧ A i ≠ ⊥)

/-- An entry of the activations, split into sequence, row, part, head and column. -/
theorem entry (n : Fin 32) (q : Fin 2048) (p : Fin 3) (h : Fin 4) (d : Fin 64) :
    val_main_v1 (F := Ideal) A (ix5 n q p h d)
      = A (ix2 ⟨n.val * 2048 + q.val, by omega⟩ ⟨256 * p.val + (64 * h.val + d.val), by omega⟩) := by
  rw [val_main_v1_apply, val_main_v0_apply]
  show A _ = A _
  congr 1
  funext a
  apply Fin.ext
  match a with
  | ⟨0, _⟩ => show ((((n.val * 2048 + q.val) * 3 + p.val) * 4 + h.val) * 64 + d.val) / 768 = n.val * 2048 + q.val; omega
  | ⟨1, _⟩ => show ((((n.val * 2048 + q.val) * 3 + p.val) * 4 + h.val) * 64 + d.val) % 768 = 256 * p.val + (64 * h.val + d.val); omega

theorem queries (n : Fin 32) (q : Fin 2048) (h : Fin 4) (d : Fin 64) :
    val_main_v3 (F := Ideal) A (ix4 n q h d) = val_main_v1 (F := Ideal) A (ix5 n q 0 h d) := by
  rw [val_main_v3_apply, val_main_v2_apply]
  congr 1
  funext a
  apply Fin.ext
  match a with
  | ⟨0, _⟩ => show (((n.val * 2048 + q.val) * 4 + h.val) * 64 + d.val) / 524288 = n.val; omega
  | ⟨1, _⟩ => show (((n.val * 2048 + q.val) * 4 + h.val) * 64 + d.val) / 256 % 2048 = q.val; omega
  | ⟨2, _⟩ => rfl
  | ⟨3, _⟩ => show (((n.val * 2048 + q.val) * 4 + h.val) * 64 + d.val) / 64 % 4 = h.val; omega
  | ⟨4, _⟩ => show (((n.val * 2048 + q.val) * 4 + h.val) * 64 + d.val) % 64 = d.val; omega

theorem keys (n : Fin 32) (q : Fin 2048) (h : Fin 4) (d : Fin 64) :
    val_main_v5 (F := Ideal) A (ix4 n q h d) = val_main_v1 (F := Ideal) A (ix5 n q 1 h d) := by
  rw [val_main_v5_apply, val_main_v4_apply]
  congr 1
  funext a
  apply Fin.ext
  match a with
  | ⟨0, _⟩ => show (((n.val * 2048 + q.val) * 4 + h.val) * 64 + d.val) / 524288 = n.val; omega
  | ⟨1, _⟩ => show (((n.val * 2048 + q.val) * 4 + h.val) * 64 + d.val) / 256 % 2048 = q.val; omega
  | ⟨2, _⟩ => rfl
  | ⟨3, _⟩ => show (((n.val * 2048 + q.val) * 4 + h.val) * 64 + d.val) / 64 % 4 = h.val; omega
  | ⟨4, _⟩ => show (((n.val * 2048 + q.val) * 4 + h.val) * 64 + d.val) % 64 = d.val; omega

theorem vals (n : Fin 32) (q : Fin 2048) (h : Fin 4) (d : Fin 64) :
    val_main_v7 (F := Ideal) A (ix4 n q h d) = val_main_v1 (F := Ideal) A (ix5 n q 2 h d) := by
  rw [val_main_v7_apply, val_main_v6_apply]
  congr 1
  funext a
  apply Fin.ext
  match a with
  | ⟨0, _⟩ => show (((n.val * 2048 + q.val) * 4 + h.val) * 64 + d.val) / 524288 = n.val; omega
  | ⟨1, _⟩ => show (((n.val * 2048 + q.val) * 4 + h.val) * 64 + d.val) / 256 % 2048 = q.val; omega
  | ⟨2, _⟩ => rfl
  | ⟨3, _⟩ => show (((n.val * 2048 + q.val) * 4 + h.val) * 64 + d.val) / 64 % 4 = h.val; omega
  | ⟨4, _⟩ => show (((n.val * 2048 + q.val) * 4 + h.val) * 64 + d.val) % 64 = d.val; omega

/-- The mask: a query sees its own row and up to 128 before it. -/
theorem mask (n : Fin 32) (h : Fin 4) (q k : Fin 2048) :
    val_main_call0_v1 (F := Ideal) (ix4 n h q k) = BitVec.ofBool (decide (k.val ≤ q.val ∧ q.val ≤ k.val + 128)) := by
  rw [val_main_call0_v1_apply, val_main_v20_apply, val_main_v17_apply, val_main_v19_apply, val_main_v15_apply, val_main_v16_apply,
    val_main_v18_apply, val_main_c_apply, val_main_c_0_apply, val_main_v13_apply, val_main_v14_apply, val_main_v10_apply,
    val_main_v12_apply, val_main_v9_apply, val_main_v11_apply]
  exact Band.mask_word q.val k.val (by omega) (by omega)

include hA

/-- The scores: dot products under the mask. -/
theorem scores (n : Fin 32) (h : Fin 4) (q k : Fin 2048) :
    val_main_v21 (F := Ideal) A (ix4 n h q k)
      = Band.masked (k.val ≤ q.val ∧ q.val ≤ k.val + 128) (Band.dotp (Band.data A) h.val (n.val * 2048 + q.val) (n.val * 2048 + k.val)) := by
  rw [val_main_v21_apply, mask, Band.select_ofBool, val_main_call0_v2_apply, val_main_call0_v0_apply, val_main_cst_apply]
  unfold Band.masked
  by_cases hp : k.val ≤ q.val ∧ q.val ≤ k.val + 128
  · rw [if_pos hp, if_pos hp, val_main_v8_apply]
    unfold Band.dotp
    rw [Band.coe_sum]
    refine Finset.sum_congr rfl fun d _ => ?_
    rw [show lidx_main_v8 (ix4 n h q k) d = ix4 n q h d from by funext a; match a with | ⟨0, _⟩ => rfl | ⟨1, _⟩ => rfl | ⟨2, _⟩ => rfl | ⟨3, _⟩ => rfl,
      show ridx_main_v8 (ix4 n h q k) d = ix4 n k h d from by funext a; match a with | ⟨0, _⟩ => rfl | ⟨1, _⟩ => rfl | ⟨2, _⟩ => rfl | ⟨3, _⟩ => rfl,
      queries, keys, entry, entry, Band.eq_data A hA, Band.eq_data A hA, ← EReal.coe_mul, mul_comm]
    simp
  · rw [if_neg hp, if_neg hp]
    exact Band.ninf

/-- The largest score of a row. -/
theorem row_max (n : Fin 32) (h : Fin 4) (q : Fin 2048) :
    val_main_v22 (F := Ideal) A (ix3 n h q) = Finset.univ.fold max ⊥ fun k => val_main_v21 (F := Ideal) A (ix4 n h q k) := by
  unfold val_main_v22 val_main_cst_1
  generalize val_main_v21 (F := Ideal) A = y
  pointwise
  rw [Band.ninf]

/-- The log-sum-exp of a row. -/
theorem row_lse (n : Fin 32) (h : Fin 4) (q : Fin 2048) :
    val_main_v29 (F := Ideal) A (ix3 n h q) = Band.lseVal A 2048 (n.val * 2048 + q.val) h.val := by
  have e : val_main_v29 (F := Ideal) A (ix3 n h q) = Band.lse fun k => val_main_v21 (F := Ideal) A (ix4 n h q k) := by
    have hs : val_main_v27 (F := Ideal) A (ix3 n h q) = ∑ k : Fin 2048, Ideal.exp (val_main_v21 (F := Ideal) A (ix4 n h q k)
        - Finset.univ.fold max ⊥ fun k => val_main_v21 (F := Ideal) A (ix4 n h q k)) := by
      rw [val_main_v27_apply, val_main_cst_2_apply, Band.zero_word, zero_add]
      refine Finset.sum_congr rfl fun k _ => ?_
      rw [show idx_main_v27 (ix3 n h q) k = ix4 n h q k from by funext a; match a with | ⟨0, _⟩ => rfl | ⟨1, _⟩ => rfl | ⟨2, _⟩ => rfl | ⟨3, _⟩ => rfl,
        val_main_v26_apply, val_main_v25_apply, val_main_v24_apply, val_main_v23_apply]
      rw [show idx_main_v23 (idx_main_v24 (ix4 n h q k)) = ix3 n h q from by funext a; match a with | ⟨0, _⟩ => rfl | ⟨1, _⟩ => rfl | ⟨2, _⟩ => rfl, row_max A hA]
      rfl
    rw [val_main_v29_apply, row_max A hA, val_main_v28_apply, hs]
    rfl
  rw [e, Band.lse_dense A hA 2048 (n.val * 2048) q.val h.val q.isLt _ (fun k => scores A hA n h q k)]
  unfold Band.lseVal
  rw [(Band.split_row 2048 n.val q.val q.isLt).1, (Band.split_row 2048 n.val q.val q.isLt).2]

/-- The weighted values of a row. -/
theorem row_out (n : Fin 32) (h : Fin 4) (q : Fin 2048) (d : Fin 64) :
    val_main_v34 (F := Ideal) A (ix4 n h d q) = Band.outVal A 2048 (n.val * 2048 + q.val) (64 * h.val + d.val) := by
  have hl : val_main_v29 (F := Ideal) A (ix3 n h q) = Band.lse fun k => val_main_v21 (F := Ideal) A (ix4 n h q k) := by
    rw [row_lse A hA, Band.lse_dense A hA 2048 (n.val * 2048) q.val h.val q.isLt _ (fun k => scores A hA n h q k)]
    unfold Band.lseVal
    rw [(Band.split_row 2048 n.val q.val q.isLt).1, (Band.split_row 2048 n.val q.val q.isLt).2]
  have e : val_main_v34 (F := Ideal) A (ix4 n h d q)
      = ∑ k : Fin 2048, A (ix2 ⟨n.val * 2048 + k.val, by omega⟩ ⟨512 + (64 * h.val + d.val), by omega⟩)
        * Ideal.exp (val_main_v21 (F := Ideal) A (ix4 n h q k) - Band.lse fun k => val_main_v21 (F := Ideal) A (ix4 n h q k)) := by
    rw [val_main_v34_apply]
    refine Finset.sum_congr rfl fun k _ => ?_
    rw [show lidx_main_v34 (ix4 n h d q) k = ix4 n k h d from by funext a; match a with | ⟨0, _⟩ => rfl | ⟨1, _⟩ => rfl | ⟨2, _⟩ => rfl | ⟨3, _⟩ => rfl,
      show ridx_main_v34 (ix4 n h d q) k = ix4 n h q k from by funext a; match a with | ⟨0, _⟩ => rfl | ⟨1, _⟩ => rfl | ⟨2, _⟩ => rfl | ⟨3, _⟩ => rfl,
      vals, entry, val_main_v33_apply, val_main_v32_apply, val_main_v31_apply, val_main_v30_apply,
      show idx_main_v30 (idx_main_v31 (ix4 n h q k)) = ix3 n h q from by funext a; match a with | ⟨0, _⟩ => rfl | ⟨1, _⟩ => rfl | ⟨2, _⟩ => rfl, hl]
    rfl
  rw [e, Band.attend_dense A hA 2048 (n.val * 2048) q.val h.val (64 * h.val + d.val) q.isLt _ _ (fun k => scores A hA n h q k) (fun k => Band.eq_data A hA _ _)]
  unfold Band.outVal
  rw [(Band.split_row 2048 n.val q.val q.isLt).1, (Band.split_row 2048 n.val q.val q.isLt).2,
    show (64 * h.val + d.val) / 64 = h.val by omega]

/-- The first result is the array of attention results. -/
theorem out_eq : val_main_v39 (F := Ideal) A = Band.outArr A 2048 := by
  funext i
  idx_vars i
  rw [val_main_v39_apply, val_main_v38_apply, val_main_v35_apply]
  refine Eq.trans ?_ ((row_out A hA ⟨i0.val / 2048, by omega⟩ ⟨i1.val / 64, by omega⟩ ⟨i0.val % 2048, by omega⟩ ⟨i1.val % 64, by omega⟩).trans ?_)
  · show val_main_v34 (F := Ideal) A _ = _
    congr 1
    funext a
    apply Fin.ext
    match a with
    | ⟨0, _⟩ => show (i0.val * 256 + i1.val) / 524288 = i0.val / 2048; omega
    | ⟨1, _⟩ => show (i0.val * 256 + i1.val) / 64 % 4 = i1.val / 64; omega
    | ⟨2, _⟩ => show (i0.val * 256 + i1.val) % 64 = i1.val % 64; omega
    | ⟨3, _⟩ => show (i0.val * 256 + i1.val) / 256 % 2048 = i0.val % 2048; omega
  · show Band.outVal A 2048 (i0.val / 2048 * 2048 + i0.val % 2048) (64 * (i1.val / 64) + i1.val % 64) = Band.outVal A 2048 i0.val i1.val
    rw [show i0.val / 2048 * 2048 + i0.val % 2048 = i0.val by omega, show 64 * (i1.val / 64) + i1.val % 64 = i1.val by omega]

/-- The second result is the array of log-sum-exps. -/
theorem lse_eq : val_main_v40 (F := Ideal) A = Band.lseArr A 2048 := by
  have e : ∀ (r : Fin 65536) (h : Fin 4), val_main_v37 (F := Ideal) A (ix2 r h) = Band.lseVal A 2048 r.val h.val := by
    intro r h
    rw [val_main_v37_apply, val_main_v36_apply]
    refine Eq.trans ?_ ((row_lse A hA ⟨r.val / 2048, by omega⟩ h ⟨r.val % 2048, by omega⟩).trans ?_)
    · congr 1
      funext a
      apply Fin.ext
      match a with
      | ⟨0, _⟩ => show (r.val * 4 + h.val) / 8192 = r.val / 2048; omega
      | ⟨1, _⟩ => show (r.val * 4 + h.val) % 4 = h.val; omega
      | ⟨2, _⟩ => show (r.val * 4 + h.val) / 4 % 2048 = r.val % 2048; omega
    · show Band.lseVal A 2048 (r.val / 2048 * 2048 + r.val % 2048) h.val = _
      rw [show r.val / 2048 * 2048 + r.val % 2048 = r.val by omega]
  funext i
  idx_vars i
  unfold val_main_v40 val_main_call1_v0 val_main_c_3
  generalize val_main_v37 (F := Ideal) A = y at e
  pointwise
  unfold Band.lseArr
  show _ = if i1.val < 4 then Band.lseVal A 2048 i0.val i1.val else 0
  split_ifs with h
  · exact e _ _
  · show (((0#32 : BitVec 32).toInt : ℝ) : EReal) = 0
    simp

end Cert.RefCIdeal.V

end
-- ==== Proof.DilC.Claim.lean ====
/-
  The claim of the dilated attention, dilation 1: the kernel's idealization and the reference's end in the same arrays.
-/
module

public import proofs.«01_k».proof.Defs
public import proofs.«01_k».proof.Proof.DilC.Array
public import proofs.«01_k».proof.Proof.RefC.Value
public import proofs.«01_k».proof.Proof.Gen.DilCIdeal.Frame
public import proofs.«01_k».proof.Proof.Gen.RefCIdeal.Run
public import Idealize.ShloMosaic.Lib.Quiescent

@[expose] public section

noncomputable section

open Idealize.ShloMosaic Idealize.SL.Sem

namespace Cert.Proof

/-- The reference's idealization terminates, keeps its argument and has no semaphore to leave up. -/
theorem frameRefC (m : (ℓ : Loc Cert.RefCIdeal.nD Cert.RefCIdeal.τ Cert.RefCIdeal.sig) → Buf (Elt Ideal) ℓ)
    (ρ : Dev Cert.RefCIdeal.nD → PrngReg) :
    θ_run (Cert.RefCIdeal.defs (F := Ideal)) (onTc (τ := Cert.RefCIdeal.τ) (Cert.RefCIdeal.main (F := Ideal))) ⟨m, fun _ => 0, ρ⟩
      (fun r => (∀ c : Dev Cert.RefCIdeal.nD,
        r.2.mem ((c.tc : Thread Cert.RefCIdeal.nD Cert.RefCIdeal.τ).loc Cert.RefCIdeal.main_arg0)
          = m ((c.tc : Thread Cert.RefCIdeal.nD Cert.RefCIdeal.τ).loc Cert.RefCIdeal.main_arg0)) ∧ r.2.sem = fun _ => 0) :=
  (θ_run Cert.RefCIdeal.defs _ _).mono (fun r h => ⟨fun c => (h c).2.2, sem_eq_zero_of_no_sems (by decide) r.2⟩)
    (Cert.RefCIdeal.Value.run m ρ)

/-- The kernel's idealization and the reference's, run on activations that agree and have no infinite entry, end in the
    same results and the same log-sum-exps: the closed forms of sequences of 2048 rows. -/
theorem algebraicC : Cert.algebraic_DilCIdeal_RefCIdeal_pre_finite := by
  intro m ρ m' ρ' hpre hag
  have hA : ∀ (c : Dev Cert.DilCIdeal.nD) i, Cert.DilCIdeal.V.acts m c i ≠ ⊤ ∧ Cert.DilCIdeal.V.acts m c i ≠ ⊥ :=
    fun c i => Band.finite_of_pre _ (hpre c) i
  refine ⟨fun c => Band.outArr (Cert.DilCIdeal.V.acts m c) 2048, fun c => Band.lseArr (Cert.DilCIdeal.V.acts m c) 2048, ?_, ?_⟩
  · exact (θ_run Cert.DilCIdeal.defs _ _).mono
      (fun _ h c => ⟨(h c).1.trans (Cert.DilCIdeal.V.final_out m c (hA c)),
        (h c).2.1.trans (Cert.DilCIdeal.V.final_lse m c (hA c)), (h c).2.2⟩)
      (Cert.DilCIdeal.Value.run_blocks m ρ)
  · refine (θ_run Cert.RefCIdeal.defs _ _).mono (fun _ h c => ⟨(h c).1.trans ?_, (h c).2.1.trans ?_, (h c).2.2⟩)
      (Cert.RefCIdeal.Value.run m' ρ')
    · rw [Cert.RefCIdeal.Read.val_main_v39_eq, hag c]
      exact Cert.RefCIdeal.V.out_eq _ (hA c)
    · rw [Cert.RefCIdeal.Read.val_main_v40_eq, hag c]
      exact Cert.RefCIdeal.V.lse_eq _ (hA c)

end Cert.Proof

end
-- ==== Proof.Row.Mix.lean ====
/-
  One row of the mixing sub-layer: its gates, its merged branches, its output projection and its layer norm.
-/
module

public import Idealize.ShloMosaic.Lib.ValueIdx
public import proofs.«01_k».proof.Proof.Band.Tile

@[expose] public section

noncomputable section

open Idealize.ShloMosaic

namespace Cert.Row

/-- A row's layer norm, scaled by `g` and shifted by `b`. -/
def norm (z g b : Fin 1024 → EReal) (j : Fin 1024) : EReal :=
  (z j - Ideal.div (∑ k, z k) (Ideal.ofBits .f32 0x44800000#32))
    * Ideal.rsqrt (Ideal.div
        (∑ k, (z k - Ideal.div (∑ k, z k) (Ideal.ofBits .f32 0x44800000#32)) * (z k - Ideal.div (∑ k, z k) (Ideal.ofBits .f32 0x44800000#32)))
        (Ideal.ofBits .f32 0x44800000#32) + Ideal.ofBits .f32 0x358637BD#32)
    * g j + b j

/-- The residual connection: the scaled row plus what the sub-layer made of it. -/
def skip (x y : Fin 1024 → EReal) (j : Fin 1024) : EReal := Ideal.ofBits .f32 0x3FB504F3#32 * x j + y j

/-- A row times a matrix. -/
def times {n : ℕ} (o : Fin n → EReal) (w : (⟨2, ![n, 1024]⟩ : Shape).Idx → EReal) (j : Fin 1024) : EReal := ∑ k, o k * w (ix2 k j)

/-- Branch `a`'s gate, channel by channel. -/
def gate (x : Fin 1024 → EReal) (w : (⟨2, ![1024, 3072]⟩ : Shape).Idx → EReal) (b : (⟨2, ![1, 3072]⟩ : Shape).Idx → EReal)
    (a : Fin 3) (j : Fin 1024) : EReal :=
  Ideal.logistic (∑ k, x k * w (ix2 k ⟨1024 * a.val + j.val, by omega⟩) + b (ix2 0 ⟨1024 * a.val + j.val, by omega⟩))

/-- The three branches, projected, gated and summed. -/
def merged (x : Fin 1024 → EReal) (oa : Fin 512 → EReal) (ob : Fin 256 → EReal) (oc : Fin 512 → EReal)
    (wg : (⟨2, ![1024, 3072]⟩ : Shape).Idx → EReal) (bg : (⟨2, ![1, 3072]⟩ : Shape).Idx → EReal)
    (wa : (⟨2, ![512, 1024]⟩ : Shape).Idx → EReal) (wb : (⟨2, ![256, 1024]⟩ : Shape).Idx → EReal)
    (wc : (⟨2, ![512, 1024]⟩ : Shape).Idx → EReal) (j : Fin 1024) : EReal :=
  gate x wg bg 0 j * times oa wa j + gate x wg bg 1 j * times ob wb j + gate x wg bg 2 j * times oc wc j

/-- The sub-layer's row: the merged branches through the output projection, the residual connection and the layer norm. -/
def mixed (x : Fin 1024 → EReal) (oa : Fin 512 → EReal) (ob : Fin 256 → EReal) (oc : Fin 512 → EReal)
    (wg : (⟨2, ![1024, 3072]⟩ : Shape).Idx → EReal) (bg : (⟨2, ![1, 3072]⟩ : Shape).Idx → EReal)
    (wa : (⟨2, ![512, 1024]⟩ : Shape).Idx → EReal) (wb : (⟨2, ![256, 1024]⟩ : Shape).Idx → EReal)
    (wc : (⟨2, ![512, 1024]⟩ : Shape).Idx → EReal) (wo : (⟨2, ![1024, 1024]⟩ : Shape).Idx → EReal)
    (g b : (⟨2, ![1, 1024]⟩ : Shape).Idx → EReal) (j : Fin 1024) : EReal :=
  norm (skip x (times (merged x oa ob oc wg bg wa wb wc) wo)) (fun k => g (ix2 0 k)) (fun k => b (ix2 0 k)) j

end Cert.Row

end
-- ==== Proof.Mix.Row.lean ====
/-
  What a grid point of the mixing kernel leaves in its block: the sub-layer's row, row by row.
-/
module

public import proofs.«01_k».proof.Proof.Gen.MixIdeal.Value
public import proofs.«01_k».proof.Proof.Row.Mix
public import Idealize.ShloMosaic.Lib.Pointwise
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem

namespace Cert.MixIdeal.V

open Cert.MixIdeal Cert.MixIdeal.Gen

theorem zeros : (![0, 0] : Fin 2 → ℕ) = fun _ => 0 := funext fun a => by fin_cases a <;> rfl

/-- A third of the gates' weights. -/
theorem ld_weight (x : Vec Ideal S1024x3072 .bf16) (a : Fin 3) (o : ℕ) (ho : o = 1024 * a.val)
    (inb : ∀ i, (![0, o] : Fin 2 → ℕ) i + (![1024, 1024] : Fin 2 → ℕ) i ≤ S1024x3072.size i) :
    View.ld x (Rect.unit (s := S1024x3072) ![0, o] ![1024, 1024] inb)
      = fun i : S1024x1024.Idx => x (ix2 (i 0) ⟨1024 * a.val + (i 1).val, by have : (i 1).val < 1024 := (i 1).isLt; omega⟩) := by
  subst ho
  rw [View.ld_unit]
  funext i
  show x _ = x _
  congr 1
  funext b
  apply Fin.ext
  match b with
  | ⟨0, _⟩ => show 0 + (i 0).val = (i 0).val; omega
  | ⟨1, _⟩ => rfl

/-- A third of the gates' biases. -/
theorem ld_bias (x : Vec Ideal S1x3072 .f32) (a : Fin 3) (o : ℕ) (ho : o = 1024 * a.val)
    (inb : ∀ i, (![0, o] : Fin 2 → ℕ) i + (![1, 1024] : Fin 2 → ℕ) i ≤ S1x3072.size i) :
    View.ld x (Rect.unit (s := S1x3072) ![0, o] ![1, 1024] inb)
      = fun i : S1x1024.Idx => x (ix2 (i 0) ⟨1024 * a.val + (i 1).val, by have : (i 1).val < 1024 := (i 1).isLt; omega⟩) := by
  subst ho
  rw [View.ld_unit]
  funext i
  show x _ = x _
  congr 1
  funext b
  apply Fin.ext
  match b with
  | ⟨0, _⟩ => show 0 + (i 0).val = (i 0).val; omega
  | ⟨1, _⟩ => rfl

/-- The last stage: the third branch, the output projection and the layer norm. -/
theorem pay1_read (v0 : Vec Ideal S512x1024 .f32) (v22 v28 : FVec Ideal S512x1024 .f32) (v29 : Vec Ideal S512x512 .bf16) (v30 : Vec Ideal S512x1024 .bf16)
    (v35 : Vec Ideal S1024x1024 .bf16) (v40 v41 : Vec Ideal S1x1024 .f32) (r : Fin 512) (j : Fin 1024) :
    k0_pay1 v0 v22 v28 v29 v30 v35 v40 v41 (ix2 r j)
      = Row.norm (Row.skip (fun k => v0 (ix2 r k)) (Row.times (fun k => v22 (ix2 r k) + v28 (ix2 r k) * Row.times (fun k => v29 (ix2 r k)) v30 k) v35))
          (fun k => v40 (ix2 0 k)) (fun k => v41 (ix2 0 k)) j := by
  unfold k0_pay1
  pointwise
  rfl

theorem pay3_read (v0 : Vec Ideal S512x1024 .f32) (v2 : Vec Ideal S1024x1024 .bf16) (v4 : Vec Ideal S1x1024 .f32) (v8 : Vec Ideal S512x512 .bf16)
    (v9 : Vec Ideal S512x1024 .bf16) (v12 : Vec Ideal S1024x1024 .bf16) (v14 : Vec Ideal S1x1024 .f32) (v18 : Vec Ideal S512x256 .bf16)
    (v19 : Vec Ideal S256x1024 .bf16) (r : Fin 512) (j : Fin 1024) :
    k0_pay3 v0 v2 v4 v8 v9 v12 v14 v18 v19 (ix2 r j)
      = Ideal.logistic (∑ k, v0 (ix2 r k) * v2 (ix2 k j) + v4 (ix2 0 j)) * Row.times (fun k => v8 (ix2 r k)) v9 j
        + Ideal.logistic (∑ k, v0 (ix2 r k) * v12 (ix2 k j) + v14 (ix2 0 j)) * Row.times (fun k => v18 (ix2 r k)) v19 j := by
  unfold k0_pay3 k0_pay2
  pointwise
  rfl

theorem pay4_read (v0 : Vec Ideal S512x1024 .f32) (v23 : Vec Ideal S1024x1024 .bf16) (v25 : Vec Ideal S1x1024 .f32) (r : Fin 512) (j : Fin 1024) :
    k0_pay4 v0 v23 v25 (ix2 r j) = Ideal.logistic (∑ k, v0 (ix2 r k) * v23 (ix2 k j) + v25 (ix2 0 j)) := by
  unfold k0_pay4 k0_pay2
  pointwise

/-- A grid point's block, row by row. -/
theorem out_row (x0 : Vec Ideal S512x1024 .f32) (x1 : Vec Ideal S512x512 .bf16) (x2 : Vec Ideal S512x256 .bf16) (x3 : Vec Ideal S512x512 .bf16)
    (x4 : Vec Ideal S1024x3072 .bf16) (x5 : Vec Ideal S1x3072 .f32) (x6 : Vec Ideal S512x1024 .bf16) (x7 : Vec Ideal S256x1024 .bf16)
    (x8 : Vec Ideal S512x1024 .bf16) (x9 : Vec Ideal S1024x1024 .bf16) (x10 x11 : Vec Ideal S1x1024 .f32) (r : Fin 512) (j : Fin 1024) :
    out0_12 x0 x1 x2 x3 x4 x5 x6 x7 x8 x9 x10 x11 (ix2 r j)
      = Row.mixed (fun k => x0 (ix2 r k)) (fun k => x1 (ix2 r k)) (fun k => x2 (ix2 r k)) (fun k => x3 (ix2 r k)) x4 x5 x6 x7 x8 x9 x10 x11 j := by
  unfold out0_12
  rw [View.canon_unit_zero zeros]
  simp only [View.ld_unit_zero (S := S512x1024) zeros, View.ld_unit_zero (S := S512x512) zeros, View.ld_unit_zero (S := S512x256) zeros,
    View.ld_unit_zero (S := S256x1024) zeros, View.ld_unit_zero (S := S1024x1024) zeros, View.ld_unit_zero (S := S1x1024) zeros]
  rw [pay1_read]
  unfold Row.mixed
  congr 2
  funext k
  unfold Row.times Row.merged
  refine Finset.sum_congr rfl fun k _ => ?_
  beta_reduce
  rw [pay3_read, pay4_read]
  unfold r0_1 r0_2 r0_4 r0_5 r0_8 r0_9
  rw [ld_weight x4 0 0 rfl, ld_weight x4 1 1024 rfl, ld_weight x4 2 2048 rfl, ld_bias x5 0 0 rfl, ld_bias x5 1 1024 rfl, ld_bias x5 2 2048 rfl]
  rfl

end Cert.MixIdeal.V

end
-- ==== Proof.Mix.Array.lean ====
/-
  The mixing kernel: the array its run leaves is the sub-layer's, row by row.
-/
module

public import proofs.«01_k».proof.Proof.Mix.Row

@[expose] public section

set_option maxRecDepth 16384

noncomputable section

open Idealize.ShloMosaic Idealize.ShloMosaic.TcCoe Idealize.SL.Sem

namespace Cert.MixIdeal.V

open Cert.MixIdeal Cert.MixIdeal.Gen Cert.MixIdeal.Value

variable (m : (ℓ : Loc nD τ sig) → Buf (Elt Ideal) ℓ) (c : Dev nD)

/-- The arguments, as the run begins. -/
abbrev arg0 : Vec Ideal S65536x1024 .f32 := m ((c : Thread nD τ).loc main_arg0)
abbrev arg1 : Vec Ideal S65536x512 .bf16 := m ((c : Thread nD τ).loc main_arg1)
abbrev arg2 : Vec Ideal S65536x256 .bf16 := m ((c : Thread nD τ).loc main_arg2)
abbrev arg3 : Vec Ideal S65536x512 .bf16 := m ((c : Thread nD τ).loc main_arg3)
abbrev arg4 : Vec Ideal S1024x3072 .bf16 := m ((c : Thread nD τ).loc main_arg4)
abbrev arg5 : Vec Ideal S1x3072 .f32 := m ((c : Thread nD τ).loc main_arg5)
abbrev arg6 : Vec Ideal S512x1024 .bf16 := m ((c : Thread nD τ).loc main_arg6)
abbrev arg7 : Vec Ideal S256x1024 .bf16 := m ((c : Thread nD τ).loc main_arg7)
abbrev arg8 : Vec Ideal S512x1024 .bf16 := m ((c : Thread nD τ).loc main_arg8)
abbrev arg9 : Vec Ideal S1024x1024 .bf16 := m ((c : Thread nD τ).loc main_arg9)
abbrev arg10 : Vec Ideal S1x1024 .f32 := m ((c : Thread nD τ).loc main_arg10)
abbrev arg11 : Vec Ideal S1x1024 .f32 := m ((c : Thread nD τ).loc main_arg11)

theorem index0 : ∀ t : Fin cfg0.N, win0_0.index t 0 = t.val ∧ win0_0.index t 1 = 0 :=
  (by decide +kernel : ∀ t : Fin grid0.N, win0_0.index t 0 = t.val ∧ win0_0.index t 1 = 0)

theorem index1 : ∀ t : Fin cfg0.N, win0_1.index t 0 = t.val ∧ win0_1.index t 1 = 0 :=
  (by decide +kernel : ∀ t : Fin grid0.N, win0_1.index t 0 = t.val ∧ win0_1.index t 1 = 0)

theorem index2 : ∀ t : Fin cfg0.N, win0_2.index t 0 = t.val ∧ win0_2.index t 1 = 0 :=
  (by decide +kernel : ∀ t : Fin grid0.N, win0_2.index t 0 = t.val ∧ win0_2.index t 1 = 0)

theorem index3 : ∀ t : Fin cfg0.N, win0_3.index t 0 = t.val ∧ win0_3.index t 1 = 0 :=
  (by decide +kernel : ∀ t : Fin grid0.N, win0_3.index t 0 = t.val ∧ win0_3.index t 1 = 0)

theorem index12 : ∀ t : Fin cfg0.N, win0_12.index t 0 = t.val ∧ win0_12.index t 1 = 0 :=
  (by decide +kernel : ∀ t : Fin grid0.N, win0_12.index t 0 = t.val ∧ win0_12.index t 1 = 0)

theorem index4 : ∀ t : Fin cfg0.N, win0_4.index t 0 = 0 ∧ win0_4.index t 1 = 0 :=
  (by decide +kernel : ∀ t : Fin grid0.N, win0_4.index t 0 = 0 ∧ win0_4.index t 1 = 0)

theorem index5 : ∀ t : Fin cfg0.N, win0_5.index t 0 = 0 ∧ win0_5.index t 1 = 0 :=
  (by decide +kernel : ∀ t : Fin grid0.N, win0_5.index t 0 = 0 ∧ win0_5.index t 1 = 0)

theorem index6 : ∀ t : Fin cfg0.N, win0_6.index t 0 = 0 ∧ win0_6.index t 1 = 0 :=
  (by decide +kernel : ∀ t : Fin grid0.N, win0_6.index t 0 = 0 ∧ win0_6.index t 1 = 0)

theorem index7 : ∀ t : Fin cfg0.N, win0_7.index t 0 = 0 ∧ win0_7.index t 1 = 0 :=
  (by decide +kernel : ∀ t : Fin grid0.N, win0_7.index t 0 = 0 ∧ win0_7.index t 1 = 0)

theorem index8 : ∀ t : Fin cfg0.N, win0_8.index t 0 = 0 ∧ win0_8.index t 1 = 0 :=
  (by decide +kernel : ∀ t : Fin grid0.N, win0_8.index t 0 = 0 ∧ win0_8.index t 1 = 0)

theorem index9 : ∀ t : Fin cfg0.N, win0_9.index t 0 = 0 ∧ win0_9.index t 1 = 0 :=
  (by decide +kernel : ∀ t : Fin grid0.N, win0_9.index t 0 = 0 ∧ win0_9.index t 1 = 0)

theorem index10 : ∀ t : Fin cfg0.N, win0_10.index t 0 = 0 ∧ win0_10.index t 1 = 0 :=
  (by decide +kernel : ∀ t : Fin grid0.N, win0_10.index t 0 = 0 ∧ win0_10.index t 1 = 0)

theorem index11 : ∀ t : Fin cfg0.N, win0_11.index t 0 = 0 ∧ win0_11.index t 1 = 0 :=
  (by decide +kernel : ∀ t : Fin grid0.N, win0_11.index t 0 = 0 ∧ win0_11.index t 1 = 0)

/-- A grid point's number. -/
abbrev pt (t : Fin cfg0.N) : Fin 128 := ⟨t.val, N_0 ▸ t.isLt⟩

/-! The blocks that move with the grid: 512 rows of their arrays. -/

theorem block0 (t : Fin cfg0.N) (r : Fin 512) (k : Fin 1024) :
    (iblk m c 0 t : Vec Ideal S512x1024 .f32) (ix2 r k) = arg0 m c (ix2 ⟨512 * (pt t).val + r.val, by omega⟩ k) := by
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * t.val + r.val; rw [(index0 t).1]; omega
  | ⟨1, _⟩ => show win0_0.index t 1 * 1024 + 1 * k.val = k.val; rw [(index0 t).2]; omega

theorem block1 (t : Fin cfg0.N) (r : Fin 512) (k : Fin 512) :
    (iblk m c 1 t : Vec Ideal S512x512 .bf16) (ix2 r k) = arg1 m c (ix2 ⟨512 * (pt t).val + r.val, by omega⟩ k) := by
  unfold iblk
  rw [View.read_apply]
  show V m c main_arg1 _ = m (c.tc.loc main_arg1) _
  unfold V
  congr 1
  funext a
  apply Fin.ext
  match a with
  | ⟨0, _⟩ => show win0_1.index t 0 * 512 + 1 * r.val = 512 * t.val + r.val; rw [(index1 t).1]; omega
  | ⟨1, _⟩ => show win0_1.index t 1 * 512 + 1 * k.val = k.val; rw [(index1 t).2]; omega

theorem block2 (t : Fin cfg0.N) (r : Fin 512) (k : Fin 256) :
    (iblk m c 2 t : Vec Ideal S512x256 .bf16) (ix2 r k) = arg2 m c (ix2 ⟨512 * (pt t).val + r.val, by omega⟩ k) := by
  unfold iblk
  rw [View.read_apply]
  show V m c main_arg2 _ = m (c.tc.loc main_arg2) _
  unfold V
  congr 1
  funext a
  apply Fin.ext
  match a with
  | ⟨0, _⟩ => show win0_2.index t 0 * 512 + 1 * r.val = 512 * t.val + r.val; rw [(index2 t).1]; omega
  | ⟨1, _⟩ => show win0_2.index t 1 * 256 + 1 * k.val = k.val; rw [(index2 t).2]; omega

theorem block3 (t : Fin cfg0.N) (r : Fin 512) (k : Fin 512) :
    (iblk m c 3 t : Vec Ideal S512x512 .bf16) (ix2 r k) = arg3 m c (ix2 ⟨512 * (pt t).val + r.val, by omega⟩ k) := by
  unfold iblk
  rw [View.read_apply]
  show V m c main_arg3 _ = m (c.tc.loc main_arg3) _
  unfold V
  congr 1
  funext a
  apply Fin.ext
  match a with
  | ⟨0, _⟩ => show win0_3.index t 0 * 512 + 1 * r.val = 512 * t.val + r.val; rw [(index3 t).1]; omega
  | ⟨1, _⟩ => show win0_3.index t 1 * 512 + 1 * k.val = k.val; rw [(index3 t).2]; omega

/-! The blocks that stay: the whole of their arrays. -/

theorem block4 (t : Fin cfg0.N) : (iblk m c 4 t : Vec Ideal S1024x3072 .bf16) = arg4 m c := by
  funext j
  unfold iblk
  rw [View.read_apply]
  show V m c main_arg4 _ = m (c.tc.loc main_arg4) _
  unfold V
  congr 1
  funext a
  apply Fin.ext
  match a with
  | ⟨0, _⟩ => show win0_4.index t 0 * 1024 + 1 * (j 0).val = (j 0).val; rw [(index4 t).1]; omega
  | ⟨1, _⟩ => show win0_4.index t 1 * 3072 + 1 * (j 1).val = (j 1).val; rw [(index4 t).2]; omega

theorem block5 (t : Fin cfg0.N) : (iblk m c 5 t : Vec Ideal S1x3072 .f32) = arg5 m c := by
  funext j
  unfold iblk
  rw [View.read_apply]
  show V m c main_arg5 _ = m (c.tc.loc main_arg5) _
  unfold V
  congr 1
  funext a
  apply Fin.ext
  match a with
  | ⟨0, _⟩ => show win0_5.index t 0 * 1 + 1 * (j 0).val = (j 0).val; rw [(index5 t).1]; omega
  | ⟨1, _⟩ => show win0_5.index t 1 * 3072 + 1 * (j 1).val = (j 1).val; rw [(index5 t).2]; omega

theorem block6 (t : Fin cfg0.N) : (iblk m c 6 t : Vec Ideal S512x1024 .bf16) = arg6 m c := by
  funext j
  unfold iblk
  rw [View.read_apply]
  show V m c main_arg6 _ = m (c.tc.loc main_arg6) _
  unfold V
  congr 1
  funext a
  apply Fin.ext
  match a with
  | ⟨0, _⟩ => show win0_6.index t 0 * 512 + 1 * (j 0).val = (j 0).val; rw [(index6 t).1]; omega
  | ⟨1, _⟩ => show win0_6.index t 1 * 1024 + 1 * (j 1).val = (j 1).val; rw [(index6 t).2]; omega

theorem block7 (t : Fin cfg0.N) : (iblk m c 7 t : Vec Ideal S256x1024 .bf16) = arg7 m c := by
  funext j
  unfold iblk
  rw [View.read_apply]
  show V m c main_arg7 _ = m (c.tc.loc main_arg7) _
  unfold V
  congr 1
  funext a
  apply Fin.ext
  match a with
  | ⟨0, _⟩ => show win0_7.index t 0 * 256 + 1 * (j 0).val = (j 0).val; rw [(index7 t).1]; omega
  | ⟨1, _⟩ => show win0_7.index t 1 * 1024 + 1 * (j 1).val = (j 1).val; rw [(index7 t).2]; omega

theorem block8 (t : Fin cfg0.N) : (iblk m c 8 t : Vec Ideal S512x1024 .bf16) = arg8 m c := by
  funext j
  unfold iblk
  rw [View.read_apply]
  show V m c main_arg8 _ = m (c.tc.loc main_arg8) _
  unfold V
  congr 1
  funext a
  apply Fin.ext
  match a with
  | ⟨0, _⟩ => show win0_8.index t 0 * 512 + 1 * (j 0).val = (j 0).val; rw [(index8 t).1]; omega
  | ⟨1, _⟩ => show win0_8.index t 1 * 1024 + 1 * (j 1).val = (j 1).val; rw [(index8 t).2]; omega

theorem block9 (t : Fin cfg0.N) : (iblk m c 9 t : Vec Ideal S1024x1024 .bf16) = arg9 m c := by
  funext j
  unfold iblk
  rw [View.read_apply]
  show V m c main_arg9 _ = m (c.tc.loc main_arg9) _
  unfold V
  congr 1
  funext a
  apply Fin.ext
  match a with
  | ⟨0, _⟩ => show win0_9.index t 0 * 1024 + 1 * (j 0).val = (j 0).val; rw [(index9 t).1]; omega
  | ⟨1, _⟩ => show win0_9.index t 1 * 1024 + 1 * (j 1).val = (j 1).val; rw [(index9 t).2]; omega

theorem block10 (t : Fin cfg0.N) : (iblk m c 10 t : Vec Ideal S1x1024 .f32) = arg10 m c := by
  funext j
  unfold iblk
  rw [View.read_apply]
  show V m c main_arg10 _ = m (c.tc.loc main_arg10) _
  unfold V
  congr 1
  funext a
  apply Fin.ext
  match a with
  | ⟨0, _⟩ => show win0_10.index t 0 * 1 + 1 * (j 0).val = (j 0).val; rw [(index10 t).1]; omega
  | ⟨1, _⟩ => show win0_10.index t 1 * 1024 + 1 * (j 1).val = (j 1).val; rw [(index10 t).2]; omega

theorem block11 (t : Fin cfg0.N) : (iblk m c 11 t : Vec Ideal S1x1024 .f32) = arg11 m c := by
  funext j
  unfold iblk
  rw [View.read_apply]
  show V m c main_arg11 _ = m (c.tc.loc main_arg11) _
  unfold V
  congr 1
  funext a
  apply Fin.ext
  match a with
  | ⟨0, _⟩ => show win0_11.index t 0 * 1 + 1 * (j 0).val = (j 0).val; rw [(index11 t).1]; omega
  | ⟨1, _⟩ => show win0_11.index t 1 * 1024 + 1 * (j 1).val = (j 1).val; rw [(index11 t).2]; omega

/-- The sub-layer's row `R`. -/
abbrev rowOf (R : Fin 65536) (j : Fin 1024) : EReal :=
  Row.mixed (fun k => arg0 m c (ix2 R k)) (fun k => arg1 m c (ix2 R k)) (fun k => arg2 m c (ix2 R k)) (fun k => arg3 m c (ix2 R k))
    (arg4 m c) (arg5 m c) (arg6 m c) (arg7 m c) (arg8 m c) (arg9 m c) (arg10 m c) (arg11 m c) j

/-- The sub-layer's array. -/
abbrev whole : Vec Ideal S65536x1024 .f32 := fun i => rowOf m c (i 0) (i 1)

/-- A grid point's row is the array's. -/
theorem row_eq (t : Fin cfg0.N) (r : Fin 512) (j : Fin 1024) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j) = rowOf m c ⟨512 * (pt t).val + r.val, by omega⟩ j := by
  rw [out_row, block4, block5, block6, block7, block8, block9, block10, block11]
  simp only [block0, block1, block2, block3]

/-- What a grid point writes back is its block of the array. -/
theorem flushed_eq (t : Fin cfg0.N) :
    (dats m 0 c).flushed 12 t = ((cfg0.win 12).blk t).view.read (Elt Ideal) (whole m c) := by
  rw [flushed12]
  funext j
  rw [View.read_apply]
  have h0 : (j 0 : Nat) < 512 := (j 0).isLt
  have h1 : (j 1 : Nat) < 1024 := (j 1).isLt
  have hj : (j : S512x1024.Idx) = ix2 ⟨(j 0).val, h0⟩ ⟨(j 1).val, h1⟩ := by
    funext a
    apply Fin.ext
    match a with
    | ⟨0, _⟩ => rfl
    | ⟨1, _⟩ => rfl
  refine (congrArg (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) hj).trans ((row_eq m c t _ _).trans ?_)
  show rowOf m c _ _ = rowOf m c _ _
  congr 1
  · apply Fin.ext
    show 512 * t.val + (j 0).val = win0_12.index t 0 * 512 + 1 * (j 0).val
    rw [(index12 t).1]; omega
  · apply Fin.ext
    show (j 1).val = win0_12.index t 1 * 1024 + 1 * (j 1).val
    rw [(index12 t).2]; omega

/-- The run leaves the sub-layer's array. -/
theorem final : (dats m 0 c).arrAt 12 cfg0.N = whole m c :=
  (dats m 0 c).arrAt_eq_of_cover 12 (whole m c) (fun t _ => flushed_eq m c t) fun i => by
    have h0 : (i 0 : Nat) < 65536 := (i 0).isLt
    have h1 : (i 1 : Nat) < 1024 := (i 1).isLt
    have hN : cfg0.N = 128 := N_0
    refine ⟨⟨(i 0 : Nat) / 512, by omega⟩, flush0_12 _, ?_⟩
    generalize ht : (⟨(i 0 : Nat) / 512, _⟩ : Fin cfg0.N) = t
    have hv : t.val = (i 0 : Nat) / 512 := by rw [← ht]
    show i ∈ ((View.whole main_v0).slice (win0_12.rect t)).set
    rw [View.set_slice_whole, Rect.mem_set_unit]
    intro a
    match a with
    | ⟨0, _⟩ => show win0_12.index t 0 * 512 ≤ (i 0 : Nat) ∧ (i 0 : Nat) < win0_12.index t 0 * 512 + 512
                rw [(index12 t).1, hv]; omega
    | ⟨1, _⟩ => show win0_12.index t 1 * 1024 ≤ (i 1 : Nat) ∧ (i 1 : Nat) < win0_12.index t 1 * 1024 + 1024
                rw [(index12 t).2]; omega

end Cert.MixIdeal.V

end
-- ==== Proof.RefM.Value.lean ====
/-
  The sub-layer over whole arrays, read: every row of its result is the closed form of a row.
-/
module

public import proofs.«01_k».proof.Proof.Gen.RefMIdeal.Read
public import proofs.«01_k».proof.Proof.Row.Mix
public import Idealize.ShloMosaic.Lib.IdealHost
public import Idealize.ShloMosaic.Lib.Pointwise

@[expose] public section

set_option maxRecDepth 16384

noncomputable section

open Idealize.ShloMosaic Idealize.ShloMosaic.TcCoe Idealize.SL.Sem

namespace Cert.RefMIdeal.V

open Cert.RefMIdeal Cert.RefMIdeal.Gen Cert.RefMIdeal.Read

/-- The word of zero. -/
theorem zero_word : (FloatOps.ofBits .f32 0x00000000#32 : Ideal .f32) = (0 : EReal) := Ideal.ofBits_zero_f32

/-- An entry read at an index with these two coordinates. -/
theorem at2 {n k : ℕ} {α : Type} (x : (⟨2, ![n, k]⟩ : Shape).Idx → α) (i : (⟨2, ![n, k]⟩ : Shape).Idx) (a : Fin n) (b : Fin k)
    (h0 : (i 0).val = a.val) (h1 : (i 1).val = b.val) : x i = x (ix2 a b) := by
  congr 1
  funext c
  apply Fin.ext
  match c with
  | ⟨0, _⟩ => exact h0
  | ⟨1, _⟩ => exact h1

variable (x0 : (⟨S65536x1024, .f32⟩ : BufTy).Contents (Elt Ideal)) (x1 : (⟨S65536x512, .bf16⟩ : BufTy).Contents (Elt Ideal))
  (x2 : (⟨S65536x256, .bf16⟩ : BufTy).Contents (Elt Ideal)) (x3 : (⟨S65536x512, .bf16⟩ : BufTy).Contents (Elt Ideal))
  (x4 : (⟨S1024x3072, .bf16⟩ : BufTy).Contents (Elt Ideal)) (x5 : (⟨S1x3072, .f32⟩ : BufTy).Contents (Elt Ideal))
  (x6 : (⟨S512x1024, .bf16⟩ : BufTy).Contents (Elt Ideal)) (x7 : (⟨S256x1024, .bf16⟩ : BufTy).Contents (Elt Ideal))
  (x8 : (⟨S512x1024, .bf16⟩ : BufTy).Contents (Elt Ideal)) (x9 : (⟨S1024x1024, .bf16⟩ : BufTy).Contents (Elt Ideal))
  (x10 x11 : (⟨S1x1024, .f32⟩ : BufTy).Contents (Elt Ideal))

/-- A gate before it is cut in three. -/
theorem gates (R : Fin 65536) (j : Fin 3072) :
    val_main_v16 (F := Ideal) x0 x4 x5 (ix2 R j) = Ideal.logistic (∑ k : Fin 1024, x0 (ix2 R k) * x4 (ix2 k j) + x5 (ix2 0 j)) := by
  have e8 : val_main_v8 (F := Ideal) x0 x4 (ix2 R j) = ∑ k : Fin 1024, x0 (ix2 R k) * x4 (ix2 k j) := by
    refine (val_main_v8_apply x0 x4 (ix2 R j)).trans (Finset.sum_congr rfl fun k _ => ?_)
    rw [val_main_v3_apply]
    exact congrArg₂ (· * ·) (at2 x0 _ R k rfl rfl) (at2 x4 _ k j rfl rfl)
  have e9 : val_main_v9 (F := Ideal) x5 (ix2 R j) = x5 (ix2 0 j) :=
    (val_main_v9_apply x5 (ix2 R j)).trans (at2 x5 _ 0 j rfl rfl)
  rw [val_main_v16_apply, val_main_v15_apply, val_main_v14_apply, val_main_v13_apply, val_main_v12_apply, val_main_v11_apply, val_main_v10_apply, e8, e9]
  show Ideal.div (Ideal.ofBits .f32 0x3F800000#32) (Ideal.ofBits .f32 0x3F800000#32 + Ideal.exp (-_)) = _
  rw [Ideal.ofBits_one_f32]
  rfl

/-- The three gates. -/
theorem gate_a (R : Fin 65536) (j : Fin 1024) :
    val_main_v19 (F := Ideal) x0 x4 x5 (ix2 R j) = Row.gate (fun k => x0 (ix2 R k)) x4 x5 0 j := by
  rw [val_main_v19_apply, val_main_v18_apply, val_main_v17_apply]
  refine (at2 _ _ R ⟨1024 * (0 : Fin 3).val + j.val, by simp; omega⟩ ?_ ?_).trans (gates x0 x4 x5 R _)
  · show (((R.val * 1024 + j.val) / 1024 * 3 + (0)) * 1024 + (R.val * 1024 + j.val) % 1024) / 3072 = R.val
    omega
  · show (((R.val * 1024 + j.val) / 1024 * 3 + (0)) * 1024 + (R.val * 1024 + j.val) % 1024) % 3072 = 1024 * 0 + j.val
    omega

theorem gate_b (R : Fin 65536) (j : Fin 1024) :
    val_main_v23 (F := Ideal) x0 x4 x5 (ix2 R j) = Row.gate (fun k => x0 (ix2 R k)) x4 x5 1 j := by
  rw [val_main_v23_apply, val_main_v22_apply, val_main_v17_apply]
  refine (at2 _ _ R ⟨1024 * (1 : Fin 3).val + j.val, by simp; omega⟩ ?_ ?_).trans (gates x0 x4 x5 R _)
  · show (((R.val * 1024 + j.val) / 1024 * 3 + (1 + 0)) * 1024 + (R.val * 1024 + j.val) % 1024) / 3072 = R.val
    omega
  · show (((R.val * 1024 + j.val) / 1024 * 3 + (1 + 0)) * 1024 + (R.val * 1024 + j.val) % 1024) % 3072 = 1024 * 1 + j.val
    omega

theorem gate_c (R : Fin 65536) (j : Fin 1024) :
    val_main_v28 (F := Ideal) x0 x4 x5 (ix2 R j) = Row.gate (fun k => x0 (ix2 R k)) x4 x5 2 j := by
  rw [val_main_v28_apply, val_main_v27_apply, val_main_v17_apply]
  refine (at2 _ _ R ⟨1024 * (2 : Fin 3).val + j.val, by simp; omega⟩ ?_ ?_).trans (gates x0 x4 x5 R _)
  · show (((R.val * 1024 + j.val) / 1024 * 3 + (2 + 0)) * 1024 + (R.val * 1024 + j.val) % 1024) / 3072 = R.val
    omega
  · show (((R.val * 1024 + j.val) / 1024 * 3 + (2 + 0)) * 1024 + (R.val * 1024 + j.val) % 1024) % 3072 = 1024 * 2 + j.val
    omega

/-- The branches, projected. -/
theorem branch_a (R : Fin 65536) (j : Fin 1024) :
    val_main_v20 (F := Ideal) x1 x6 (ix2 R j) = Row.times (fun k => x1 (ix2 R k)) x6 j := by
  refine (val_main_v20_apply x1 x6 (ix2 R j)).trans (Finset.sum_congr rfl fun k _ => ?_)
  rw [val_main_v0_apply, val_main_v4_apply]
  exact congrArg₂ (· * ·) (at2 x1 _ R k rfl rfl) (at2 x6 _ k j rfl rfl)

theorem branch_b (R : Fin 65536) (j : Fin 1024) :
    val_main_v24 (F := Ideal) x2 x7 (ix2 R j) = Row.times (fun k => x2 (ix2 R k)) x7 j := by
  refine (val_main_v24_apply x2 x7 (ix2 R j)).trans (Finset.sum_congr rfl fun k _ => ?_)
  rw [val_main_v1_apply, val_main_v5_apply]
  exact congrArg₂ (· * ·) (at2 x2 _ R k rfl rfl) (at2 x7 _ k j rfl rfl)

theorem branch_c (R : Fin 65536) (j : Fin 1024) :
    val_main_v29 (F := Ideal) x3 x8 (ix2 R j) = Row.times (fun k => x3 (ix2 R k)) x8 j := by
  refine (val_main_v29_apply x3 x8 (ix2 R j)).trans (Finset.sum_congr rfl fun k _ => ?_)
  rw [val_main_v2_apply, val_main_v6_apply]
  exact congrArg₂ (· * ·) (at2 x3 _ R k rfl rfl) (at2 x8 _ k j rfl rfl)

/-- The gated sum of the branches. -/
theorem merged (R : Fin 65536) (j : Fin 1024) :
    val_main_v31 (F := Ideal) x0 x1 x2 x3 x4 x5 x6 x7 x8 (ix2 R j)
      = Row.merged (fun k => x0 (ix2 R k)) (fun k => x1 (ix2 R k)) (fun k => x2 (ix2 R k)) (fun k => x3 (ix2 R k)) x4 x5 x6 x7 x8 j := by
  rw [val_main_v31_apply, val_main_v26_apply, val_main_v21_apply, val_main_v25_apply, val_main_v30_apply, gate_a, gate_b, gate_c,
    branch_a, branch_b, branch_c]
  rfl

/-- The row the layer norm is taken of. -/
abbrev pre (R : Fin 65536) : Fin 1024 → EReal :=
  Row.skip (fun k => x0 (ix2 R k)) (Row.times (Row.merged (fun k => x0 (ix2 R k)) (fun k => x1 (ix2 R k)) (fun k => x2 (ix2 R k))
    (fun k => x3 (ix2 R k)) x4 x5 x6 x7 x8) x9)

theorem skipped (R : Fin 65536) (j : Fin 1024) :
    val_main_v35 (F := Ideal) x0 x1 x2 x3 x4 x5 x6 x7 x8 x9 (ix2 R j) = pre x0 x1 x2 x3 x4 x5 x6 x7 x8 x9 R j := by
  have e : val_main_v34 (F := Ideal) x0 x1 x2 x3 x4 x5 x6 x7 x8 x9 (ix2 R j)
      = Row.times (Row.merged (fun k => x0 (ix2 R k)) (fun k => x1 (ix2 R k)) (fun k => x2 (ix2 R k))
          (fun k => x3 (ix2 R k)) x4 x5 x6 x7 x8) x9 j := by
    refine (val_main_v34_apply x0 x1 x2 x3 x4 x5 x6 x7 x8 x9 (ix2 R j)).trans (Finset.sum_congr rfl fun k _ => ?_)
    rw [val_main_v7_apply]
    exact congrArg₂ (· * ·) ((at2 _ _ R k rfl rfl).trans (merged x0 x1 x2 x3 x4 x5 x6 x7 x8 R k)) (at2 x9 _ k j rfl rfl)
  rw [val_main_v35_apply, val_main_v33_apply, val_main_v32_apply, e]
  rfl

/-- Its mean. -/
theorem mean (R : Fin 65536) :
    val_main_v39 (F := Ideal) x0 x1 x2 x3 x4 x5 x6 x7 x8 x9 (ix2 R 0)
      = Ideal.div (∑ k, pre x0 x1 x2 x3 x4 x5 x6 x7 x8 x9 R k) (Ideal.ofBits .f32 0x44800000#32) := by
  rw [val_main_v39_apply, val_main_v38_apply, val_main_v37_apply, val_main_v36_apply, val_main_cst_2_apply]
  rw [zero_word, zero_add]
  refine congrArg₂ Ideal.div (Finset.sum_congr rfl fun k _ => ?_) rfl
  exact (at2 _ _ R k rfl rfl).trans (skipped x0 x1 x2 x3 x4 x5 x6 x7 x8 x9 R k)

/-- A centred entry. -/
theorem centred (R : Fin 65536) (j : Fin 1024) :
    val_main_v41 (F := Ideal) x0 x1 x2 x3 x4 x5 x6 x7 x8 x9 (ix2 R j)
      = pre x0 x1 x2 x3 x4 x5 x6 x7 x8 x9 R j - Ideal.div (∑ k, pre x0 x1 x2 x3 x4 x5 x6 x7 x8 x9 R k) (Ideal.ofBits .f32 0x44800000#32) := by
  rw [val_main_v41_apply, val_main_v40_apply, skipped]
  exact congrArg (_ - ·) ((at2 _ _ R 0 rfl rfl).trans (mean x0 x1 x2 x3 x4 x5 x6 x7 x8 x9 R))

/-- The result, row by row. -/
theorem out_eq (R : Fin 65536) (j : Fin 1024) :
    val_main_v55 (F := Ideal) x0 x1 x2 x3 x4 x5 x6 x7 x8 x9 x10 x11 (ix2 R j)
      = Row.mixed (fun k => x0 (ix2 R k)) (fun k => x1 (ix2 R k)) (fun k => x2 (ix2 R k)) (fun k => x3 (ix2 R k)) x4 x5 x6 x7 x8 x9 x10 x11 j := by
  have e52 : val_main_v52 (F := Ideal) x10 (ix2 R j) = x10 (ix2 0 j) := (val_main_v52_apply x10 (ix2 R j)).trans (at2 x10 _ 0 j rfl rfl)
  have e54 : val_main_v54 (F := Ideal) x11 (ix2 R j) = x11 (ix2 0 j) := (val_main_v54_apply x11 (ix2 R j)).trans (at2 x11 _ 0 j rfl rfl)
  have e43 : ∀ i, (i 0).val = R.val → val_main_v43 (F := Ideal) x0 x1 x2 x3 x4 x5 x6 x7 x8 x9 i
      = ∑ k, (pre x0 x1 x2 x3 x4 x5 x6 x7 x8 x9 R k - Ideal.div (∑ k, pre x0 x1 x2 x3 x4 x5 x6 x7 x8 x9 R k) (Ideal.ofBits .f32 0x44800000#32))
          * (pre x0 x1 x2 x3 x4 x5 x6 x7 x8 x9 R k - Ideal.div (∑ k, pre x0 x1 x2 x3 x4 x5 x6 x7 x8 x9 R k) (Ideal.ofBits .f32 0x44800000#32)) := by
    intro i hi
    rw [val_main_v43_apply, val_main_cst_4_apply, zero_word, zero_add]
    refine Finset.sum_congr rfl fun k _ => ?_
    rw [val_main_v42_apply]
    have e := (at2 (val_main_v41 (F := Ideal) x0 x1 x2 x3 x4 x5 x6 x7 x8 x9) (idx_main_v43 i k) R k hi rfl).trans
      (centred x0 x1 x2 x3 x4 x5 x6 x7 x8 x9 R k)
    exact congrArg₂ (· * ·) e e
  rw [val_main_v55_apply, val_main_v53_apply, e52, e54, val_main_v51_apply, centred, val_main_v50_apply, val_main_v49_apply, val_main_v48_apply,
    val_main_v47_apply, val_main_v46_apply, val_main_v45_apply, val_main_v44_apply, e43 _ rfl]
  rfl

end Cert.RefMIdeal.V

end
-- ==== Proof.Mix.Claim.lean ====
/-
  The claim of the mixing sub-layer: the kernel's idealization and the reference's end in the same array.
-/
module

public import proofs.«01_k».proof.Defs
public import proofs.«01_k».proof.Proof.Mix.Array
public import proofs.«01_k».proof.Proof.RefM.Value
public import proofs.«01_k».proof.Proof.Gen.MixIdeal.Frame
public import proofs.«01_k».proof.Proof.Gen.RefMIdeal.Run
public import Idealize.ShloMosaic.Lib.Quiescent

@[expose] public section

noncomputable section

open Idealize.ShloMosaic Idealize.SL.Sem

namespace Cert.Proof

/-- The reference's idealization terminates, keeps its arguments and has no semaphore to leave up. -/
theorem frameRefM : Cert.quiescent_RefMIdeal := fun m ρ _ =>
  (θ_run Cert.RefMIdeal.defs _ _).mono (fun r h => ⟨fun c => (h c).2, sem_eq_zero_of_no_sems (by decide) r.2⟩)
    (Cert.RefMIdeal.Value.run m ρ)

/-- The kernel's idealization and the reference's, run on the same arguments, end in the same array: the sub-layer's rows. -/
theorem algebraicM : Cert.algebraic_MixIdeal_RefMIdeal := by
  intro m ρ m' ρ' _ hag
  refine ⟨fun c => Cert.MixIdeal.V.whole m c, ?_, ?_⟩
  · exact (θ_run Cert.MixIdeal.defs _ _).mono (fun _ h c => ⟨(h c).1.trans (Cert.MixIdeal.V.final m c), (h c).2⟩)
      (Cert.MixIdeal.Value.run_blocks m ρ)
  · refine (θ_run Cert.RefMIdeal.defs _ _).mono (fun _ h c => ⟨(h c).1.trans ?_, (h c).2⟩) (Cert.RefMIdeal.Value.run m' ρ')
    obtain ⟨e0, e1, e2, e3, e4, e5, e6, e7, e8, e9, e10, e11⟩ := hag c
    rw [Cert.RefMIdeal.Read.val_main_v55_eq, e0, e1, e2, e3, e4, e5, e6, e7, e8, e9, e10, e11]
    funext i
    exact (Cert.RefMIdeal.V.at2 _ i (i 0) (i 1) rfl rfl).trans (Cert.RefMIdeal.V.out_eq _ _ _ _ _ _ _ _ _ _ _ _ (i 0) (i 1))

end Cert.Proof

end
-- ==== Proof.Moe.Defs.lean ====
module
public import proofs.«01_k».proof.Proof.Gen.MoeIdeal.Frame
public import proofs.«01_k».proof.Proof.Gen.MoeIdeal.Skeleton
public import proofs.«01_k».proof.Proof.Gen.MoeIdeal.Loops
public import Idealize.ShloMosaic.Lib.Tactic
/-!
# The body of the experts' layer, run

The three kinds of grid points: the first group of a row block, which routes the block's rows; the groups between; and the
last group, which writes the output block. Each run leaves the buffers it reads as they were and says what it stores.
-/

@[expose] public section
set_option maxRecDepth 16384
noncomputable section
namespace Cert.MoeIdeal.B
open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ
set_option maxHeartbeats 4000000
instance (i : grid0.Coords) [h : Fact (k0_off1 i = ![0])] : ClosedOff (k0_off1 i) := ⟨![0], h.out⟩
instance (i : grid0.Coords) [h : Fact (k0_off2 i = ![4])] : ClosedOff (k0_off2 i) := ⟨![4], h.out⟩
/-- Whether the point is the first group of its row block. -/
abbrev first (i : grid0.Coords) : BitVec 1 :=
  Scalar.cmpi .ne (Scalar.extui (Scalar.cmpi .eq (BitVec.ofNat 32 (i 1).val) 0#32) : BitVec 32) 0#32

/-! ## What the routing stores -/

section Route
variable (x : Vec F S1024x1024 .f32) (wh wl : Vec F S1024x128 .bf16) (b : Vec F S1x128 .f32)
/-- The routing scores. -/
abbrev logits : FVec F S1024x128 .f32 := k0_pay1 x wh wh wl b
/-- The group of each row. -/
abbrev grp : FVec F S1024x1 .f32 := k0_pay6 x wh wh wl b
/-- Eight times the group of each row. -/
abbrev grp8 : FVec F S1024x1 .f32 := k0_pay7 x wh wh wl b
/-- The weight of each row's group. -/
abbrev gprob : FVec F S1024x1 .f32 := k0_pay5 x wh wh wl b
/-- The weight of every expert in every row. -/
abbrev comb : FVec F S1024x128 .f32 :=
  k0_pay18 (k0_pay14 (logits x wh wl b) k0_pay2 (gprob x wh wl b) (grp8 x wh wl b))
    (k0_pay15 (logits x wh wl b) k0_pay2 (grp8 x wh wl b)) (k0_pay16 (logits x wh wl b) k0_pay2 (grp8 x wh wl b))
    (Scalar.ofBits .f32 0x00000000#32) (k0_pay17 (logits x wh wl b) k0_pay2 (gprob x wh wl b) (grp8 x wh wl b))
end Route

/-- The lanes of a row of the table of groups. -/
abbrev lanes : IVec S1x128 32 := iota .tc S1x128 32 [1] iota_S1x128_d1_w32

section Place
variable (g : FVec F S1024x1 .f32)
/-- Where each group starts. -/
abbrev offs : FVec F S1x128 .f32 := k0_pay25 (k0_pay22 g) lanes (k0_pay23 g) k0_pay24
/-- Which place each row goes to. -/
abbrev ptV : FVec F S1024x1408 .bf16 :=
  k0_pay27 (k0_pay19 g) (k0_pay20 g) (k0_pay22 g) lanes (k0_pay23 g) k0_pay24
/-- Which row each place takes. -/
abbrev permV : FVec F S1408x1024 .bf16 :=
  k0_pay28 (k0_pay19 g) (k0_pay20 g) (k0_pay22 g) lanes (k0_pay23 g) k0_pay24
/-- The rows in their places. -/
abbrev xsV (x : Vec F S1024x1024 .f32) : FVec F S1408x1024 .bf16 :=
  k0_pay29 x (k0_pay19 g) (k0_pay20 g) (k0_pay22 g) lanes (k0_pay23 g) k0_pay24
/-- The rows' expert weights in their places. -/
abbrev combsV (c : FVec F S1024x128 .f32) : FVec F S1408x128 .f32 :=
  k0_pay34 (permV g) (k0_pay30 c) (k0_pay32 c) (k0_pay33 c)
/-- The number of steps of a group of `w` rows. -/
abbrev steps (w : BitVec 32) : BitVec 32 :=
  Scalar.select (Scalar.andi (Scalar.cmpi .ne
      (Scalar.subi (Scalar.extui (Scalar.cmpi .sgt (Scalar.subi (Scalar.addi w 320#32) 1#32) 0#32) : BitVec 32)
        (Scalar.extui (Scalar.cmpi .slt (Scalar.subi (Scalar.addi w 320#32) 1#32) 0#32) : BitVec 32))
      (Scalar.subi (Scalar.extui (Scalar.cmpi .sgt 320#32 0#32) : BitVec 32) (Scalar.extui (Scalar.cmpi .slt 320#32 0#32) : BitVec 32)))
      (Scalar.cmpi .ne (Scalar.remsi (Scalar.subi (Scalar.addi w 320#32) 1#32) 320#32) 0#32))
    (Scalar.subi (Scalar.divsi (Scalar.subi (Scalar.addi w 320#32) 1#32) 320#32) 1#32)
    (Scalar.divsi (Scalar.subi (Scalar.addi w 320#32) 1#32) 320#32)
/-- The table's words: where each group starts and how many steps it takes. -/
abbrev words : List (View.Piece (Elt F) S8 .i32) :=
  [⟨Rect.unit ![7] S1.size inb_S8_S1_7, fun _ => steps (Scalar.fptosi 32 (k0_pay43 (k0_pay21 g) lanes))⟩,
   ⟨Rect.unit ![3] S1.size inb_S8_S1_3, fun _ => Scalar.fptosi 32 (k0_pay42 lanes (offs g))⟩,
   ⟨Rect.unit ![6] S1.size inb_S8_S1_6, fun _ => steps (Scalar.fptosi 32 (k0_pay41 (k0_pay21 g) lanes))⟩,
   ⟨Rect.unit ![2] S1.size inb_S8_S1_2, fun _ => Scalar.fptosi 32 (k0_pay40 lanes (offs g))⟩,
   ⟨Rect.unit ![5] S1.size inb_S8_S1_5, fun _ => steps (Scalar.fptosi 32 (k0_pay39 (k0_pay21 g) lanes))⟩,
   ⟨Rect.unit ![1] S1.size inb_S8_S1_1, fun _ => Scalar.fptosi 32 (k0_pay38 lanes (offs g))⟩,
   ⟨Rect.unit ![4] S1.size inb_S8_S1_4, fun _ => steps (Scalar.fptosi 32 (k0_pay37 (k0_pay21 g) lanes))⟩,
   ⟨Rect.unit ![0] S1.size inb_S8_S1_0, fun _ => Scalar.fptosi 32 (k0_pay36 lanes (offs g))⟩]
end Place

/-- The word a load of the table reads. -/
abbrev wd {arg16 : Memref sig .tc .smem S8 .i32} (f16 : BufTy.Contents (Elt F) arg16.view.ty) (off : Fin 1 → Nat)
    (inb : ∀ a, off a + S1.size a ≤ S8.size a) : BitVec 32 :=
  View.readAt (Elt F) arg16.view (Rect.unit (s := S8) off S1.size inb).toLoadRect f16 (Shape.Idx.first (numel1_S1.symm ▸ Nat.one_pos))

/-- What a load of a whole buffer reads. -/
abbrev all2 {d : Fin 2 → ℕ} {e : EltTy} (m : Memref sig .tc .vmem ⟨2, d⟩ e) (inb : ∀ a, (![0, 0] : Fin 2 → ℕ) a + d a ≤ d a)
    (f : BufTy.Contents (Elt F) m.view.ty) : Vec F ⟨2, d⟩ e :=
  View.readAt (Elt F) m.view (Rect.unit (s := ⟨2, d⟩) ![0, 0] d inb).toLoadRect f

/-- What the loop of a point with the words `s` and `n` leaves in the running sums, from the pieces `L₀` over `G`. -/
abbrev sums (𝒱 : Variants) (c : Dev nD) (bd : Option 𝒱.V) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1408x1024 .bf16) (harg12 : arg12.IsWhole) (arg13 : Memref sig .tc .vmem S1408x128 .f32) (harg13 : arg13.IsWhole) (arg14 : Memref sig .tc .vmem S1024x1408 .bf16) (harg14 : arg14.IsWhole) (arg15 : Memref sig .tc .vmem S1408x1024 .f32) (harg15 : arg15.IsWhole) (arg16 : Memref sig .tc .smem S8 .i32) (harg16 : arg16.IsWhole) (s n : BitVec 32) (h : k0_chk1 s n)
    (f6 : BufTy.Contents (Elt F) arg6.view.ty) (f7 : BufTy.Contents (Elt F) arg7.view.ty) (f8 : BufTy.Contents (Elt F) arg8.view.ty)
    (X12 : BufTy.Contents (Elt F) arg12.view.ty) (X13 : BufTy.Contents (Elt F) arg13.view.ty) (G : BufTy.Contents (Elt F) arg15.view.ty)
    (L₀ : List (View.Piece (Elt F) S1408x1024 .f32)) : List (View.Piece (Elt F) S1408x1024 .f32) :=
  (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (iota .tc S320x128 32 [1] iota_S320x128_d1_w32) s n h (Scalar.addi 0#32 (Scalar.muli (Scalar.divsi (Scalar.subi n 0#32) 1#32) 1#32)) f6 f7 f8 X12 X13 (arg15.view.writes (Elt F) (arg15.view.writes (Elt F) G L₀) (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (iota .tc S320x128 32 [1] iota_S320x128_d1_w32) s n h f6 f7 f8 X12 X13 (arg15.view.writes (Elt F) G L₀) 0#32 (k0_t1_loop n).trips).2) (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (iota .tc S320x128 32 [1] iota_S320x128_d1_w32) s n h f6 f7 f8 X12 X13 (arg15.view.writes (Elt F) G L₀) 0#32 (k0_t1_loop n).trips).1 (k0_t2_loop n).trips).2 ++ ((st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (iota .tc S320x128 32 [1] iota_S320x128_d1_w32) s n h f6 f7 f8 X12 X13 (arg15.view.writes (Elt F) G L₀) 0#32 (k0_t1_loop n).trips).2 ++ L₀)

end Cert.MoeIdeal.B
end
-- ==== Proof.Moe.RunA.lean ====
module
public import proofs.«01_k».proof.Proof.Gen.MoeIdeal.Frame
public import proofs.«01_k».proof.Proof.Gen.MoeIdeal.Skeleton
public import proofs.«01_k».proof.Proof.Gen.MoeIdeal.Loops
public import Idealize.ShloMosaic.Lib.Tactic
public import proofs.«01_k».proof.Proof.Moe.Defs
/-!
# The body of the experts' layer, run

The three kinds of grid points: the first group of a row block, which routes the block's rows; the groups between; and the
last group, which writes the output block. Each run leaves the buffers it reads as they were and says what it stores.
-/

@[expose] public section
set_option maxRecDepth 16384
noncomputable section
namespace Cert.MoeIdeal.B
open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ
set_option maxHeartbeats 4000000

/-- The first group: the routing is stored and the running sums start. -/
def run_first (𝒱 : Variants) (c : Dev nD) (bd : Option 𝒱.V) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1408x1024 .bf16) (harg12 : arg12.IsWhole) (arg13 : Memref sig .tc .vmem S1408x128 .f32) (harg13 : arg13.IsWhole) (arg14 : Memref sig .tc .vmem S1024x1408 .bf16) (harg14 : arg14.IsWhole) (arg15 : Memref sig .tc .vmem S1408x1024 .f32) (harg15 : arg15.IsWhole) (arg16 : Memref sig .tc .smem S8 .i32) (harg16 : arg16.IsWhole) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
    (h1 : first i = 1#1) (h2 : ¬ k0_cond2 i = 1#1) (o1 : Fact (k0_off1 i = ![0])) (o2 : Fact (k0_off2 i = ![4])) (hchk : k0_chk1 (View.readCov arg16.view (words (grp (all2 arg2 inb_S1024x1024_S1024x1024_0_0 f2) (all2 arg3 inb_S1024x128_S1024x128_0_0 f3) (all2 arg4 inb_S1024x128_S1024x128_0_0 f4) (all2 arg5 inb_S1x128_S1x128_0_0 f5))) (Rect.unit (s := S8) (k0_off1 i) S1.size (k0_off1_inb i)).toLoadRect (Shape.Idx.first (numel1_S1.symm ▸ Nat.one_pos))) (View.readCov arg16.view (words (grp (all2 arg2 inb_S1024x1024_S1024x1024_0_0 f2) (all2 arg3 inb_S1024x128_S1024x128_0_0 f3) (all2 arg4 inb_S1024x128_S1024x128_0_0 f4) (all2 arg5 inb_S1x128_S1x128_0_0 f5))) (Rect.unit (s := S8) (k0_off2 i) S1.size (k0_off2_inb i)).toLoadRect (Shape.Idx.first (numel1_S1.symm ▸ Nat.one_pos)))) :
    { W : List (View.Piece (Elt F) S1408x1024 .bf16) × List (View.Piece (Elt F) S1408x128 .f32) × List (View.Piece (Elt F) S1024x1408 .bf16) × List (View.Piece (Elt F) S1408x1024 .f32) × List (View.Piece (Elt F) S8 .i32) // ∀ (E : Set ℕ), (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16)) : sProp 𝕄)
    ⊢ wp frame (wpE (defs₀ (F := F)) 𝒱 (c : Thread nD τ) bd) E (cc0_moe (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg12.view.loc (c : Thread nD τ) ↦[arg12.view.set]{fullShare} (arg12.view.writes (Elt F) arg12.view.junk W.1)) ∗ (arg13.view.loc (c : Thread nD τ) ↦[arg13.view.set]{fullShare} (arg13.view.writes (Elt F) arg13.view.junk W.2.1)) ∗ (arg14.view.loc (c : Thread nD τ) ↦[arg14.view.set]{fullShare} (arg14.view.writes (Elt F) arg14.view.junk W.2.2.1)) ∗ (arg15.view.loc (c : Thread nD τ) ↦[arg15.view.set]{fullShare} (arg15.view.writes (Elt F) arg15.view.junk W.2.2.2.1)) ∗ (arg16.view.loc (c : Thread nD τ) ↦[arg16.view.set]{fullShare} (arg16.view.writes (Elt F) arg16.view.junk W.2.2.2.2)))) } := by
  refine ⟨⟨?_, ?_, ?_, ?_, ?_⟩, fun E => ?run⟩
  case run =>
  iintro ⟨H2, H3, H4, H5, H6, H7, H8, H12, H13, H14, H15, H16⟩
  sl_unfold [cc0_moe]
  sl_exec (disch := first | assumption | exact hchk)
  sl_step
  sl_close

end Cert.MoeIdeal.B
end
-- ==== Proof.Moe.RunA3.lean ====
module
public import proofs.«01_k».proof.Proof.Gen.MoeIdeal.Frame
public import proofs.«01_k».proof.Proof.Gen.MoeIdeal.Skeleton
public import proofs.«01_k».proof.Proof.Gen.MoeIdeal.Loops
public import Idealize.ShloMosaic.Lib.Tactic
public import proofs.«01_k».proof.Proof.Moe.RunA
/-!
# The body of the experts' layer, run

The three kinds of grid points: the first group of a row block, which routes the block's rows; the groups between; and the
last group, which writes the output block. Each run leaves the buffers it reads as they were and says what it stores.
-/

@[expose] public section
set_option maxRecDepth 16384
noncomputable section
namespace Cert.MoeIdeal.B
open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ
set_option maxHeartbeats 400000

theorem run_first_eq3 (𝒱 : Variants) (c : Dev nD) (bd : Option 𝒱.V) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1408x1024 .bf16) (harg12 : arg12.IsWhole) (arg13 : Memref sig .tc .vmem S1408x128 .f32) (harg13 : arg13.IsWhole) (arg14 : Memref sig .tc .vmem S1024x1408 .bf16) (harg14 : arg14.IsWhole) (arg15 : Memref sig .tc .vmem S1408x1024 .f32) (harg15 : arg15.IsWhole) (arg16 : Memref sig .tc .smem S8 .i32) (harg16 : arg16.IsWhole) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
    (h1 : first i = 1#1) (h2 : ¬ k0_cond2 i = 1#1) (o1 : Fact (k0_off1 i = ![0])) (o2 : Fact (k0_off2 i = ![4])) (hchk : k0_chk1 (View.readCov arg16.view (words (grp (all2 arg2 inb_S1024x1024_S1024x1024_0_0 f2) (all2 arg3 inb_S1024x128_S1024x128_0_0 f3) (all2 arg4 inb_S1024x128_S1024x128_0_0 f4) (all2 arg5 inb_S1x128_S1x128_0_0 f5))) (Rect.unit (s := S8) (k0_off1 i) S1.size (k0_off1_inb i)).toLoadRect (Shape.Idx.first (numel1_S1.symm ▸ Nat.one_pos))) (View.readCov arg16.view (words (grp (all2 arg2 inb_S1024x1024_S1024x1024_0_0 f2) (all2 arg3 inb_S1024x128_S1024x128_0_0 f3) (all2 arg4 inb_S1024x128_S1024x128_0_0 f4) (all2 arg5 inb_S1x128_S1x128_0_0 f5))) (Rect.unit (s := S8) (k0_off2 i) S1.size (k0_off2_inb i)).toLoadRect (Shape.Idx.first (numel1_S1.symm ▸ Nat.one_pos))))
    (s n : BitVec 32) (hs : View.readCov arg16.view (words (grp (all2 arg2 inb_S1024x1024_S1024x1024_0_0 f2) (all2 arg3 inb_S1024x128_S1024x128_0_0 f3) (all2 arg4 inb_S1024x128_S1024x128_0_0 f4) (all2 arg5 inb_S1x128_S1x128_0_0 f5))) (Rect.unit (s := S8) (k0_off1 i) S1.size (k0_off1_inb i)).toLoadRect (Shape.Idx.first (numel1_S1.symm ▸ Nat.one_pos)) = s) (hn : View.readCov arg16.view (words (grp (all2 arg2 inb_S1024x1024_S1024x1024_0_0 f2) (all2 arg3 inb_S1024x128_S1024x128_0_0 f3) (all2 arg4 inb_S1024x128_S1024x128_0_0 f4) (all2 arg5 inb_S1x128_S1x128_0_0 f5))) (Rect.unit (s := S8) (k0_off2 i) S1.size (k0_off2_inb i)).toLoadRect (Shape.Idx.first (numel1_S1.symm ▸ Nat.one_pos)) = n) (h : k0_chk1 s n) (hz : (k0_t2_loop n).trips = 0) :
    (run_first 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f12 f13 f14 f15 f16 h1 h2 o1 o2 hchk).1.2.2.2.1
      = sums 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 s n h f6 f7 f8
           (arg12.view.writes (Elt F) arg12.view.junk [⟨Rect.unit (s := S1408x1024) ![0, 0] S1408x1024.size inb_S1408x1024_S1408x1024_0_0, xsV (grp (all2 arg2 inb_S1024x1024_S1024x1024_0_0 f2) (all2 arg3 inb_S1024x128_S1024x128_0_0 f3) (all2 arg4 inb_S1024x128_S1024x128_0_0 f4) (all2 arg5 inb_S1x128_S1x128_0_0 f5)) (all2 arg2 inb_S1024x1024_S1024x1024_0_0 f2)⟩])
           (arg13.view.writes (Elt F) arg13.view.junk [⟨Rect.unit (s := S1408x128) ![0, 0] S1408x128.size inb_S1408x128_S1408x128_0_0, combsV (grp (all2 arg2 inb_S1024x1024_S1024x1024_0_0 f2) (all2 arg3 inb_S1024x128_S1024x128_0_0 f3) (all2 arg4 inb_S1024x128_S1024x128_0_0 f4) (all2 arg5 inb_S1x128_S1x128_0_0 f5)) (comb (all2 arg2 inb_S1024x1024_S1024x1024_0_0 f2) (all2 arg3 inb_S1024x128_S1024x128_0_0 f3) (all2 arg4 inb_S1024x128_S1024x128_0_0 f4) (all2 arg5 inb_S1x128_S1x128_0_0 f5))⟩])
           arg15.view.junk [⟨Rect.unit (s := S1408x1024) ![0, 0] S1408x1024.size inb_S1408x1024_S1408x1024_0_0, k0_pay35 (F := F)⟩] := by
  have h12 : run_first.sl.H12_1 (F := F) arg2 arg3 arg4 arg5 f2 f3 f4 f5 = [⟨Rect.unit (s := S1408x1024) ![0, 0] S1408x1024.size inb_S1408x1024_S1408x1024_0_0, xsV (grp (all2 arg2 inb_S1024x1024_S1024x1024_0_0 f2) (all2 arg3 inb_S1024x128_S1024x128_0_0 f3) (all2 arg4 inb_S1024x128_S1024x128_0_0 f4) (all2 arg5 inb_S1x128_S1x128_0_0 f5)) (all2 arg2 inb_S1024x1024_S1024x1024_0_0 f2)⟩] := rfl
  have h13 : run_first.sl.H13_1 (F := F) arg2 arg3 arg4 arg5 f2 f3 f4 f5 = [⟨Rect.unit (s := S1408x128) ![0, 0] S1408x128.size inb_S1408x128_S1408x128_0_0, combsV (grp (all2 arg2 inb_S1024x1024_S1024x1024_0_0 f2) (all2 arg3 inb_S1024x128_S1024x128_0_0 f3) (all2 arg4 inb_S1024x128_S1024x128_0_0 f4) (all2 arg5 inb_S1x128_S1x128_0_0 f5)) (comb (all2 arg2 inb_S1024x1024_S1024x1024_0_0 f2) (all2 arg3 inb_S1024x128_S1024x128_0_0 f3) (all2 arg4 inb_S1024x128_S1024x128_0_0 f4) (all2 arg5 inb_S1x128_S1x128_0_0 f5))⟩] := rfl
  have h16 : run_first.sl.H16_8 (F := F) arg2 arg3 arg4 arg5 f2 f3 f4 f5 = words (grp (all2 arg2 inb_S1024x1024_S1024x1024_0_0 f2) (all2 arg3 inb_S1024x128_S1024x128_0_0 f3) (all2 arg4 inb_S1024x128_S1024x128_0_0 f4) (all2 arg5 inb_S1x128_S1x128_0_0 f5)) := rfl
  have h15 : run_first.sl.H15_1 (F := F) = [⟨Rect.unit (s := S1408x1024) ![0, 0] S1408x1024.size inb_S1408x1024_S1408x1024_0_0, k0_pay35 (F := F)⟩] := rfl
  have e28 : run_first.sl.r_28 (F := F) i arg2 arg3 arg4 arg5 arg16 f2 f3 f4 f5 = s := by
    rw [← hs]; unfold run_first.sl.r_28 run_first.sl.f_7; rw [h16]
  have e29 : run_first.sl.r_29 (F := F) i arg2 arg3 arg4 arg5 arg16 f2 f3 f4 f5 = n := by
    rw [← hn]; unfold run_first.sl.r_29 run_first.sl.f_8; rw [h16]
  clear hs hn
  unfold run_first
  dsimp only
  unfold run_first.sl.v31 run_first.sl.v21
  simp only [e28, e29, h12, h13, h15, View.writes_append]
  unfold sums
  have z : ∀ (a : BitVec 32) (l : IVec S320x128 32) (s n : BitVec 32) (h : k0_chk1 s n) (v init : BitVec 32)
      (X12 : BufTy.Contents (Elt F) arg12.view.ty) (X13 : BufTy.Contents (Elt F) arg13.view.ty) (G' : BufTy.Contents (Elt F) arg15.view.ty)
      (k : ℕ), k = 0 → (st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 a l s n h v f6 f7 f8 X12 X13 G' init k).2 = [] := by
    intro a l s n h v init X12 X13 G' k hk
    subst hk
    rfl
  refine congrArg₂ (· ++ ·) ?_ (congrArg₂ (· ++ ·) ?_ rfl)
  · exact (z _ _ _ _ _ _ _ _ _ _ _ hz).trans (z _ _ _ _ _ _ _ _ _ _ _ hz).symm
  · refine congrArg Prod.snd ?_
    with_reducible rfl

end Cert.MoeIdeal.B
end
-- ==== Proof.Moe.RunAeq.lean ====
module
public import proofs.«01_k».proof.Proof.Gen.MoeIdeal.Frame
public import proofs.«01_k».proof.Proof.Gen.MoeIdeal.Skeleton
public import proofs.«01_k».proof.Proof.Gen.MoeIdeal.Loops
public import Idealize.ShloMosaic.Lib.Tactic
public import proofs.«01_k».proof.Proof.Moe.RunA
/-!
# The body of the experts' layer, run

The three kinds of grid points: the first group of a row block, which routes the block's rows; the groups between; and the
last group, which writes the output block. Each run leaves the buffers it reads as they were and says what it stores.
-/

@[expose] public section
set_option maxRecDepth 16384
noncomputable section
namespace Cert.MoeIdeal.B
open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ
set_option maxHeartbeats 400000

theorem run_first_eq0 (𝒱 : Variants) (c : Dev nD) (bd : Option 𝒱.V) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1408x1024 .bf16) (harg12 : arg12.IsWhole) (arg13 : Memref sig .tc .vmem S1408x128 .f32) (harg13 : arg13.IsWhole) (arg14 : Memref sig .tc .vmem S1024x1408 .bf16) (harg14 : arg14.IsWhole) (arg15 : Memref sig .tc .vmem S1408x1024 .f32) (harg15 : arg15.IsWhole) (arg16 : Memref sig .tc .smem S8 .i32) (harg16 : arg16.IsWhole) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
    (h1 : first i = 1#1) (h2 : ¬ k0_cond2 i = 1#1) (o1 : Fact (k0_off1 i = ![0])) (o2 : Fact (k0_off2 i = ![4])) (hchk : k0_chk1 (View.readCov arg16.view (words (grp (all2 arg2 inb_S1024x1024_S1024x1024_0_0 f2) (all2 arg3 inb_S1024x128_S1024x128_0_0 f3) (all2 arg4 inb_S1024x128_S1024x128_0_0 f4) (all2 arg5 inb_S1x128_S1x128_0_0 f5))) (Rect.unit (s := S8) (k0_off1 i) S1.size (k0_off1_inb i)).toLoadRect (Shape.Idx.first (numel1_S1.symm ▸ Nat.one_pos))) (View.readCov arg16.view (words (grp (all2 arg2 inb_S1024x1024_S1024x1024_0_0 f2) (all2 arg3 inb_S1024x128_S1024x128_0_0 f3) (all2 arg4 inb_S1024x128_S1024x128_0_0 f4) (all2 arg5 inb_S1x128_S1x128_0_0 f5))) (Rect.unit (s := S8) (k0_off2 i) S1.size (k0_off2_inb i)).toLoadRect (Shape.Idx.first (numel1_S1.symm ▸ Nat.one_pos)))) :
    (run_first 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f12 f13 f14 f15 f16 h1 h2 o1 o2 hchk).1.1
      = [⟨Rect.unit (s := S1408x1024) ![0, 0] S1408x1024.size inb_S1408x1024_S1408x1024_0_0, xsV (grp (all2 arg2 inb_S1024x1024_S1024x1024_0_0 f2) (all2 arg3 inb_S1024x128_S1024x128_0_0 f3) (all2 arg4 inb_S1024x128_S1024x128_0_0 f4) (all2 arg5 inb_S1x128_S1x128_0_0 f5)) (all2 arg2 inb_S1024x1024_S1024x1024_0_0 f2)⟩] := by
  unfold run_first
  rfl

theorem run_first_eq1 (𝒱 : Variants) (c : Dev nD) (bd : Option 𝒱.V) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1408x1024 .bf16) (harg12 : arg12.IsWhole) (arg13 : Memref sig .tc .vmem S1408x128 .f32) (harg13 : arg13.IsWhole) (arg14 : Memref sig .tc .vmem S1024x1408 .bf16) (harg14 : arg14.IsWhole) (arg15 : Memref sig .tc .vmem S1408x1024 .f32) (harg15 : arg15.IsWhole) (arg16 : Memref sig .tc .smem S8 .i32) (harg16 : arg16.IsWhole) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
    (h1 : first i = 1#1) (h2 : ¬ k0_cond2 i = 1#1) (o1 : Fact (k0_off1 i = ![0])) (o2 : Fact (k0_off2 i = ![4])) (hchk : k0_chk1 (View.readCov arg16.view (words (grp (all2 arg2 inb_S1024x1024_S1024x1024_0_0 f2) (all2 arg3 inb_S1024x128_S1024x128_0_0 f3) (all2 arg4 inb_S1024x128_S1024x128_0_0 f4) (all2 arg5 inb_S1x128_S1x128_0_0 f5))) (Rect.unit (s := S8) (k0_off1 i) S1.size (k0_off1_inb i)).toLoadRect (Shape.Idx.first (numel1_S1.symm ▸ Nat.one_pos))) (View.readCov arg16.view (words (grp (all2 arg2 inb_S1024x1024_S1024x1024_0_0 f2) (all2 arg3 inb_S1024x128_S1024x128_0_0 f3) (all2 arg4 inb_S1024x128_S1024x128_0_0 f4) (all2 arg5 inb_S1x128_S1x128_0_0 f5))) (Rect.unit (s := S8) (k0_off2 i) S1.size (k0_off2_inb i)).toLoadRect (Shape.Idx.first (numel1_S1.symm ▸ Nat.one_pos)))) :
    (run_first 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f12 f13 f14 f15 f16 h1 h2 o1 o2 hchk).1.2.1
      = [⟨Rect.unit (s := S1408x128) ![0, 0] S1408x128.size inb_S1408x128_S1408x128_0_0, combsV (grp (all2 arg2 inb_S1024x1024_S1024x1024_0_0 f2) (all2 arg3 inb_S1024x128_S1024x128_0_0 f3) (all2 arg4 inb_S1024x128_S1024x128_0_0 f4) (all2 arg5 inb_S1x128_S1x128_0_0 f5)) (comb (all2 arg2 inb_S1024x1024_S1024x1024_0_0 f2) (all2 arg3 inb_S1024x128_S1024x128_0_0 f3) (all2 arg4 inb_S1024x128_S1024x128_0_0 f4) (all2 arg5 inb_S1x128_S1x128_0_0 f5))⟩] := by
  unfold run_first
  rfl

theorem run_first_eq2 (𝒱 : Variants) (c : Dev nD) (bd : Option 𝒱.V) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1408x1024 .bf16) (harg12 : arg12.IsWhole) (arg13 : Memref sig .tc .vmem S1408x128 .f32) (harg13 : arg13.IsWhole) (arg14 : Memref sig .tc .vmem S1024x1408 .bf16) (harg14 : arg14.IsWhole) (arg15 : Memref sig .tc .vmem S1408x1024 .f32) (harg15 : arg15.IsWhole) (arg16 : Memref sig .tc .smem S8 .i32) (harg16 : arg16.IsWhole) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
    (h1 : first i = 1#1) (h2 : ¬ k0_cond2 i = 1#1) (o1 : Fact (k0_off1 i = ![0])) (o2 : Fact (k0_off2 i = ![4])) (hchk : k0_chk1 (View.readCov arg16.view (words (grp (all2 arg2 inb_S1024x1024_S1024x1024_0_0 f2) (all2 arg3 inb_S1024x128_S1024x128_0_0 f3) (all2 arg4 inb_S1024x128_S1024x128_0_0 f4) (all2 arg5 inb_S1x128_S1x128_0_0 f5))) (Rect.unit (s := S8) (k0_off1 i) S1.size (k0_off1_inb i)).toLoadRect (Shape.Idx.first (numel1_S1.symm ▸ Nat.one_pos))) (View.readCov arg16.view (words (grp (all2 arg2 inb_S1024x1024_S1024x1024_0_0 f2) (all2 arg3 inb_S1024x128_S1024x128_0_0 f3) (all2 arg4 inb_S1024x128_S1024x128_0_0 f4) (all2 arg5 inb_S1x128_S1x128_0_0 f5))) (Rect.unit (s := S8) (k0_off2 i) S1.size (k0_off2_inb i)).toLoadRect (Shape.Idx.first (numel1_S1.symm ▸ Nat.one_pos)))) :
    (run_first 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f12 f13 f14 f15 f16 h1 h2 o1 o2 hchk).1.2.2.1
      = [⟨Rect.unit (s := S1024x1408) ![0, 0] S1024x1408.size inb_S1024x1408_S1024x1408_0_0, ptV (grp (all2 arg2 inb_S1024x1024_S1024x1024_0_0 f2) (all2 arg3 inb_S1024x128_S1024x128_0_0 f3) (all2 arg4 inb_S1024x128_S1024x128_0_0 f4) (all2 arg5 inb_S1x128_S1x128_0_0 f5))⟩] := by
  unfold run_first
  rfl

theorem run_first_eq4 (𝒱 : Variants) (c : Dev nD) (bd : Option 𝒱.V) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1408x1024 .bf16) (harg12 : arg12.IsWhole) (arg13 : Memref sig .tc .vmem S1408x128 .f32) (harg13 : arg13.IsWhole) (arg14 : Memref sig .tc .vmem S1024x1408 .bf16) (harg14 : arg14.IsWhole) (arg15 : Memref sig .tc .vmem S1408x1024 .f32) (harg15 : arg15.IsWhole) (arg16 : Memref sig .tc .smem S8 .i32) (harg16 : arg16.IsWhole) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
    (h1 : first i = 1#1) (h2 : ¬ k0_cond2 i = 1#1) (o1 : Fact (k0_off1 i = ![0])) (o2 : Fact (k0_off2 i = ![4])) (hchk : k0_chk1 (View.readCov arg16.view (words (grp (all2 arg2 inb_S1024x1024_S1024x1024_0_0 f2) (all2 arg3 inb_S1024x128_S1024x128_0_0 f3) (all2 arg4 inb_S1024x128_S1024x128_0_0 f4) (all2 arg5 inb_S1x128_S1x128_0_0 f5))) (Rect.unit (s := S8) (k0_off1 i) S1.size (k0_off1_inb i)).toLoadRect (Shape.Idx.first (numel1_S1.symm ▸ Nat.one_pos))) (View.readCov arg16.view (words (grp (all2 arg2 inb_S1024x1024_S1024x1024_0_0 f2) (all2 arg3 inb_S1024x128_S1024x128_0_0 f3) (all2 arg4 inb_S1024x128_S1024x128_0_0 f4) (all2 arg5 inb_S1x128_S1x128_0_0 f5))) (Rect.unit (s := S8) (k0_off2 i) S1.size (k0_off2_inb i)).toLoadRect (Shape.Idx.first (numel1_S1.symm ▸ Nat.one_pos)))) :
    (run_first 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f12 f13 f14 f15 f16 h1 h2 o1 o2 hchk).1.2.2.2.2
      = words (grp (all2 arg2 inb_S1024x1024_S1024x1024_0_0 f2) (all2 arg3 inb_S1024x128_S1024x128_0_0 f3) (all2 arg4 inb_S1024x128_S1024x128_0_0 f4) (all2 arg5 inb_S1x128_S1x128_0_0 f5)) := by
  unfold run_first
  rfl

end Cert.MoeIdeal.B
end
-- ==== Proof.Moe.RunB.lean ====
module
public import proofs.«01_k».proof.Proof.Gen.MoeIdeal.Frame
public import proofs.«01_k».proof.Proof.Gen.MoeIdeal.Skeleton
public import proofs.«01_k».proof.Proof.Gen.MoeIdeal.Loops
public import Idealize.ShloMosaic.Lib.Tactic
public import proofs.«01_k».proof.Proof.Moe.Defs
/-!
# The body of the experts' layer, run

The three kinds of grid points: the first group of a row block, which routes the block's rows; the groups between; and the
last group, which writes the output block. Each run leaves the buffers it reads as they were and says what it stores.
-/

@[expose] public section
set_option maxRecDepth 16384
noncomputable section
namespace Cert.MoeIdeal.B
open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ
set_option maxHeartbeats 4000000

/-- A group between: only the running sums change. -/
def run_mid (𝒱 : Variants) (c : Dev nD) (bd : Option 𝒱.V) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1408x1024 .bf16) (harg12 : arg12.IsWhole) (arg13 : Memref sig .tc .vmem S1408x128 .f32) (harg13 : arg13.IsWhole) (arg14 : Memref sig .tc .vmem S1024x1408 .bf16) (harg14 : arg14.IsWhole) (arg15 : Memref sig .tc .vmem S1408x1024 .f32) (harg15 : arg15.IsWhole) (arg16 : Memref sig .tc .smem S8 .i32) (harg16 : arg16.IsWhole) (f6 : BufTy.Contents (Elt F) arg6.view.ty) (f7 : BufTy.Contents (Elt F) arg7.view.ty) (f8 : BufTy.Contents (Elt F) arg8.view.ty) (f12 : BufTy.Contents (Elt F) arg12.view.ty) (f13 : BufTy.Contents (Elt F) arg13.view.ty) (f15 : BufTy.Contents (Elt F) arg15.view.ty) (f16 : BufTy.Contents (Elt F) arg16.view.ty)
    (h1 : ¬ first i = 1#1) (h2 : ¬ k0_cond2 i = 1#1) (hchk : k0_chk1 (wd (arg16 := arg16) f16 (k0_off1 i) (k0_off1_inb i)) (wd (arg16 := arg16) f16 (k0_off2 i) (k0_off2_inb i))) :
    { W : List (View.Piece (Elt F) S1408x1024 .f32) // ∀ (E : Set ℕ), (iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg12.view.loc (c : Thread nD τ) ↦[arg12.view.set]{fullShare} f12) ∗ (arg13.view.loc (c : Thread nD τ) ↦[arg13.view.set]{fullShare} f13) ∗ (arg15.view.loc (c : Thread nD τ) ↦[arg15.view.set]{fullShare} f15) ∗ (arg16.view.loc (c : Thread nD τ) ↦[arg16.view.set]{fullShare} f16)) : sProp 𝕄)
    ⊢ wp frame (wpE (defs₀ (F := F)) 𝒱 (c : Thread nD τ) bd) E (cc0_moe (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg12.view.loc (c : Thread nD τ) ↦[arg12.view.set]{fullShare} f12) ∗ (arg13.view.loc (c : Thread nD τ) ↦[arg13.view.set]{fullShare} f13) ∗ (arg15.view.loc (c : Thread nD τ) ↦[arg15.view.set]{fullShare} (arg15.view.writes (Elt F) f15 W)) ∗ (arg16.view.loc (c : Thread nD τ) ↦[arg16.view.set]{fullShare} f16))) } := by
  refine ⟨?_, fun E => ?run⟩
  case run =>
  iintro ⟨H6, H7, H8, H12, H13, H15, H16⟩
  sl_unfold [cc0_moe]
  sl_exec
  sl_step
  sl_close

theorem run_mid_eq (𝒱 : Variants) (c : Dev nD) (bd : Option 𝒱.V) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1408x1024 .bf16) (harg12 : arg12.IsWhole) (arg13 : Memref sig .tc .vmem S1408x128 .f32) (harg13 : arg13.IsWhole) (arg14 : Memref sig .tc .vmem S1024x1408 .bf16) (harg14 : arg14.IsWhole) (arg15 : Memref sig .tc .vmem S1408x1024 .f32) (harg15 : arg15.IsWhole) (arg16 : Memref sig .tc .smem S8 .i32) (harg16 : arg16.IsWhole) (f6 : BufTy.Contents (Elt F) arg6.view.ty) (f7 : BufTy.Contents (Elt F) arg7.view.ty) (f8 : BufTy.Contents (Elt F) arg8.view.ty) (f12 : BufTy.Contents (Elt F) arg12.view.ty) (f13 : BufTy.Contents (Elt F) arg13.view.ty) (f15 : BufTy.Contents (Elt F) arg15.view.ty) (f16 : BufTy.Contents (Elt F) arg16.view.ty)
    (h1 : ¬ first i = 1#1) (h2 : ¬ k0_cond2 i = 1#1) (hchk : k0_chk1 (wd (arg16 := arg16) f16 (k0_off1 i) (k0_off1_inb i)) (wd (arg16 := arg16) f16 (k0_off2 i) (k0_off2_inb i))) :
    (run_mid 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 f6 f7 f8 f12 f13 f15 f16 h1 h2 hchk).1 = sums 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ hchk f6 f7 f8 f12 f13 f15 [] := by
  unfold run_mid
  exact (congrArg _ (List.append_nil _)).symm

/-- The last group: the output block is written too. -/
def run_last (𝒱 : Variants) (c : Dev nD) (bd : Option 𝒱.V) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1408x1024 .bf16) (harg12 : arg12.IsWhole) (arg13 : Memref sig .tc .vmem S1408x128 .f32) (harg13 : arg13.IsWhole) (arg14 : Memref sig .tc .vmem S1024x1408 .bf16) (harg14 : arg14.IsWhole) (arg15 : Memref sig .tc .vmem S1408x1024 .f32) (harg15 : arg15.IsWhole) (arg16 : Memref sig .tc .smem S8 .i32) (harg16 : arg16.IsWhole) (f2 : BufTy.Contents (Elt F) arg2.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
    (h1 : ¬ first i = 1#1) (h2 : k0_cond2 i = 1#1) (hchk : k0_chk1 (wd (arg16 := arg16) f16 (k0_off1 i) (k0_off1_inb i)) (wd (arg16 := arg16) f16 (k0_off2 i) (k0_off2_inb i))) :
    { W : List (View.Piece (Elt F) S1024x1024 .f32) × List (View.Piece (Elt F) S1408x1024 .f32) // ∀ (E : Set ℕ), (iprop((arg2.view.loc (c : Thread nD τ) ↦[arg2.view.set]{fullShare} f2) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16)) : sProp 𝕄)
    ⊢ wp frame (wpE (defs₀ (F := F)) 𝒱 (c : Thread nD τ) bd) E (cc0_moe (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ => iprop((arg2.view.loc (c : Thread nD τ) ↦[arg2.view.set]{fullShare} f2) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} (arg11.view.writes (Elt F) f11 W.1)) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} (arg15.view.writes (Elt F) f15 W.2)) ∗ (arg16.view.loc (c : Thread nD τ) ↦[arg16.view.set]{fullShare} f16))) } := by
  refine ⟨⟨?_, ?_⟩, fun E => ?run⟩
  case run =>
  iintro ⟨H2, H6, H7, H8, H9, H10, H11, H12, H13, H14, H15, H16⟩
  sl_unfold [cc0_moe]
  sl_exec
  sl_step
  sl_close

theorem run_last_eq (𝒱 : Variants) (c : Dev nD) (bd : Option 𝒱.V) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1408x1024 .bf16) (harg12 : arg12.IsWhole) (arg13 : Memref sig .tc .vmem S1408x128 .f32) (harg13 : arg13.IsWhole) (arg14 : Memref sig .tc .vmem S1024x1408 .bf16) (harg14 : arg14.IsWhole) (arg15 : Memref sig .tc .vmem S1408x1024 .f32) (harg15 : arg15.IsWhole) (arg16 : Memref sig .tc .smem S8 .i32) (harg16 : arg16.IsWhole) (f2 : BufTy.Contents (Elt F) arg2.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty)
    (h1 : ¬ first i = 1#1) (h2 : k0_cond2 i = 1#1) (hchk : k0_chk1 (wd (arg16 := arg16) f16 (k0_off1 i) (k0_off1_inb i)) (wd (arg16 := arg16) f16 (k0_off2 i) (k0_off2_inb i))) :
    (run_last 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f6 f7 f8 f9 f10 f11 f12 f13 f14 f15 f16 h1 h2 hchk).1
      = ([⟨Rect.unit (s := S1024x1024) ![0, 0] S1024x1024.size inb_S1024x1024_S1024x1024_0_0,
          k0_pay60 (all2 arg14 inb_S1024x1408_S1024x1408_0_0 f14)
            (all2 arg15 inb_S1408x1024_S1408x1024_0_0 (arg15.view.writes (Elt F) f15 (sums 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ hchk f6 f7 f8 f12 f13 f15 [])))
            (all2 arg2 inb_S1024x1024_S1024x1024_0_0 f2) (all2 arg9 inb_S1x1024_S1x1024_0_0 f9) (all2 arg10 inb_S1x1024_S1x1024_0_0 f10)⟩],
        sums 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ hchk f6 f7 f8 f12 f13 f15 []) := by
  unfold run_last
  simp only [sums, List.append_nil]
  rfl

end Cert.MoeIdeal.B
end
-- ==== Proof.Moe.Loop.lean ====
module
public import proofs.«01_k».proof.Proof.Moe.Defs
public import Idealize.ShloMosaic.Lib.Pointwise
public import Idealize.ShloMosaic.Lib.WritesUnit
public import Idealize.ShloMosaic.Lib.VecWindow
/-!
# The experts' loop over the places of a group

What one step of the loop adds to a row of the running sums, and what the whole loop leaves in them.
-/

@[expose] public section
set_option maxRecDepth 16384
noncomputable section
namespace Cert.MoeIdeal.B
open Cert.MoeIdeal Cert.MoeIdeal.Gen
open Idealize.ShloMosaic Idealize.ShloMosaic.TcCoe Idealize.SL.Sem
set_option maxHeartbeats 1000000

/-- The lanes of a step's rows. -/
abbrev lanes320 : IVec S320x128 32 := iota .tc S320x128 32 [1] iota_S320x128_d1_w32

/-- One step's contribution: the four experts of a block over the rows `X`, weighted by `C`. -/
abbrev tile {F : FTy → Type} [FloatOps F] (a : BitVec 32) (v : IVec S320x128 32) (X : Vec F S320x1024 .bf16) (C : Vec F S320x128 .f32)
    (W1 W3 : Fin 4 → Vec F S1x1024x256 .bf16) (W2 : Fin 4 → Vec F S1x256x1024 .bf16) : FVec F S320x1024 .f32 :=
  k0_pay50 a v X C
    (k0_pay46 X C (k0_pay44 a v X C (W1 0) (W3 0) (W2 0)) (k0_pay45 a v) (W1 1) (W3 1) (W2 1))
    (k0_pay47 a v C) (k0_pay48 X (W1 2)) (k0_pay49 (W3 2)) (W2 2) (W1 3) (W3 3) (W2 3)

/-- The gated feed-forward network of expert `k` of a block, at one row. -/
def ffn (x : Fin 1024 → EReal) (w1 w3 : S4x1024x256.Idx → EReal) (w2 : S4x256x1024.Idx → EReal) (k : Fin 4) (d : Fin 1024) : EReal :=
  ∑ f : Fin 256, ((∑ m, x m * w1 (ix3 k m f)) * Ideal.logistic (∑ m, x m * w1 (ix3 k m f)) * ∑ m, x m * w3 (ix3 k m f)) * w2 (ix3 k f d)

/-- The lane of expert `k` of block `e`. -/
abbrev lane (e : ℕ) (he : e < 8) (k : Fin 4) : Fin 128 := ⟨4 + 4 * e + k.val, by omega⟩

/-- What block `e` adds to one row. -/
def rowT (e : ℕ) (he : e < 8) (x : Fin 1024 → EReal) (c : Fin 128 → EReal) (w1 w3 : S4x1024x256.Idx → EReal) (w2 : S4x256x1024.Idx → EReal)
    (d : Fin 1024) : EReal :=
  c (lane e he 0) * ffn x w1 w3 w2 0 d + c (lane e he 1) * ffn x w1 w3 w2 1 d + c (lane e he 2) * ffn x w1 w3 w2 2 d
    + c (lane e he 3) * ffn x w1 w3 w2 3 d

theorem lane_word : ∀ (e : Fin 8) (k : Fin 4),
    Scalar.addi (Scalar.addi (4#32) (Scalar.muli (BitVec.ofNat 32 e.val) 4#32)) (BitVec.ofNat 32 k.val) = BitVec.ofNat 32 (4 + 4 * e.val + k.val) := by
  decide

/-- Summing a row with every lane but one masked out picks the lane. -/
theorem pick (e : ℕ) (he : e < 8) (k : Fin 4) (c : Fin 128 → EReal) :
    (∑ x : Fin 128, Scalar.select (IntOp.cmpi .eq (BitVec.ofNat 32 x.val)
        (Scalar.addi (Scalar.addi (4#32) (Scalar.muli (BitVec.ofNat 32 e) 4#32)) (BitVec.ofNat 32 k.val))) (c x) (0 : EReal))
      = c (lane e he k) := by
  rw [lane_word ⟨e, he⟩ k, Finset.sum_eq_single (lane e he k)]
  · simp [Scalar.select, IntOp.cmpi]
  · intro x _ hx
    have hne : (BitVec.ofNat 32 x.val == BitVec.ofNat 32 (4 + 4 * e + k.val)) = false := by
      rw [beq_eq_false_iff_ne]
      intro h
      have h2 := congrArg BitVec.toNat h
      rw [BitVec.toNat_ofNat, BitVec.toNat_ofNat, Nat.mod_eq_of_lt (by omega), Nat.mod_eq_of_lt (by omega)] at h2
      exact hx (Fin.ext h2)
    simp [Scalar.select, IntOp.cmpi, hne]
  · intro h; exact absurd (Finset.mem_univ _) h

theorem tile_read (e : ℕ) (he : e < 8) (X : Vec Ideal S320x1024 .bf16) (C : Vec Ideal S320x128 .f32)
    (W1 W3 : Fin 4 → Vec Ideal S1x1024x256 .bf16) (W2 : Fin 4 → Vec Ideal S1x256x1024 .bf16)
    (w1 w3 : S4x1024x256.Idx → EReal) (w2 : S4x256x1024.Idx → EReal)
    (h1 : ∀ k m f, W1 k (ix3 0 m f) = w1 (ix3 k m f)) (h3 : ∀ k m f, W3 k (ix3 0 m f) = w3 (ix3 k m f))
    (h2 : ∀ k f d, W2 k (ix3 0 f d) = w2 (ix3 k f d)) (r : Fin 320) (d : Fin 1024) :
    tile (BitVec.ofNat 32 e) lanes320 X C W1 W3 W2 (ix2 r d)
      = rowT e he (fun m => X (ix2 r m)) (fun l => C (ix2 r l)) w1 w3 w2 d := by
  unfold tile k0_pay50 k0_pay46 k0_pay44 k0_pay45 k0_pay47 k0_pay48 k0_pay49
  pointwise
  simp only [h1, h2, h3]
  have p0 := pick e he 0 (fun l => C (ix2 r l))
  have p1 := pick e he 1 (fun l => C (ix2 r l))
  have p2 := pick e he 2 (fun l => C (ix2 r l))
  have p3 := pick e he 3 (fun l => C (ix2 r l))
  beta_reduce at p0 p1 p2 p3
  rw [show BitVec.ofNat 32 (0 : Fin 4).val = 0#32 from rfl] at p0
  rw [show BitVec.ofNat 32 (1 : Fin 4).val = 1#32 from rfl] at p1
  rw [show BitVec.ofNat 32 (2 : Fin 4).val = 2#32 from rfl] at p2
  rw [show BitVec.ofNat 32 (3 : Fin 4).val = 3#32 from rfl] at p3
  rw [p0, p1, p2, p3]
  rfl

end Cert.MoeIdeal.B
end
-- ==== Proof.Moe.Trip.lean ====
module
public import proofs.«01_k».proof.Proof.Moe.Loop
public import Idealize.ShloMosaic.Lib.Pointwise
public import Idealize.ShloMosaic.Lib.WritesUnit
public import Idealize.ShloMosaic.Lib.VecWindow
/-!
# The experts' loop over the places of a group

What one step of the loop adds to a row of the running sums, and what the whole loop leaves in them.
-/

@[expose] public section
set_option maxRecDepth 16384
noncomputable section
namespace Cert.MoeIdeal.B
open Cert.MoeIdeal Cert.MoeIdeal.Gen
open Idealize.ShloMosaic Idealize.ShloMosaic.TcCoe Idealize.SL.Sem
set_option maxHeartbeats 400000

variable {F : FTy → Type} [FloatOps F]
theorem tripL_eq (𝒱 : Variants) (c : Dev nD) (bd : Option 𝒱.V) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1408x1024 .bf16) (harg12 : arg12.IsWhole) (arg13 : Memref sig .tc .vmem S1408x128 .f32) (harg13 : arg13.IsWhole) (arg14 : Memref sig .tc .vmem S1024x1408 .bf16) (harg14 : arg14.IsWhole) (arg15 : Memref sig .tc .vmem S1408x1024 .f32) (harg15 : arg15.IsWhole) (arg16 : Memref sig .tc .smem S8 .i32) (harg16 : arg16.IsWhole) (arg1 : BitVec 32) (v21 : IVec S320x128 32) (v23 : Elt F .i32) (v26 : Elt F .i32) (k0_hw1 : k0_chk1 v23 v26) (X_arg6 : BufTy.Contents (Elt F) arg6.view.ty) (X_arg7 : BufTy.Contents (Elt F) arg7.view.ty) (X_arg8 : BufTy.Contents (Elt F) arg8.view.ty) (X_arg12 : BufTy.Contents (Elt F) arg12.view.ty) (X_arg13 : BufTy.Contents (Elt F) arg13.view.ty) (k : Fin (k0_t1_loop v26).trips) (acc : BitVec 32) (f : BufTy.Contents (Elt F) arg15.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v21 v23 v26 k0_hw1 X_arg6 X_arg7 X_arg8 X_arg12 X_arg13 k acc f
      = [⟨Rect.unit (s := S1408x1024) (k0_off3 v23 v26 k) S320x1024.size (k0_off3_inb v23 v26 k0_hw1 k),
          k0_pay58 (tile arg1 v21
            (View.readAt (Elt F) arg12.view (Rect.unit (s := S1408x1024) (k0_off3 v23 v26 k) S320x1024.size (k0_off3_inb v23 v26 k0_hw1 k)).toLoadRect X_arg12)
            (View.readAt (Elt F) arg13.view (Rect.unit (s := S1408x128) (k0_off4 v23 v26 k) S320x128.size (k0_off4_inb v23 v26 k0_hw1 k)).toLoadRect X_arg13)
            (fun q => match q with
              | 0 => View.readAt (Elt F) arg6.view (Rect.unit (s := S4x1024x256) ![0, 0, 0] S1x1024x256.size inb_S4x1024x256_S1x1024x256_0_0_0).toLoadRect X_arg6
              | 1 => View.readAt (Elt F) arg6.view (Rect.unit (s := S4x1024x256) ![1, 0, 0] S1x1024x256.size inb_S4x1024x256_S1x1024x256_1_0_0).toLoadRect X_arg6
              | 2 => View.readAt (Elt F) arg6.view (Rect.unit (s := S4x1024x256) ![2, 0, 0] S1x1024x256.size inb_S4x1024x256_S1x1024x256_2_0_0).toLoadRect X_arg6
              | 3 => View.readAt (Elt F) arg6.view (Rect.unit (s := S4x1024x256) ![3, 0, 0] S1x1024x256.size inb_S4x1024x256_S1x1024x256_3_0_0).toLoadRect X_arg6)
            (fun q => match q with
              | 0 => View.readAt (Elt F) arg7.view (Rect.unit (s := S4x1024x256) ![0, 0, 0] S1x1024x256.size inb_S4x1024x256_S1x1024x256_0_0_0).toLoadRect X_arg7
              | 1 => View.readAt (Elt F) arg7.view (Rect.unit (s := S4x1024x256) ![1, 0, 0] S1x1024x256.size inb_S4x1024x256_S1x1024x256_1_0_0).toLoadRect X_arg7
              | 2 => View.readAt (Elt F) arg7.view (Rect.unit (s := S4x1024x256) ![2, 0, 0] S1x1024x256.size inb_S4x1024x256_S1x1024x256_2_0_0).toLoadRect X_arg7
              | 3 => View.readAt (Elt F) arg7.view (Rect.unit (s := S4x1024x256) ![3, 0, 0] S1x1024x256.size inb_S4x1024x256_S1x1024x256_3_0_0).toLoadRect X_arg7)
            (fun q => match q with
              | 0 => View.readAt (Elt F) arg8.view (Rect.unit (s := S4x256x1024) ![0, 0, 0] S1x256x1024.size inb_S4x256x1024_S1x256x1024_0_0_0).toLoadRect X_arg8
              | 1 => View.readAt (Elt F) arg8.view (Rect.unit (s := S4x256x1024) ![1, 0, 0] S1x256x1024.size inb_S4x256x1024_S1x256x1024_1_0_0).toLoadRect X_arg8
              | 2 => View.readAt (Elt F) arg8.view (Rect.unit (s := S4x256x1024) ![2, 0, 0] S1x256x1024.size inb_S4x256x1024_S1x256x1024_2_0_0).toLoadRect X_arg8
              | 3 => View.readAt (Elt F) arg8.view (Rect.unit (s := S4x256x1024) ![3, 0, 0] S1x256x1024.size inb_S4x256x1024_S1x256x1024_3_0_0).toLoadRect X_arg8))
            (View.readAt (Elt F) arg15.view (Rect.unit (s := S1408x1024) (k0_off3 v23 v26 k) S320x1024.size (k0_off3_inb v23 v26 k0_hw1 k)).toLoadRect f)⟩] := by
  unfold tripL_k0_t1 trip_k0_t1
  rfl

end Cert.MoeIdeal.B
end
-- ==== Proof.Moe.Sums.lean ====
module
public import proofs.«01_k».proof.Proof.Moe.Trip
public import Idealize.ShloMosaic.Lib.Pointwise
public import Idealize.ShloMosaic.Lib.WritesUnit
public import Idealize.ShloMosaic.Lib.VecWindow
/-!
# What the experts' loop leaves in the running sums
-/

@[expose] public section
set_option maxRecDepth 16384
noncomputable section
namespace Cert.MoeIdeal.B
open Cert.MoeIdeal Cert.MoeIdeal.Gen
open Idealize.ShloMosaic Idealize.ShloMosaic.TcCoe Idealize.SL.Sem
set_option maxHeartbeats 1000000

/-- The loop's words: a group starting at `16 m` with `n` steps stays inside the buffer. -/
theorem chk_words : ∀ (m : Fin 89) (n : Fin 5), 16 * m.val + 320 * n.val ≤ 1408 → k0_chk1 (BitVec.ofNat 32 (16 * m.val)) (BitVec.ofNat 32 n.val) := by
  decide +kernel

/-- The number of steps. -/
theorem trips_words : ∀ n : Fin 5, (k0_t1_loop (BitVec.ofNat 32 n.val)).trips = n.val ∧ (k0_t2_loop (BitVec.ofNat 32 n.val)).trips = 0 := by
  decide +kernel

/-- Where each step starts. -/
theorem off_words : ∀ (m : Fin 89) (n : Fin 5), 16 * m.val + 320 * n.val ≤ 1408 → ∀ k : Fin (k0_t1_loop (BitVec.ofNat 32 n.val)).trips,
    k0_off3 (BitVec.ofNat 32 (16 * m.val)) (BitVec.ofNat 32 n.val) k 0 = 16 * m.val + 320 * k.val
      ∧ k0_off3 (BitVec.ofNat 32 (16 * m.val)) (BitVec.ofNat 32 n.val) k 1 = 0
      ∧ k0_off4 (BitVec.ofNat 32 (16 * m.val)) (BitVec.ofNat 32 n.val) k 0 = 16 * m.val + 320 * k.val
      ∧ k0_off4 (BitVec.ofNat 32 (16 * m.val)) (BitVec.ofNat 32 n.val) k 1 = 0 := by
  decide +kernel

theorem idx_up (t : ℕ) (ht : t < 4) (inb : ∀ a, (![t, 0, 0] : Fin 3 → ℕ) a + S1x1024x256.size a ≤ S4x1024x256.size a) (m : Fin 1024) (f : Fin 256) :
    (Rect.unit (s := S4x1024x256) ![t, 0, 0] S1x1024x256.size inb).toLoadRect.idx (ix3 (0 : Fin 1) m f) = ix3 (⟨t, ht⟩ : Fin 4) m f := by
  funext a
  apply Fin.ext
  match a with
  | ⟨0, _⟩ => show t + 1 * 0 = t; omega
  | ⟨1, _⟩ => show 0 + 1 * m.val = m.val; omega
  | ⟨2, _⟩ => show 0 + 1 * f.val = f.val; omega

theorem idx_down (t : ℕ) (ht : t < 4) (inb : ∀ a, (![t, 0, 0] : Fin 3 → ℕ) a + S1x256x1024.size a ≤ S4x256x1024.size a) (m : Fin 256) (f : Fin 1024) :
    (Rect.unit (s := S4x256x1024) ![t, 0, 0] S1x256x1024.size inb).toLoadRect.idx (ix3 (0 : Fin 1) m f) = ix3 (⟨t, ht⟩ : Fin 4) m f := by
  funext a
  apply Fin.ext
  match a with
  | ⟨0, _⟩ => show t + 1 * 0 = t; omega
  | ⟨1, _⟩ => show 0 + 1 * m.val = m.val; omega
  | ⟨2, _⟩ => show 0 + 1 * f.val = f.val; omega

/-- After `k` steps: the rows of the group reached so far have the block's contribution added, the others are as they were. -/
theorem steps_read (𝒱 : Variants) (c : Dev nD) (bd : Option 𝒱.V) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1408x1024 .bf16) (harg12 : arg12.IsWhole) (arg13 : Memref sig .tc .vmem S1408x128 .f32) (harg13 : arg13.IsWhole) (arg14 : Memref sig .tc .vmem S1024x1408 .bf16) (harg14 : arg14.IsWhole) (arg15 : Memref sig .tc .vmem S1408x1024 .f32) (harg15 : arg15.IsWhole) (arg16 : Memref sig .tc .smem S8 .i32) (harg16 : arg16.IsWhole)   (X_arg6 : BufTy.Contents (Elt Ideal) arg6.view.ty) (X_arg7 : BufTy.Contents (Elt Ideal) arg7.view.ty) (X_arg8 : BufTy.Contents (Elt Ideal) arg8.view.ty) (X_arg12 : BufTy.Contents (Elt Ideal) arg12.view.ty) (X_arg13 : BufTy.Contents (Elt Ideal) arg13.view.ty)  (e : ℕ) (he : e < 8) (q : Fin 89) (n : Fin 5) (hq : 16 * q.val + 320 * n.val ≤ 1408)
    (h : k0_chk1 (BitVec.ofNat 32 (16 * q.val)) (BitVec.ofNat 32 n.val)) (G : BufTy.Contents (Elt Ideal) arg15.view.ty) (init : BitVec 32)
    (r : Fin 1408) (d : Fin 1024) (k : ℕ) (hk : k ≤ (k0_t1_loop (BitVec.ofNat 32 n.val)).trips) :
    arg15.view.read (Elt Ideal) (arg15.view.writes (Elt Ideal) G (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 e) lanes320 (BitVec.ofNat 32 (16 * q.val)) (BitVec.ofNat 32 n.val) h X_arg6 X_arg7 X_arg8 X_arg12 X_arg13 G init k).2) (ix2 r d)
      = if 16 * q.val ≤ r.val ∧ r.val < 16 * q.val + 320 * k then
          (arg15.view.read (Elt Ideal) G (ix2 r d) : EReal) + rowT e he (fun m => arg12.view.read (Elt Ideal) X_arg12 (ix2 r m))
            (fun l => arg13.view.read (Elt Ideal) X_arg13 (ix2 r l)) (arg6.view.read (Elt Ideal) X_arg6) (arg7.view.read (Elt Ideal) X_arg7)
            (arg8.view.read (Elt Ideal) X_arg8) d
        else arg15.view.read (Elt Ideal) G (ix2 r d) := by
  induction k with
  | zero => rw [if_neg (by omega)]; rfl
  | succ k ih =>
    have ih := ih (Nat.le_of_succ_le hk)
    have hs := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 e) lanes320 (BitVec.ofNat 32 (16 * q.val)) (BitVec.ofNat 32 n.val) h X_arg6 X_arg7 X_arg8 X_arg12 X_arg13 G init ⟨k, hk⟩
    dsimp only at hs
    rw [hs, tripL_eq]
    obtain ⟨o0, o1, o2, o3⟩ := off_words q n hq ⟨k, hk⟩
    have hn := (trips_words n).1
    have ho : k0_off3 (BitVec.ofNat 32 (16 * q.val)) (BitVec.ofNat 32 n.val) ⟨k, hk⟩ = ![16 * q.val + 320 * k, 0] := by
      funext a; match a with
      | ⟨0, _⟩ => exact o0
      | ⟨1, _⟩ => exact o1
    have ho4 : k0_off4 (BitVec.ofNat 32 (16 * q.val)) (BitVec.ofNat 32 n.val) ⟨k, hk⟩ = ![16 * q.val + 320 * k, 0] := by
      funext a; match a with
      | ⟨0, _⟩ => exact o2
      | ⟨1, _⟩ => exact o3
    rw [List.singleton_append]
    by_cases hr : 16 * q.val + 320 * k ≤ r.val ∧ r.val < 16 * q.val + 320 * k + 320
    · have hlt : r.val - (16 * q.val + 320 * k) < 320 := by omega
      refine (View.read_writes_cons_rows_of_mem arg15.view _ _ _ _ (ix2 r d) (ix2 (⟨r.val - (16 * q.val + 320 * k), hlt⟩ : Fin 320) d) ho
        (by show r.val = _ + (r.val - _); omega) rfl).trans ?_
      rw [if_pos (by omega)]
      have e58 : ∀ (T O : FVec Ideal S320x1024 .f32) (i : Fin 320) (j : Fin 1024), k0_pay58 T O (ix2 i j) = (O (ix2 i j) + T (ix2 i j) : EReal) := by
        intro T O i j
        unfold k0_pay58
        pointwise
      refine (e58 _ _ _ _).trans ?_
      have ix : ∀ (inb : ∀ a, k0_off3 (BitVec.ofNat 32 (16 * q.val)) (BitVec.ofNat 32 n.val) ⟨k, hk⟩ a + S320x1024.size a ≤ S1408x1024.size a) (m : Fin 1024),
          (Rect.unit (s := S1408x1024) (k0_off3 (BitVec.ofNat 32 (16 * q.val)) (BitVec.ofNat 32 n.val) ⟨k, hk⟩) S320x1024.size inb).toLoadRect.idx
            (ix2 (⟨r.val - (16 * q.val + 320 * k), hlt⟩ : Fin 320) m) = ix2 r m := by
        intro inb m
        funext a
        apply Fin.ext
        match a with
        | ⟨0, _⟩ =>
          show k0_off3 (BitVec.ofNat 32 (16 * q.val)) (BitVec.ofNat 32 n.val) ⟨k, hk⟩ 0 + 1 * (r.val - (16 * q.val + 320 * k)) = r.val
          rw [o0]; dsimp only; omega
        | ⟨1, _⟩ =>
          show k0_off3 (BitVec.ofNat 32 (16 * q.val)) (BitVec.ofNat 32 n.val) ⟨k, hk⟩ 1 + 1 * m.val = m.val
          rw [o1]; omega
      have ix4 : ∀ (inb : ∀ a, k0_off4 (BitVec.ofNat 32 (16 * q.val)) (BitVec.ofNat 32 n.val) ⟨k, hk⟩ a + S320x128.size a ≤ S1408x128.size a) (m : Fin 128),
          (Rect.unit (s := S1408x128) (k0_off4 (BitVec.ofNat 32 (16 * q.val)) (BitVec.ofNat 32 n.val) ⟨k, hk⟩) S320x128.size inb).toLoadRect.idx
            (ix2 (⟨r.val - (16 * q.val + 320 * k), hlt⟩ : Fin 320) m) = ix2 r m := by
        intro inb m
        funext a
        apply Fin.ext
        match a with
        | ⟨0, _⟩ =>
          show k0_off4 (BitVec.ofNat 32 (16 * q.val)) (BitVec.ofNat 32 n.val) ⟨k, hk⟩ 0 + 1 * (r.val - (16 * q.val + 320 * k)) = r.val
          rw [o2]; dsimp only; omega
        | ⟨1, _⟩ =>
          show k0_off4 (BitVec.ofNat 32 (16 * q.val)) (BitVec.ofNat 32 n.val) ⟨k, hk⟩ 1 + 1 * m.val = m.val
          rw [o3]; omega
      congr 1
      · show arg15.view.read (Elt Ideal) _ _ = _
        rw [ix, ih, if_neg (by omega)]
      · refine (tile_read e he _ _ _ _ _ (arg6.view.read (Elt Ideal) X_arg6) (arg7.view.read (Elt Ideal) X_arg7)
            (arg8.view.read (Elt Ideal) X_arg8) ?_ ?_ ?_ _ _).trans ?_
        · intro t m f
          match t with
          | 0 => exact congrArg (arg6.view.read (Elt Ideal) X_arg6) (idx_up 0 (by omega) _ m f)
          | 1 => exact congrArg (arg6.view.read (Elt Ideal) X_arg6) (idx_up 1 (by omega) _ m f)
          | 2 => exact congrArg (arg6.view.read (Elt Ideal) X_arg6) (idx_up 2 (by omega) _ m f)
          | 3 => exact congrArg (arg6.view.read (Elt Ideal) X_arg6) (idx_up 3 (by omega) _ m f)
        · intro t m f
          match t with
          | 0 => exact congrArg (arg7.view.read (Elt Ideal) X_arg7) (idx_up 0 (by omega) _ m f)
          | 1 => exact congrArg (arg7.view.read (Elt Ideal) X_arg7) (idx_up 1 (by omega) _ m f)
          | 2 => exact congrArg (arg7.view.read (Elt Ideal) X_arg7) (idx_up 2 (by omega) _ m f)
          | 3 => exact congrArg (arg7.view.read (Elt Ideal) X_arg7) (idx_up 3 (by omega) _ m f)
        · intro t m f
          match t with
          | 0 => exact congrArg (arg8.view.read (Elt Ideal) X_arg8) (idx_down 0 (by omega) _ m f)
          | 1 => exact congrArg (arg8.view.read (Elt Ideal) X_arg8) (idx_down 1 (by omega) _ m f)
          | 2 => exact congrArg (arg8.view.read (Elt Ideal) X_arg8) (idx_down 2 (by omega) _ m f)
          | 3 => exact congrArg (arg8.view.read (Elt Ideal) X_arg8) (idx_down 3 (by omega) _ m f)
        · congr 1
          · funext m
            show arg12.view.read (Elt Ideal) _ _ = _
            rw [ix]
          · funext m
            show arg13.view.read (Elt Ideal) _ _ = _
            rw [ix4]
    · refine (View.read_writes_cons_rows_of_not_mem arg15.view (W := 320) _ _ _ _ (ix2 r d) ho rfl (by show r.val < 16 * q.val + 320 * k ∨ 16 * q.val + 320 * k + 320 ≤ r.val; omega)).trans ?_
      rw [ih]
      congr 1
      apply propext
      omega

/-- What the whole loop leaves in the running sums: the rows of the group have the block's contribution added. -/
theorem sums_read (𝒱 : Variants) (c : Dev nD) (bd : Option 𝒱.V) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1408x1024 .bf16) (harg12 : arg12.IsWhole) (arg13 : Memref sig .tc .vmem S1408x128 .f32) (harg13 : arg13.IsWhole) (arg14 : Memref sig .tc .vmem S1024x1408 .bf16) (harg14 : arg14.IsWhole) (arg15 : Memref sig .tc .vmem S1408x1024 .f32) (harg15 : arg15.IsWhole) (arg16 : Memref sig .tc .smem S8 .i32) (harg16 : arg16.IsWhole) (q : Fin 89) (n : Fin 5) (hq : 16 * q.val + 320 * n.val ≤ 1408)
    (s w : BitVec 32) (hs : s = BitVec.ofNat 32 (16 * q.val)) (hw : w = BitVec.ofNat 32 n.val) (h : k0_chk1 s w)
    (f6 : BufTy.Contents (Elt Ideal) arg6.view.ty) (f7 : BufTy.Contents (Elt Ideal) arg7.view.ty) (f8 : BufTy.Contents (Elt Ideal) arg8.view.ty)
    (X12 : BufTy.Contents (Elt Ideal) arg12.view.ty) (X13 : BufTy.Contents (Elt Ideal) arg13.view.ty) (G : BufTy.Contents (Elt Ideal) arg15.view.ty)
    (L₀ : List (View.Piece (Elt Ideal) S1408x1024 .f32)) (he : (i 1).val < 8) (r : Fin 1408) (d : Fin 1024) :
    arg15.view.read (Elt Ideal) (arg15.view.writes (Elt Ideal) G (sums 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 s w h f6 f7 f8 X12 X13 G L₀)) (ix2 r d)
      = if 16 * q.val ≤ r.val ∧ r.val < 16 * q.val + 320 * n.val then
          (arg15.view.read (Elt Ideal) (arg15.view.writes (Elt Ideal) G L₀) (ix2 r d) : EReal)
            + rowT (i 1).val he (fun m => arg12.view.read (Elt Ideal) X12 (ix2 r m))
            (fun l => arg13.view.read (Elt Ideal) X13 (ix2 r l)) (arg6.view.read (Elt Ideal) f6) (arg7.view.read (Elt Ideal) f7)
            (arg8.view.read (Elt Ideal) f8) d
        else arg15.view.read (Elt Ideal) (arg15.view.writes (Elt Ideal) G L₀) (ix2 r d) := by
  subst hs hw
  obtain ⟨t1, t2⟩ := trips_words n
  have z : ∀ (G' : BufTy.Contents (Elt Ideal) arg15.view.ty) (v init : BitVec 32) (k : ℕ), k = 0 →
      (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) lanes320 (BitVec.ofNat 32 (16 * q.val)) (BitVec.ofNat 32 n.val) h v f6 f7 f8 X12 X13 G' init k).2 = [] := by
    intro G' v init k hk
    subst hk
    rfl
  unfold sums
  rw [z _ _ _ _ t2, List.nil_append, View.writes_append]
  rw [steps_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 f6 f7 f8 X12 X13 (i 1).val he q n hq h (arg15.view.writes (Elt Ideal) G L₀) 0#32 r d _ le_rfl, t1]

end Cert.MoeIdeal.B
end
-- ==== Proof.Moe.Count.lean ====
module
public import Mathlib.Data.Fintype.Card
public import Mathlib.Algebra.BigOperators.Fin
public import Mathlib.Data.Fintype.BigOperators
public import Mathlib.Tactic.FinCases
/-!
# Placing the rows of a block by group

Every row belongs to one of four groups. The rows of a group get consecutive places in the order of the rows, each group
starting at a multiple of sixteen after the group before it.
-/

@[expose] public section
namespace Cert.MoeIdeal.B

variable (G : Fin 1024 → Fin 4)
/-- The rows of a group, counted. -/
def cnt (q : Fin 4) : ℕ := (Finset.univ.filter (fun j => G j = q)).card
/-- The sixteens a group takes. -/
def pads (q : Fin 4) : ℕ := (cnt G q + 15) / 16
/-- The sixteens before a group. -/
def start : Fin 4 → ℕ
  | 0 => 0
  | 1 => pads G 0
  | 2 => pads G 0 + pads G 1
  | 3 => pads G 0 + pads G 1 + pads G 2
/-- The rows of a row's group before it, counted. -/
def rank (j : Fin 1024) : ℕ := (Finset.univ.filter (fun x => x < j ∧ G x = G j)).card
/-- Where a row is put. -/
def place (j : Fin 1024) : ℕ := 16 * start G (G j) + rank G j
/-- The steps a group takes. -/
def stepsOf (q : Fin 4) : ℕ := (cnt G q + 319) / 320

/-- The four groups hold all the rows. -/
theorem cnt_total : cnt G 0 + cnt G 1 + cnt G 2 + cnt G 3 = 1024 := by
  have h := Finset.card_eq_sum_card_fiberwise (s := (Finset.univ : Finset (Fin 1024))) (t := (Finset.univ : Finset (Fin 4))) (f := G)
    (fun _ _ => Finset.mem_coe.2 (Finset.mem_univ _))
  rw [Fin.sum_univ_four, Finset.card_univ, Fintype.card_fin] at h
  exact h.symm

theorem cnt_le (q : Fin 4) : cnt G q ≤ 1024 := by
  have := cnt_total G
  match q with
  | 0 => omega
  | 1 => omega
  | 2 => omega
  | 3 => omega

/-- A row comes before the end of its group. -/
theorem rank_lt (j : Fin 1024) : rank G j < cnt G (G j) := by
  refine Finset.card_lt_card ⟨fun x hx => ?_, fun h => ?_⟩
  · rw [Finset.mem_filter] at hx ⊢
    exact ⟨hx.1, hx.2.2⟩
  · have := h (Finset.mem_filter.2 ⟨Finset.mem_univ j, rfl⟩)
    exact lt_irrefl j (Finset.mem_filter.1 this).2.1

/-- A later row of a group comes later. -/
theorem rank_mono {j k : Fin 1024} (h : G j = G k) (hjk : j < k) : rank G j < rank G k := by
  refine Finset.card_lt_card ⟨fun x hx => ?_, fun hs => ?_⟩
  · rw [Finset.mem_filter] at hx ⊢
    exact ⟨hx.1, hx.2.1.trans hjk, hx.2.2.trans h⟩
  · have := hs (Finset.mem_filter.2 ⟨Finset.mem_univ j, hjk, h⟩)
    exact lt_irrefl j (Finset.mem_filter.1 this).2.1

/-- A group ends before the next one starts. -/
theorem start_gap {q p : Fin 4} (h : q < p) : 16 * start G q + cnt G q ≤ 16 * start G p := by
  match q, p, h with
  | 0, 0, h => exact absurd h (by decide)
  | 0, 1, h => simp only [start, pads]; omega
  | 0, 2, h => simp only [start, pads]; omega
  | 0, 3, h => simp only [start, pads]; omega
  | 1, 0, h => exact absurd h (by decide)
  | 1, 1, h => exact absurd h (by decide)
  | 1, 2, h => simp only [start, pads]; omega
  | 1, 3, h => simp only [start, pads]; omega
  | 2, 0, h => exact absurd h (by decide)
  | 2, 1, h => exact absurd h (by decide)
  | 2, 2, h => exact absurd h (by decide)
  | 2, 3, h => simp only [start, pads]; omega
  | 3, 0, h => exact absurd h (by decide)
  | 3, 1, h => exact absurd h (by decide)
  | 3, 2, h => exact absurd h (by decide)
  | 3, 3, h => exact absurd h (by decide)

/-- The steps of a group stay inside the buffer. -/
theorem steps_fit (q : Fin 4) : 16 * start G q + 320 * stepsOf G q ≤ 1408 := by
  have h := cnt_total G
  match q with
  | 0 => simp only [start, pads, stepsOf]; omega
  | 1 => simp only [start, pads, stepsOf]; omega
  | 2 => simp only [start, pads, stepsOf]; omega
  | 3 => simp only [start, pads, stepsOf]; omega

theorem stepsOf_lt (q : Fin 4) : stepsOf G q < 5 := by
  have := cnt_le G q
  simp only [stepsOf]; omega

theorem start_lt (q : Fin 4) : start G q < 89 := by
  have := steps_fit G q
  omega

/-- A row's place is among the steps of its group. -/
theorem place_mem (j : Fin 1024) : 16 * start G (G j) ≤ place G j ∧ place G j < 16 * start G (G j) + 320 * stepsOf G (G j) := by
  have := rank_lt G j
  simp only [place, stepsOf]
  omega

theorem place_lt (j : Fin 1024) : place G j < 1408 := by
  have := place_mem G j
  have := steps_fit G (G j)
  omega

/-- No two rows share a place. -/
theorem place_inj {j k : Fin 1024} (h : place G j = place G k) : j = k := by
  rcases lt_trichotomy (G j) (G k) with hg | hg | hg
  · have := start_gap G hg; have := rank_lt G j
    simp only [place] at h; omega
  · rcases lt_trichotomy j k with hj | hj | hj
    · have := rank_mono G hg hj
      simp only [place, hg] at h; omega
    · exact hj
    · have := rank_mono G hg.symm hj
      simp only [place, hg] at h; omega
  · have := start_gap G hg; have := rank_lt G k
    simp only [place] at h; omega

end Cert.MoeIdeal.B
end
-- ==== Proof.Moe.Place.lean ====
module
public import proofs.«01_k».proof.Proof.Moe.Defs
public import proofs.«01_k».proof.Proof.Moe.Count
public import proofs.«01_k».proof.Proof.Band.Results
public import Idealize.ShloMosaic.Lib.Pointwise
public import Idealize.ShloMosaic.Lib.IdealHost
/-!
# The places the routing computes
-/

@[expose] public section
set_option maxRecDepth 16384
noncomputable section
namespace Cert.MoeIdeal.B
open Cert.MoeIdeal Cert.MoeIdeal.Gen
open Idealize.ShloMosaic Idealize.ShloMosaic.TcCoe Idealize.SL.Sem
set_option maxHeartbeats 1000000

/-- A small number's word, as a real. -/
theorem word_real (n : ℕ) (h : n < 2147483648) : (((BitVec.ofNat 32 n).toInt : ℝ) : EReal) = ((n : ℝ) : EReal) := by
  rw [BitVec.toInt_ofNat']
  have : (n : ℤ).bmod (2 ^ 32) = n := by
    rw [Int.bmod_def]; norm_num; omega
  rw [this]; norm_num

/-- Counting as a sum of ones. -/
theorem sum_ind {n : ℕ} (p : Fin n → Prop) [DecidablePred p] :
    (∑ x, (if p x then (1 : EReal) else 0)) = (((Finset.univ.filter p).card : ℝ) : EReal) := by
  have : ∀ x, (if p x then (1 : EReal) else 0) = (((if p x then 1 else 0 : ℝ)) : EReal) := fun x => by split <;> simp
  simp only [this]
  rw [← Band.coe_sum, Finset.sum_boole]

/-- A small number's word, ordered. -/
theorem slt_word (a b : ℕ) (ha : a < 2 ^ 31) (hb : b < 2 ^ 31) :
    IntOp.cmpi .slt (BitVec.ofNat 32 a) (BitVec.ofNat 32 b) = BitVec.ofBool (decide (a < b)) := by
  show BitVec.ofBool (BitVec.slt (BitVec.ofNat 32 a) (BitVec.ofNat 32 b)) = _
  congr 1
  rw [Bool.eq_iff_iff]
  simp only [BitVec.slt, decide_eq_true_eq]
  have e : ∀ n : ℕ, n < 2 ^ 31 → (BitVec.ofNat 32 n).toInt = (n : ℤ) := fun n hn => by
    rw [BitVec.toInt_ofNat', Int.bmod_def]; norm_num; omega
  rw [e a ha, e b hb]
  omega

/-- Summing a row with every lane but one masked out picks the lane. -/
theorem pick_word (l : Fin 128) (c : Fin 128 → EReal) :
    (∑ x : Fin 128, Scalar.select (IntOp.cmpi .eq (BitVec.ofNat 32 x.val) (BitVec.ofNat 32 l.val)) (c x) (0 : EReal)) = c l := by
  rw [Finset.sum_eq_single l]
  · simp [Scalar.select, IntOp.cmpi]
  · intro x _ hx
    have hne : (BitVec.ofNat 32 x.val == BitVec.ofNat 32 l.val) = false := by
      rw [beq_eq_false_iff_ne]
      intro h
      have h2 := congrArg BitVec.toNat h
      rw [BitVec.toNat_ofNat, BitVec.toNat_ofNat, Nat.mod_eq_of_lt (by omega), Nat.mod_eq_of_lt (by omega)] at h2
      exact hx (Fin.ext h2)
    simp [Scalar.select, IntOp.cmpi, hne]
  · intro h; exact absurd (Finset.mem_univ _) h

/-- A small number rounds to its own word. -/
theorem word_of (n : ℕ) (h : n < 4096) : (Scalar.fptosi (F := Ideal) (φ := .f32) 32 ((n : ℝ) : EReal)) = BitVec.ofNat 32 n := by
  show Ideal.fptosi 32 ((n : ℝ) : EReal) = _
  rw [Ideal.fptosi, Ideal.toIntClamped_coe, if_pos (Nat.cast_nonneg n), Int.floor_natCast]
  rw [show max (-(2 ^ (32 - 1) : Nat) : ℤ) (min ((2 ^ (32 - 1) : Nat) - 1 : ℤ) (n : ℤ)) = (n : ℤ) by norm_num; omega]
  exact BitVec.ofInt_natCast ..

/-- The number of steps of a group of `n` rows, as a word. -/
theorem steps_word : ∀ n : Fin 1025, steps (BitVec.ofNat 32 n.val) = BitVec.ofNat 32 ((n.val + 319) / 320) := by
  decide +kernel

variable {g : FVec Ideal S1024x1 .f32} {G : Fin 1024 → Fin 4} (hg : ∀ j, g (ix2 j 0) = (((G j).val : ℝ) : EReal))
include hg

theorem lane_is (j : Fin 1024) (n : ℕ) (hn : n < 2147483648) : ((((BitVec.ofNat 32 n).toInt : ℝ) : EReal) = g (ix2 j 0)) ↔ n = (G j).val := by
  rw [word_real n hn, hg, EReal.coe_eq_coe_iff]
  exact Nat.cast_inj

theorem own (j : Fin 1024) (l : Fin 128) : k0_pay19 g (ix2 j l) = if l.val = (G j).val then (1 : EReal) else 0 := by
  unfold k0_pay19
  pointwise
  exact if_congr (lane_is hg j l.val (by omega)) rfl rfl

theorem before (j : Fin 1024) (l : Fin 128) : k0_pay20 g (ix2 j l) = (((Finset.univ.filter (fun x : Fin 1024 => x < j ∧ (G x).val = l.val)).card : ℝ) : EReal) := by
  unfold k0_pay20
  pointwise
  rw [← sum_ind]
  refine Finset.sum_congr rfl fun x _ => ?_
  rw [slt_word _ _ (by omega) (by omega), Band.select_ofBool, own hg]
  by_cases h : x.val < j.val
  · rw [if_pos h]
    exact if_congr ⟨fun e => ⟨h, e.symm⟩, fun e => e.2.symm⟩ rfl rfl
  · rw [if_neg h, if_neg (fun e => h e.1)]

theorem count (l : Fin 128) : k0_pay21 g (ix2 0 l) = (((Finset.univ.filter (fun x : Fin 1024 => (G x).val = l.val)).card : ℝ) : EReal) := by
  unfold k0_pay21
  pointwise
  rw [← sum_ind]
  refine Finset.sum_congr rfl fun x _ => ?_
  rw [own hg]
  exact if_congr eq_comm rfl rfl

theorem count_group (q : Fin 4) (l : Fin 128) (h : l.val = q.val) : k0_pay21 g (ix2 0 l) = ((cnt G q : ℝ) : EReal) := by
  rw [count hg, cnt]
  congr 4
  funext x
  rw [h, Fin.ext_iff]

omit hg in
theorem padded (l : Fin 128) (n : ℕ) (h : k0_pay21 g (ix2 0 l) = ((n : ℝ) : EReal)) : k0_pay22 g (ix2 0 l) = (((16 * ((n + 15) / 16) : ℕ) : ℝ) : EReal) := by
  unfold k0_pay22
  pointwise
  rw [h, show Ideal.ofBits .f32 1031798784#32 = ((1 / 16 : ℝ) : EReal) by simp [Ideal.ofBits, Ideal.ieee]; rw [← EReal.coe_mul]; norm_num,
    show Ideal.ofBits .f32 1098907648#32 = ((16 : ℝ) : EReal) by simp [Ideal.ofBits, Ideal.ieee]; rw [← EReal.coe_mul]; norm_num, ← EReal.coe_mul]
  show ((⌈(n : ℝ) * (1 / 16)⌉ : ℝ) : EReal) * _ = _
  have hc : ⌈(n : ℝ) * (1 / 16)⌉ = (((n + 15) / 16 : ℕ) : ℤ) := by
    rw [Int.ceil_eq_iff]
    have h1 : 16 * ((n + 15) / 16) ≤ n + 15 := Nat.mul_div_le _ _
    have h2 : n ≤ 16 * ((n + 15) / 16) := by omega
    have h1' : (16 : ℝ) * (((n + 15) / 16 : ℕ) : ℝ) ≤ n + 15 := by exact_mod_cast h1
    have h2' : (n : ℝ) ≤ 16 * (((n + 15) / 16 : ℕ) : ℝ) := by exact_mod_cast h2
    rw [Int.cast_natCast]
    constructor <;> linarith
  rw [hc, ← EReal.coe_mul, Int.cast_natCast, Nat.cast_mul, mul_comm]
  norm_num

/-- Where each group starts. -/
theorem offs_read (q : Fin 4) (l : Fin 128) (h : l.val = q.val) : offs g (ix2 0 l) = (((16 * start G q : ℕ) : ℝ) : EReal) := by
  have p : ∀ (q : Fin 4) (l : Fin 128), l.val = q.val → k0_pay22 g (ix2 0 l) = (((16 * pads G q : ℕ) : ℝ) : EReal) :=
    fun q l h => padded l _ (count_group hg q l h)
  obtain rfl : l = ⟨q.val, Nat.lt_trans q.isLt (by norm_num)⟩ := Fin.ext h
  unfold offs k0_pay25 k0_pay23 k0_pay24
  pointwise
  match q with
  | 0 =>
    show (0 : EReal) + 0 + 0 = _
    simp [start]
  | 1 =>
    show k0_pay22 g (ix2 0 (0 : Fin 128)) + 0 + 0 = _
    rw [p 0 (0 : Fin 128) rfl]; simp [start]
  | 2 =>
    show k0_pay22 g (ix2 0 (1 : Fin 128)) + k0_pay22 g (ix2 0 (0 : Fin 128)) + 0 = _
    rw [p 0 (0 : Fin 128) rfl, p 1 (1 : Fin 128) rfl, add_zero, ← EReal.coe_add, ← Nat.cast_add]
    congr 2; simp only [start]; omega
  | 3 =>
    show k0_pay22 g (ix2 0 (2 : Fin 128)) + k0_pay22 g (ix2 0 (1 : Fin 128)) + k0_pay22 g (ix2 0 (0 : Fin 128)) = _
    rw [p 0 (0 : Fin 128) rfl, p 1 (1 : Fin 128) rfl, p 2 (2 : Fin 128) rfl, ← EReal.coe_add, ← Nat.cast_add, ← EReal.coe_add, ← Nat.cast_add]
    congr 2; simp only [start]; omega

/-- Where each row is put. -/
theorem place_read (j : Fin 1024) : k0_pay26 (k0_pay19 g) (k0_pay20 g) (k0_pay22 g) lanes (k0_pay23 g) k0_pay24 (ix2 j 0) = ((place G j : ℝ) : EReal) := by
  unfold k0_pay26
  pointwise
  rw [Finset.sum_eq_single (⟨(G j).val, by omega⟩ : Fin 128)]
  · rw [own hg, if_pos rfl, before hg]
    refine (one_mul _).trans ?_
    have ho : k0_pay25 (k0_pay22 g) lanes (k0_pay23 g) k0_pay24 (ix2 0 (⟨(G j).val, by omega⟩ : Fin 128)) = _ := offs_read hg (G j) ⟨(G j).val, by omega⟩ rfl
    rw [ho, ← EReal.coe_add, ← Nat.cast_add, place, rank]
    congr 4
    congr 1
    funext x
    rw [Fin.ext_iff]
  · intro x _ hx
    rw [own hg, if_neg (fun e => hx (Fin.ext e))]
    exact zero_mul _
  · intro h; exact absurd (Finset.mem_univ _) h

theorem at_place (j : Fin 1024) (s : Fin 1408) : ((((BitVec.ofNat 32 s.val).toInt : ℝ) : EReal) = ((place G j : ℝ) : EReal)) ↔ s.val = place G j := by
  rw [word_real s.val (by omega), EReal.coe_eq_coe_iff]
  exact Nat.cast_inj

theorem pt_read (j : Fin 1024) (s : Fin 1408) : ptV g (ix2 j s) = if s.val = place G j then (1 : EReal) else 0 := by
  unfold ptV k0_pay27
  pointwise
  rw [place_read hg]
  exact if_congr (at_place hg j s) rfl rfl

theorem perm_read (s : Fin 1408) (j : Fin 1024) : permV g (ix2 s j) = if s.val = place G j then (1 : EReal) else 0 := by
  unfold permV k0_pay28
  pointwise
  rw [place_read hg]
  exact if_congr (at_place hg j s) rfl rfl

/-- A sum over the rows, each weighted by whether it is put at row `j`'s place, is row `j`'s term. -/
theorem sum_perm (j : Fin 1024) (f : Fin 1024 → EReal) : ∑ y, permV g (ix2 (⟨place G j, place_lt G j⟩ : Fin 1408) y) * f y = f j := by
  rw [Finset.sum_eq_single j]
  · rw [perm_read hg, if_pos rfl]; exact one_mul _
  · intro y _ hy
    rw [perm_read hg, if_neg (fun e => hy (place_inj G e).symm)]; exact zero_mul _
  · intro h; exact absurd (Finset.mem_univ _) h

theorem xs_read (x : Vec Ideal S1024x1024 .f32) (j : Fin 1024) (d : Fin 1024) : xsV g x (ix2 (⟨place G j, place_lt G j⟩ : Fin 1408) d) = x (ix2 j d) := by
  unfold xsV k0_pay29
  pointwise
  exact sum_perm hg j (fun y => x (ix2 y d))

theorem combs_read (c : FVec Ideal S1024x128 .f32) (j : Fin 1024) (l : Fin 128) (r : ℝ) (hc : c (ix2 j l) = (r : EReal)) :
    combsV g c (ix2 (⟨place G j, place_lt G j⟩ : Fin 1408) l) = c (ix2 j l) := by
  unfold combsV k0_pay34
  pointwise
  have h0 : (c (ix2 j l) : EReal) - c (ix2 j l) = 0 := by
    rw [hc, ← EReal.coe_sub, sub_self, EReal.coe_zero]
  have e := sum_perm hg j (fun y => k0_pay30 c (ix2 y l))
  have e2 := sum_perm hg j (fun y => k0_pay32 c (ix2 y l))
  have e3 := sum_perm hg j (fun y => k0_pay33 c (ix2 y l))
  refine (congrArg₂ (· + ·) (congrArg₂ (· + ·) e e2) e3).trans ?_
  unfold k0_pay33 k0_pay32 k0_pay31 k0_pay30
  pointwise
  show (c (ix2 j l) : EReal) + (c (ix2 j l) - c (ix2 j l)) + (c (ix2 j l) - c (ix2 j l) - (c (ix2 j l) - c (ix2 j l))) = c (ix2 j l)
  rw [h0]; simp

end Cert.MoeIdeal.B
end
-- ==== Proof.Moe.Table.lean ====
module
public import proofs.«01_k».proof.Proof.Moe.Place
public import Idealize.ShloMosaic.Lib.CellWrites
/-!
# The table of the groups' words
-/

@[expose] public section
set_option maxRecDepth 16384
noncomputable section
namespace Cert.MoeIdeal.B
open Cert.MoeIdeal Cert.MoeIdeal.Gen
open Idealize.ShloMosaic Idealize.ShloMosaic.TcCoe Idealize.SL.Sem
set_option maxHeartbeats 1000000

/-- The table: where each group starts, then how many steps it takes. -/
def table (G : Fin 1024 → Fin 4) : Vec Ideal S8 .i32 := fun y =>
  if h : (y 0).val < 4 then BitVec.ofNat 32 (16 * start G ⟨(y 0).val, h⟩)
  else BitVec.ofNat 32 (stepsOf G ⟨(y 0).val - 4, by have := (y 0).isLt; change (y 0).val < 8 at this; omega⟩)

variable {g : FVec Ideal S1024x1 .f32} {G : Fin 1024 → Fin 4} (hg : ∀ j, g (ix2 j 0) = (((G j).val : ℝ) : EReal))
include hg

theorem start_word0 : Scalar.fptosi (F := Ideal) 32 (k0_pay36 lanes (offs g)) = BitVec.ofNat 32 (16 * start G 0) := by
  have h : k0_pay36 (F := Ideal) lanes (offs g) = (((16 * start G 0 : ℕ) : ℝ) : EReal) := by
    rw [← offs_read hg 0 0 rfl]
    unfold k0_pay36
    pointwise
    rw [Fin.sum_univ_one]
    exact pick_word 0 (fun l => offs g (ix2 0 l))
  rw [h]
  exact word_of _ (by have := start_lt G 0; omega)

theorem steps_word0 : steps (Scalar.fptosi (F := Ideal) 32 (k0_pay37 (k0_pay21 g) lanes)) = BitVec.ofNat 32 (stepsOf G 0) := by
  have h : k0_pay37 (F := Ideal) (k0_pay21 g) lanes = ((cnt G 0 : ℝ) : EReal) := by
    rw [← count_group hg 0 0 rfl]
    unfold k0_pay37
    pointwise
    rw [Fin.sum_univ_one]
    exact pick_word 0 (fun l => k0_pay21 g (ix2 0 l))
  rw [h, word_of _ (by have := cnt_le G 0; omega)]
  exact steps_word ⟨cnt G 0, by have := cnt_le G 0; omega⟩

theorem start_word1 : Scalar.fptosi (F := Ideal) 32 (k0_pay38 lanes (offs g)) = BitVec.ofNat 32 (16 * start G 1) := by
  have h : k0_pay38 (F := Ideal) lanes (offs g) = (((16 * start G 1 : ℕ) : ℝ) : EReal) := by
    rw [← offs_read hg 1 1 rfl]
    unfold k0_pay38
    pointwise
    rw [Fin.sum_univ_one]
    exact pick_word 1 (fun l => offs g (ix2 0 l))
  rw [h]
  exact word_of _ (by have := start_lt G 1; omega)

theorem steps_word1 : steps (Scalar.fptosi (F := Ideal) 32 (k0_pay39 (k0_pay21 g) lanes)) = BitVec.ofNat 32 (stepsOf G 1) := by
  have h : k0_pay39 (F := Ideal) (k0_pay21 g) lanes = ((cnt G 1 : ℝ) : EReal) := by
    rw [← count_group hg 1 1 rfl]
    unfold k0_pay39
    pointwise
    rw [Fin.sum_univ_one]
    exact pick_word 1 (fun l => k0_pay21 g (ix2 0 l))
  rw [h, word_of _ (by have := cnt_le G 1; omega)]
  exact steps_word ⟨cnt G 1, by have := cnt_le G 1; omega⟩

theorem start_word2 : Scalar.fptosi (F := Ideal) 32 (k0_pay40 lanes (offs g)) = BitVec.ofNat 32 (16 * start G 2) := by
  have h : k0_pay40 (F := Ideal) lanes (offs g) = (((16 * start G 2 : ℕ) : ℝ) : EReal) := by
    rw [← offs_read hg 2 2 rfl]
    unfold k0_pay40
    pointwise
    rw [Fin.sum_univ_one]
    exact pick_word 2 (fun l => offs g (ix2 0 l))
  rw [h]
  exact word_of _ (by have := start_lt G 2; omega)

theorem steps_word2 : steps (Scalar.fptosi (F := Ideal) 32 (k0_pay41 (k0_pay21 g) lanes)) = BitVec.ofNat 32 (stepsOf G 2) := by
  have h : k0_pay41 (F := Ideal) (k0_pay21 g) lanes = ((cnt G 2 : ℝ) : EReal) := by
    rw [← count_group hg 2 2 rfl]
    unfold k0_pay41
    pointwise
    rw [Fin.sum_univ_one]
    exact pick_word 2 (fun l => k0_pay21 g (ix2 0 l))
  rw [h, word_of _ (by have := cnt_le G 2; omega)]
  exact steps_word ⟨cnt G 2, by have := cnt_le G 2; omega⟩

theorem start_word3 : Scalar.fptosi (F := Ideal) 32 (k0_pay42 lanes (offs g)) = BitVec.ofNat 32 (16 * start G 3) := by
  have h : k0_pay42 (F := Ideal) lanes (offs g) = (((16 * start G 3 : ℕ) : ℝ) : EReal) := by
    rw [← offs_read hg 3 3 rfl]
    unfold k0_pay42
    pointwise
    rw [Fin.sum_univ_one]
    exact pick_word 3 (fun l => offs g (ix2 0 l))
  rw [h]
  exact word_of _ (by have := start_lt G 3; omega)

theorem steps_word3 : steps (Scalar.fptosi (F := Ideal) 32 (k0_pay43 (k0_pay21 g) lanes)) = BitVec.ofNat 32 (stepsOf G 3) := by
  have h : k0_pay43 (F := Ideal) (k0_pay21 g) lanes = ((cnt G 3 : ℝ) : EReal) := by
    rw [← count_group hg 3 3 rfl]
    unfold k0_pay43
    pointwise
    rw [Fin.sum_univ_one]
    exact pick_word 3 (fun l => k0_pay21 g (ix2 0 l))
  rw [h, word_of _ (by have := cnt_le G 3; omega)]
  exact steps_word ⟨cnt G 3, by have := cnt_le G 3; omega⟩

/-- Storing the words leaves the table. -/
theorem table_read (arg16 : Memref sig .tc .smem S8 .i32) (f : BufTy.Contents (Elt Ideal) arg16.view.ty) :
    arg16.view.read (Elt Ideal) (arg16.view.writes (Elt Ideal) f (words g)) = table G := by
  unfold words
  rw [start_word0 hg, start_word1 hg, start_word2 hg, start_word3 hg, steps_word0 hg, steps_word1 hg, steps_word2 hg, steps_word3 hg]
  funext y
  have hy : (y 0).val < 8 := (y 0).isLt
  obtain ⟨k, rfl⟩ : ∃ k : Fin 8, y = ix1 k := ⟨y 0, by funext a; match a with | ⟨0, _⟩ => rfl⟩
  rw [View.read_writes_cons_cell, View.read_writes_cons_cell, View.read_writes_cons_cell, View.read_writes_cons_cell,
    View.read_writes_cons_cell, View.read_writes_cons_cell, View.read_writes_cons_cell, View.read_writes_cons_cell]
  match k with
  | 0 => rfl
  | 1 => rfl
  | 2 => rfl
  | 3 => rfl
  | 4 => rfl
  | 5 => rfl
  | 6 => rfl
  | 7 => rfl

end Cert.MoeIdeal.B
end
-- ==== Proof.Moe.Step.lean ====
module
public import proofs.«01_k».proof.Proof.Moe.RunA3
public import proofs.«01_k».proof.Proof.Moe.RunAeq
public import proofs.«01_k».proof.Proof.Moe.RunB
public import proofs.«01_k».proof.Proof.Moe.Sums
public import proofs.«01_k».proof.Proof.Moe.Table
/-!
# One grid point of the experts' layer, by values

What each of the three kinds of grid points does to the buffers, said of the values they hold.
-/

@[expose] public section
set_option maxRecDepth 16384
noncomputable section
namespace Cert.MoeIdeal.B
open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
local notation "𝕄" => MT nD τ sig Unit (Elt Ideal) ℕ (UR sig nD τ) ℕ
set_option maxHeartbeats 1000000

/-- The group a point's experts belong to. -/
abbrev grpOf (e : ℕ) (he : e < 8) : Fin 4 := ⟨e / 2, by omega⟩

/-- What a point does to the running sums. -/
def stepAcc (e : ℕ) (he : e < 8) (G : Fin 1024 → Fin 4) (XS : Vec Ideal S1408x1024 .bf16) (CS : Vec Ideal S1408x128 .f32)
    (w1 w3 : Vec Ideal S4x1024x256 .bf16) (w2 : Vec Ideal S4x256x1024 .bf16) (A : Vec Ideal S1408x1024 .f32) : Vec Ideal S1408x1024 .f32 := fun y =>
  if 16 * start G (grpOf e he) ≤ (y 0).val ∧ (y 0).val < 16 * start G (grpOf e he) + 320 * stepsOf G (grpOf e he) then
    (A y : EReal) + rowT e he (fun m => XS (ix2 (y 0 : Fin 1408) m)) (fun l => CS (ix2 (y 0 : Fin 1408) l)) w1 w3 w2 (y 1)
  else A y

theorem off1_eq (i : grid0.Coords) (he : (i 1).val < 8) : k0_off1 i = ![(i 1).val / 2] := by
  unfold k0_off1
  generalize (i 1).val = e at *
  interval_cases e <;> decide

theorem off2_eq (i : grid0.Coords) (he : (i 1).val < 8) : k0_off2 i = ![4 + (i 1).val / 2] := by
  unfold k0_off2
  generalize (i 1).val = e at *
  interval_cases e <;> decide

theorem first_iff (i : grid0.Coords) (he : (i 1).val < 8) : first i = 1#1 ↔ (i 1).val = 0 := by
  unfold first
  generalize (i 1).val = e at *
  interval_cases e <;> decide

theorem last_iff (i : grid0.Coords) (he : (i 1).val < 8) : k0_cond2 i = 1#1 ↔ (i 1).val = 7 := by
  unfold k0_cond2
  generalize (i 1).val = e at *
  interval_cases e <;> decide

theorem wd_start (i : grid0.Coords) (he : (i 1).val < 8) (G : Fin 1024 → Fin 4) (arg16 : Memref sig .tc .smem S8 .i32)
    (f : BufTy.Contents (Elt Ideal) arg16.view.ty) (hT : arg16.view.read (Elt Ideal) f = table G) :
    wd f (k0_off1 i) (k0_off1_inb i) = BitVec.ofNat 32 (16 * start G (grpOf (i 1).val he)) := by
  show arg16.view.read (Elt Ideal) f _ = _
  rw [hT, table]
  have h0 : k0_off1 i 0 = (i 1).val / 2 := by rw [off1_eq i he]; rfl
  have hx : ((Rect.unit (s := S8) (k0_off1 i) S1.size (k0_off1_inb i)).toLoadRect.idx (Shape.Idx.first (numel1_S1.symm ▸ Nat.one_pos)) 0).val = (i 1).val / 2 := by
    show k0_off1 i 0 + 1 * 0 = _; omega
  refine (dif_pos (show _ < 4 from by first | exact lt_of_eq_of_lt hx (by omega) | exact not_lt.2 (le_of_le_of_eq (by omega) hx.symm))).trans ?_
  congr 3
  exact Fin.ext hx

theorem wd_steps (i : grid0.Coords) (he : (i 1).val < 8) (G : Fin 1024 → Fin 4) (arg16 : Memref sig .tc .smem S8 .i32)
    (f : BufTy.Contents (Elt Ideal) arg16.view.ty) (hT : arg16.view.read (Elt Ideal) f = table G) :
    wd f (k0_off2 i) (k0_off2_inb i) = BitVec.ofNat 32 (stepsOf G (grpOf (i 1).val he)) := by
  show arg16.view.read (Elt Ideal) f _ = _
  rw [hT, table]
  have h0 : k0_off2 i 0 = 4 + (i 1).val / 2 := by rw [off2_eq i he]; rfl
  have hx : ((Rect.unit (s := S8) (k0_off2 i) S1.size (k0_off2_inb i)).toLoadRect.idx (Shape.Idx.first (numel1_S1.symm ▸ Nat.one_pos)) 0).val = 4 + (i 1).val / 2 := by
    show k0_off2 i 0 + 1 * 0 = _; omega
  refine (dif_neg (show ¬ _ < 4 from by first | exact lt_of_eq_of_lt hx (by omega) | exact not_lt.2 (le_of_le_of_eq (by omega) hx.symm))).trans ?_
  exact congrArg (fun q => BitVec.ofNat 32 (stepsOf G q)) (Fin.ext (show k0_off2 i 0 + 1 * 0 - 4 = (i 1).val / 2 by omega))

theorem chk_group (G : Fin 1024 → Fin 4) (q : Fin 4) : k0_chk1 (BitVec.ofNat 32 (16 * start G q)) (BitVec.ofNat 32 (stepsOf G q)) :=
  chk_words ⟨start G q, start_lt G q⟩ ⟨stepsOf G q, stepsOf_lt G q⟩ (steps_fit G q)

theorem all2_eq {d : Fin 2 → ℕ} {e : EltTy} (m : Memref sig .tc .vmem ⟨2, d⟩ e) (inb : ∀ a, (![0, 0] : Fin 2 → ℕ) a + d a ≤ d a)
    (f : BufTy.Contents (Elt Ideal) m.view.ty) : all2 (F := Ideal) m inb f = m.view.read (Elt Ideal) f :=
  View.readAt_full ..

/-- What a point's loop leaves in the running sums, as a whole. -/
theorem sums_vec (𝒱 : Variants) (c : Dev nD) (bd : Option 𝒱.V) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1408x1024 .bf16) (harg12 : arg12.IsWhole) (arg13 : Memref sig .tc .vmem S1408x128 .f32) (harg13 : arg13.IsWhole) (arg14 : Memref sig .tc .vmem S1024x1408 .bf16) (harg14 : arg14.IsWhole) (arg15 : Memref sig .tc .vmem S1408x1024 .f32) (harg15 : arg15.IsWhole) (arg16 : Memref sig .tc .smem S8 .i32) (harg16 : arg16.IsWhole) (he : (i 1).val < 8) (Gr : Fin 1024 → Fin 4)
    (s w : BitVec 32) (hs : s = BitVec.ofNat 32 (16 * start Gr (grpOf (i 1).val he))) (hw : w = BitVec.ofNat 32 (stepsOf Gr (grpOf (i 1).val he))) (h : k0_chk1 s w)
    (f6 : BufTy.Contents (Elt Ideal) arg6.view.ty) (f7 : BufTy.Contents (Elt Ideal) arg7.view.ty) (f8 : BufTy.Contents (Elt Ideal) arg8.view.ty)
    (X12 : BufTy.Contents (Elt Ideal) arg12.view.ty) (X13 : BufTy.Contents (Elt Ideal) arg13.view.ty) (G : BufTy.Contents (Elt Ideal) arg15.view.ty)
    (L₀ : List (View.Piece (Elt Ideal) S1408x1024 .f32)) :
    arg15.view.read (Elt Ideal) (arg15.view.writes (Elt Ideal) G (sums 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 s w h f6 f7 f8 X12 X13 G L₀))
      = stepAcc (i 1).val he Gr (arg12.view.read (Elt Ideal) X12) (arg13.view.read (Elt Ideal) X13) (arg6.view.read (Elt Ideal) f6)
          (arg7.view.read (Elt Ideal) f7) (arg8.view.read (Elt Ideal) f8) (arg15.view.read (Elt Ideal) (arg15.view.writes (Elt Ideal) G L₀)) := by
  funext y
  obtain ⟨r, d, rfl⟩ : ∃ (r : Fin 1408) (d : Fin 1024), y = ix2 r d := ⟨y 0, y 1, eq_ix2 y⟩
  exact sums_read 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 ⟨start Gr (grpOf (i 1).val he), start_lt Gr _⟩ ⟨stepsOf Gr (grpOf (i 1).val he), stepsOf_lt Gr _⟩
    (steps_fit Gr _) s w hs hw h f6 f7 f8 X12 X13 G L₀ he r d

/-- A group between. -/
theorem body_mid (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1408x1024 .bf16) (harg12 : arg12.IsWhole) (arg13 : Memref sig .tc .vmem S1408x128 .f32) (harg13 : arg13.IsWhole) (arg14 : Memref sig .tc .vmem S1024x1408 .bf16) (harg14 : arg14.IsWhole) (arg15 : Memref sig .tc .vmem S1408x1024 .f32) (harg15 : arg15.IsWhole) (arg16 : Memref sig .tc .smem S8 .i32) (harg16 : arg16.IsWhole) (he : (i 1).val < 8) (h1 : (i 1).val ≠ 0) (h2 : (i 1).val ≠ 7) (G : Fin 1024 → Fin 4)
    (x6 : Vec Ideal S4x1024x256 .bf16) (x7 : Vec Ideal S4x1024x256 .bf16) (x8 : Vec Ideal S4x256x1024 .bf16) (XS : Vec Ideal S1408x1024 .bf16) (CS : Vec Ideal S1408x128 .f32) (ACC : Vec Ideal S1408x1024 .f32)
    (E : Set ℕ) (K : PUnit → sProp 𝕄) :
    iprop(owns (c : Thread nD τ) arg6 fullShare x6 ∗ owns (c : Thread nD τ) arg7 fullShare x7 ∗ owns (c : Thread nD τ) arg8 fullShare x8 ∗ owns (c : Thread nD τ) arg12 fullShare XS ∗ owns (c : Thread nD τ) arg13 fullShare CS ∗ owns (c : Thread nD τ) arg15 fullShare ACC ∗ owns (c : Thread nD τ) arg16 fullShare (table G)
        ∗ (iprop(owns (c : Thread nD τ) arg6 fullShare x6 ∗ owns (c : Thread nD τ) arg7 fullShare x7 ∗ owns (c : Thread nD τ) arg8 fullShare x8 ∗ owns (c : Thread nD τ) arg12 fullShare XS ∗ owns (c : Thread nD τ) arg13 fullShare CS ∗ owns (c : Thread nD τ) arg15 fullShare (stepAcc (i 1).val he G XS CS x6 x7 x8 ACC) ∗ owns (c : Thread nD τ) arg16 fullShare (table G)) -∗ K ⟨⟩))
      ⊢ wp frame (wpE (defs₀ (F := Ideal)) Variants.none (c : Thread nD τ) none) E (cc0_moe (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f6, %h6, H6⟩, ⟨%f7, %h7, H7⟩, ⟨%f8, %h8, H8⟩, ⟨%f12, %h12, H12⟩, ⟨%f13, %h13, H13⟩, ⟨%f15, %h15, H15⟩, ⟨%f16, %h16, H16⟩, Hk⟩
  have hs := wd_start i he G arg16 f16 h16
  have hw := wd_steps i he G arg16 f16 h16
  have hc : k0_chk1 (wd f16 (k0_off1 i) (k0_off1_inb i)) (wd f16 (k0_off2 i) (k0_off2_inb i)) := by rw [hs, hw]; exact chk_group G _
  have hrun := (run_mid (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 f6 f7 f8 f12 f13 f15 f16 (fun h => h1 ((first_iff i he).1 h)) (fun h => h2 ((last_iff i he).1 h)) hc).2 E
  rw [run_mid_eq] at hrun
  have hv := sums_vec Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 he G _ _ hs hw hc f6 f7 f8 f12 f13 f15 []
  iapply (wp_wand_r _ _ _)
  isplitl [H6 H7 H8 H12 H13 H15 H16]
  · iapply hrun
    isplitl [H6]; · iexact H6
    isplitl [H7]; · iexact H7
    isplitl [H8]; · iexact H8
    isplitl [H12]; · iexact H12
    isplitl [H13]; · iexact H13
    isplitl [H15]; · iexact H15
    iexact H16
  iintro %a ⟨H6, H7, H8, H12, H13, H15, H16⟩
  iapply Hk
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H12]
  · iexists _; isplitr; swap; · iexact H12
    ipureintro; exact h12
  isplitl [H13]
  · iexists _; isplitr; swap; · iexact H13
    ipureintro; exact h13
  isplitl [H15]
  · iexists _; isplitr; swap; · iexact H15
    ipureintro; exact (by rw [hv, h6, h7, h8, h12, h13]; exact congrArg _ h15)
  iexists _; isplitr; swap; · iexact H16
  ipureintro; exact h16

/-- The last group: the output block is written too. -/
theorem body_last (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1408x1024 .bf16) (harg12 : arg12.IsWhole) (arg13 : Memref sig .tc .vmem S1408x128 .f32) (harg13 : arg13.IsWhole) (arg14 : Memref sig .tc .vmem S1024x1408 .bf16) (harg14 : arg14.IsWhole) (arg15 : Memref sig .tc .vmem S1408x1024 .f32) (harg15 : arg15.IsWhole) (arg16 : Memref sig .tc .smem S8 .i32) (harg16 : arg16.IsWhole) (he : (i 1).val < 8) (h7' : (i 1).val = 7) (G : Fin 1024 → Fin 4)
    (x2 : Vec Ideal S1024x1024 .f32) (x6 : Vec Ideal S4x1024x256 .bf16) (x7 : Vec Ideal S4x1024x256 .bf16) (x8 : Vec Ideal S4x256x1024 .bf16) (x9 : Vec Ideal S1x1024 .f32) (x10 : Vec Ideal S1x1024 .f32) (XS : Vec Ideal S1408x1024 .bf16) (CS : Vec Ideal S1408x128 .f32) (PT : Vec Ideal S1024x1408 .bf16) (ACC : Vec Ideal S1408x1024 .f32)
    (E : Set ℕ) (K : PUnit → sProp 𝕄) :
    iprop(owns (c : Thread nD τ) arg2 fullShare x2 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare XS ∗ owns (c : Thread nD τ) arg13 fullShare CS ∗ owns (c : Thread nD τ) arg14 fullShare PT ∗ owns (c : Thread nD τ) arg15 fullShare ACC ∗ owns (c : Thread nD τ) arg16 fullShare (table G)
        ∗ (iprop(owns (c : Thread nD τ) arg2 fullShare x2 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (k0_pay60 PT (stepAcc (i 1).val he G XS CS x6 x7 x8 ACC) x2 x9 x10) ∗ owns (c : Thread nD τ) arg12 fullShare XS ∗ owns (c : Thread nD τ) arg13 fullShare CS ∗ owns (c : Thread nD τ) arg14 fullShare PT ∗ owns (c : Thread nD τ) arg15 fullShare (stepAcc (i 1).val he G XS CS x6 x7 x8 ACC) ∗ owns (c : Thread nD τ) arg16 fullShare (table G)) -∗ K ⟨⟩))
      ⊢ wp frame (wpE (defs₀ (F := Ideal)) Variants.none (c : Thread nD τ) none) E (cc0_moe (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f2, %h2, H2⟩, ⟨%f6, %h6, H6⟩, ⟨%f7, %h7, H7⟩, ⟨%f8, %h8, H8⟩, ⟨%f9, %h9, H9⟩, ⟨%f10, %h10, H10⟩, ⟨%d11, %f11, -, H11⟩, ⟨%f12, %h12, H12⟩, ⟨%f13, %h13, H13⟩, ⟨%f14, %h14, H14⟩, ⟨%f15, %h15, H15⟩, ⟨%f16, %h16, H16⟩, Hk⟩
  have hs := wd_start i he G arg16 f16 h16
  have hw := wd_steps i he G arg16 f16 h16
  have hc : k0_chk1 (wd f16 (k0_off1 i) (k0_off1_inb i)) (wd f16 (k0_off2 i) (k0_off2_inb i)) := by rw [hs, hw]; exact chk_group G _
  have hrun := (run_last (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f6 f7 f8 f9 f10 f11 f12 f13 f14 f15 f16 (fun h => absurd ((first_iff i he).1 h) (by omega)) ((last_iff i he).2 h7') hc).2 E
  rw [run_last_eq] at hrun
  dsimp only at hrun
  have hv := sums_vec Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 he G _ _ hs hw hc f6 f7 f8 f12 f13 f15 []
  rw [h6, h7, h8, h12, h13, show arg15.view.read (Elt Ideal) (arg15.view.writes (Elt Ideal) f15 []) = ACC from h15] at hv
  iapply (wp_wand_r _ _ _)
  isplitl [H2 H6 H7 H8 H9 H10 H11 H12 H13 H14 H15 H16]
  · iapply hrun
    isplitl [H2]; · iexact H2
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro %a ⟨H2, H6, H7, H8, H9, H10, H11, H12, H13, H14, H15, H16⟩
  iapply Hk
  isplitl [H2]
  · iexists _; isplitr; swap; · iexact H2
    ipureintro; exact h2
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact ((View.read_writes_full arg11.view f11 _ _ []).trans (by rw [all2_eq, all2_eq, all2_eq, all2_eq, all2_eq, hv, h14, h2, h9, h10]))
  isplitl [H12]
  · iexists _; isplitr; swap; · iexact H12
    ipureintro; exact h12
  isplitl [H13]
  · iexists _; isplitr; swap; · iexact H13
    ipureintro; exact h13
  isplitl [H14]
  · iexists _; isplitr; swap; · iexact H14
    ipureintro; exact h14
  isplitl [H15]
  · iexists _; isplitr; swap; · iexact H15
    ipureintro; exact hv
  iexists _; isplitr; swap; · iexact H16
  ipureintro; exact h16

/-- The first group: the routing is computed and stored. -/
theorem body_first (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S4x1024x256 .bf16) (harg6 : arg6.IsWhole) (arg7 : Memref sig .tc .vmem S4x1024x256 .bf16) (harg7 : arg7.IsWhole) (arg8 : Memref sig .tc .vmem S4x256x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1408x1024 .bf16) (harg12 : arg12.IsWhole) (arg13 : Memref sig .tc .vmem S1408x128 .f32) (harg13 : arg13.IsWhole) (arg14 : Memref sig .tc .vmem S1024x1408 .bf16) (harg14 : arg14.IsWhole) (arg15 : Memref sig .tc .vmem S1408x1024 .f32) (harg15 : arg15.IsWhole) (arg16 : Memref sig .tc .smem S8 .i32) (harg16 : arg16.IsWhole) (he : (i 1).val < 8) (h0 : (i 1).val = 0) (G : Fin 1024 → Fin 4)
    (x2 : Vec Ideal S1024x1024 .f32) (x3 : Vec Ideal S1024x128 .bf16) (x4 : Vec Ideal S1024x128 .bf16) (x5 : Vec Ideal S1x128 .f32) (x6 : Vec Ideal S4x1024x256 .bf16) (x7 : Vec Ideal S4x1024x256 .bf16) (x8 : Vec Ideal S4x256x1024 .bf16) (hg : ∀ j, grp x2 x3 x4 x5 (ix2 j 0) = (((G j).val : ℝ) : EReal))
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg12 fullShare (xsV (grp x2 x3 x4 x5) x2) ∗ owns (c : Thread nD τ) arg13 fullShare (combsV (grp x2 x3 x4 x5) (comb x2 x3 x4 x5)) ∗ owns (c : Thread nD τ) arg14 fullShare (ptV (grp x2 x3 x4 x5)) ∗ owns (c : Thread nD τ) arg15 fullShare (stepAcc (i 1).val he G (xsV (grp x2 x3 x4 x5) x2) (combsV (grp x2 x3 x4 x5) (comb x2 x3 x4 x5)) x6 x7 x8 (k0_pay35 (F := Ideal))) ∗ owns (c : Thread nD τ) arg16 fullShare (table G)) -∗ K ⟨⟩))
      ⊢ wp frame (wpE (defs₀ (F := Ideal)) Variants.none (c : Thread nD τ) none) E (cc0_moe (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d12, %f12, -, H12⟩, ⟨%d13, %f13, -, H13⟩, ⟨%d14, %f14, -, H14⟩, ⟨%d15, %f15, -, H15⟩, ⟨%d16, %f16, -, H16⟩, Hk⟩
  subst h2 h3 h4 h5 h6 h7 h8
  have hA : first i = 1#1 := (first_iff i he).2 h0
  have hB : ¬ k0_cond2 i = 1#1 := fun h => absurd ((last_iff i he).1 h) (by omega)
  have hT : arg16.view.read (Elt Ideal) (arg16.view.writes (Elt Ideal) arg16.view.junk (words (grp (all2 arg2 inb_S1024x1024_S1024x1024_0_0 f2) (all2 arg3 inb_S1024x128_S1024x128_0_0 f3) (all2 arg4 inb_S1024x128_S1024x128_0_0 f4) (all2 arg5 inb_S1x128_S1x128_0_0 f5)))) = table G := table_read (by intro j; rw [all2_eq, all2_eq, all2_eq, all2_eq]; exact hg j) arg16 _
  have hs := wd_start i he G arg16 _ hT
  have hw := wd_steps i he G arg16 _ hT
  have hc : k0_chk1 (wd (arg16.view.writes (Elt Ideal) arg16.view.junk (words (grp (all2 arg2 inb_S1024x1024_S1024x1024_0_0 f2) (all2 arg3 inb_S1024x128_S1024x128_0_0 f3) (all2 arg4 inb_S1024x128_S1024x128_0_0 f4) (all2 arg5 inb_S1x128_S1x128_0_0 f5)))) (k0_off1 i) (k0_off1_inb i)) (wd (arg16.view.writes (Elt Ideal) arg16.view.junk (words (grp (all2 arg2 inb_S1024x1024_S1024x1024_0_0 f2) (all2 arg3 inb_S1024x128_S1024x128_0_0 f3) (all2 arg4 inb_S1024x128_S1024x128_0_0 f4) (all2 arg5 inb_S1x128_S1x128_0_0 f5)))) (k0_off2 i) (k0_off2_inb i)) := by rw [hs, hw]; exact chk_group G _
  have hrun := (run_first (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f12 f13 f14 f15 f16 hA hB ⟨(off1_eq i he).trans (by rw [h0])⟩ ⟨(off2_eq i he).trans (by rw [h0])⟩ hc).2 E
  have e0 := run_first_eq0 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f12 f13 f14 f15 f16 hA hB ⟨(off1_eq i he).trans (by rw [h0])⟩ ⟨(off2_eq i he).trans (by rw [h0])⟩ hc
  have e1 := run_first_eq1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f12 f13 f14 f15 f16 hA hB ⟨(off1_eq i he).trans (by rw [h0])⟩ ⟨(off2_eq i he).trans (by rw [h0])⟩ hc
  have e2 := run_first_eq2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f12 f13 f14 f15 f16 hA hB ⟨(off1_eq i he).trans (by rw [h0])⟩ ⟨(off2_eq i he).trans (by rw [h0])⟩ hc
  have e3 := run_first_eq3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f12 f13 f14 f15 f16 hA hB ⟨(off1_eq i he).trans (by rw [h0])⟩ ⟨(off2_eq i he).trans (by rw [h0])⟩ hc _ _ hs hw (chk_group G _) (trips_words ⟨stepsOf G (grpOf (i 1).val he), stepsOf_lt G _⟩).2
  have e4 := run_first_eq4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f12 f13 f14 f15 f16 hA hB ⟨(off1_eq i he).trans (by rw [h0])⟩ ⟨(off2_eq i he).trans (by rw [h0])⟩ hc
  rw [e0, e1, e2, e3, e4] at hrun
  have hv := sums_vec Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 he G _ _ rfl rfl (chk_group G (grpOf (i 1).val he)) f6 f7 f8
    (arg12.view.writes (Elt Ideal) arg12.view.junk [⟨Rect.unit (s := S1408x1024) ![0, 0] S1408x1024.size inb_S1408x1024_S1408x1024_0_0, xsV (grp (all2 arg2 inb_S1024x1024_S1024x1024_0_0 f2) (all2 arg3 inb_S1024x128_S1024x128_0_0 f3) (all2 arg4 inb_S1024x128_S1024x128_0_0 f4) (all2 arg5 inb_S1x128_S1x128_0_0 f5)) (all2 arg2 inb_S1024x1024_S1024x1024_0_0 f2)⟩])
    (arg13.view.writes (Elt Ideal) arg13.view.junk [⟨Rect.unit (s := S1408x128) ![0, 0] S1408x128.size inb_S1408x128_S1408x128_0_0, combsV (grp (all2 arg2 inb_S1024x1024_S1024x1024_0_0 f2) (all2 arg3 inb_S1024x128_S1024x128_0_0 f3) (all2 arg4 inb_S1024x128_S1024x128_0_0 f4) (all2 arg5 inb_S1x128_S1x128_0_0 f5)) (comb (all2 arg2 inb_S1024x1024_S1024x1024_0_0 f2) (all2 arg3 inb_S1024x128_S1024x128_0_0 f3) (all2 arg4 inb_S1024x128_S1024x128_0_0 f4) (all2 arg5 inb_S1x128_S1x128_0_0 f5))⟩])
    arg15.view.junk [⟨Rect.unit (s := S1408x1024) ![0, 0] S1408x1024.size inb_S1408x1024_S1408x1024_0_0, k0_pay35 (F := Ideal)⟩]
  rw [View.read_writes_full, View.read_writes_full, View.read_writes_full] at hv
  iapply (wp_wand_r _ _ _)
  isplitl [H2 H3 H4 H5 H6 H7 H8 H12 H13 H14 H15 H16]
  · iapply hrun
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H12]; · iexact H12
    isplitl [H13]; · iexact H13
    isplitl [H14]; · iexact H14
    isplitl [H15]; · iexact H15
    iexact H16
  iintro %a ⟨H2, H3, H4, H5, H6, H7, H8, H12, H13, H14, H15, H16⟩
  iapply Hk
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H12]
  · iexists _; isplitr; swap; · iexact H12
    ipureintro; exact ((View.read_writes_full arg12.view _ _ _ []).trans (by simp only [all2_eq]))
  isplitl [H13]
  · iexists _; isplitr; swap; · iexact H13
    ipureintro; exact ((View.read_writes_full arg13.view _ _ _ []).trans (by simp only [all2_eq]))
  isplitl [H14]
  · iexists _; isplitr; swap; · iexact H14
    ipureintro; exact ((View.read_writes_full arg14.view _ _ _ []).trans (by simp only [all2_eq]))
  isplitl [H15]
  · iexists _; isplitr; swap; · iexact H15
    ipureintro; exact (hv.trans (by simp only [all2_eq]))
  iexists _; isplitr; swap; · iexact H16
  ipureintro; exact hT

end Cert.MoeIdeal.B
end
-- ==== Proof.Moe.Route.lean ====
module
public import proofs.«01_k».proof.Proof.Moe.Defs
public import proofs.«01_k».proof.Proof.Band.Results
public import Idealize.ShloMosaic.Lib.Pointwise
public import Idealize.ShloMosaic.Lib.IdealHost
/-!
# The group a row is sent to
-/

@[expose] public section
set_option maxRecDepth 16384
noncomputable section
namespace Cert.MoeIdeal.B
open Cert.MoeIdeal Cert.MoeIdeal.Gen
open Idealize.ShloMosaic Idealize.ShloMosaic.TcCoe Idealize.SL.Sem
set_option maxHeartbeats 1000000

theorem word_small (l : Fin 128) : FloatOps.sitofp (F := Ideal) .f32 (BitVec.ofNat 32 l.val) = ((l.val : ℝ) : EReal) := by
  show (((BitVec.ofNat 32 l.val).toInt : ℝ) : EReal) = _
  rw [BitVec.toInt_ofNat']
  have : (l.val : ℤ).bmod (2 ^ 32) = l.val := by
    rw [Int.bmod_def]; norm_num; omega
  rw [this]; norm_num

theorem four_f32 : Ideal.ofBits .f32 1082130432#32 = ((4 : ℝ) : EReal) := by
  simp [Ideal.ofBits, Ideal.ieee]; rw [← EReal.coe_mul]; norm_num

theorem lanes_f32 : Ideal.ofBits .f32 1124073472#32 = ((128 : ℝ) : EReal) := by
  simp [Ideal.ofBits, Ideal.ieee]; rw [← EReal.coe_mul]; norm_num

theorem top_f32 : Ideal.ofBits .f32 2139095040#32 = ⊤ := by
  simp [Ideal.ofBits, Ideal.ieee]

/-- Of a row whose lanes past the fourth are minus infinity, the first lane attaining the maximum is one of the four. -/
theorem first_lane (f : Fin 128 → EReal) (hf : ∀ l, 4 ≤ l.val → f l = ⊥) :
    ∃ q : Fin 4, Finset.fold min (⊤ : EReal) (fun l : Fin 128 => if f l = Finset.fold max ⊥ f Finset.univ then ((l.val : ℝ) : EReal) else ((128 : ℝ) : EReal)) Finset.univ
      = ((q.val : ℝ) : EReal) := by
  set M := Finset.fold max ⊥ f Finset.univ with hM
  have hle : ∀ l, f l ≤ M := fun l => by
    rw [hM, Finset.le_fold_max]; exact Or.inr ⟨l, Finset.mem_univ _, le_refl _⟩
  have hex : ∃ l : Fin 128, l.val < 4 ∧ f l = M := by
    by_cases hb : M = ⊥
    · exact ⟨0, by norm_num, by rw [hb]; exact le_bot_iff.1 (hb ▸ hle 0)⟩
    · have : M ≤ Finset.fold max ⊥ f Finset.univ := le_of_eq hM
      rw [Finset.le_fold_max] at this
      rcases this with h | ⟨l, -, h⟩
      · exact absurd (le_bot_iff.1 h) hb
      · have he : f l = M := le_antisymm (hle l) h
        refine ⟨l, ?_, he⟩
        by_contra hl
        exact hb (he ▸ hf l (by omega))
  classical
  have hfind : ∃ n, ∃ h : n < 128, f ⟨n, h⟩ = M := by obtain ⟨l, -, e⟩ := hex; exact ⟨l.val, l.isLt, e⟩
  have hq := Nat.find_spec hfind
  have hmin : ∀ l : Fin 128, f l = M → Nat.find hfind ≤ l.val := fun l e => Nat.find_min' hfind ⟨l.isLt, e⟩
  have hlt : Nat.find hfind < 4 := by
    obtain ⟨l, h4, e⟩ := hex; exact lt_of_le_of_lt (hmin l e) h4
  refine ⟨⟨Nat.find hfind, hlt⟩, le_antisymm ?_ ?_⟩
  · rw [Finset.fold_min_le]
    refine Or.inr ⟨⟨Nat.find hfind, by omega⟩, Finset.mem_univ _, ?_⟩
    rw [if_pos hq.2]
  · rw [Finset.le_fold_min]
    refine ⟨le_top, fun l _ => ?_⟩
    by_cases e : f l = M
    · rw [if_pos e]; exact EReal.coe_le_coe_iff.2 (Nat.cast_le.2 (hmin l e))
    · rw [if_neg e]; exact EReal.coe_le_coe_iff.2 (by have : ((Nat.find hfind : ℕ) : ℝ) ≤ ((4 : ℕ) : ℝ) := Nat.cast_le.2 hlt.le
                                                      push_cast at this; show ((Nat.find hfind : ℕ) : ℝ) ≤ 128; linarith)

/-- Every row has a group. -/
theorem group_exists (x : Vec Ideal S1024x1024 .f32) (wh wl : Vec Ideal S1024x128 .bf16) (b : Vec Ideal S1x128 .f32) (j : Fin 1024) :
    ∃ q : Fin 4, grp x wh wl b (ix2 j 0) = ((q.val : ℝ) : EReal) := by
  have h := first_lane (fun l => if (((l.val : ℝ) : EReal) < ((4 : ℝ) : EReal)) then k0_pay1 (F := Ideal) x wh wh wl b (ix2 j l) else ⊥)
    (fun l hl => if_neg (not_lt.2 (EReal.coe_le_coe_iff.2 (by exact_mod_cast hl))))
  obtain ⟨q, hq⟩ := h
  refine ⟨q, Eq.trans ?_ hq⟩
  unfold grp k0_pay6 k0_pay4 k0_pay3 k0_pay2
  pointwise
  simp only [word_small, four_f32, lanes_f32, top_f32, Band.ninf]

/-- The groups of a block's rows. -/
def groups (x : Vec Ideal S1024x1024 .f32) (wh wl : Vec Ideal S1024x128 .bf16) (b : Vec Ideal S1x128 .f32) (j : Fin 1024) : Fin 4 :=
  Classical.choose (group_exists x wh wl b j)

theorem groups_spec (x : Vec Ideal S1024x1024 .f32) (wh wl : Vec Ideal S1024x128 .bf16) (b : Vec Ideal S1x128 .f32) (j : Fin 1024) :
    grp x wh wl b (ix2 j 0) = (((groups x wh wl b j).val : ℝ) : EReal) :=
  Classical.choose_spec (group_exists x wh wl b j)

end Cert.MoeIdeal.B
end
-- ==== Proof.Moe.Frame.lean ====
module
public import proofs.«01_k».proof.Proof.Moe.Step
public import proofs.«01_k».proof.Proof.Moe.Route
public import proofs.«01_k».proof.Proof.Gen.MoeIdeal.Frame
public import proofs.«01_k».proof.Defs
/-!
# The run of the experts' layer

What the scratch buffers hold between grid points, and from it the run: it ends, its arguments are kept, and its
output blocks hold the normalized rows of the sums gathered from the places.
-/

@[expose] public section
set_option maxRecDepth 16384
noncomputable section
namespace Cert.MoeIdeal.B
open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
local notation "𝕄" => MT nD τ sig Unit (Elt Ideal) ℕ (UR sig nD τ) ℕ
set_option maxHeartbeats 1000000

variable (m : (ℓ : Loc nD τ sig) → Buf (Elt Ideal) ℓ) (ρ : Dev nD → PrngReg)

/-- No variant is needed. -/
abbrev 𝒱₀ : Variants := Variants.none

abbrev scM0_0 : Memref sig .tc .vmem S1408x1024 .bf16 := Memref.whole cc0_scratch0
abbrev scM0_1 : Memref sig .tc .vmem S1408x128 .f32 := Memref.whole cc0_scratch1
abbrev scM0_2 : Memref sig .tc .vmem S1024x1408 .bf16 := Memref.whole cc0_scratch2
abbrev scM0_3 : Memref sig .tc .vmem S1408x1024 .f32 := Memref.whole cc0_scratch3
abbrev scM0_4 : Memref sig .tc .smem S8 .i32 := Memref.whole cc0_scratch4

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)
          ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- A grid point by its number. -/
def pnt (n : ℕ) : Fin cfg0.N := ⟨n % 512, lt_of_lt_of_eq (Nat.mod_lt _ (by norm_num)) N_0.symm⟩

/-- The blocks at the first point of row block `q`. -/
abbrev bX (c : Dev nD) (q : ℕ) : Vec Ideal S1024x1024 .f32 := iblk m c 0 (pnt (8 * q))
abbrev bH (c : Dev nD) (q : ℕ) : Vec Ideal S1024x128 .bf16 := iblk m c 1 (pnt (8 * q))
abbrev bL (c : Dev nD) (q : ℕ) : Vec Ideal S1024x128 .bf16 := iblk m c 2 (pnt (8 * q))
abbrev bB (c : Dev nD) (q : ℕ) : Vec Ideal S1x128 .f32 := iblk m c 3 (pnt (8 * q))

/-- The group numbers, the combining weights and the groups of row block `q`. -/
abbrev bg (c : Dev nD) (q : ℕ) := grp (bX m c q) (bH m c q) (bL m c q) (bB m c q)
abbrev bc (c : Dev nD) (q : ℕ) := comb (bX m c q) (bH m c q) (bL m c q) (bB m c q)
abbrev bG (c : Dev nD) (q : ℕ) := groups (bX m c q) (bH m c q) (bL m c q) (bB m c q)

/-- The running sums of row block `q` before its point `e`. -/
def acc (c : Dev nD) (q : ℕ) : ℕ → Vec Ideal S1408x1024 .f32
  | 0 => k0_pay35 (F := Ideal)
  | e + 1 => if he : e < 8 then stepAcc e he (bG m c q) (xsV (bg m c q) (bX m c q)) (combsV (bg m c q) (bc m c q)) (iblk m c 4 (pnt (8 * q + e)))
      (iblk m c 5 (pnt (8 * q + e))) (iblk m c 6 (pnt (8 * q + e))) (acc c q e) else acc c q e

theorem acc_succ (c : Dev nD) (q e : ℕ) (he : e < 8) : acc m c q (e + 1) = stepAcc e he (bG m c q) (xsV (bg m c q) (bX m c q)) (combsV (bg m c q) (bc m c q))
    (iblk m c 4 (pnt (8 * q + e))) (iblk m c 5 (pnt (8 * q + e))) (iblk m c 6 (pnt (8 * q + e))) (acc m c q e) := by
  rw [acc, dif_pos he]

/-- What the scratch buffers hold before point `e` of row block `q`, `e` not the first. -/
def track (c : Dev nD) (q e : ℕ) : sProp 𝕄 :=
  iprop(iprop(owns (c : Thread nD τ) scM0_0 fullShare (xsV (bg m c q) (bX m c q)) ∗ owns (c : Thread nD τ) scM0_1 fullShare (combsV (bg m c q) (bc m c q))
    ∗ owns (c : Thread nD τ) scM0_2 fullShare (ptV (bg m c q)) ∗ owns (c : Thread nD τ) scM0_3 fullShare (acc m c q e)
    ∗ owns (c : Thread nD τ) scM0_4 fullShare (table (bG m c q))) ∗ (∃ r, prngReg c r))

/-- What is left in the output block by the last point of a row block. -/
abbrev outAt (c : Dev nD) (t : Fin cfg0.N) : Vec Ideal S1024x1024 .f32 :=
  k0_pay60 (ptV (bg m c (t.val / 8))) (acc m c (t.val / 8) 8) (iblk m c 0 t) (iblk m c 7 t) (iblk m c 8 t)

/-- The proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
    | ⟨_ + 10, h⟩ => absurd h (Nat.not_lt.2 (Nat.le_add_left _ _))
  Φ t := if t.val % 8 = 0 then Pipeline.ΦA spec0 c else track m c (t.val / 8) (t.val % 8)
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t := before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t := before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t := before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t := before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t := before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t := before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t := before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t := before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t := before0_8_of m (dats m 0 c) (A_eq m c 8) (after0_8 m c) t d
theorem after0_9 (c : Dev nD) (t : Fin cfg0.N) : (dats m 0 c).after 9 t = outAt m c t := by dsimp only [dats]

theorem coord_e : ∀ t : Fin cfg0.N, (grid0.coords t 1).val = t.val % 8 :=
  (by decide +kernel : ∀ t : Fin grid0.N, (grid0.coords t 1).val = t.val % 8)

theorem pnt_self (t : Fin cfg0.N) : pnt (8 * (t.val / 8) + t.val % 8) = t := by
  refine Fin.ext ?_
  have : t.val < 512 := lt_of_lt_of_eq t.isLt N_0
  show (8 * (t.val / 8) + t.val % 8) % 512 = t.val
  omega

theorem pnt_first (t : Fin cfg0.N) (h : t.val % 8 = 0) : pnt (8 * (t.val / 8)) = t := by
  have := pnt_self t; rwa [h] at this

theorem idle9 (t : Fin cfg0.N) (h : t.val % 8 ≠ 7) : cfg0.idle 9 (cfg0.grid.coords t) = true := by
  have he := coord_e t
  have hn := mt (last_iff (grid0.coords t) (by omega)).1 (by omega)
  show (!(k0_cond2 (grid0.coords t) == 1#1)) = true
  simp [hn]

theorem live9 (t : Fin cfg0.N) (h : t.val % 8 = 7) : cfg0.idle 9 (cfg0.grid.coords t) = false := by
  have he := coord_e t
  have hn := (last_iff (grid0.coords t) (by omega)).2 (by omega)
  show (!(k0_cond2 (grid0.coords t) == 1#1)) = false
  simp [hn]

theorem noflush9 (t : Fin cfg0.N) (h : t.val % 8 ≠ 7) : (cfg0.win 9).flush t = false := by
  rw [Bool.eq_false_iff]; exact mt (flush0_9 t).1 h

/-- Before a point the invariant is this. -/
theorem phi_zero (c : Dev nD) (t : Fin (cfg0.N + 1)) (h : t.val % 8 = 0) : (dats m 0 c).Φ t = Pipeline.ΦA spec0 c := by
  dsimp only [dats]; rw [if_pos h]

theorem phi_pos (c : Dev nD) (t : Fin (cfg0.N + 1)) (h : t.val % 8 ≠ 0) : (dats m 0 c).Φ t = track m c (t.val / 8) (t.val % 8) := by
  dsimp only [dats]; rw [if_neg h]

/-- What a point has to be shown to do. -/
abbrev obl (c : Dev nD) (t : Fin cfg0.N) : Prop :=
    iprop((dats m 0 c).Φ t.castSucc ∗ (dats m 0 c).owesAt () t.castSucc
        ∗ bigSep Finset.univ fun w : Fin cfg0.W => iprop(∃ d, owns c ((cfg0.win w).stage (cfg0.slots t w)) fullShare ((dats m 0 c).before w t d)))
      ⊢ wp frame (wpE (defs₀ (F := Ideal)) 𝒱₀ c none) Set.univ (defs₀ (F := Ideal) .tc cfg0.body (cfg0.bodyArgs t (cfg0.slots t))) fun _ =>
          iprop((dats m 0 c).Φ t.succ ∗ (dats m 0 c).owesAt () t.succ ∗ bigSep Finset.univ fun w : Fin cfg0.W => (dats m 0 c).leavesExact w t)

theorem leaves0_0 (c : Dev nD) (t : Fin cfg0.N) : (dats m 0 c).leavesExact 0 t = owns (c : Thread nD τ) ((cfg0.win 0).stage (cfg0.slots t 0)) fullShare (iblk m c 0 t) := congrArg (fun X => owns (c : Thread nD τ) ((cfg0.win 0).stage (cfg0.slots t 0)) fullShare X) (after0_0 m c t)
theorem leaves0_1 (c : Dev nD) (t : Fin cfg0.N) : (dats m 0 c).leavesExact 1 t = owns (c : Thread nD τ) ((cfg0.win 1).stage (cfg0.slots t 1)) fullShare (iblk m c 1 t) := congrArg (fun X => owns (c : Thread nD τ) ((cfg0.win 1).stage (cfg0.slots t 1)) fullShare X) (after0_1 m c t)
theorem leaves0_2 (c : Dev nD) (t : Fin cfg0.N) : (dats m 0 c).leavesExact 2 t = owns (c : Thread nD τ) ((cfg0.win 2).stage (cfg0.slots t 2)) fullShare (iblk m c 2 t) := congrArg (fun X => owns (c : Thread nD τ) ((cfg0.win 2).stage (cfg0.slots t 2)) fullShare X) (after0_2 m c t)
theorem leaves0_3 (c : Dev nD) (t : Fin cfg0.N) : (dats m 0 c).leavesExact 3 t = owns (c : Thread nD τ) ((cfg0.win 3).stage (cfg0.slots t 3)) fullShare (iblk m c 3 t) := congrArg (fun X => owns (c : Thread nD τ) ((cfg0.win 3).stage (cfg0.slots t 3)) fullShare X) (after0_3 m c t)
theorem leaves0_4 (c : Dev nD) (t : Fin cfg0.N) : (dats m 0 c).leavesExact 4 t = owns (c : Thread nD τ) ((cfg0.win 4).stage (cfg0.slots t 4)) fullShare (iblk m c 4 t) := congrArg (fun X => owns (c : Thread nD τ) ((cfg0.win 4).stage (cfg0.slots t 4)) fullShare X) (after0_4 m c t)
theorem leaves0_5 (c : Dev nD) (t : Fin cfg0.N) : (dats m 0 c).leavesExact 5 t = owns (c : Thread nD τ) ((cfg0.win 5).stage (cfg0.slots t 5)) fullShare (iblk m c 5 t) := congrArg (fun X => owns (c : Thread nD τ) ((cfg0.win 5).stage (cfg0.slots t 5)) fullShare X) (after0_5 m c t)
theorem leaves0_6 (c : Dev nD) (t : Fin cfg0.N) : (dats m 0 c).leavesExact 6 t = owns (c : Thread nD τ) ((cfg0.win 6).stage (cfg0.slots t 6)) fullShare (iblk m c 6 t) := congrArg (fun X => owns (c : Thread nD τ) ((cfg0.win 6).stage (cfg0.slots t 6)) fullShare X) (after0_6 m c t)
theorem leaves0_7 (c : Dev nD) (t : Fin cfg0.N) : (dats m 0 c).leavesExact 7 t = owns (c : Thread nD τ) ((cfg0.win 7).stage (cfg0.slots t 7)) fullShare (iblk m c 7 t) := congrArg (fun X => owns (c : Thread nD τ) ((cfg0.win 7).stage (cfg0.slots t 7)) fullShare X) (after0_7 m c t)
theorem leaves0_8 (c : Dev nD) (t : Fin cfg0.N) : (dats m 0 c).leavesExact 8 t = owns (c : Thread nD τ) ((cfg0.win 8).stage (cfg0.slots t 8)) fullShare (iblk m c 8 t) := congrArg (fun X => owns (c : Thread nD τ) ((cfg0.win 8).stage (cfg0.slots t 8)) fullShare X) (after0_8 m c t)
theorem leaves0_9 (c : Dev nD) (t : Fin cfg0.N) (h : t.val % 8 = 7) : (dats m 0 c).leavesExact 9 t = owns (c : Thread nD τ) ((cfg0.win 9).stage (cfg0.slots t 9)) fullShare (outAt m c t) := by
  unfold Dat.leavesExact; rw [live9 t h, after0_9]

/-- A point between. -/
theorem obl_mid (c : Dev nD) (t : Fin cfg0.N) (h0 : t.val % 8 ≠ 0) (h7 : t.val % 8 ≠ 7) : obl m c t := by
  have he := coord_e t
  have hcs : t.castSucc.val = t.val := rfl
  have hsu : t.succ.val = t.val + 1 := rfl
  unfold obl
  rw [bigSep_W0, bigSep_W0, leaves0_0, leaves0_1, leaves0_2, leaves0_3, leaves0_4, leaves0_5, leaves0_6, leaves0_7, leaves0_8, Dat.leavesExact_idle _ 9 t (idle9 t h7) (noflush9 t h7),
    phi_pos m c _ (by rw [hcs]; exact h0), phi_pos m c t.succ (by rw [hsu]; omega), show (dats m 0 c).owesAt () t.succ = (dats m 0 c).owesAt () t.castSucc from rfl]
  simp only [before0_0, before0_1, before0_2, before0_3, before0_4, before0_5, before0_6, before0_7, before0_8]
  sl_whnfR [defs₀, Defs.onTc]
  rw [hcs, hsu, show (t.val + 1) / 8 = t.val / 8 by omega, show (t.val + 1) % 8 = t.val % 8 + 1 by omega, track, track]
  have hb := body_mid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scM0_0 (Memref.isWhole_whole _) scM0_1 (Memref.isWhole_whole _) scM0_2 (Memref.isWhole_whole _) scM0_3 (Memref.isWhole_whole _) scM0_4 (Memref.isWhole_whole _) (by omega) (by omega) (by omega) (bG m c (t.val / 8)) (iblk m c 4 t) (iblk m c 5 t) (iblk m c 6 t)
    (xsV (bg m c (t.val / 8)) (bX m c (t.val / 8))) (combsV (bg m c (t.val / 8)) (bc m c (t.val / 8))) (acc m c (t.val / 8) (t.val % 8)) Set.univ
  rw [show stepAcc (grid0.coords t 1).val (by omega) (bG m c (t.val / 8)) (xsV (bg m c (t.val / 8)) (bX m c (t.val / 8))) (combsV (bg m c (t.val / 8)) (bc m c (t.val / 8))) (iblk m c 4 t) (iblk m c 5 t) (iblk m c 6 t) (acc m c (t.val / 8) (t.val % 8)) = acc m c (t.val / 8) (t.val % 8 + 1) by
    rw [acc_succ m c _ _ (by omega), pnt_self]; congr 1] at hb
  iintro ⟨⟨⟨S0, S1, S2, S3, S4⟩, Hr⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, W9⟩
  iapply (hb _)
  isplitl [W4]; · iexact W4
  isplitl [W5]; · iexact W5
  isplitl [W6]; · iexact W6
  isplitl [S0]; · iexact S0
  isplitl [S1]; · iexact S1
  isplitl [S3]; · iexact S3
  isplitl [S4]; · iexact S4
  iintro ⟨W4, W5, W6, S0, S1, S3, S4⟩
  isplitl [S0 S1 S2 S3 S4 Hr]
  · isplitl [S0 S1 S2 S3 S4]
    · isplitl [S0]; · iexact S0
      isplitl [S1]; · iexact S1
      isplitl [S2]; · iexact S2
      isplitl [S3]; · iexact S3
      iexact S4
    iexact Hr
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  iexact W9

/-- The last point of a row block. -/
theorem obl_last (c : Dev nD) (t : Fin cfg0.N) (h7 : t.val % 8 = 7) : obl m c t := by
  have he := coord_e t
  have hcs : t.castSucc.val = t.val := rfl
  have hsu : t.succ.val = t.val + 1 := rfl
  unfold obl
  rw [bigSep_W0, bigSep_W0, leaves0_0, leaves0_1, leaves0_2, leaves0_3, leaves0_4, leaves0_5, leaves0_6, leaves0_7, leaves0_8, leaves0_9 m c t h7,
    phi_pos m c _ (by rw [hcs]; omega), phi_zero m c t.succ (by rw [hsu]; omega), show (dats m 0 c).owesAt () t.succ = (dats m 0 c).owesAt () t.castSucc from rfl]
  simp only [before0_0, before0_1, before0_2, before0_3, before0_4, before0_5, before0_6, before0_7, before0_8]
  sl_whnfR [defs₀, Defs.onTc]
  rw [hcs, track]
  have hb := body_last c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scM0_0 (Memref.isWhole_whole _) scM0_1 (Memref.isWhole_whole _) scM0_2 (Memref.isWhole_whole _) scM0_3 (Memref.isWhole_whole _) scM0_4 (Memref.isWhole_whole _) (by omega) (by omega) (bG m c (t.val / 8)) (iblk m c 0 t) (iblk m c 4 t) (iblk m c 5 t) (iblk m c 6 t) (iblk m c 7 t) (iblk m c 8 t)
    (xsV (bg m c (t.val / 8)) (bX m c (t.val / 8))) (combsV (bg m c (t.val / 8)) (bc m c (t.val / 8))) (ptV (bg m c (t.val / 8))) (acc m c (t.val / 8) (t.val % 8)) Set.univ
  rw [show stepAcc (grid0.coords t 1).val (by omega) (bG m c (t.val / 8)) (xsV (bg m c (t.val / 8)) (bX m c (t.val / 8))) (combsV (bg m c (t.val / 8)) (bc m c (t.val / 8))) (iblk m c 4 t) (iblk m c 5 t) (iblk m c 6 t) (acc m c (t.val / 8) (t.val % 8)) = acc m c (t.val / 8) 8 by
    refine Eq.trans ?_ ((acc_succ m c _ (t.val % 8) (by omega)).symm.trans (congrArg (acc m c (t.val / 8)) (show t.val % 8 + 1 = 8 by omega)))
    rw [pnt_self]; congr 1] at hb
  iintro ⟨⟨⟨S0, S1, S2, S3, S4⟩, Hr⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩⟩
  iapply (hb _)
  isplitl [W0]; · iexact W0
  isplitl [W4]; · iexact W4
  isplitl [W5]; · iexact W5
  isplitl [W6]; · iexact W6
  isplitl [W7]; · iexact W7
  isplitl [W8]; · iexact W8
  isplitl [W9]; · iexists _; iexact W9
  isplitl [S0]; · iexact S0
  isplitl [S1]; · iexact S1
  isplitl [S2]; · iexact S2
  isplitl [S3]; · iexact S3
  isplitl [S4]; · iexact S4
  iintro ⟨W0, W4, W5, W6, W7, W8, W9, S0, S1, S2, S3, S4⟩
  isplitl [S0 S1 S2 S3 S4 Hr]
  · rw [PhiA0_eq]
    isplitl [S0 S1 S2 S3 S4]
    · isplitl [S0]; · iexists _; iexact S0
      isplitl [S1]; · iexists _; iexact S1
      isplitl [S2]; · iexists _; iexact S2
      isplitl [S3]; · iexists _; iexact S3
      iexists _; iexact S4
    iexact Hr
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  iexact W9

/-- The first point of a row block. -/
theorem obl_first (c : Dev nD) (t : Fin cfg0.N) (h0 : t.val % 8 = 0) : obl m c t := by
  have he := coord_e t
  have hcs : t.castSucc.val = t.val := rfl
  have hsu : t.succ.val = t.val + 1 := rfl
  unfold obl
  rw [bigSep_W0, bigSep_W0, leaves0_0, leaves0_1, leaves0_2, leaves0_3, leaves0_4, leaves0_5, leaves0_6, leaves0_7, leaves0_8, Dat.leavesExact_idle _ 9 t (idle9 t (by omega)) (noflush9 t (by omega)),
    phi_zero m c _ (by rw [hcs]; exact h0), phi_pos m c t.succ (by rw [hsu]; omega), show (dats m 0 c).owesAt () t.succ = (dats m 0 c).owesAt () t.castSucc from rfl]
  simp only [before0_0, before0_1, before0_2, before0_3, before0_4, before0_5, before0_6, before0_7, before0_8]
  sl_whnfR [defs₀, Defs.onTc]
  rw [hsu, show (t.val + 1) / 8 = t.val / 8 by omega, show (t.val + 1) % 8 = 1 by omega, track, PhiA0_eq]
  have hp := pnt_first t h0
  have hb := body_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) scM0_0 (Memref.isWhole_whole _) scM0_1 (Memref.isWhole_whole _) scM0_2 (Memref.isWhole_whole _) scM0_3 (Memref.isWhole_whole _) scM0_4 (Memref.isWhole_whole _) (by omega) (by omega) (bG m c (t.val / 8)) (bX m c (t.val / 8)) (bH m c (t.val / 8)) (bL m c (t.val / 8)) (bB m c (t.val / 8)) (iblk m c 4 t) (iblk m c 5 t) (iblk m c 6 t)
    (groups_spec _ _ _ _) Set.univ
  rw [show stepAcc (grid0.coords t 1).val (by omega) (bG m c (t.val / 8)) (xsV (bg m c (t.val / 8)) (bX m c (t.val / 8))) (combsV (bg m c (t.val / 8)) (bc m c (t.val / 8))) (iblk m c 4 t) (iblk m c 5 t) (iblk m c 6 t) (k0_pay35 (F := Ideal)) = acc m c (t.val / 8) 1 by
    refine Eq.trans ?_ (acc_succ m c _ 0 (by omega)).symm
    rw [Nat.add_zero, hp]; congr 1; omega] at hb
  have r0 : iblk m c 0 t = bX m c (t.val / 8) := by unfold bX; rw [hp]
  have r1 : iblk m c 1 t = bH m c (t.val / 8) := by unfold bH; rw [hp]
  have r2 : iblk m c 2 t = bL m c (t.val / 8) := by unfold bL; rw [hp]
  have r3 : iblk m c 3 t = bB m c (t.val / 8) := by unfold bB; rw [hp]
  rw [r0, r1, r2, r3]
  iintro ⟨⟨⟨S0, S1, S2, S3, S4⟩, Hr⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, W9⟩
  iapply (hb _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [S0]; · iexact S0
  isplitl [S1]; · iexact S1
  isplitl [S2]; · iexact S2
  isplitl [S3]; · iexact S3
  isplitl [S4]; · iexact S4
  iintro ⟨W0, W1, W2, W3, W4, W5, W6, S0, S1, S2, S3, S4⟩
  isplitl [S0 S1 S2 S3 S4 Hr]
  · isplitl [S0 S1 S2 S3 S4]
    · isplitl [S0]; · iexact S0
      isplitl [S1]; · iexact S1
      isplitl [S2]; · iexact S2
      isplitl [S3]; · iexact S3
      iexact S4
    iexact Hr
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  iexact W9

theorem body_obligation (c : Dev nD) : BodyObligation (dats m 0 c) (defs₀ (F := Ideal)) 𝒱₀ () Set.univ := fun t => by
  by_cases h0 : t.val % 8 = 0
  · exact obl_first m c t h0
  by_cases h7 : t.val % 8 = 7
  · exact obl_last m c t h7
  exact obl_mid m c t h0 h7

set_option backward.isDefEq.respectTransparency.types false in
/-- Every run ends, its arrays at what the library computes from the proof data, every semaphore at zero. -/
theorem run_main : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl)
    (hin := fun c => by rw [phi_zero m c 0 rfl])
    (hout := fun c => by rw [phi_zero m c (Fin.last _) (by rw [Fin.val_last]; show grid0.N % 8 = 0; rw [N_0])])

/-- The run ends, its arguments are kept, every semaphore is at zero. -/
theorem frame : Cert.quiescent_MoeIdeal := fun m ρ _ =>
  θ_run_with_sems (frame_of m ρ (dats m) fun _ _ => rfl) (run_main m ρ)

end Cert.MoeIdeal.B
end
-- ==== Proof.Moe.Frames.lean ====
/-
  The frame of the experts' layer written plainly.
-/
module

public import proofs.«01_k».proof.Defs
public import proofs.«01_k».proof.Proof.Gen.RefEIdeal.Run
public import Idealize.ShloMosaic.Lib.Quiescent

@[expose] public section

noncomputable section

open Idealize.ShloMosaic Idealize.SL.Sem

namespace Cert.Proof

/-- The reference's idealization terminates, keeps its arguments and has no semaphore to leave up. -/
theorem frameRefE : Cert.quiescent_RefEIdeal := fun m ρ _ =>
  (θ_run Cert.RefEIdeal.defs _ _).mono (fun r h => ⟨fun c => (h c).2, sem_eq_zero_of_no_sems (by decide) r.2⟩)
    (Cert.RefEIdeal.Value.run m ρ)

end Cert.Proof

end
-- ==== Proof.Row.Route.lean ====
/-
  The routing of one row by its real scores: the group of the largest of the first four scores, the two best experts of
  that group, and their weights.
-/
module

public import Idealize.ShloMosaic.Lib.ValueIdx
public import proofs.«01_k».proof.Proof.Band.Tile

@[expose] public section

noncomputable section

open Idealize.ShloMosaic

namespace Cert.Row

/-! ## The first place of the largest entry -/

/-- Every entry is at most the largest. -/
theorem le_max {n : ℕ} (S : Fin n → EReal) (l : Fin n) : S l ≤ Finset.univ.fold max ⊥ S := by
  rw [Finset.le_fold_max]; exact Or.inr ⟨l, Finset.mem_univ _, le_refl _⟩

/-- A row that is not empty has a first place where the largest entry is. -/
theorem first_exists {n : ℕ} (S : Fin (n + 1) → EReal) :
    ∃ i, S i = Finset.univ.fold max ⊥ S ∧ ∀ l, S l = Finset.univ.fold max ⊥ S → i ≤ l := by
  classical
  obtain ⟨k, -, hk⟩ := Finset.exists_mem_eq_sup Finset.univ ⟨0, Finset.mem_univ _⟩ S
  have hne : (Finset.univ.filter fun l => S l = Finset.univ.fold max ⊥ S).Nonempty :=
    ⟨k, Finset.mem_filter.2 ⟨Finset.mem_univ _, hk.symm⟩⟩
  exact ⟨Finset.min' _ hne, (Finset.mem_filter.1 (Finset.min'_mem _ hne)).2,
    fun l hl => Finset.min'_le (Finset.univ.filter fun l => S l = Finset.univ.fold max ⊥ S) l (Finset.mem_filter.2 ⟨Finset.mem_univ _, hl⟩)⟩

/-- The first place of the largest entry. -/
def firstMax {n : ℕ} (S : Fin (n + 1) → EReal) : Fin (n + 1) := Classical.choose (first_exists S)

theorem firstMax_eq {n : ℕ} (S : Fin (n + 1) → EReal) : S (firstMax S) = Finset.univ.fold max ⊥ S :=
  (Classical.choose_spec (first_exists S)).1

theorem firstMax_le {n : ℕ} (S : Fin (n + 1) → EReal) (l : Fin (n + 1)) (h : S l = Finset.univ.fold max ⊥ S) : firstMax S ≤ l :=
  (Classical.choose_spec (first_exists S)).2 l h

/-- The least number of a place where a value is taken is that of the first such place. -/
theorem fold_first {n : ℕ} (f : Fin n → EReal) (M : EReal) (c : ℝ) (hc : (n : ℝ) ≤ c) (i : Fin n) (hi : f i = M)
    (hmin : ∀ l, f l = M → i ≤ l) :
    Finset.univ.fold min (⊤ : EReal) (fun l : Fin n => if f l = M then ((l.val : ℝ) : EReal) else (c : EReal)) = ((i.val : ℝ) : EReal) := by
  refine le_antisymm ?_ ?_
  · rw [Finset.fold_min_le]; exact Or.inr ⟨i, Finset.mem_univ _, by rw [if_pos hi]⟩
  · rw [Finset.le_fold_min]
    refine ⟨le_top, fun l _ => ?_⟩
    by_cases e : f l = M
    · rw [if_pos e]; exact EReal.coe_le_coe_iff.2 (Nat.cast_le.2 (hmin l e))
    · rw [if_neg e]; exact EReal.coe_le_coe_iff.2 (le_trans (Nat.cast_le.2 i.isLt.le) hc)

/-- A row that holds another at some places and minus infinity at the rest has the same largest entry. -/
theorem fold_shift {a b : ℕ} (φ : Fin a → Fin b) (K : Fin b → EReal) (S : Fin a → EReal) (h : ∀ e, K (φ e) = S e)
    (h' : ∀ l, (∀ e, l ≠ φ e) → K l = ⊥) : Finset.univ.fold max ⊥ K = Finset.univ.fold max ⊥ S := by
  refine le_antisymm ?_ ?_
  · rw [Finset.fold_max_le]
    refine ⟨bot_le, fun l _ => ?_⟩
    by_cases hl : ∃ e, l = φ e
    · obtain ⟨e, rfl⟩ := hl; rw [h]; exact le_max S e
    · rw [h' l (fun e he => hl ⟨e, he⟩)]; exact bot_le
  · rw [Finset.fold_max_le]
    exact ⟨bot_le, fun e _ => by rw [← h e]; exact le_max K _⟩

/-- And its first place is the other's, moved. -/
theorem first_shift {a b : ℕ} (φ : Fin (a + 1) → Fin b) (hφ : ∀ i j, i ≤ j → φ i ≤ φ j) (K : Fin b → EReal) (S : Fin (a + 1) → EReal)
    (h : ∀ e, K (φ e) = S e) (h' : ∀ l, (∀ e, l ≠ φ e) → K l = ⊥) (M : EReal) (hS : Finset.univ.fold max ⊥ S = M) (hM : M ≠ ⊥)
    (l : Fin b) (hl : K l = M) : φ (firstMax S) ≤ l := by
  by_cases he : ∃ e, l = φ e
  · obtain ⟨e, rfl⟩ := he
    exact hφ _ _ (firstMax_le S e ((h e).symm.trans (hl.trans hS.symm)))
  · exact absurd (hl.symm.trans (h' l fun e h => he ⟨e, h⟩)) hM

/-! ## The routing -/

/-- The lanes of the groups and of the experts among a row's scores. -/
def lo (i : Fin 4) : Fin 128 := ⟨i.val, by omega⟩
def ex (e : Fin 32) : Fin 128 := ⟨4 + e.val, by omega⟩

variable (L : Fin 128 → ℝ)

/-- The groups' scores. -/
def groupScore (i : Fin 4) : EReal := (L (lo i) : EReal)

/-- The group. -/
def group : Fin 4 := firstMax (groupScore L)

/-- The experts' scores, those of the other groups taken out. -/
def expertScore (e : Fin 32) : EReal :=
  if 8 * (group L).val ≤ e.val ∧ e.val < 8 * (group L).val + 8 then (L (ex e) : EReal) else ⊥

/-- The best expert. -/
def best : Fin 32 := firstMax (expertScore L)

/-- The scores without the best. -/
def restScore (e : Fin 32) : EReal := if e = best L then ⊥ else expertScore L e

/-- The second best expert. -/
def second : Fin 32 := firstMax (restScore L)

/-- The scores of the group, of the best expert and of the second. -/
def M0 : ℝ := L (lo (group L))
def M1 : ℝ := L (ex (best L))
def M2 : ℝ := L (ex (second L))

/-- The group's weight. -/
def groupWeight : ℝ := 1 / ∑ i : Fin 4, Real.exp (L (lo i) - M0 L)

/-- How much less the second expert weighs than the best. -/
def ratio : ℝ := Real.exp (M2 L - M1 L)

/-- The weight of every expert. -/
def weightOf (e : Fin 32) : ℝ :=
  if e = best L then groupWeight L / (1 + ratio L) else if e = second L then groupWeight L * ratio L / (1 + ratio L) else 0

theorem max0 : Finset.univ.fold max ⊥ (groupScore L) = (M0 L : EReal) := (firstMax_eq (groupScore L)).symm

theorem best_in : 8 * (group L).val ≤ (best L).val ∧ (best L).val < 8 * (group L).val + 8 := by
  by_contra hn
  have hb : expertScore L (best L) = ⊥ := if_neg hn
  have hq := (group L).isLt
  have hle := le_max (expertScore L) ⟨8 * (group L).val, by omega⟩
  rw [← firstMax_eq (expertScore L)] at hle
  have h0 : expertScore L ⟨8 * (group L).val, by omega⟩ = (L (ex ⟨8 * (group L).val, by omega⟩) : EReal) :=
    if_pos ⟨le_refl _, Nat.lt_add_of_pos_right (by norm_num)⟩
  rw [h0] at hle
  exact absurd (le_bot_iff.1 (hle.trans (le_of_eq hb))) (EReal.coe_ne_bot _)

theorem score_best : expertScore L (best L) = (M1 L : EReal) := if_pos (best_in L)

theorem max1 : Finset.univ.fold max ⊥ (expertScore L) = (M1 L : EReal) := (firstMax_eq (expertScore L)).symm.trans (score_best L)

theorem rest_second_ne : restScore L (second L) ≠ ⊥ := by
  intro hb
  have hq := (group L).isLt
  have key : ∀ e : Fin 32, e ≠ best L → 8 * (group L).val ≤ e.val → e.val < 8 * (group L).val + 8 → False := by
    intro e he h1 h2
    have hle := le_max (restScore L) e
    rw [← firstMax_eq (restScore L)] at hle
    have h0 : restScore L e = (L (ex e) : EReal) := (if_neg he).trans (if_pos ⟨h1, h2⟩)
    rw [h0] at hle
    exact absurd (le_bot_iff.1 (hle.trans (le_of_eq hb))) (EReal.coe_ne_bot _)
  by_cases h : (⟨8 * (group L).val, by omega⟩ : Fin 32) = best L
  · refine key ⟨8 * (group L).val + 1, by omega⟩ ?_ (Nat.le_add_right _ _) (by show 8 * (group L).val + 1 < 8 * (group L).val + 8; omega)
    rw [← h]; intro hh; have := congrArg Fin.val hh; simp at this
  · exact key _ h (le_refl _) (Nat.lt_add_of_pos_right (by norm_num))

theorem second_ne : second L ≠ best L := fun h => rest_second_ne L (if_pos h)

theorem second_in : 8 * (group L).val ≤ (second L).val ∧ (second L).val < 8 * (group L).val + 8 := by
  by_contra hn
  exact rest_second_ne L ((if_neg (second_ne L)).trans (if_neg hn))

theorem score_second : expertScore L (second L) = (M2 L : EReal) := if_pos (second_in L)

theorem rest_second : restScore L (second L) = (M2 L : EReal) := (if_neg (second_ne L)).trans (score_second L)

theorem max2 : Finset.univ.fold max ⊥ (restScore L) = (M2 L : EReal) := (firstMax_eq (restScore L)).symm.trans (rest_second L)

/-- An expert of another group has no weight. -/
theorem weight_out (e : Fin 32) (h : ¬(8 * (group L).val ≤ e.val ∧ e.val < 8 * (group L).val + 8)) : weightOf L e = 0 := by
  have h1 : e ≠ best L := fun he => h (by rw [he]; exact best_in L)
  have h2 : e ≠ second L := fun he => h (by rw [he]; exact second_in L)
  unfold weightOf
  rw [if_neg h1, if_neg h2]

theorem one_ratio_pos : 0 < 1 + ratio L := by unfold ratio; positivity

/-! ## The softmax over the groups, its largest entry -/

theorem sum_group_pos : 0 < ∑ i : Fin 4, Real.exp (L (lo i) - M0 L) :=
  Finset.sum_pos (fun _ _ => Real.exp_pos _) ⟨0, Finset.mem_univ _⟩

theorem exp_group (i : Fin 4) : Ideal.exp (groupScore L i - (M0 L : EReal)) = ((Real.exp (L (lo i) - M0 L) : ℝ) : EReal) := by
  unfold groupScore
  rw [← EReal.coe_sub]; rfl

theorem sum_group : ∑ i : Fin 4, Ideal.exp (groupScore L i - (M0 L : EReal)) = ((∑ i : Fin 4, Real.exp (L (lo i) - M0 L) : ℝ) : EReal) := by
  rw [Band.coe_sum]; exact Finset.sum_congr rfl fun i _ => exp_group L i

theorem le_M0 (i : Fin 4) : L (lo i) ≤ M0 L := by
  have h := le_max (groupScore L) i
  rw [max0] at h
  exact EReal.coe_le_coe_iff.1 h

theorem softmax_group : Finset.univ.fold max (⊥ : EReal) (fun i : Fin 4 => Ideal.div (Ideal.exp (groupScore L i - (M0 L : EReal)))
    (∑ i : Fin 4, Ideal.exp (groupScore L i - (M0 L : EReal)))) = (groupWeight L : EReal) := by
  have hZ := sum_group_pos L
  have hd : ∀ i : Fin 4, Ideal.div (Ideal.exp (groupScore L i - (M0 L : EReal))) (∑ i : Fin 4, Ideal.exp (groupScore L i - (M0 L : EReal)))
      = ((Real.exp (L (lo i) - M0 L) / ∑ i : Fin 4, Real.exp (L (lo i) - M0 L) : ℝ) : EReal) := fun i => by
    rw [sum_group, exp_group, Band.div_coe _ hZ.ne']
  simp only [hd]
  refine le_antisymm ?_ ?_
  · rw [Finset.fold_max_le]
    refine ⟨bot_le, fun i _ => EReal.coe_le_coe_iff.2 ?_⟩
    unfold groupWeight
    exact div_le_div_of_nonneg_right (Real.exp_le_one_iff.2 (sub_nonpos.2 (le_M0 L i))) hZ.le
  · rw [Finset.le_fold_max]
    refine Or.inr ⟨group L, Finset.mem_univ _, EReal.coe_le_coe_iff.2 ?_⟩
    unfold groupWeight
    refine div_le_div_of_nonneg_right ?_ hZ.le
    show 1 ≤ Real.exp (L (lo (group L)) - L (lo (group L)))
    rw [sub_self, Real.exp_zero]

/-! ## The softmax over the two experts -/

/-- The scores of the two best experts. -/
def topScore (e : Fin 32) : EReal := if e = best L ∨ e = second L then expertScore L e else ⊥

theorem ratio_le : M2 L ≤ M1 L := by
  have h := le_max (expertScore L) (second L)
  rw [max1, score_second] at h
  exact EReal.coe_le_coe_iff.1 h

theorem max_top : Finset.univ.fold max ⊥ (topScore L) = (M1 L : EReal) := by
  refine le_antisymm ?_ ?_
  · rw [Finset.fold_max_le]
    refine ⟨bot_le, fun e _ => ?_⟩
    unfold topScore
    split
    · rw [← max1]; exact le_max _ e
    · exact bot_le
  · refine le_trans (le_of_eq ?_) (le_max (topScore L) (best L))
    exact ((if_pos (Or.inl rfl)).trans (score_best L)).symm

/-- The exponentials of the two experts' scores less the best's. -/
def topExp (e : Fin 32) : ℝ := if e = best L then 1 else if e = second L then ratio L else 0

theorem exp_top (e : Fin 32) : Ideal.exp (topScore L e - (M1 L : EReal)) = (topExp L e : EReal) := by
  unfold topScore topExp
  by_cases h1 : e = best L
  · rw [if_pos (Or.inl h1), if_pos h1, h1, score_best, ← EReal.coe_sub, sub_self]
    show ((Real.exp 0 : ℝ) : EReal) = _
    rw [Real.exp_zero]
  · by_cases h2 : e = second L
    · rw [if_pos (Or.inr h2), if_neg h1, if_pos h2, h2, score_second, ← EReal.coe_sub]; rfl
    · rw [if_neg (fun h => h.elim h1 h2), if_neg h1, if_neg h2, EReal.bot_sub]
      show (0 : EReal) = _
      simp

theorem sum_top : ∑ e, Ideal.exp (topScore L e - (M1 L : EReal)) = ((1 + ratio L : ℝ) : EReal) := by
  simp only [exp_top]
  rw [← Band.coe_sum]
  congr 1
  have hsplit : ∀ e, topExp L e = (if e = best L then 1 else 0) + (if e = second L then ratio L else 0) := by
    intro e
    unfold topExp
    by_cases h1 : e = best L
    · rw [if_pos h1, if_pos h1, if_neg (fun h => second_ne L (h.symm.trans h1)), add_zero]
    · rw [if_neg h1, if_neg h1, zero_add]
  simp only [hsplit]
  rw [Finset.sum_add_distrib, Finset.sum_ite_eq', Finset.sum_ite_eq']
  simp

/-- The softmax of the two experts times the group's weight is the weight. -/
theorem softmax_top (e : Fin 32) :
    Ideal.div (Ideal.exp (topScore L e - (M1 L : EReal))) (∑ e, Ideal.exp (topScore L e - (M1 L : EReal))) * (groupWeight L : EReal)
      = (weightOf L e : EReal) := by
  rw [sum_top, exp_top, Band.div_coe _ (one_ratio_pos L).ne', ← EReal.coe_mul]
  congr 1
  unfold topExp weightOf
  split
  · rw [one_div_mul_eq_div]
  · split
    · ring
    · simp

/-! ## The experts -/

/-- An expert's gated linear unit. -/
def expert (x : Fin 1024 → EReal) (w1 w3 : (⟨3, ![32, 1024, 256]⟩ : Shape).Idx → EReal) (w2 : (⟨3, ![32, 256, 1024]⟩ : Shape).Idx → EReal)
    (e : Fin 32) (d : Fin 1024) : EReal :=
  ∑ f : Fin 256, ((∑ m, x m * w1 (ix3 e m f)) * Ideal.logistic (∑ m, x m * w1 (ix3 e m f)) * ∑ m, x m * w3 (ix3 e m f)) * w2 (ix3 e f d)

/-- The experts' outputs, weighted. -/
def experts (x : Fin 1024 → EReal) (w1 w3 : (⟨3, ![32, 1024, 256]⟩ : Shape).Idx → EReal) (w2 : (⟨3, ![32, 256, 1024]⟩ : Shape).Idx → EReal)
    (d : Fin 1024) : EReal :=
  ∑ e : Fin 32, (weightOf L e : EReal) * expert x w1 w3 w2 e d

/-- A row's routing scores, as real numbers. -/
def score (x : Fin 1024 → EReal) (h l : (⟨2, ![1024, 128]⟩ : Shape).Idx → EReal) (b : (⟨2, ![1, 128]⟩ : Shape).Idx → EReal) (n : Fin 128) : ℝ :=
  ∑ k, (x k).toReal * ((h (ix2 k n)).toReal + (l (ix2 k n)).toReal) + (b (ix2 0 n)).toReal

/-- An entry that is not infinite. -/
abbrev Finite (a : EReal) : Prop := a ≠ ⊤ ∧ a ≠ ⊥

theorem real_of {a : EReal} (h : Finite a) : a = ((a.toReal : ℝ) : EReal) := (EReal.coe_toReal h.1 h.2).symm

section Score
variable (x : Fin 1024 → EReal) (h l : (⟨2, ![1024, 128]⟩ : Shape).Idx → EReal) (b : (⟨2, ![1, 128]⟩ : Shape).Idx → EReal)
  (hx : ∀ k, Finite (x k)) (hh : ∀ i, Finite (h i)) (hl : ∀ i, Finite (l i)) (hb : ∀ i, Finite (b i)) (n : Fin 128)
include hx hh hl hb

/-- The scores from the sum of the two parts of the router's weights. -/
theorem score_sum : ∑ k, x k * (h (ix2 k n) + l (ix2 k n)) + b (ix2 0 n) = (score x h l b n : EReal) := by
  unfold score
  rw [EReal.coe_add, Band.coe_sum, ← real_of (hb _)]
  refine congrArg (· + b (ix2 0 n)) (Finset.sum_congr rfl fun k _ => ?_)
  rw [EReal.coe_mul, EReal.coe_add, ← real_of (hx _), ← real_of (hh _), ← real_of (hl _)]

/-- The scores from the two parts of the router's weights one after the other. -/
theorem score_parts : ∑ k, x k * h (ix2 k n) + ∑ k, (x k - x k) * h (ix2 k n) + ∑ k, x k * l (ix2 k n) + b (ix2 0 n) = (score x h l b n : EReal) := by
  have h0 : ∑ k, (x k - x k) * h (ix2 k n) = 0 := Finset.sum_eq_zero fun k _ => by
    rw [real_of (hx k), ← EReal.coe_sub, sub_self, EReal.coe_zero, zero_mul]
  rw [h0, add_zero, ← score_sum x h l b hx hh hl hb n, ← Finset.sum_add_distrib]
  refine congrArg (· + b (ix2 0 n)) (Finset.sum_congr rfl fun k _ => ?_)
  rw [real_of (hx k), real_of (hh (ix2 k n)), real_of (hl (ix2 k n)), ← EReal.coe_add, ← EReal.coe_mul, ← EReal.coe_mul, ← EReal.coe_mul, ← EReal.coe_add, mul_add]

end Score

/-- The number of a word. -/
theorem word_nat (n : ℕ) (h : n < 2147483648) : (((BitVec.ofNat 32 n).toInt : ℝ) : EReal) = ((n : ℝ) : EReal) := by
  rw [BitVec.toInt_ofNat']
  have : (n : ℤ).bmod (2 ^ 32) = n := by
    rw [Int.bmod_def]; norm_num; omega
  rw [this]; norm_num

end Cert.Row

end
-- ==== Proof.Moe.Weights.lean ====
module
public import proofs.«01_k».proof.Proof.Moe.Route
public import proofs.«01_k».proof.Proof.Row.Route
/-!
# The weights of a row's experts

Where a row's routing scores are real numbers, its group, its two experts and their weights are those of `Row.Route`.
-/

@[expose] public section
set_option maxRecDepth 16384
noncomputable section
namespace Cert.MoeIdeal.B
open Cert.MoeIdeal Cert.MoeIdeal.Gen
open Idealize.ShloMosaic Idealize.ShloMosaic.TcCoe Idealize.SL.Sem
set_option maxHeartbeats 1000000

theorem eight_f32 : Ideal.ofBits .f32 1090519040#32 = ((8 : ℝ) : EReal) := by
  simp [Ideal.ofBits, Ideal.ieee]; rw [← EReal.coe_mul]; norm_num

theorem lane_number (j : Fin 1024) (l : Fin 128) : k0_pay2 (F := Ideal) (ix2 j l) = ((l.val : ℝ) : EReal) := by
  unfold k0_pay2
  pointwise
  exact word_small l

theorem lo_mono (i j : Fin 4) (h : i ≤ j) : Row.lo i ≤ Row.lo j := h
theorem ex_mono (i j : Fin 32) (h : i ≤ j) : Row.ex i ≤ Row.ex j := Nat.add_le_add_left h 4

theorem not_lo (l : Fin 128) (h : ∀ e, l ≠ Row.lo e) : ¬l.val < 4 := fun hl => h ⟨l.val, hl⟩ rfl
theorem not_ex (l : Fin 128) (h : ∀ e, l ≠ Row.ex e) : l.val < 4 ∨ 36 ≤ l.val := by
  by_contra hn
  push Not at hn
  exact h ⟨l.val - 4, by omega⟩ (Fin.ext (by show l.val = 4 + (l.val - 4); omega))

/-! ## The group -/

section Group
variable (x : Vec Ideal S1024x1024 .f32) (wh wl : Vec Ideal S1024x128 .bf16) (b : Vec Ideal S1x128 .f32) (j : Fin 1024) (L : Fin 128 → ℝ)
  (hL : ∀ l, k0_pay1 (F := Ideal) x wh wh wl b (ix2 j l) = (L l : EReal))

/-- The groups' scores over all lanes. -/
def groupLane (l : Fin 128) : EReal := if l.val < 4 then (L l : EReal) else ⊥

theorem groupLane_lo (e : Fin 4) : groupLane L (Row.lo e) = Row.groupScore L e := if_pos e.isLt
theorem groupLane_out (l : Fin 128) (h : ∀ e, l ≠ Row.lo e) : groupLane L l = ⊥ := if_neg (not_lo l h)

include hL

theorem pay3_at (l : Fin 128) : k0_pay3 (F := Ideal) x wh wh wl b (ix2 j l) = groupLane L l := by
  unfold k0_pay3
  pointwise
  simp only [lane_number, four_f32, Band.ninf, hL]
  have e : (((l.val : ℝ) : EReal) < ((4 : ℝ) : EReal)) ↔ l.val < 4 := by
    rw [EReal.coe_lt_coe_iff]; exact_mod_cast Iff.rfl
  exact if_congr e rfl rfl

theorem pay4_at : k0_pay4 (F := Ideal) x wh wh wl b (ix2 j 0) = (Row.M0 L : EReal) := by
  unfold k0_pay4
  pointwise
  simp only [pay3_at x wh wl b j L hL, Band.ninf]
  exact (Row.fold_shift Row.lo (groupLane L) (Row.groupScore L) (groupLane_lo L) (groupLane_out L)).trans (Row.max0 L)

theorem group_at : grp (F := Ideal) x wh wl b (ix2 j 0) = (((Row.group L).val : ℝ) : EReal) := by
  unfold grp k0_pay6
  pointwise
  simp only [pay3_at x wh wl b j L hL, pay4_at x wh wl b j L hL, lane_number, lanes_f32, top_f32]
  exact Row.fold_first (groupLane L) (Row.M0 L : EReal) 128 (by norm_num) (Row.lo (Row.group L)) (groupLane_lo L _)
    (Row.first_shift Row.lo lo_mono (groupLane L) (Row.groupScore L) (groupLane_lo L) (groupLane_out L) _ (Row.max0 L) (EReal.coe_ne_bot _))

theorem groups_at : groups x wh wl b j = Row.group L := by
  have h := (groups_spec x wh wl b j).symm.trans (group_at x wh wl b j L hL)
  exact Fin.ext (by exact_mod_cast EReal.coe_eq_coe_iff.1 h)

theorem eight_at : grp8 (F := Ideal) x wh wl b (ix2 j 0) = (((8 * (Row.group L).val : ℕ) : ℝ) : EReal) := by
  have h := group_at x wh wl b j L hL
  unfold grp8 k0_pay7
  pointwise
  unfold grp at h
  rw [h, eight_f32, ← EReal.coe_mul]
  exact congrArg (fun r : ℝ => (r : EReal)) (by push_cast; ring)

theorem weight_at : gprob (F := Ideal) x wh wl b (ix2 j 0) = (Row.groupWeight L : EReal) := by
  unfold gprob k0_pay5
  pointwise
  simp only [pay3_at x wh wl b j L hL, pay4_at x wh wl b j L hL, Ideal.ofBits_one_f32]
  have hs : ∑ l : Fin 128, Ideal.exp (groupLane L l - (Row.M0 L : EReal)) = ∑ i : Fin 4, Ideal.exp (Row.groupScore L i - (Row.M0 L : EReal)) := by
    have h := Fin.sum_univ_add (a := 4) (b := 124) (fun l : Fin (4 + 124) => Ideal.exp (groupLane L l - (Row.M0 L : EReal)))
    refine h.trans ?_
    rw [Finset.sum_eq_zero (s := (Finset.univ : Finset (Fin 124))), add_zero]
    · rfl
    · intro l _
      have hb : groupLane L (Fin.natAdd 4 l : Fin (4 + 124)) = ⊥ := if_neg (by show ¬(4 + l.val < 4); omega)
      rw [hb, EReal.bot_sub]
      rfl
  refine (congrArg (Ideal.div 1) hs).trans ?_
  rw [Row.sum_group, ← EReal.coe_one, Band.div_coe _ (Row.sum_group_pos L).ne']
  rfl

end Group

/-! ## The experts -/

section Experts
variable (s : FVec Ideal S1024x128 .f32) (g8 : FVec Ideal S1024x1 .f32) (j : Fin 1024) (L : Fin 128 → ℝ)
  (hs : ∀ l, s (ix2 j l) = (L l : EReal)) (hg : g8 (ix2 j 0) = (((8 * (Row.group L).val : ℕ) : ℝ) : EReal))

/-- The experts' scores over all lanes. -/
def expertLane (l : Fin 128) : EReal :=
  if 4 + 8 * (Row.group L).val ≤ l.val ∧ l.val < 4 + 8 * (Row.group L).val + 8 then (L l : EReal) else ⊥

/-- The same without the best. -/
def restLane (l : Fin 128) : EReal := if l = Row.ex (Row.best L) then ⊥ else expertLane L l

theorem expertLane_ex (e : Fin 32) : expertLane L (Row.ex e) = Row.expertScore L e := by
  unfold expertLane Row.expertScore
  refine if_congr ?_ rfl rfl
  show (4 + 8 * (Row.group L).val ≤ 4 + e.val ∧ 4 + e.val < 4 + 8 * (Row.group L).val + 8) ↔ _
  omega

theorem expertLane_out (l : Fin 128) (h : ∀ e, l ≠ Row.ex e) : expertLane L l = ⊥ := by
  have hq := (Row.group L).isLt
  have := not_ex l h
  exact if_neg (by omega)

theorem ex_inj {e e' : Fin 32} : Row.ex e = Row.ex e' ↔ e = e' := by
  constructor
  · intro h; have := congrArg Fin.val h; exact Fin.ext (by simp only [Row.ex] at this; omega)
  · rintro rfl; rfl

theorem restLane_ex (e : Fin 32) : restLane L (Row.ex e) = Row.restScore L e := by
  unfold restLane Row.restScore
  exact if_congr ex_inj rfl (expertLane_ex L e)

theorem restLane_out (l : Fin 128) (h : ∀ e, l ≠ Row.ex e) : restLane L l = ⊥ := by
  unfold restLane
  rw [if_neg (h _), expertLane_out L l h]

include hs hg

theorem pay8_at (l : Fin 128) : k0_pay8 (F := Ideal) s k0_pay2 g8 (ix2 j l) = expertLane L l := by
  unfold k0_pay8
  pointwise
  simp only [lane_number, four_f32, eight_f32, Band.ninf, hs, hg]
  have e1 : (((4 : ℝ) : EReal) + (((8 * (Row.group L).val : ℕ) : ℝ) : EReal) ≤ ((l.val : ℝ) : EReal)) ↔ 4 + 8 * (Row.group L).val ≤ l.val := by
    rw [← EReal.coe_add, EReal.coe_le_coe_iff]; exact_mod_cast Iff.rfl
  have e2 : (((l.val : ℝ) : EReal) < ((4 : ℝ) : EReal) + (((8 * (Row.group L).val : ℕ) : ℝ) : EReal) + ((8 : ℝ) : EReal)) ↔ l.val < 4 + 8 * (Row.group L).val + 8 := by
    rw [← EReal.coe_add, ← EReal.coe_add, EReal.coe_lt_coe_iff]; exact_mod_cast Iff.rfl
  unfold expertLane
  by_cases h1 : 4 + 8 * (Row.group L).val ≤ l.val
  · by_cases h2 : l.val < 4 + 8 * (Row.group L).val + 8
    · exact (if_pos (e1.2 h1)).trans ((if_pos (e2.2 h2)).trans (if_pos ⟨h1, h2⟩).symm)
    · exact (if_pos (e1.2 h1)).trans ((if_neg (fun h => h2 (e2.1 h))).trans (if_neg (fun h => h2 h.2)).symm)
  · exact (if_neg (fun h => h1 (e1.1 h))).trans (if_neg (fun h => h1 h.1)).symm

theorem pay9_at : k0_pay9 (F := Ideal) s k0_pay2 g8 (ix2 j 0) = (Row.M1 L : EReal) := by
  unfold k0_pay9
  pointwise
  simp only [pay8_at s g8 j L hs hg, Band.ninf]
  exact (Row.fold_shift Row.ex (expertLane L) (Row.expertScore L) (expertLane_ex L) (expertLane_out L)).trans (Row.max1 L)

theorem pay10_at : k0_pay10 (F := Ideal) s k0_pay2 g8 (ix2 j 0) = (((Row.ex (Row.best L)).val : ℝ) : EReal) := by
  unfold k0_pay10
  pointwise
  simp only [pay8_at s g8 j L hs hg, pay9_at s g8 j L hs hg, lane_number, lanes_f32, top_f32]
  exact Row.fold_first (expertLane L) (Row.M1 L : EReal) 128 (by norm_num) (Row.ex (Row.best L)) ((expertLane_ex L _).trans (Row.score_best L))
    (Row.first_shift Row.ex ex_mono (expertLane L) (Row.expertScore L) (expertLane_ex L) (expertLane_out L) _ (Row.max1 L) (EReal.coe_ne_bot _))

theorem lane_eq (l l' : Fin 128) : (((l.val : ℝ) : EReal) = ((l'.val : ℝ) : EReal)) ↔ l = l' := by
  rw [EReal.coe_eq_coe_iff, Nat.cast_inj, Fin.ext_iff]

theorem pay11_at (l : Fin 128) : k0_pay11 (F := Ideal) s k0_pay2 g8 (ix2 j l) = restLane L l := by
  unfold k0_pay11
  pointwise
  simp only [pay8_at s g8 j L hs hg, pay10_at s g8 j L hs hg, lane_number, Band.ninf]
  exact if_congr (lane_eq s g8 j L hs hg l _) rfl rfl

theorem pay12_at : k0_pay12 (F := Ideal) s k0_pay2 g8 (ix2 j 0) = (Row.M2 L : EReal) := by
  unfold k0_pay12
  pointwise
  simp only [pay11_at s g8 j L hs hg, Band.ninf]
  exact (Row.fold_shift Row.ex (restLane L) (Row.restScore L) (restLane_ex L) (restLane_out L)).trans (Row.max2 L)

theorem pay13_at : k0_pay13 (F := Ideal) s k0_pay2 g8 (ix2 j 0) = (Row.ratio L : EReal) := by
  unfold k0_pay13
  pointwise
  simp only [pay12_at s g8 j L hs hg, pay9_at s g8 j L hs hg]
  rw [← EReal.coe_sub]
  rfl

theorem second_at : Finset.univ.fold min (⊤ : EReal) (fun l : Fin 128 => if restLane L l = (Row.M2 L : EReal) then ((l.val : ℝ) : EReal) else ((128 : ℝ) : EReal))
    = (((Row.ex (Row.second L)).val : ℝ) : EReal) :=
  Row.fold_first (restLane L) (Row.M2 L : EReal) 128 (by norm_num) (Row.ex (Row.second L)) ((restLane_ex L _).trans (Row.rest_second L))
    (Row.first_shift Row.ex ex_mono (restLane L) (Row.restScore L) (restLane_ex L) (restLane_out L) _ (Row.max2 L) (EReal.coe_ne_bot _))

end Experts

/-- The routing scores of rows that are not infinite. -/
theorem logits_at (x : Vec Ideal S1024x1024 .f32) (wh wl : Vec Ideal S1024x128 .bf16) (b : Vec Ideal S1x128 .f32) (j : Fin 1024)
    (hx : ∀ k, Row.Finite (x (ix2 j k))) (hh : ∀ i, Row.Finite (wh i)) (hl : ∀ i, Row.Finite (wl i)) (hb : ∀ i, Row.Finite (b i)) (l : Fin 128) :
    k0_pay1 (F := Ideal) x wh wh wl b (ix2 j l) = (Row.score (fun k => x (ix2 j k)) wh wl b l : EReal) := by
  rw [← Row.score_parts (fun k => x (ix2 j k)) wh wl b hx hh hl hb l]
  unfold k0_pay1
  pointwise
  try rfl

section Comb
variable (x : Vec Ideal S1024x1024 .f32) (wh wl : Vec Ideal S1024x128 .bf16) (b : Vec Ideal S1x128 .f32) (j : Fin 1024) (L : Fin 128 → ℝ)
  (hL : ∀ l, k0_pay1 (F := Ideal) x wh wh wl b (ix2 j l) = (L l : EReal))
include hL

/-- The weight of every expert. -/
theorem comb_at (e : Fin 32) : comb (F := Ideal) x wh wl b (ix2 j (Row.ex e)) = (Row.weightOf L e : EReal) := by
  have hg := eight_at x wh wl b j L hL
  have hp := weight_at x wh wl b j L hL
  unfold grp8 at hg
  unfold gprob at hp
  unfold comb logits gprob grp8 k0_pay18 k0_pay14 k0_pay15 k0_pay16 k0_pay17
  pointwise
  simp only [pay13_at _ _ j L hL hg, pay12_at _ _ j L hL hg, pay11_at _ _ j L hL hg, pay10_at _ _ j L hL hg, hp, lane_number, lanes_f32, top_f32,
    Ideal.ofBits_one_f32]
  have h2 := second_at _ _ j L hL hg
  have one : (1 : EReal) + (Row.ratio L : EReal) = ((1 + Row.ratio L : ℝ) : EReal) := by rw [EReal.coe_add, EReal.coe_one]
  have hne := (Row.one_ratio_pos L).ne'
  unfold Row.weightOf
  by_cases h1 : e = Row.best L
  · refine (if_pos (by rw [h1])).trans ?_
    rw [if_pos h1, one, Band.div_coe _ hne]
  · refine (if_neg (fun h => h1 (ex_inj.1 ((lane_eq _ _ j L hL hg _ _).1 h)))).trans ?_
    rw [if_neg h1]
    by_cases h3 : e = Row.second L
    · refine (if_pos ?_).trans ?_
      · rw [h3]; exact h2.symm
      · rw [if_pos h3, one, ← EReal.coe_mul, Band.div_coe _ hne]
    · refine (if_neg (fun h => h3 (ex_inj.1 ((lane_eq _ _ j L hL hg _ _).1 (h.trans h2))))).trans ?_
      rw [if_neg h3]
      exact EReal.coe_zero.symm

end Comb

end Cert.MoeIdeal.B
end
-- ==== Proof.Row.Infinite.lean ====
/-
  The layer norm of a row with an infinite entry, over the extended reals: it is the shift alone.
-/
module

public import proofs.«01_k».proof.Proof.Row.Mix
public import Idealize.ShloMosaic.Lib.IdealHost

@[expose] public section

noncomputable section

namespace Cert.Row

open Idealize.ShloMosaic

/-- An infinite entry. -/
abbrev Inf (a : EReal) : Prop := a = ⊤ ∨ a = ⊥

theorem inf_add {a : EReal} (b : EReal) (h : Inf a) : Inf (a + b) := by
  rcases h with rfl | rfl
  · by_cases hb : b = ⊥
    · exact Or.inr (by rw [hb, EReal.add_bot])
    · exact Or.inl (EReal.top_add_of_ne_bot hb)
  · exact Or.inr (EReal.bot_add b)

theorem inf_sub (a : EReal) {b : EReal} (h : Inf b) : Inf (a - b) := by
  rw [sub_eq_add_neg, add_comm]
  refine inf_add a ?_
  rcases h with rfl | rfl
  · exact Or.inr EReal.neg_top
  · exact Or.inl EReal.neg_bot

theorem inf_mul {r : ℝ} (hr : 0 < r) {a : EReal} (h : Inf a) : Inf ((r : EReal) * a) := by
  rcases h with rfl | rfl
  · exact Or.inl (EReal.coe_mul_top_of_pos hr)
  · exact Or.inr (EReal.coe_mul_bot_of_pos hr)

theorem inf_sum {n : ℕ} (z : Fin n → EReal) (k : Fin n) (h : Inf (z k)) : Inf (∑ i, z i) := by
  rw [← Finset.add_sum_erase Finset.univ z (Finset.mem_univ k)]
  exact inf_add _ h

theorem inf_square {a : EReal} (h : Inf a) : a * a = ⊤ := by
  rcases h with rfl | rfl
  · exact EReal.top_mul_top
  · exact EReal.bot_mul_bot

theorem width : Ideal.ofBits .f32 0x44800000#32 = ((1024 : ℝ) : EReal) := by
  simp [Ideal.ofBits, Ideal.ieee]; rw [← EReal.coe_mul]; norm_num

theorem eps_real : ∃ r : ℝ, Ideal.ofBits .f32 0x358637BD#32 = (r : EReal) := by
  simp [Ideal.ofBits, Ideal.ieee]; rw [← EReal.coe_mul]; exact ⟨_, rfl⟩

theorem residual_pos : ∃ r : ℝ, 0 < r ∧ Ideal.ofBits .f32 0x3FB504F3#32 = (r : EReal) := by
  simp [Ideal.ofBits, Ideal.ieee]; rw [← EReal.coe_mul]; exact ⟨_, by norm_num, rfl⟩

theorem div_width (a : EReal) : Ideal.div a (Ideal.ofBits .f32 0x44800000#32) = (((1024 : ℝ)⁻¹ : ℝ) : EReal) * a := by
  rw [width]
  unfold Ideal.div
  rw [if_neg (by norm_num), ← EReal.coe_inv, mul_comm]

/-- The residual connection keeps an infinite entry infinite. -/
theorem skip_inf (x y : Fin 1024 → EReal) (k : Fin 1024) (h : Inf (x k)) : Inf (skip x y k) := by
  obtain ⟨r, hr, e⟩ := residual_pos
  unfold skip
  rw [e]
  exact inf_add _ (inf_mul hr h)

/-- The layer norm of a row with an infinite entry is the shift: every entry is infinitely far from the mean, and the
    inverse of an infinite deviation is zero. -/
theorem norm_inf (z g b : Fin 1024 → EReal) (k : Fin 1024) (h : Inf (z k)) (d : Fin 1024) : norm z g b d = b d := by
  have hm : Inf (Ideal.div (∑ k, z k) (Ideal.ofBits .f32 0x44800000#32)) := by
    rw [div_width]
    exact inf_mul (by norm_num) (inf_sum z k h)
  unfold norm
  generalize Ideal.div (∑ k, z k) (Ideal.ofBits .f32 0x44800000#32) = μ at hm
  have hs : ∑ i, (z i - μ) * (z i - μ) = ⊤ := by
    rw [← Finset.add_sum_erase Finset.univ _ (Finset.mem_univ k), inf_square (inf_sub (z k) hm)]
    refine EReal.top_add_of_ne_bot (ne_of_gt (lt_of_lt_of_le EReal.bot_lt_zero (Finset.sum_nonneg fun i _ => ?_)))
    rw [inf_square (inf_sub (z i) hm)]
    exact le_top
  obtain ⟨e, he⟩ := eps_real
  rw [hs, div_width, EReal.coe_mul_top_of_pos (by norm_num), he, EReal.top_add_of_ne_bot (EReal.coe_ne_bot e), Ideal.rsqrt_top, mul_zero,
    zero_mul, zero_add]

end Cert.Row

end
-- ==== Proof.Moe.Array.lean ====
/-
  The experts' layer: the array the kernel's run leaves, row by row.
-/
module

public import proofs.«01_k».proof.Proof.Moe.Frame
public import proofs.«01_k».proof.Proof.Moe.Weights
public import proofs.«01_k».proof.Proof.Row.Mix
public import proofs.«01_k».proof.Proof.Row.Infinite

@[expose] public section

set_option maxRecDepth 16384

noncomputable section

open Idealize.ShloMosaic Idealize.ShloMosaic.TcCoe Idealize.SL.Sem

namespace Cert.MoeIdeal.B

open Cert.MoeIdeal Cert.MoeIdeal.Gen

variable (m : (ℓ : Loc nD τ sig) → Buf (Elt Ideal) ℓ) (c : Dev nD)

/-- The arguments, as the run begins. -/
abbrev arg0 : Vec Ideal S65536x1024 .f32 := m ((c : Thread nD τ).loc main_arg0)
abbrev arg1 : Vec Ideal S1024x128 .bf16 := m ((c : Thread nD τ).loc main_arg1)
abbrev arg2 : Vec Ideal S1024x128 .bf16 := m ((c : Thread nD τ).loc main_arg2)
abbrev arg3 : Vec Ideal S1x128 .f32 := m ((c : Thread nD τ).loc main_arg3)
abbrev arg4 : Vec Ideal S32x1024x256 .bf16 := m ((c : Thread nD τ).loc main_arg4)
abbrev arg5 : Vec Ideal S32x1024x256 .bf16 := m ((c : Thread nD τ).loc main_arg5)
abbrev arg6 : Vec Ideal S32x256x1024 .bf16 := m ((c : Thread nD τ).loc main_arg6)
abbrev arg7 : Vec Ideal S1x1024 .f32 := m ((c : Thread nD τ).loc main_arg7)
abbrev arg8 : Vec Ideal S1x1024 .f32 := m ((c : Thread nD τ).loc main_arg8)

theorem index0 : ∀ t : Fin cfg0.N, win0_0.index t 0 = t.val / 8 ∧ win0_0.index t 1 = 0 :=
  (by decide +kernel : ∀ t : Fin grid0.N, win0_0.index t 0 = t.val / 8 ∧ win0_0.index t 1 = 0)

theorem index9 : ∀ t : Fin cfg0.N, win0_9.index t 0 = t.val / 8 ∧ win0_9.index t 1 = 0 :=
  (by decide +kernel : ∀ t : Fin grid0.N, win0_9.index t 0 = t.val / 8 ∧ win0_9.index t 1 = 0)

theorem index1 : ∀ t : Fin cfg0.N, win0_1.index t 0 = 0 ∧ win0_1.index t 1 = 0 :=
  (by decide +kernel : ∀ t : Fin grid0.N, win0_1.index t 0 = 0 ∧ win0_1.index t 1 = 0)

theorem index2 : ∀ t : Fin cfg0.N, win0_2.index t 0 = 0 ∧ win0_2.index t 1 = 0 :=
  (by decide +kernel : ∀ t : Fin grid0.N, win0_2.index t 0 = 0 ∧ win0_2.index t 1 = 0)

theorem index3 : ∀ t : Fin cfg0.N, win0_3.index t 0 = 0 ∧ win0_3.index t 1 = 0 :=
  (by decide +kernel : ∀ t : Fin grid0.N, win0_3.index t 0 = 0 ∧ win0_3.index t 1 = 0)

theorem index7 : ∀ t : Fin cfg0.N, win0_7.index t 0 = 0 ∧ win0_7.index t 1 = 0 :=
  (by decide +kernel : ∀ t : Fin grid0.N, win0_7.index t 0 = 0 ∧ win0_7.index t 1 = 0)

theorem index8 : ∀ t : Fin cfg0.N, win0_8.index t 0 = 0 ∧ win0_8.index t 1 = 0 :=
  (by decide +kernel : ∀ t : Fin grid0.N, win0_8.index t 0 = 0 ∧ win0_8.index t 1 = 0)

theorem index4 : ∀ t : Fin cfg0.N, win0_4.index t 0 = t.val % 8 ∧ win0_4.index t 1 = 0 ∧ win0_4.index t 2 = 0 :=
  (by decide +kernel : ∀ t : Fin grid0.N, win0_4.index t 0 = t.val % 8 ∧ win0_4.index t 1 = 0 ∧ win0_4.index t 2 = 0)

theorem index5 : ∀ t : Fin cfg0.N, win0_5.index t 0 = t.val % 8 ∧ win0_5.index t 1 = 0 ∧ win0_5.index t 2 = 0 :=
  (by decide +kernel : ∀ t : Fin grid0.N, win0_5.index t 0 = t.val % 8 ∧ win0_5.index t 1 = 0 ∧ win0_5.index t 2 = 0)

theorem index6 : ∀ t : Fin cfg0.N, win0_6.index t 0 = t.val % 8 ∧ win0_6.index t 1 = 0 ∧ win0_6.index t 2 = 0 :=
  (by decide +kernel : ∀ t : Fin grid0.N, win0_6.index t 0 = t.val % 8 ∧ win0_6.index t 1 = 0 ∧ win0_6.index t 2 = 0)

/-- The rows of a point's block. -/
theorem block0 (t : Fin cfg0.N) (r : Fin 1024) (k : Fin 1024) (R : Fin 65536) (hR : R.val = 1024 * (t.val / 8) + r.val) :
    (iblk m c 0 t : Vec Ideal S1024x1024 .f32) (ix2 r k) = arg0 m c (ix2 R k) := by
  unfold iblk
  rw [View.read_apply]
  show V m c main_arg0 _ = m (c.tc.loc main_arg0) _
  unfold V
  congr 1
  funext a
  apply Fin.ext
  match a with
  | ⟨0, _⟩ => show win0_0.index t 0 * 1024 + 1 * r.val = R.val; rw [(index0 t).1, hR]; omega
  | ⟨1, _⟩ => show win0_0.index t 1 * 1024 + 1 * k.val = k.val; rw [(index0 t).2]; omega

/-! The blocks that stay: the whole of their arrays. -/

theorem block1 (t : Fin cfg0.N) : (iblk m c 1 t : Vec Ideal S1024x128 .bf16) = arg1 m c := by
  funext j
  unfold iblk
  rw [View.read_apply]
  show V m c main_arg1 _ = m (c.tc.loc main_arg1) _
  unfold V
  congr 1
  funext a
  apply Fin.ext
  match a with
  | ⟨0, _⟩ => show win0_1.index t 0 * 1024 + 1 * (j 0).val = (j 0).val; rw [(index1 t).1]; omega
  | ⟨1, _⟩ => show win0_1.index t 1 * 128 + 1 * (j 1).val = (j 1).val; rw [(index1 t).2]; omega

theorem block2 (t : Fin cfg0.N) : (iblk m c 2 t : Vec Ideal S1024x128 .bf16) = arg2 m c := by
  funext j
  unfold iblk
  rw [View.read_apply]
  show V m c main_arg2 _ = m (c.tc.loc main_arg2) _
  unfold V
  congr 1
  funext a
  apply Fin.ext
  match a with
  | ⟨0, _⟩ => show win0_2.index t 0 * 1024 + 1 * (j 0).val = (j 0).val; rw [(index2 t).1]; omega
  | ⟨1, _⟩ => show win0_2.index t 1 * 128 + 1 * (j 1).val = (j 1).val; rw [(index2 t).2]; omega

theorem block3 (t : Fin cfg0.N) : (iblk m c 3 t : Vec Ideal S1x128 .f32) = arg3 m c := by
  funext j
  unfold iblk
  rw [View.read_apply]
  show V m c main_arg3 _ = m (c.tc.loc main_arg3) _
  unfold V
  congr 1
  funext a
  apply Fin.ext
  match a with
  | ⟨0, _⟩ => show win0_3.index t 0 * 1 + 1 * (j 0).val = (j 0).val; rw [(index3 t).1]; omega
  | ⟨1, _⟩ => show win0_3.index t 1 * 128 + 1 * (j 1).val = (j 1).val; rw [(index3 t).2]; omega

theorem block7 (t : Fin cfg0.N) : (iblk m c 7 t : Vec Ideal S1x1024 .f32) = arg7 m c := by
  funext j
  unfold iblk
  rw [View.read_apply]
  show V m c main_arg7 _ = m (c.tc.loc main_arg7) _
  unfold V
  congr 1
  funext a
  apply Fin.ext
  match a with
  | ⟨0, _⟩ => show win0_7.index t 0 * 1 + 1 * (j 0).val = (j 0).val; rw [(index7 t).1]; omega
  | ⟨1, _⟩ => show win0_7.index t 1 * 1024 + 1 * (j 1).val = (j 1).val; rw [(index7 t).2]; omega

theorem block8 (t : Fin cfg0.N) : (iblk m c 8 t : Vec Ideal S1x1024 .f32) = arg8 m c := by
  funext j
  unfold iblk
  rw [View.read_apply]
  show V m c main_arg8 _ = m (c.tc.loc main_arg8) _
  unfold V
  congr 1
  funext a
  apply Fin.ext
  match a with
  | ⟨0, _⟩ => show win0_8.index t 0 * 1 + 1 * (j 0).val = (j 0).val; rw [(index8 t).1]; omega
  | ⟨1, _⟩ => show win0_8.index t 1 * 1024 + 1 * (j 1).val = (j 1).val; rw [(index8 t).2]; omega

/-! The blocks of four experts. -/

theorem block4 (t : Fin cfg0.N) (k : Fin 4) (a : Fin 1024) (b : Fin 256) (e : Fin 32) (he : e.val = 4 * (t.val % 8) + k.val) :
    (iblk m c 4 t : Vec Ideal S4x1024x256 .bf16) (ix3 k a b) = arg4 m c (ix3 e a b) := by
  unfold iblk
  rw [View.read_apply]
  show V m c main_arg4 _ = m (c.tc.loc main_arg4) _
  unfold V
  congr 1
  funext x
  apply Fin.ext
  match x with
  | ⟨0, _⟩ => show win0_4.index t 0 * 4 + 1 * k.val = e.val; rw [(index4 t).1, he]; omega
  | ⟨1, _⟩ => show win0_4.index t 1 * 1024 + 1 * a.val = a.val; rw [(index4 t).2.1]; omega
  | ⟨2, _⟩ => show win0_4.index t 2 * 256 + 1 * b.val = b.val; rw [(index4 t).2.2]; omega

theorem block5 (t : Fin cfg0.N) (k : Fin 4) (a : Fin 1024) (b : Fin 256) (e : Fin 32) (he : e.val = 4 * (t.val % 8) + k.val) :
    (iblk m c 5 t : Vec Ideal S4x1024x256 .bf16) (ix3 k a b) = arg5 m c (ix3 e a b) := by
  unfold iblk
  rw [View.read_apply]
  show V m c main_arg5 _ = m (c.tc.loc main_arg5) _
  unfold V
  congr 1
  funext x
  apply Fin.ext
  match x with
  | ⟨0, _⟩ => show win0_5.index t 0 * 4 + 1 * k.val = e.val; rw [(index5 t).1, he]; omega
  | ⟨1, _⟩ => show win0_5.index t 1 * 1024 + 1 * a.val = a.val; rw [(index5 t).2.1]; omega
  | ⟨2, _⟩ => show win0_5.index t 2 * 256 + 1 * b.val = b.val; rw [(index5 t).2.2]; omega

theorem block6 (t : Fin cfg0.N) (k : Fin 4) (a : Fin 256) (b : Fin 1024) (e : Fin 32) (he : e.val = 4 * (t.val % 8) + k.val) :
    (iblk m c 6 t : Vec Ideal S4x256x1024 .bf16) (ix3 k a b) = arg6 m c (ix3 e a b) := by
  unfold iblk
  rw [View.read_apply]
  show V m c main_arg6 _ = m (c.tc.loc main_arg6) _
  unfold V
  congr 1
  funext x
  apply Fin.ext
  match x with
  | ⟨0, _⟩ => show win0_6.index t 0 * 4 + 1 * k.val = e.val; rw [(index6 t).1, he]; omega
  | ⟨1, _⟩ => show win0_6.index t 1 * 256 + 1 * a.val = a.val; rw [(index6 t).2.1]; omega
  | ⟨2, _⟩ => show win0_6.index t 2 * 1024 + 1 * b.val = b.val; rw [(index6 t).2.2]; omega

/-! ## One row -/

/-- A row of the activations. -/
abbrev xrow (R : Fin 65536) (k : Fin 1024) : EReal := arg0 m c (ix2 R k)

/-- Its routing scores. -/
abbrev scores (R : Fin 65536) : Fin 128 → ℝ := Row.score (xrow m c R) (arg1 m c) (arg2 m c) (arg3 m c)

/-- The layer's row `R`. -/
abbrev rowOf (R : Fin 65536) (d : Fin 1024) : EReal :=
  Row.norm (Row.skip (xrow m c R) (Row.experts (scores m c R) (xrow m c R) (arg4 m c) (arg5 m c) (arg6 m c)))
    (fun k => arg7 m c (ix2 0 k)) (fun k => arg8 m c (ix2 0 k)) d

/-- The layer's array. -/
abbrev whole : Vec Ideal S65536x1024 .f32 := fun i => rowOf m c (i 0) (i 1)

/-- What expert number `n` adds to a row. -/
def part (R : Fin 65536) (d : Fin 1024) (n : ℕ) : EReal :=
  if h : n < 32 then (Row.weightOf (scores m c R) ⟨n, h⟩ : EReal) * Row.expert (xrow m c R) (arg4 m c) (arg5 m c) (arg6 m c) ⟨n, h⟩ d else 0

/-- Sums by fours. -/
theorem sum_fours (f : ℕ → EReal) (n : ℕ) : ∑ i ∈ Finset.range n, (f (4 * i) + f (4 * i + 1) + f (4 * i + 2) + f (4 * i + 3)) = ∑ i ∈ Finset.range (4 * n), f i := by
  induction n with
  | zero => rfl
  | succ n ih =>
    rw [Finset.sum_range_succ, ih, show 4 * (n + 1) = 4 * n + 1 + 1 + 1 + 1 from by ring, Finset.sum_range_succ, Finset.sum_range_succ,
      Finset.sum_range_succ, Finset.sum_range_succ]
    simp only [add_assoc]

theorem sum_parts (R : Fin 65536) (d : Fin 1024) :
    ∑ i ∈ Finset.range 8, (part m c R d (4 * i) + part m c R d (4 * i + 1) + part m c R d (4 * i + 2) + part m c R d (4 * i + 3))
      = Row.experts (scores m c R) (xrow m c R) (arg4 m c) (arg5 m c) (arg6 m c) d := by
  rw [sum_fours (part m c R d) 8]
  show ∑ i ∈ Finset.range 32, part m c R d i = _
  rw [← Fin.sum_univ_eq_sum_range]
  unfold Row.experts
  refine Finset.sum_congr rfl fun e _ => ?_
  unfold part
  rw [dif_pos e.isLt]

/-- The part of an expert outside the row's group is zero. -/
theorem part_out (R : Fin 65536) (d : Fin 1024) (n : ℕ) (h : ¬(8 * (Row.group (scores m c R)).val ≤ n ∧ n < 8 * (Row.group (scores m c R)).val + 8)) :
    part m c R d n = 0 := by
  unfold part
  split
  · next hn => rw [Row.weight_out (scores m c R) ⟨n, hn⟩ h, EReal.coe_zero, zero_mul]
  · rfl

section Block
variable (q : ℕ) (hq : q < 64) (j : Fin 1024) (R : Fin 65536) (hR : R.val = 1024 * q + j.val)
  (hx : ∀ k, Row.Finite (xrow m c R k)) (hh : ∀ i, Row.Finite (arg1 m c i)) (hl : ∀ i, Row.Finite (arg2 m c i)) (hb : ∀ i, Row.Finite (arg3 m c i))
include hq hR

theorem pnt_val (e : ℕ) (he : e < 8) : (pnt (8 * q + e)).val / 8 = q ∧ (pnt (8 * q + e)).val % 8 = e := by
  have h : (pnt (8 * q + e)).val = 8 * q + e := Nat.mod_eq_of_lt (by omega)
  rw [h]; omega

theorem bX_at (k : Fin 1024) : bX m c q (ix2 j k) = xrow m c R k :=
  block0 m c (pnt (8 * q)) j k R (by have h := (pnt_val q hq j R hR 0 (by norm_num)).1; rw [Nat.add_zero] at h; rw [h]; exact hR)

include hx hh hl hb

theorem scores_at (l : Fin 128) : k0_pay1 (F := Ideal) (bX m c q) (bH m c q) (bH m c q) (bL m c q) (bB m c q) (ix2 j l) = (scores m c R l : EReal) := by
  have e : (fun k => bX m c q (ix2 j k)) = xrow m c R := funext (bX_at m c q hq j R hR)
  rw [logits_at (bX m c q) (bH m c q) (bL m c q) (bB m c q) j (fun k => by rw [bX_at m c q hq j R hR]; exact hx _)
    (fun i => by unfold bH; rw [block1]; exact hh i) (fun i => by unfold bL; rw [block2]; exact hl i) (fun i => by unfold bB; rw [block3]; exact hb i) l, e]
  unfold bH bL bB
  rw [block1, block2, block3]

theorem group_eq : bG m c q j = Row.group (scores m c R) :=
  groups_at _ _ _ _ j _ (scores_at m c q hq j R hR hx hh hl hb)

/-- What a point adds to the row's place. -/
theorem row_part (e : ℕ) (he : e < 8) (d : Fin 1024) :
    rowT e he (fun k => xsV (bg m c q) (bX m c q) (ix2 (⟨place (bG m c q) j, place_lt (bG m c q) j⟩ : Fin 1408) k))
        (fun l => combsV (bg m c q) (bc m c q) (ix2 (⟨place (bG m c q) j, place_lt (bG m c q) j⟩ : Fin 1408) l))
        (iblk m c 4 (pnt (8 * q + e))) (iblk m c 5 (pnt (8 * q + e))) (iblk m c 6 (pnt (8 * q + e))) d
      = part m c R d (4 * e) + part m c R d (4 * e + 1) + part m c R d (4 * e + 2) + part m c R d (4 * e + 3) := by
  have hg : ∀ i, bg m c q (ix2 i 0) = (((bG m c q i).val : ℝ) : EReal) := fun i => groups_spec _ _ _ _ i
  have hX : (fun k => xsV (bg m c q) (bX m c q) (ix2 (⟨place (bG m c q) j, place_lt (bG m c q) j⟩ : Fin 1408) k)) = xrow m c R := by
    funext k
    exact (xs_read hg (bX m c q) j k).trans (bX_at m c q hq j R hR k)
  have hF : ∀ (k : Fin 4) (x : Fin 32), x.val = 4 * e + k.val →
      ffn (xrow m c R) (iblk m c 4 (pnt (8 * q + e))) (iblk m c 5 (pnt (8 * q + e))) (iblk m c 6 (pnt (8 * q + e))) k d
        = Row.expert (xrow m c R) (arg4 m c) (arg5 m c) (arg6 m c) x d := by
    intro k x hk
    have hk' : x.val = 4 * ((pnt (8 * q + e)).val % 8) + k.val := by rw [(pnt_val q hq j R hR e he).2]; exact hk
    unfold ffn Row.expert
    simp only [block4 m c (pnt (8 * q + e)) k _ _ x hk', block5 m c (pnt (8 * q + e)) k _ _ x hk', block6 m c (pnt (8 * q + e)) k _ _ x hk']
  have hP : ∀ (k : Fin 4) (n : ℕ), n = 4 * e + k.val →
      combsV (bg m c q) (bc m c q) (ix2 (⟨place (bG m c q) j, place_lt (bG m c q) j⟩ : Fin 1408) (lane e he k))
        * ffn (xrow m c R) (iblk m c 4 (pnt (8 * q + e))) (iblk m c 5 (pnt (8 * q + e))) (iblk m c 6 (pnt (8 * q + e))) k d = part m c R d n := by
    intro k n hn
    have hlt : n < 32 := by omega
    have hlane : lane e he k = Row.ex ⟨n, hlt⟩ := Fin.ext (by show 4 + 4 * e + k.val = 4 + n; omega)
    unfold part
    have hw := comb_at _ _ _ _ j _ (scores_at m c q hq j R hR hx hh hl hb) ⟨n, hlt⟩
    rw [dif_pos hlt, hF k ⟨n, hlt⟩ hn, hlane, combs_read hg (bc m c q) j _ _ hw]
    exact congrArg (fun z : EReal => z * Row.expert (xrow m c R) (arg4 m c) (arg5 m c) (arg6 m c) ⟨n, hlt⟩ d) hw
  unfold rowT
  rw [hX, hP 0 (4 * e) rfl, hP 1 (4 * e + 1) rfl, hP 2 (4 * e + 2) rfl, hP 3 (4 * e + 3) rfl]

/-- The running sum at the row's place. -/
theorem acc_at (d : Fin 1024) : ∀ e : ℕ, e ≤ 8 → acc m c q e (ix2 (⟨place (bG m c q) j, place_lt (bG m c q) j⟩ : Fin 1408) d)
    = ∑ i ∈ Finset.range e, (part m c R d (4 * i) + part m c R d (4 * i + 1) + part m c R d (4 * i + 2) + part m c R d (4 * i + 3)) := by
  intro e
  induction e with
  | zero =>
    intro _
    unfold acc k0_pay35
    pointwise
    exact (Finset.sum_range_zero _).symm
  | succ e ih =>
    intro hle
    have he : e < 8 := hle
    rw [acc_succ m c q e he, Finset.sum_range_succ, ← ih (by omega), ← row_part m c q hq j R hR hx hh hl hb e he d]
    unfold stepAcc
    by_cases hc : 16 * start (bG m c q) (grpOf e he) ≤ place (bG m c q) j
        ∧ place (bG m c q) j < 16 * start (bG m c q) (grpOf e he) + 320 * stepsOf (bG m c q) (grpOf e he)
    · exact if_pos hc
    · refine (if_neg hc).trans ?_
      have hne : ¬(Row.group (scores m c R)).val = e / 2 := fun h => hc (by
        have hge : bG m c q j = grpOf e he := Fin.ext (by rw [group_eq m c q hq j R hR hx hh hl hb]; exact h)
        rw [← hge]; exact place_mem (bG m c q) j)
      rw [row_part m c q hq j R hR hx hh hl hb e he d, part_out m c R d (4 * e) (by omega), part_out m c R d (4 * e + 1) (by omega),
        part_out m c R d (4 * e + 2) (by omega), part_out m c R d (4 * e + 3) (by omega)]
      simp only [add_zero]

/-- What the gathering matrix makes of the running sums. -/
theorem gathered (d : Fin 1024) : ∑ s : Fin 1408, ptV (bg m c q) (ix2 j s) * acc m c q 8 (ix2 s d)
    = Row.experts (scores m c R) (xrow m c R) (arg4 m c) (arg5 m c) (arg6 m c) d := by
  have hg : ∀ i, bg m c q (ix2 i 0) = (((bG m c q i).val : ℝ) : EReal) := fun i => groups_spec _ _ _ _ i
  rw [← sum_parts m c R d, ← acc_at m c q hq j R hR hx hh hl hb d 8 le_rfl,
    Finset.sum_eq_single (⟨place (bG m c q) j, place_lt (bG m c q) j⟩ : Fin 1408)]
  · rw [pt_read hg, if_pos rfl, one_mul]
  · intro s _ hs
    rw [pt_read hg, if_neg (fun h => hs (Fin.ext h)), zero_mul]
  · intro h; exact absurd (Finset.mem_univ _) h

end Block

/-- The closing layer norm of one row. -/
theorem pay60_at (P : Vec Ideal S1024x1408 .bf16) (A : Vec Ideal S1408x1024 .f32) (x : Vec Ideal S1024x1024 .f32) (g b : Vec Ideal S1x1024 .f32)
    (j : Fin 1024) (d : Fin 1024) :
    k0_pay60 (F := Ideal) P A x g b (ix2 j d) = Row.norm (Row.skip (fun k => x (ix2 j k)) (fun k => ∑ s : Fin 1408, P (ix2 j s) * A (ix2 s k)))
      (fun k => g (ix2 0 k)) (fun k => b (ix2 0 k)) d := by
  unfold k0_pay60
  pointwise
  rfl

section Whole
variable (hh : ∀ i, Row.Finite (arg1 m c i)) (hl : ∀ i, Row.Finite (arg2 m c i)) (hb : ∀ i, Row.Finite (arg3 m c i))
include hh hl hb

theorem out_at (t : Fin cfg0.N) (j : Fin 1024) (R : Fin 65536) (hR : R.val = 1024 * (t.val / 8) + j.val) (d : Fin 1024) :
    outAt m c t (ix2 j d) = rowOf m c R d := by
  have hN : cfg0.N = 512 := N_0
  have hq : t.val / 8 < 64 := by have := t.isLt; omega
  have e : (fun k => (iblk m c 0 t : Vec Ideal S1024x1024 .f32) (ix2 j k)) = xrow m c R := funext fun k => block0 m c t j k R hR
  unfold outAt
  by_cases hk : ∃ k, Row.Inf (xrow m c R k)
  · obtain ⟨k, hk⟩ := hk
    rw [pay60_at, e, block7, block8, Row.norm_inf _ _ _ k (Row.skip_inf _ _ k hk)]
    unfold rowOf
    rw [Row.norm_inf _ _ _ k (Row.skip_inf (xrow m c R) _ k hk)]
  have hx : ∀ k, Row.Finite (xrow m c R k) := fun k => not_or.1 fun h => hk ⟨k, h⟩
  have e' : (fun k => ∑ s : Fin 1408, ptV (bg m c (t.val / 8)) (ix2 j s) * acc m c (t.val / 8) 8 (ix2 s k))
      = Row.experts (scores m c R) (xrow m c R) (arg4 m c) (arg5 m c) (arg6 m c) := funext (gathered m c (t.val / 8) hq j R hR hx hh hl hb)
  rw [pay60_at, e, e', block7, block8]

/-- What a grid point writes back is its block of the array. -/
theorem flushed_eq (t : Fin cfg0.N) :
    (dats m 0 c).flushed 9 t = ((cfg0.win 9).blk t).view.read (Elt Ideal) (whole m c) := by
  have hN : cfg0.N = 512 := N_0
  have ht := t.isLt
  show (cfg0.win 9).cut (grid0.coords t) ((dats m 0 c).after 9 t) = _
  rw [after0_9]
  funext j
  rw [View.read_apply]
  have h0 : (j 0 : Nat) < 1024 := (j 0).isLt
  have h1 : (j 1 : Nat) < 1024 := (j 1).isLt
  have hj : (j : S1024x1024.Idx) = ix2 ⟨(j 0).val, h0⟩ ⟨(j 1).val, h1⟩ := by
    funext a
    apply Fin.ext
    match a with
    | ⟨0, _⟩ => rfl
    | ⟨1, _⟩ => rfl
  refine (congrArg (outAt m c t) hj).trans ((out_at m c hh hl hb t ⟨(j 0).val, h0⟩ ⟨1024 * (t.val / 8) + (j 0).val, by omega⟩ rfl ⟨(j 1).val, h1⟩).trans ?_)
  show rowOf m c _ _ = rowOf m c _ _
  congr 1
  · apply Fin.ext
    show 1024 * (t.val / 8) + (j 0).val = win0_9.index t 0 * 1024 + 1 * (j 0).val
    rw [(index9 t).1]; omega
  · apply Fin.ext
    show (j 1).val = win0_9.index t 1 * 1024 + 1 * (j 1).val
    rw [(index9 t).2]; omega

/-- The run leaves the layer's array. -/
theorem final : (dats m 0 c).arrAt 9 cfg0.N = whole m c :=
  (dats m 0 c).arrAt_eq_of_cover 9 (whole m c) (fun t _ => flushed_eq m c hh hl hb t) fun i => by
    have h0 : (i 0 : Nat) < 65536 := (i 0).isLt
    have h1 : (i 1 : Nat) < 1024 := (i 1).isLt
    have hN : cfg0.N = 512 := N_0
    refine ⟨⟨8 * ((i 0 : Nat) / 1024) + 7, by omega⟩, (flush0_9 _).2 (by show (8 * ((i 0 : Nat) / 1024) + 7) % 8 = 7; omega), ?_⟩
    generalize ht : (⟨8 * ((i 0 : Nat) / 1024) + 7, _⟩ : Fin cfg0.N) = t
    have hv : t.val = 8 * ((i 0 : Nat) / 1024) + 7 := by rw [← ht]
    show i ∈ ((View.whole main_v0).slice (win0_9.rect t)).set
    rw [View.set_slice_whole, Rect.mem_set_unit]
    intro a
    match a with
    | ⟨0, _⟩ => show win0_9.index t 0 * 1024 ≤ (i 0 : Nat) ∧ (i 0 : Nat) < win0_9.index t 0 * 1024 + 1024
                rw [(index9 t).1, hv]; omega
    | ⟨1, _⟩ => show win0_9.index t 1 * 1024 ≤ (i 1 : Nat) ∧ (i 1 : Nat) < win0_9.index t 1 * 1024 + 1024
                rw [(index9 t).2]; omega

end Whole

end Cert.MoeIdeal.B

end
-- ==== Proof.RefE.Value.lean ====
/-
  The experts' layer written plainly, read: every row of its result is the closed form of a row.
-/
module

public import proofs.«01_k».proof.Proof.Gen.RefEIdeal.Read
public import proofs.«01_k».proof.Proof.Row.Route
public import proofs.«01_k».proof.Proof.Row.Mix
public import proofs.«01_k».proof.Proof.Row.Infinite
public import proofs.«01_k».proof.Proof.Band.Results
public import Idealize.ShloMosaic.Lib.IdealHost
public import Idealize.ShloMosaic.Lib.Pointwise

@[expose] public section

set_option maxRecDepth 16384

noncomputable section

open Idealize.ShloMosaic Idealize.ShloMosaic.TcCoe Idealize.SL.Sem

namespace Cert.RefEIdeal.V

open Cert.RefEIdeal Cert.RefEIdeal.Gen Cert.RefEIdeal.Read

/-! ## Words and indices -/

theorem zero_word : (FloatOps.ofBits .f32 0x00000000#32 : Ideal .f32) = (0 : EReal) := Ideal.ofBits_zero_f32
theorem ninf_word : (FloatOps.ofBits .f32 0xFF800000#32 : Ideal .f32) = (⊥ : EReal) := Band.ninf
theorem pinf_word : (FloatOps.ofBits .f32 0x7F800000#32 : Ideal .f32) = (⊤ : EReal) := by
  show Ideal.ofBits .f32 0x7F800000#32 = ⊤
  simp [Ideal.ofBits, Ideal.ieee]
theorem pinf_f32 : Ideal.ofBits .f32 0x7F800000#32 = ⊤ := pinf_word
theorem four_word : (FloatOps.ofBits .f32 0x40800000#32 : Ideal .f32) = ((4 : ℝ) : EReal) := by
  show Ideal.ofBits .f32 0x40800000#32 = _
  simp [Ideal.ofBits, Ideal.ieee]; rw [← EReal.coe_mul]; norm_num
theorem eight_word : (FloatOps.ofBits .f32 0x41000000#32 : Ideal .f32) = ((8 : ℝ) : EReal) := by
  show Ideal.ofBits .f32 0x41000000#32 = _
  simp [Ideal.ofBits, Ideal.ieee]; rw [← EReal.coe_mul]; norm_num
theorem thirtytwo_word : (FloatOps.ofBits .f32 0x42000000#32 : Ideal .f32) = ((32 : ℝ) : EReal) := by
  show Ideal.ofBits .f32 0x42000000#32 = _
  simp [Ideal.ofBits, Ideal.ieee]; rw [← EReal.coe_mul]; norm_num

/-- An entry read at an index with these coordinates. -/
theorem at1 {n : ℕ} {α : Type} (x : (⟨1, ![n]⟩ : Shape).Idx → α) (i : (⟨1, ![n]⟩ : Shape).Idx) (a : Fin n)
    (h0 : (i 0).val = a.val) : x i = x (ix1 a) := by
  congr 1
  funext c
  apply Fin.ext
  match c with
  | ⟨0, _⟩ => exact h0

theorem at2 {n k : ℕ} {α : Type} (x : (⟨2, ![n, k]⟩ : Shape).Idx → α) (i : (⟨2, ![n, k]⟩ : Shape).Idx) (a : Fin n) (b : Fin k)
    (h0 : (i 0).val = a.val) (h1 : (i 1).val = b.val) : x i = x (ix2 a b) := by
  congr 1
  funext c
  apply Fin.ext
  match c with
  | ⟨0, _⟩ => exact h0
  | ⟨1, _⟩ => exact h1

theorem at3 {n k l : ℕ} {α : Type} (x : (⟨3, ![n, k, l]⟩ : Shape).Idx → α) (i : (⟨3, ![n, k, l]⟩ : Shape).Idx) (a : Fin n) (b : Fin k) (d : Fin l)
    (h0 : (i 0).val = a.val) (h1 : (i 1).val = b.val) (h2 : (i 2).val = d.val) : x i = x (ix3 a b d) := by
  congr 1
  funext c
  apply Fin.ext
  match c with
  | ⟨0, _⟩ => exact h0
  | ⟨1, _⟩ => exact h1
  | ⟨2, _⟩ => exact h2

/-- A choice by an equality. -/
theorem sel_eq (a b x y : EReal) : Scalar.select (FloatOps.cmpf (F := Ideal) (φ := .f32) .oeq a b) x y = if a = b then x else y := by
  show Scalar.select (Ideal.cmp .oeq a b) x y = _
  by_cases h : a = b <;> simp [Scalar.select, Ideal.cmp, h]

/-- A choice by two inequalities. -/
theorem sel_and (a b c x y : EReal) : Scalar.select (IntOp.andi (FloatOps.cmpf (F := Ideal) (φ := .f32) .oge a b)
    (FloatOps.cmpf (F := Ideal) (φ := .f32) .olt a c)) x y = if b ≤ a ∧ a < c then x else y := by
  show Scalar.select (IntOp.andi (Ideal.cmp .oge a b) (Ideal.cmp .olt a c)) x y = _
  by_cases h : b ≤ a <;> by_cases h' : a < c <;> simp [Scalar.select, Ideal.cmp, IntOp.andi, h, h']

/-- A choice by two equalities. -/
theorem sel_or (a b c x y : EReal) : Scalar.select (IntOp.ori (FloatOps.cmpf (F := Ideal) (φ := .f32) .oeq a b)
    (FloatOps.cmpf (F := Ideal) (φ := .f32) .oeq a c)) x y = if a = b ∨ a = c then x else y := by
  have key : ∀ (p q : Prop) [Decidable p] [Decidable q],
      Scalar.select (IntOp.ori (BitVec.ofBool (decide p)) (BitVec.ofBool (decide q))) x y = if p ∨ q then x else y := by
    intro p q _ _
    by_cases h : p <;> by_cases h' : q <;> simp [Scalar.select, IntOp.ori, h, h']
  exact key (a = b) (a = c)

theorem num_eq {n : ℕ} (a b : Fin n) : (((a.val : ℝ) : EReal) = ((b.val : ℝ) : EReal)) ↔ a = b := by
  rw [EReal.coe_eq_coe_iff, Nat.cast_inj, Fin.ext_iff]

theorem lanes4 (i : Fin 4) : val_main_v27 (F := Ideal) (ix1 i) = ((i.val : ℝ) : EReal) := by
  show (((BitVec.ofNat 32 i.val).toInt : ℝ) : EReal) = _
  exact Row.word_nat i.val (by omega)
theorem lanes31 (e : Fin 32) : val_main_v31 (F := Ideal) (ix1 e) = ((e.val : ℝ) : EReal) := by
  show (((BitVec.ofNat 32 e.val).toInt : ℝ) : EReal) = _
  exact Row.word_nat e.val (by omega)
theorem lanes50 (e : Fin 32) : val_main_v50 (F := Ideal) (ix1 e) = ((e.val : ℝ) : EReal) := by
  show (((BitVec.ofNat 32 e.val).toInt : ℝ) : EReal) = _
  exact Row.word_nat e.val (by omega)
theorem lanes63 (e : Fin 32) : val_main_v63 (F := Ideal) (ix1 e) = ((e.val : ℝ) : EReal) := by
  show (((BitVec.ofNat 32 e.val).toInt : ℝ) : EReal) = _
  exact Row.word_nat e.val (by omega)

variable (x0 : (⟨S65536x1024, .f32⟩ : BufTy).Contents (Elt Ideal)) (x1 x2 : (⟨S1024x128, .bf16⟩ : BufTy).Contents (Elt Ideal))
  (x3 : (⟨S1x128, .f32⟩ : BufTy).Contents (Elt Ideal)) (x4 x5 : (⟨S32x1024x256, .bf16⟩ : BufTy).Contents (Elt Ideal))
  (x6 : (⟨S32x256x1024, .bf16⟩ : BufTy).Contents (Elt Ideal)) (x7 x8 : (⟨S1x1024, .f32⟩ : BufTy).Contents (Elt Ideal))
  (t : Fin 65536)

/-! ## The reductions, as folds -/

theorem red10 : val_main_v10 (F := Ideal) x0 x1 x2 x3 (ix1 t) = Finset.univ.fold max ⊥ fun k => val_main_v8 (F := Ideal) x0 x1 x2 x3 (ix2 t k) := by
  unfold val_main_v10 val_main_cst_0
  generalize val_main_v8 (F := Ideal) x0 x1 x2 x3 = y
  pointwise
  rw [Band.ninf]

theorem red21 : val_main_v21 (F := Ideal) x0 x1 x2 x3 (ix1 t) = Finset.univ.fold max ⊥ fun k => val_main_v20 (F := Ideal) x0 x1 x2 x3 (ix2 t k) := by
  unfold val_main_v21 val_main_cst_3
  generalize val_main_v20 (F := Ideal) x0 x1 x2 x3 = y
  pointwise
  rw [Band.ninf]

theorem red23 : val_main_v23 (F := Ideal) x0 x1 x2 x3 (ix1 t) = Finset.univ.fold max ⊥ fun k => val_main_v8 (F := Ideal) x0 x1 x2 x3 (ix2 t k) := by
  unfold val_main_v23 val_main_cst_4
  generalize val_main_v8 (F := Ideal) x0 x1 x2 x3 = y
  pointwise
  rw [Band.ninf]

theorem red29 : val_main_v29 (F := Ideal) x0 x1 x2 x3 (ix1 t) = Finset.univ.fold min ⊤ fun k => val_main_v28 (F := Ideal) x0 x1 x2 x3 (ix2 t k) := by
  unfold val_main_v29 val_main_cst_6
  generalize val_main_v28 (F := Ideal) x0 x1 x2 x3 = y
  pointwise
  rw [pinf_f32]

theorem red46 : val_main_v46 (F := Ideal) x0 x1 x2 x3 (ix1 t) = Finset.univ.fold max ⊥ fun k => val_main_v45 (F := Ideal) x0 x1 x2 x3 (ix2 t k) := by
  unfold val_main_v46 val_main_cst_10
  generalize val_main_v45 (F := Ideal) x0 x1 x2 x3 = y
  pointwise
  rw [Band.ninf]

theorem red52 : val_main_v52 (F := Ideal) x0 x1 x2 x3 (ix1 t) = Finset.univ.fold min ⊤ fun k => val_main_v51 (F := Ideal) x0 x1 x2 x3 (ix2 t k) := by
  unfold val_main_v52 val_main_cst_12
  generalize val_main_v51 (F := Ideal) x0 x1 x2 x3 = y
  pointwise
  rw [pinf_f32]

theorem red59 : val_main_v59 (F := Ideal) x0 x1 x2 x3 (ix1 t) = Finset.univ.fold max ⊥ fun k => val_main_v58 (F := Ideal) x0 x1 x2 x3 (ix2 t k) := by
  unfold val_main_v59 val_main_cst_14
  generalize val_main_v58 (F := Ideal) x0 x1 x2 x3 = y
  pointwise
  rw [Band.ninf]

theorem red65 : val_main_v65 (F := Ideal) x0 x1 x2 x3 (ix1 t) = Finset.univ.fold min ⊤ fun k => val_main_v64 (F := Ideal) x0 x1 x2 x3 (ix2 t k) := by
  unfold val_main_v65 val_main_cst_16
  generalize val_main_v64 (F := Ideal) x0 x1 x2 x3 = y
  pointwise
  rw [pinf_f32]

theorem red77 : val_main_v77 (F := Ideal) x0 x1 x2 x3 (ix1 t) = Finset.univ.fold max ⊥ fun k => val_main_v76 (F := Ideal) x0 x1 x2 x3 (ix2 t k) := by
  unfold val_main_v77 val_main_cst_18
  generalize val_main_v76 (F := Ideal) x0 x1 x2 x3 = y
  pointwise
  rw [Band.ninf]

/-! ## The routing -/

section Routing
variable (L : Fin 128 → ℝ) (h7 : ∀ l, val_main_v7 (F := Ideal) x0 x1 x2 x3 (ix2 t l) = (L l : EReal))
include h7

theorem v8_at (i : Fin 4) : val_main_v8 (F := Ideal) x0 x1 x2 x3 (ix2 t i) = Row.groupScore L i := by
  rw [val_main_v8_apply]
  exact (at2 _ _ t (Row.lo i) rfl rfl).trans (h7 _)

theorem v9_at (e : Fin 32) : val_main_v9 (F := Ideal) x0 x1 x2 x3 (ix2 t e) = (L (Row.ex e) : EReal) := by
  rw [val_main_v9_apply]
  exact (at2 _ _ t (Row.ex e) rfl rfl).trans (h7 _)

theorem v12_at : val_main_v12 (F := Ideal) x0 x1 x2 x3 (ix1 t) = (Row.M0 L : EReal) := by
  rw [val_main_v12_apply, val_main_v11_apply, val_main_cst_1_apply, red10, ninf_word]
  simp only [v8_at x0 x1 x2 x3 t L h7]
  exact (max_eq_right bot_le).trans (Row.max0 L)

theorem v16_at (i : Fin 4) : val_main_v16 (F := Ideal) x0 x1 x2 x3 (ix2 t i) = Ideal.exp (Row.groupScore L i - (Row.M0 L : EReal)) := by
  have e : val_main_v14 (F := Ideal) x0 x1 x2 x3 (ix2 t i) = (Row.M0 L : EReal) := by
    rw [val_main_v14_apply, val_main_v13_apply]
    exact (at1 _ _ t rfl).trans (v12_at x0 x1 x2 x3 t L h7)
  rw [val_main_v16_apply, val_main_v15_apply, v8_at x0 x1 x2 x3 t L h7, e]
  rfl

theorem v17_at : val_main_v17 (F := Ideal) x0 x1 x2 x3 (ix1 t) = ∑ i : Fin 4, Ideal.exp (Row.groupScore L i - (Row.M0 L : EReal)) := by
  rw [val_main_v17_apply, val_main_cst_2_apply, zero_word, zero_add]
  exact Finset.sum_congr rfl fun k _ => (at2 _ _ t k rfl rfl).trans (v16_at x0 x1 x2 x3 t L h7 k)

theorem v20_at (i : Fin 4) : val_main_v20 (F := Ideal) x0 x1 x2 x3 (ix2 t i)
    = Ideal.div (Ideal.exp (Row.groupScore L i - (Row.M0 L : EReal))) (∑ i : Fin 4, Ideal.exp (Row.groupScore L i - (Row.M0 L : EReal))) := by
  have e : val_main_v19 (F := Ideal) x0 x1 x2 x3 (ix2 t i) = ∑ i : Fin 4, Ideal.exp (Row.groupScore L i - (Row.M0 L : EReal)) := by
    rw [val_main_v19_apply, val_main_v18_apply]
    exact (at1 _ _ t rfl).trans (v17_at x0 x1 x2 x3 t L h7)
  rw [val_main_v20_apply, v16_at x0 x1 x2 x3 t L h7, e]
  rfl

theorem v22_at : val_main_v22 (F := Ideal) x0 x1 x2 x3 (ix2 t 0) = (Row.groupWeight L : EReal) := by
  rw [val_main_v22_apply]
  refine (at1 _ _ t rfl).trans ?_
  rw [red21]
  simp only [v20_at x0 x1 x2 x3 t L h7]
  exact Row.softmax_group L

theorem v28_at (i : Fin 4) : val_main_v28 (F := Ideal) x0 x1 x2 x3 (ix2 t i)
    = if Row.groupScore L i = (Row.M0 L : EReal) then ((i.val : ℝ) : EReal) else ((4 : ℝ) : EReal) := by
  have e : val_main_v25 (F := Ideal) x0 x1 x2 x3 (ix2 t i) = (Row.M0 L : EReal) := by
    rw [val_main_v25_apply, val_main_v24_apply]
    refine (at1 _ _ t rfl).trans ?_
    rw [red23]
    simp only [v8_at x0 x1 x2 x3 t L h7]
    exact Row.max0 L
  have e1 : val_main_call0_v1 (F := Ideal) (ix2 t i) = ((i.val : ℝ) : EReal) := by
    rw [val_main_call0_v1_apply]
    exact (at1 _ _ i rfl).trans (lanes4 i)
  have e2 : val_main_call0_v2 (F := Ideal) (ix2 t i) = ((4 : ℝ) : EReal) := by
    rw [val_main_call0_v2_apply]
    exact four_word
  rw [val_main_v28_apply, val_main_v26_apply, v8_at x0 x1 x2 x3 t L h7, e, e1, e2]
  exact sel_eq _ _ _ _

theorem v33_at : val_main_v33 (F := Ideal) x0 x1 x2 x3 (ix2 t 0) = (((8 * (Row.group L).val : ℕ) : ℝ) : EReal) := by
  have e : val_main_v30 (F := Ideal) x0 x1 x2 x3 (ix2 t 0) = (((Row.group L).val : ℝ) : EReal) := by
    rw [val_main_v30_apply]
    refine (at1 _ _ t rfl).trans ?_
    rw [red29]
    simp only [v28_at x0 x1 x2 x3 t L h7]
    exact Row.fold_first (Row.groupScore L) _ 4 (by norm_num) (Row.group L) rfl
      (fun l hl => Row.firstMax_le _ l (hl.trans (Row.max0 L).symm))
  have e2 : val_main_v32 (F := Ideal) (ix2 t 0) = ((8 : ℝ) : EReal) := by
    rw [val_main_v32_apply]
    exact eight_word
  rw [val_main_v33_apply, e, e2]
  show (((Row.group L).val : ℝ) : EReal) * ((8 : ℝ) : EReal) = _
  rw [← EReal.coe_mul]
  exact congrArg (fun r : ℝ => (r : EReal)) (by push_cast; ring)

theorem v45_at (e : Fin 32) : val_main_v45 (F := Ideal) x0 x1 x2 x3 (ix2 t e) = Row.expertScore L e := by
  have e35 : val_main_v35 (F := Ideal) (ix2 t e) = ((e.val : ℝ) : EReal) := by
    rw [val_main_v35_apply, val_main_v34_apply]; exact (at1 _ _ e rfl).trans (lanes31 e)
  have e41 : val_main_v41 (F := Ideal) (ix2 t e) = ((e.val : ℝ) : EReal) := by
    rw [val_main_v41_apply, val_main_v40_apply]; exact (at1 _ _ e rfl).trans (lanes31 e)
  have e36 : val_main_v36 (F := Ideal) x0 x1 x2 x3 (ix2 t e) = (((8 * (Row.group L).val : ℕ) : ℝ) : EReal) := by
    rw [val_main_v36_apply]; exact (at2 _ _ t 0 rfl rfl).trans (v33_at x0 x1 x2 x3 t L h7)
  have e42 : val_main_v42 (F := Ideal) x0 x1 x2 x3 (ix2 t e) = (((8 * (Row.group L).val : ℕ) : ℝ) : EReal) + ((8 : ℝ) : EReal) := by
    rw [val_main_v42_apply]
    refine (at2 _ _ t 0 rfl rfl).trans ?_
    have e38 : val_main_v38 (F := Ideal) (ix2 t 0) = ((8 : ℝ) : EReal) := by
      rw [val_main_v38_apply]; exact eight_word
    rw [val_main_v39_apply, v33_at x0 x1 x2 x3 t L h7, e38]
    rfl
  have ew : val_main_call1_v1 (F := Ideal) (ix2 t e) = (⊥ : EReal) := by
    rw [val_main_call1_v1_apply]; exact ninf_word
  rw [val_main_v45_apply, val_main_v44_apply, val_main_v37_apply, val_main_v43_apply, e35, e41, e36, e42, v9_at x0 x1 x2 x3 t L h7, ew]
  refine (sel_and _ _ _ _ _).trans (if_congr ?_ rfl rfl)
  rw [← EReal.coe_add, EReal.coe_le_coe_iff, EReal.coe_lt_coe_iff]
  exact_mod_cast Iff.rfl

theorem v46_at : val_main_v46 (F := Ideal) x0 x1 x2 x3 (ix1 t) = (Row.M1 L : EReal) := by
  rw [red46]
  simp only [v45_at x0 x1 x2 x3 t L h7]
  exact Row.max1 L

theorem v53_at : val_main_v53 (F := Ideal) x0 x1 x2 x3 (ix2 t 0) = (((Row.best L).val : ℝ) : EReal) := by
  have e51 : ∀ e : Fin 32, val_main_v51 (F := Ideal) x0 x1 x2 x3 (ix2 t e)
      = if Row.expertScore L e = (Row.M1 L : EReal) then ((e.val : ℝ) : EReal) else ((32 : ℝ) : EReal) := by
    intro e
    have e48 : val_main_v48 (F := Ideal) x0 x1 x2 x3 (ix2 t e) = (Row.M1 L : EReal) := by
      rw [val_main_v48_apply, val_main_v47_apply]; exact (at1 _ _ t rfl).trans (v46_at x0 x1 x2 x3 t L h7)
    have e1 : val_main_call2_v1 (F := Ideal) (ix2 t e) = ((e.val : ℝ) : EReal) := by
      rw [val_main_call2_v1_apply]; exact (at1 _ _ e rfl).trans (lanes50 e)
    have e2 : val_main_call2_v2 (F := Ideal) (ix2 t e) = ((32 : ℝ) : EReal) := by
      rw [val_main_call2_v2_apply]; exact thirtytwo_word
    rw [val_main_v51_apply, val_main_v49_apply, v45_at x0 x1 x2 x3 t L h7, e48, e1, e2]
    exact sel_eq _ _ _ _
  rw [val_main_v53_apply]
  refine (at1 _ _ t rfl).trans ?_
  rw [red52]
  simp only [e51]
  exact Row.fold_first (Row.expertScore L) _ 32 (by norm_num) (Row.best L) (Row.score_best L)
    (fun l hl => Row.firstMax_le _ l (hl.trans (Row.max1 L).symm))

theorem v58_at (e : Fin 32) : val_main_v58 (F := Ideal) x0 x1 x2 x3 (ix2 t e) = Row.restScore L e := by
  have e55 : val_main_v55 (F := Ideal) (ix2 t e) = ((e.val : ℝ) : EReal) := by
    rw [val_main_v55_apply, val_main_v54_apply]; exact (at1 _ _ e rfl).trans (lanes31 e)
  have e56 : val_main_v56 (F := Ideal) x0 x1 x2 x3 (ix2 t e) = (((Row.best L).val : ℝ) : EReal) := by
    rw [val_main_v56_apply]; exact (at2 _ _ t 0 rfl rfl).trans (v53_at x0 x1 x2 x3 t L h7)
  have ew : val_main_call3_v1 (F := Ideal) (ix2 t e) = (⊥ : EReal) := by
    rw [val_main_call3_v1_apply]; exact ninf_word
  rw [val_main_v58_apply, val_main_v57_apply, e55, e56, ew, v45_at x0 x1 x2 x3 t L h7]
  exact (sel_eq _ _ _ _).trans (if_congr (num_eq _ _) rfl rfl)

theorem v66_at : val_main_v66 (F := Ideal) x0 x1 x2 x3 (ix2 t 0) = (((Row.second L).val : ℝ) : EReal) := by
  have e59 : val_main_v59 (F := Ideal) x0 x1 x2 x3 (ix1 t) = (Row.M2 L : EReal) := by
    rw [red59]
    simp only [v58_at x0 x1 x2 x3 t L h7]
    exact Row.max2 L
  have e64 : ∀ e : Fin 32, val_main_v64 (F := Ideal) x0 x1 x2 x3 (ix2 t e)
      = if Row.restScore L e = (Row.M2 L : EReal) then ((e.val : ℝ) : EReal) else ((32 : ℝ) : EReal) := by
    intro e
    have e61 : val_main_v61 (F := Ideal) x0 x1 x2 x3 (ix2 t e) = (Row.M2 L : EReal) := by
      rw [val_main_v61_apply, val_main_v60_apply]; exact (at1 _ _ t rfl).trans e59
    have e1 : val_main_call4_v1 (F := Ideal) (ix2 t e) = ((e.val : ℝ) : EReal) := by
      rw [val_main_call4_v1_apply]; exact (at1 _ _ e rfl).trans (lanes63 e)
    have e2 : val_main_call4_v2 (F := Ideal) (ix2 t e) = ((32 : ℝ) : EReal) := by
      rw [val_main_call4_v2_apply]; exact thirtytwo_word
    rw [val_main_v64_apply, val_main_v62_apply, v58_at x0 x1 x2 x3 t L h7, e61, e1, e2]
    exact sel_eq _ _ _ _
  rw [val_main_v66_apply]
  refine (at1 _ _ t rfl).trans ?_
  rw [red65]
  simp only [e64]
  exact Row.fold_first (Row.restScore L) _ 32 (by norm_num) (Row.second L) (Row.rest_second L)
    (fun l hl => Row.firstMax_le _ l (hl.trans (Row.max2 L).symm))

theorem v76_at (e : Fin 32) : val_main_v76 (F := Ideal) x0 x1 x2 x3 (ix2 t e) = Row.topScore L e := by
  have e68 : val_main_v68 (F := Ideal) (ix2 t e) = ((e.val : ℝ) : EReal) := by
    rw [val_main_v68_apply, val_main_v67_apply]; exact (at1 _ _ e rfl).trans (lanes31 e)
  have e72 : val_main_v72 (F := Ideal) (ix2 t e) = ((e.val : ℝ) : EReal) := by
    rw [val_main_v72_apply, val_main_v71_apply]; exact (at1 _ _ e rfl).trans (lanes31 e)
  have e69 : val_main_v69 (F := Ideal) x0 x1 x2 x3 (ix2 t e) = (((Row.best L).val : ℝ) : EReal) := by
    rw [val_main_v69_apply]; exact (at2 _ _ t 0 rfl rfl).trans (v53_at x0 x1 x2 x3 t L h7)
  have e73 : val_main_v73 (F := Ideal) x0 x1 x2 x3 (ix2 t e) = (((Row.second L).val : ℝ) : EReal) := by
    rw [val_main_v73_apply]; exact (at2 _ _ t 0 rfl rfl).trans (v66_at x0 x1 x2 x3 t L h7)
  have ew : val_main_call5_v1 (F := Ideal) (ix2 t e) = (⊥ : EReal) := by
    rw [val_main_call5_v1_apply]; exact ninf_word
  rw [val_main_v76_apply, val_main_v75_apply, val_main_v70_apply, val_main_v74_apply, e68, e72, e69, e73, ew, v45_at x0 x1 x2 x3 t L h7]
  exact (sel_or _ _ _ _ _).trans (if_congr (or_congr (num_eq _ _) (num_eq _ _)) rfl rfl)

theorem v83_at (e : Fin 32) : val_main_v83 (F := Ideal) x0 x1 x2 x3 (ix2 t e) = Ideal.exp (Row.topScore L e - (Row.M1 L : EReal)) := by
  have e79 : val_main_v79 (F := Ideal) x0 x1 x2 x3 (ix1 t) = (Row.M1 L : EReal) := by
    rw [val_main_v79_apply, val_main_v78_apply, val_main_cst_19_apply, red77, ninf_word]
    simp only [v76_at x0 x1 x2 x3 t L h7]
    exact (max_eq_right bot_le).trans (Row.max_top L)
  have e81 : val_main_v81 (F := Ideal) x0 x1 x2 x3 (ix2 t e) = (Row.M1 L : EReal) := by
    rw [val_main_v81_apply, val_main_v80_apply]
    exact (at1 _ _ t rfl).trans e79
  rw [val_main_v83_apply, val_main_v82_apply, v76_at x0 x1 x2 x3 t L h7, e81]
  rfl

/-- The combining weights. -/
theorem v89_at (e : Fin 32) : val_main_v89 (F := Ideal) x0 x1 x2 x3 (ix2 t e) = (Row.weightOf L e : EReal) := by
  have e84 : val_main_v84 (F := Ideal) x0 x1 x2 x3 (ix1 t) = ∑ e : Fin 32, Ideal.exp (Row.topScore L e - (Row.M1 L : EReal)) := by
    rw [val_main_v84_apply, val_main_cst_20_apply, zero_word, zero_add]
    exact Finset.sum_congr rfl fun k _ => (at2 _ _ t k rfl rfl).trans (v83_at x0 x1 x2 x3 t L h7 k)
  have e86 : val_main_v86 (F := Ideal) x0 x1 x2 x3 (ix2 t e) = ∑ e : Fin 32, Ideal.exp (Row.topScore L e - (Row.M1 L : EReal)) := by
    rw [val_main_v86_apply, val_main_v85_apply]
    exact (at1 _ _ t rfl).trans e84
  have e88 : val_main_v88 (F := Ideal) x0 x1 x2 x3 (ix2 t e) = (Row.groupWeight L : EReal) := by
    rw [val_main_v88_apply]; exact (at2 _ _ t 0 rfl rfl).trans (v22_at x0 x1 x2 x3 t L h7)
  rw [val_main_v89_apply, val_main_v87_apply, v83_at x0 x1 x2 x3 t L h7, e86, e88]
  exact Row.softmax_top L e

end Routing

/-! ## The experts -/

theorem v91_at (e : Fin 32) (f : Fin 256) : val_main_v91 (F := Ideal) x0 x4 (ix3 t e f) = ∑ k : Fin 1024, x0 (ix2 t k) * x4 (ix3 e k f) := by
  refine (val_main_v91_apply x0 x4 (ix3 t e f)).trans (Finset.sum_congr rfl fun k _ => ?_)
  rw [val_main_v90_apply]
  exact congrArg₂ (· * ·) (at2 x0 _ t k rfl rfl) (at3 x4 _ e k f rfl rfl rfl)

theorem v93_at (e : Fin 32) (f : Fin 256) : val_main_v93 (F := Ideal) x0 x5 (ix3 t e f) = ∑ k : Fin 1024, x0 (ix2 t k) * x5 (ix3 e k f) := by
  refine (val_main_v93_apply x0 x5 (ix3 t e f)).trans (Finset.sum_congr rfl fun k _ => ?_)
  rw [val_main_v92_apply]
  exact congrArg₂ (· * ·) (at2 x0 _ t k rfl rfl) (at3 x5 _ e k f rfl rfl rfl)

theorem v95_at (e : Fin 32) (f : Fin 256) : val_main_v95 (F := Ideal) x0 x4 x5 (ix3 t e f)
    = (∑ k : Fin 1024, x0 (ix2 t k) * x4 (ix3 e k f)) * Ideal.logistic (∑ k : Fin 1024, x0 (ix2 t k) * x4 (ix3 e k f))
      * ∑ k : Fin 1024, x0 (ix2 t k) * x5 (ix3 e k f) := by
  rw [val_main_v95_apply, val_main_v94_apply, val_main_call6_v5_apply, val_main_call6_v3_apply, val_main_call6_v1_apply, val_main_call6_v0_apply,
    val_main_call6_v4_apply, val_main_call6_v2_apply, val_main_call6_cst_apply, val_main_call6_cst_0_apply, v91_at, v93_at]
  show _ * Ideal.div (Ideal.ofBits .f32 0x3F800000#32) (Ideal.ofBits .f32 0x3F800000#32 + Ideal.exp (-_)) * _ = _
  rw [Ideal.ofBits_one_f32]
  rfl

theorem v97_at (e : Fin 32) (d : Fin 1024) : val_main_v97 (F := Ideal) x0 x4 x5 x6 (ix3 e t d) = Row.expert (fun k => x0 (ix2 t k)) x4 x5 x6 e d := by
  refine (val_main_v97_apply x0 x4 x5 x6 (ix3 e t d)).trans (Finset.sum_congr rfl fun f _ => ?_)
  rw [val_main_v96_apply]
  exact congrArg₂ (· * ·) ((at3 _ _ t e f rfl rfl rfl).trans (v95_at x0 x4 x5 t e f)) (at3 x6 _ e f d rfl rfl rfl)

/-- The routing scores of a row that is not infinite. -/
theorem v7_at (hx : ∀ k, Row.Finite (x0 (ix2 t k))) (hh : ∀ i, Row.Finite (x1 i)) (hl : ∀ i, Row.Finite (x2 i)) (hb : ∀ i, Row.Finite (x3 i)) (l : Fin 128) :
    val_main_v7 (F := Ideal) x0 x1 x2 x3 (ix2 t l) = (Row.score (fun k => x0 (ix2 t k)) x1 x2 x3 l : EReal) := by
  rw [← Row.score_sum (fun k => x0 (ix2 t k)) x1 x2 x3 hx hh hl hb l]
  have e5 : val_main_v5 (F := Ideal) x0 x1 x2 (ix2 t l) = ∑ k : Fin 1024, x0 (ix2 t k) * (x1 (ix2 k l) + x2 (ix2 k l)) := by
    refine (val_main_v5_apply x0 x1 x2 (ix2 t l)).trans (Finset.sum_congr rfl fun k _ => ?_)
    rw [val_main_v4_apply, val_main_v2_apply, val_main_v3_apply]
    exact congrArg₂ (· * ·) (at2 x0 _ t k rfl rfl) (congrArg₂ (· + ·) (at2 x1 _ k l rfl rfl) (at2 x2 _ k l rfl rfl))
  have e6 : val_main_v6 (F := Ideal) x3 (ix2 t l) = x3 (ix2 0 l) := (val_main_v6_apply x3 (ix2 t l)).trans (at2 x3 _ 0 l rfl rfl)
  rw [val_main_v7_apply, e5, e6]
  rfl

/-- The experts' weighted sum. -/
theorem v102_at (L : Fin 128 → ℝ) (h7 : ∀ l, val_main_v7 (F := Ideal) x0 x1 x2 x3 (ix2 t l) = (L l : EReal)) (d : Fin 1024) : val_main_v102 (F := Ideal) x0 x1 x2 x3 x4 x5 x6 (ix2 t d) = Row.experts L (fun k => x0 (ix2 t k)) x4 x5 x6 d := by
  rw [val_main_v102_apply, val_main_cst_21_apply, zero_word, zero_add]
  refine Finset.sum_congr rfl fun e _ => ?_
  refine (at3 _ _ e t d rfl rfl rfl).trans ?_
  have e100 : val_main_v100 (F := Ideal) x0 x1 x2 x3 (ix3 e t d) = (Row.weightOf L e : EReal) := by
    rw [val_main_v100_apply, val_main_v99_apply, val_main_v98_apply]
    exact (at2 _ _ t e rfl rfl).trans (v89_at x0 x1 x2 x3 t L h7 e)
  rw [val_main_v101_apply, v97_at, e100]
  rfl

section Result
variable (y : Fin 1024 → EReal) (hy : ∀ d, val_main_v102 (F := Ideal) x0 x1 x2 x3 x4 x5 x6 (ix2 t d) = y d)
include hy

/-- The row the layer norm is taken of. -/
theorem v103_at (d : Fin 1024) : val_main_v103 (F := Ideal) x0 x1 x2 x3 x4 x5 x6 (ix2 t d)
    = Row.skip (fun k => x0 (ix2 t k)) y d := by
  rw [val_main_v103_apply, hy, val_main_v1_apply, val_main_v0_apply]
  rfl

/-- Its mean. -/
theorem v107_at : val_main_v107 (F := Ideal) x0 x1 x2 x3 x4 x5 x6 (ix2 t 0)
    = Ideal.div (∑ k, Row.skip (fun k => x0 (ix2 t k)) y k) (Ideal.ofBits .f32 0x44800000#32) := by
  rw [val_main_v107_apply, val_main_v106_apply, val_main_v105_apply, val_main_v104_apply, val_main_cst_22_apply, zero_word, zero_add]
  refine congrArg₂ Ideal.div (Finset.sum_congr rfl fun k _ => ?_) rfl
  exact (at2 _ _ t k rfl rfl).trans (v103_at x0 x1 x2 x3 x4 x5 x6 t y hy k)

/-- A centred entry. -/
theorem v109_at (d : Fin 1024) : val_main_v109 (F := Ideal) x0 x1 x2 x3 x4 x5 x6 (ix2 t d)
    = Row.skip (fun k => x0 (ix2 t k)) y d
      - Ideal.div (∑ k, Row.skip (fun k => x0 (ix2 t k)) y k) (Ideal.ofBits .f32 0x44800000#32) := by
  rw [val_main_v109_apply, val_main_v108_apply, v103_at x0 x1 x2 x3 x4 x5 x6 t y hy]
  exact congrArg (_ - ·) ((at2 _ _ t 0 rfl rfl).trans (v107_at x0 x1 x2 x3 x4 x5 x6 t y hy))

/-- The result's layer norm. -/
theorem norm_at (d : Fin 1024) : val_main_v123 (F := Ideal) x0 x1 x2 x3 x4 x5 x6 x7 x8 (ix2 t d)
    = Row.norm (Row.skip (fun k => x0 (ix2 t k)) y) (fun k => x7 (ix2 0 k)) (fun k => x8 (ix2 0 k)) d := by
  have e120 : val_main_v120 (F := Ideal) x7 (ix2 t d) = x7 (ix2 0 d) := (val_main_v120_apply x7 (ix2 t d)).trans (at2 x7 _ 0 d rfl rfl)
  have e122 : val_main_v122 (F := Ideal) x8 (ix2 t d) = x8 (ix2 0 d) := (val_main_v122_apply x8 (ix2 t d)).trans (at2 x8 _ 0 d rfl rfl)
  have e111 : ∀ i, (i 0).val = t.val → val_main_v111 (F := Ideal) x0 x1 x2 x3 x4 x5 x6 i
      = ∑ k, (Row.skip (fun k => x0 (ix2 t k)) y k
          - Ideal.div (∑ k, Row.skip (fun k => x0 (ix2 t k)) y k) (Ideal.ofBits .f32 0x44800000#32))
        * (Row.skip (fun k => x0 (ix2 t k)) y k
          - Ideal.div (∑ k, Row.skip (fun k => x0 (ix2 t k)) y k) (Ideal.ofBits .f32 0x44800000#32)) := by
    intro i hi
    rw [val_main_v111_apply, val_main_cst_24_apply, zero_word, zero_add]
    refine Finset.sum_congr rfl fun k _ => ?_
    rw [val_main_v110_apply]
    have e := (at2 (val_main_v109 (F := Ideal) x0 x1 x2 x3 x4 x5 x6) (idx_main_v111 i k) t k hi rfl).trans (v109_at x0 x1 x2 x3 x4 x5 x6 t y hy k)
    exact congrArg₂ (· * ·) e e
  rw [val_main_v123_apply, val_main_v121_apply, e120, e122, val_main_v119_apply, v109_at x0 x1 x2 x3 x4 x5 x6 t y hy, val_main_v118_apply, val_main_v117_apply,
    val_main_v116_apply, val_main_v115_apply, val_main_v114_apply, val_main_v113_apply, val_main_v112_apply, e111 _ rfl]
  rfl

end Result

/-- The result, row by row, where the router's weights and bias are not infinite. -/
theorem out_at (hh : ∀ i, Row.Finite (x1 i)) (hl : ∀ i, Row.Finite (x2 i)) (hb : ∀ i, Row.Finite (x3 i)) (d : Fin 1024) :
    val_main_v123 (F := Ideal) x0 x1 x2 x3 x4 x5 x6 x7 x8 (ix2 t d)
      = Row.norm (Row.skip (fun k => x0 (ix2 t k)) (Row.experts (Row.score (fun k => x0 (ix2 t k)) x1 x2 x3) (fun k => x0 (ix2 t k)) x4 x5 x6))
        (fun k => x7 (ix2 0 k)) (fun k => x8 (ix2 0 k)) d := by
  by_cases hk : ∃ k, Row.Inf (x0 (ix2 t k))
  · obtain ⟨k, hk⟩ := hk
    rw [norm_at x0 x1 x2 x3 x4 x5 x6 x7 x8 t _ (fun _ => rfl) d, Row.norm_inf _ _ _ k (Row.skip_inf (fun k => x0 (ix2 t k)) _ k hk),
      Row.norm_inf _ _ _ k (Row.skip_inf (fun k => x0 (ix2 t k)) _ k hk)]
  have hx : ∀ k, Row.Finite (x0 (ix2 t k)) := fun k => not_or.1 fun h => hk ⟨k, h⟩
  exact norm_at x0 x1 x2 x3 x4 x5 x6 x7 x8 t _ (v102_at x0 x1 x2 x3 x4 x5 x6 t _ (v7_at x0 x1 x2 x3 t hx hh hl hb)) d

end Cert.RefEIdeal.V

end
-- ==== Proof.Moe.Claim.lean ====
/-
  The claim of the experts' layer: the kernel's idealization and the reference's end in the same array.
-/
module

public import proofs.«01_k».proof.Defs
public import proofs.«01_k».proof.Proof.Moe.Array
public import proofs.«01_k».proof.Proof.Moe.Frames
public import proofs.«01_k».proof.Proof.RefE.Value
public import proofs.«01_k».proof.Proof.Gen.MoeIdeal.Frame
public import proofs.«01_k».proof.Proof.Gen.RefEIdeal.Run
public import proofs.«01_k».proof.Proof.Gen.Pre_finite_route
public import Idealize.ShloMosaic.Lib.Quiescent

@[expose] public section

set_option maxRecDepth 16384

noncomputable section

open Idealize.ShloMosaic Idealize.SL.Sem

namespace Cert.Proof

/-- An entry whose absolute value is below infinity is not infinite. -/
theorem finite_of_lt {S : Shape} (x : FVec Ideal S .f32) (h : (⟨0, ![]⟩ : Shape).BroadcastsInDim S (![] : Fin 0 → Fin S.rank)) (i : S.Idx)
    (hi : cmpf .olt (Host.absf x) (broadcastInDim S ![] h (constant (F := Ideal) ⟨0, ![]⟩ .f32 0x7F800000#32)) i = 1#1) : Row.Finite (x i) := by
  have hb : broadcastInDim S ![] h (constant (F := Ideal) ⟨0, ![]⟩ .f32 0x7F800000#32) i = (⊤ : EReal) := by
    rw [broadcastInDim_apply _ h _ i (fun a => a.elim0) (fun a => a.elim0)]
    show Ideal.ofBits .f32 0x7F800000#32 = ⊤
    simp [Ideal.ofBits, Ideal.ieee]
  have hlt : Ideal.cmp .olt (max (x i) (-x i)) ⊤ = 1#1 := by
    rw [← hb]; exact hi
  have hlt' : max (x i) (-x i) < ⊤ := by
    by_contra hn
    simp [Ideal.cmp, hn] at hlt
  constructor
  · intro e; rw [e] at hlt'; simp at hlt'
  · intro e; rw [e] at hlt'; simp at hlt'

theorem bits_and (a b : BitVec 1) (h : IntOp.andi a b = 1#1) : a = 1#1 ∧ b = 1#1 := by
  revert a b; decide

/-- The precondition says that no entry of the router's weights and bias is infinite. -/
theorem finite_route_of_pre [Cert.Pre_finite_route.Facts] (x0 : FVec Ideal Cert.Pre_finite_route.S65536x1024 .f32)
    (x1 x2 : FVec Ideal Cert.Pre_finite_route.S1024x128 .bf16) (x3 : FVec Ideal Cert.Pre_finite_route.S1x128 .f32)
    (x4 x5 : FVec Ideal Cert.Pre_finite_route.S32x1024x256 .bf16) (x6 : FVec Ideal Cert.Pre_finite_route.S32x256x1024 .bf16)
    (x7 x8 : FVec Ideal Cert.Pre_finite_route.S1x1024 .f32)
    (h : Cert.Pre_finite_route.fn (F := Ideal) x0 x1 x2 x3 x4 x5 x6 x7 x8 = fun _ => 1#1) :
    (∀ i, Row.Finite (x1 i)) ∧ (∀ i, Row.Finite (x2 i)) ∧ (∀ i, Row.Finite (x3 i)) := by
  have h' := congrFun h (fun a => a.elim0)
  unfold Cert.Pre_finite_route.fn at h'
  obtain ⟨ha, h3⟩ := bits_and _ _ h'
  obtain ⟨h1, h2⟩ := bits_and _ _ ha
  exact ⟨fun i => finite_of_lt (S := Cert.Pre_finite_route.S1024x128) x1 _ i (Host.reduce_andi_all (t := ⟨0, ![]⟩) _ _ _ _ (fun a => a.elim0) h1 i),
    fun i => finite_of_lt (S := Cert.Pre_finite_route.S1024x128) x2 _ i (Host.reduce_andi_all (t := ⟨0, ![]⟩) _ _ _ _ (fun a => a.elim0) h2 i),
    fun i => finite_of_lt x3 _ i (Host.reduce_andi_all (t := ⟨0, ![]⟩) _ _ _ _ (fun a => a.elim0) h3 i)⟩

/-- The kernel's idealization and the reference's, run on the same arguments, the router's weights and bias not
    infinite, end in the same array: the layer's rows. -/
theorem algebraicE : Cert.algebraic_MoeIdeal_RefEIdeal_pre_finite_route := by
  intro m ρ m' ρ' hpre hag
  refine ⟨fun c => Cert.MoeIdeal.B.whole m c, ?_, ?_⟩
  · refine (θ_run Cert.MoeIdeal.defs _ _).mono (fun r h c => ?_) (Cert.MoeIdeal.B.run_main m ρ)
    obtain ⟨hh, hl, hb⟩ := finite_route_of_pre _ _ _ _ _ _ _ _ _ (hpre c)
    refine ⟨((h.1 c).1 9).trans (Cert.MoeIdeal.B.final m c hh hl hb), ?_⟩
    exact ⟨((h.1 c).1 0).trans (((Cert.MoeIdeal.B.dats m 0 c).arrAt_in 0 rfl _).trans ((Cert.MoeIdeal.B.A_eq m c 0).trans (Cert.MoeIdeal.Gen.V_main_arg0 m c))),
      ((h.1 c).1 1).trans (((Cert.MoeIdeal.B.dats m 0 c).arrAt_in 1 rfl _).trans ((Cert.MoeIdeal.B.A_eq m c 1).trans (Cert.MoeIdeal.Gen.V_main_arg1 m c))),
      ((h.1 c).1 2).trans (((Cert.MoeIdeal.B.dats m 0 c).arrAt_in 2 rfl _).trans ((Cert.MoeIdeal.B.A_eq m c 2).trans (Cert.MoeIdeal.Gen.V_main_arg2 m c))),
      ((h.1 c).1 3).trans (((Cert.MoeIdeal.B.dats m 0 c).arrAt_in 3 rfl _).trans ((Cert.MoeIdeal.B.A_eq m c 3).trans (Cert.MoeIdeal.Gen.V_main_arg3 m c))),
      ((h.1 c).1 4).trans (((Cert.MoeIdeal.B.dats m 0 c).arrAt_in 4 rfl _).trans ((Cert.MoeIdeal.B.A_eq m c 4).trans (Cert.MoeIdeal.Gen.V_main_arg4 m c))),
      ((h.1 c).1 5).trans (((Cert.MoeIdeal.B.dats m 0 c).arrAt_in 5 rfl _).trans ((Cert.MoeIdeal.B.A_eq m c 5).trans (Cert.MoeIdeal.Gen.V_main_arg5 m c))),
      ((h.1 c).1 6).trans (((Cert.MoeIdeal.B.dats m 0 c).arrAt_in 6 rfl _).trans ((Cert.MoeIdeal.B.A_eq m c 6).trans (Cert.MoeIdeal.Gen.V_main_arg6 m c))),
      ((h.1 c).1 7).trans (((Cert.MoeIdeal.B.dats m 0 c).arrAt_in 7 rfl _).trans ((Cert.MoeIdeal.B.A_eq m c 7).trans (Cert.MoeIdeal.Gen.V_main_arg7 m c))),
      ((h.1 c).1 8).trans (((Cert.MoeIdeal.B.dats m 0 c).arrAt_in 8 rfl _).trans ((Cert.MoeIdeal.B.A_eq m c 8).trans (Cert.MoeIdeal.Gen.V_main_arg8 m c)))⟩
  · refine (θ_run Cert.RefEIdeal.defs _ _).mono (fun _ h c => ⟨(h c).1.trans ?_, (h c).2⟩) (Cert.RefEIdeal.Value.run m' ρ')
    obtain ⟨hh, hl, hb⟩ := finite_route_of_pre _ _ _ _ _ _ _ _ _ (hpre c)
    obtain ⟨e0, e1, e2, e3, e4, e5, e6, e7, e8⟩ := hag c
    rw [Cert.RefEIdeal.Read.val_main_v123_eq]
    show Cert.RefEIdeal.Read.val_main_v123 (F := Ideal) (m' ((c.tc : Thread Cert.RefEIdeal.nD Cert.RefEIdeal.τ).loc Cert.RefEIdeal.main_arg0)) (m' ((c.tc : Thread Cert.RefEIdeal.nD Cert.RefEIdeal.τ).loc Cert.RefEIdeal.main_arg1)) (m' ((c.tc : Thread Cert.RefEIdeal.nD Cert.RefEIdeal.τ).loc Cert.RefEIdeal.main_arg2)) (m' ((c.tc : Thread Cert.RefEIdeal.nD Cert.RefEIdeal.τ).loc Cert.RefEIdeal.main_arg3)) (m' ((c.tc : Thread Cert.RefEIdeal.nD Cert.RefEIdeal.τ).loc Cert.RefEIdeal.main_arg4)) (m' ((c.tc : Thread Cert.RefEIdeal.nD Cert.RefEIdeal.τ).loc Cert.RefEIdeal.main_arg5)) (m' ((c.tc : Thread Cert.RefEIdeal.nD Cert.RefEIdeal.τ).loc Cert.RefEIdeal.main_arg6)) (m' ((c.tc : Thread Cert.RefEIdeal.nD Cert.RefEIdeal.τ).loc Cert.RefEIdeal.main_arg7)) (m' ((c.tc : Thread Cert.RefEIdeal.nD Cert.RefEIdeal.τ).loc Cert.RefEIdeal.main_arg8)) = Cert.MoeIdeal.B.whole m c
    rw [e0, e1, e2, e3, e4, e5, e6, e7, e8]
    funext i
    exact (Cert.RefEIdeal.V.at2 _ i (i 0) (i 1) rfl rfl).trans (Cert.RefEIdeal.V.out_at _ _ _ _ _ _ _ _ _ (i 0) hh hl hb (i 1))

end Cert.Proof

end
-- ==== Proof.lean ====
module

public import proofs.«01_k».proof.Defs
public import proofs.«01_k».proof.Proof.Gen.DilA.Frame
public import proofs.«01_k».proof.Proof.Gen.DilAIdeal.Frame
public import proofs.«01_k».proof.Proof.Gen.DilAIdeal.Value
public import proofs.«01_k».proof.Proof.Gen.RefAIdeal.Run
public import proofs.«01_k».proof.Proof.Gen.RefAIdeal.Read
public import proofs.«01_k».proof.Proof.Gen.RefAIdeal
public import proofs.«01_k».proof.Proof.DilA.Claim
public import proofs.«01_k».proof.Proof.Gen.DilB.Frame
public import proofs.«01_k».proof.Proof.Gen.DilBIdeal.Frame
public import proofs.«01_k».proof.Proof.Gen.DilBIdeal.Value
public import proofs.«01_k».proof.Proof.Gen.RefBIdeal.Run
public import proofs.«01_k».proof.Proof.Gen.RefBIdeal.Read
public import proofs.«01_k».proof.Proof.Gen.RefBIdeal
public import proofs.«01_k».proof.Proof.DilB.Claim
public import proofs.«01_k».proof.Proof.Gen.DilC.Frame
public import proofs.«01_k».proof.Proof.Gen.DilCIdeal.Frame
public import proofs.«01_k».proof.Proof.Gen.DilCIdeal.Value
public import proofs.«01_k».proof.Proof.Gen.RefCIdeal.Run
public import proofs.«01_k».proof.Proof.Gen.RefCIdeal.Read
public import proofs.«01_k».proof.Proof.Gen.RefCIdeal
public import proofs.«01_k».proof.Proof.DilC.Claim
public import proofs.«01_k».proof.Proof.Gen.Mix.Frame
public import proofs.«01_k».proof.Proof.Gen.MixIdeal.Frame
public import proofs.«01_k».proof.Proof.Gen.MixIdeal.Value
public import proofs.«01_k».proof.Proof.Gen.RefMIdeal.Run
public import proofs.«01_k».proof.Proof.Gen.RefMIdeal.Read
public import proofs.«01_k».proof.Proof.Gen.RefMIdeal
public import proofs.«01_k».proof.Proof.Mix.Claim
public import proofs.«01_k».proof.Proof.Gen.Pre_finite
public import proofs.«01_k».proof.Proof.Gen.Pre_finite_route
public import proofs.«01_k».proof.Proof.Gen.MoeIdeal
public import proofs.«01_k».proof.Proof.Gen.MoeIdeal.Frame
public import proofs.«01_k».proof.Proof.Gen.MoeIdeal.Skeleton
public import proofs.«01_k».proof.Proof.Gen.MoeIdeal.Loops
public import proofs.«01_k».proof.Proof.Gen.RefEIdeal.Run
public import proofs.«01_k».proof.Proof.Gen.RefEIdeal.Read
public import proofs.«01_k».proof.Proof.Gen.RefEIdeal
public import proofs.«01_k».proof.Proof.Moe.Frame
public import proofs.«01_k».proof.Proof.Moe.Frames
public import proofs.«01_k».proof.Proof.Moe.Claim
public import Idealize.ShloMosaic.Adequacy
public import Idealize.ShloMosaic.Init

@[expose] public section

noncomputable section

namespace Cert.Proof

open Idealize.ShloMosaic Idealize.SL.Sem

/-- Every claim: the frames of the three dilated attentions, of the mixing sub-layer, of the experts' layer and of their
    references, and that the kernels and their references end in the same arrays. -/
theorem claim : Cert.Claim :=
  ⟨Cert.DilA.Gen.facts, Cert.DilAIdeal.Gen.facts, Cert.RefAIdeal.Gen.facts, Cert.DilB.Gen.facts, Cert.DilBIdeal.Gen.facts, Cert.RefBIdeal.Gen.facts, Cert.DilC.Gen.facts, Cert.DilCIdeal.Gen.facts, Cert.RefCIdeal.Gen.facts,
    Cert.Mix.Gen.facts, Cert.MixIdeal.Gen.facts, Cert.RefMIdeal.Gen.facts, Cert.MoeIdeal.Gen.facts, Cert.RefEIdeal.Gen.facts,
    Cert.Pre_finite.Gen.facts, Cert.Pre_finite_route.Gen.facts,
    fun m ρ _ => Cert.DilA.Gen.frame m ρ, fun m ρ _ => Cert.DilAIdeal.Gen.frame m ρ, fun m ρ _ => Cert.DilAIdeal.Gen.frame m ρ,
    fun m ρ _ => frameRefA m ρ, fun m ρ _ => frameRefA m ρ,
    fun m ρ _ => Cert.DilB.Gen.frame m ρ, fun m ρ _ => Cert.DilBIdeal.Gen.frame m ρ, fun m ρ _ => Cert.DilBIdeal.Gen.frame m ρ,
    fun m ρ _ => frameRefB m ρ, fun m ρ _ => frameRefB m ρ,
    fun m ρ _ => Cert.DilC.Gen.frame m ρ, fun m ρ _ => Cert.DilCIdeal.Gen.frame m ρ, fun m ρ _ => Cert.DilCIdeal.Gen.frame m ρ,
    fun m ρ _ => frameRefC m ρ, fun m ρ _ => frameRefC m ρ,
    fun m ρ _ => Cert.Mix.Gen.frame m ρ, fun m ρ _ => Cert.MixIdeal.Gen.frame m ρ, frameRefM,
    Cert.MoeIdeal.B.frame, fun m ρ _ => Cert.MoeIdeal.B.frame m ρ trivial, frameRefE, fun m ρ _ => frameRefE m ρ trivial,
    trivial, algebraicA, trivial, algebraicB, trivial, algebraicC, trivial, algebraicM, algebraicE⟩

end Cert.Proof

end
